-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_DwOutA (m : (ℓ : Loc Cert.DwOutA.nD Cert.DwOutA.τ Cert.DwOutA.sig) → Buf (Elt Bits) ℓ) : Prop :=
  True

def Pre_DwOutAIdeal (m : (ℓ : Loc Cert.DwOutAIdeal.nD Cert.DwOutAIdeal.τ Cert.DwOutAIdeal.sig) → Buf (Elt Ideal) ℓ) : Prop :=
  True

def Pre_DwOutARefIdeal (m : (ℓ : Loc Cert.DwOutARefIdeal.nD Cert.DwOutARefIdeal.τ Cert.DwOutARefIdeal.sig) → Buf (Elt Ideal) ℓ) : Prop :=
  True

def Pre_DwOutB (m : (ℓ : Loc Cert.DwOutB.nD Cert.DwOutB.τ Cert.DwOutB.sig) → Buf (Elt Bits) ℓ) : Prop :=
  True

def Pre_DwOutBIdeal (m : (ℓ : Loc Cert.DwOutBIdeal.nD Cert.DwOutBIdeal.τ Cert.DwOutBIdeal.sig) → Buf (Elt Ideal) ℓ) : Prop :=
  True

def Pre_DwOutBRefIdeal (m : (ℓ : Loc Cert.DwOutBRefIdeal.nD Cert.DwOutBRefIdeal.τ Cert.DwOutBRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_bounded [hPre_bounded : Cert.Pre_bounded.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_bounded.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3))).1 = (fun _ => 1#1)
    ∧ (Cert.Pre_bounded.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3))).2 = (fun _ => 1#1)

def Pre_GluBwdRefIdeal (m : (ℓ : Loc Cert.GluBwdRefIdeal.nD Cert.GluBwdRefIdeal.τ Cert.GluBwdRefIdeal.sig) → Buf (Elt Ideal) ℓ) : Prop :=
  True

def Pre_GluBwdRefIdeal_bounded [hPre_bounded : Cert.Pre_bounded.Facts] (m : (ℓ : Loc Cert.GluBwdRefIdeal.nD Cert.GluBwdRefIdeal.τ Cert.GluBwdRefIdeal.sig) → Buf (Elt Ideal) ℓ) : Prop :=
  ∀ c : Dev Cert.GluBwdRefIdeal.nD,
    (Cert.Pre_bounded.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3))).1 = (fun _ => 1#1)
    ∧ (Cert.Pre_bounded.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3))).2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamHeads (m : (ℓ : Loc Cert.AdamHeads.nD Cert.AdamHeads.τ Cert.AdamHeads.sig) → Buf (Elt Bits) ℓ) : Prop :=
  True

def Pre_AdamHeadsIdeal (m : (ℓ : Loc Cert.AdamHeadsIdeal.nD Cert.AdamHeadsIdeal.τ Cert.AdamHeadsIdeal.sig) → Buf (Elt Ideal) ℓ) : Prop :=
  True

def Pre_AdamHeadsRefIdeal (m : (ℓ : Loc Cert.AdamHeadsRefIdeal.nD Cert.AdamHeadsRefIdeal.τ Cert.AdamHeadsRefIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamStepRefIdeal (m : (ℓ : Loc Cert.AdamStepRefIdeal.nD Cert.AdamStepRefIdeal.τ Cert.AdamStepRefIdeal.sig) → Buf (Elt Ideal) ℓ) : Prop :=
  True

def Pre_AdamLam (m : (ℓ : Loc Cert.AdamLam.nD Cert.AdamLam.τ Cert.AdamLam.sig) → Buf (Elt Bits) ℓ) : Prop :=
  True

def Pre_AdamLamIdeal (m : (ℓ : Loc Cert.AdamLamIdeal.nD Cert.AdamLamIdeal.τ Cert.AdamLamIdeal.sig) → Buf (Elt Ideal) ℓ) : Prop :=
  True

def Pre_AdamLamRefIdeal (m : (ℓ : Loc Cert.AdamLamRefIdeal.nD Cert.AdamLamRefIdeal.τ Cert.AdamLamRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDRefIdeal (m : (ℓ : Loc Cert.AdamDRefIdeal.nD Cert.AdamDRefIdeal.τ Cert.AdamDRefIdeal.sig) → Buf (Elt Ideal) ℓ) : Prop :=
  True

def Pre_SumEarly (m : (ℓ : Loc Cert.SumEarly.nD Cert.SumEarly.τ Cert.SumEarly.sig) → Buf (Elt Bits) ℓ) : Prop :=
  True

def Pre_SumEarlyIdeal (m : (ℓ : Loc Cert.SumEarlyIdeal.nD Cert.SumEarlyIdeal.τ Cert.SumEarlyIdeal.sig) → Buf (Elt Ideal) ℓ) : Prop :=
  True

def Pre_SumEarlyRefIdeal (m : (ℓ : Loc Cert.SumEarlyRefIdeal.nD Cert.SumEarlyRefIdeal.τ Cert.SumEarlyRefIdeal.sig) → Buf (Elt Ideal) ℓ) : Prop :=
  True

def Pre_SumLate (m : (ℓ : Loc Cert.SumLate.nD Cert.SumLate.τ Cert.SumLate.sig) → Buf (Elt Bits) ℓ) : Prop :=
  True

def Pre_SumLateIdeal (m : (ℓ : Loc Cert.SumLateIdeal.nD Cert.SumLateIdeal.τ Cert.SumLateIdeal.sig) → Buf (Elt Ideal) ℓ) : Prop :=
  True

def Pre_SumLateRefIdeal (m : (ℓ : Loc Cert.SumLateRefIdeal.nD Cert.SumLateRefIdeal.τ Cert.SumLateRefIdeal.sig) → Buf (Elt Ideal) ℓ) : Prop :=
  True

def Pre_RsSum0 (m : (ℓ : Loc Cert.RsSum0.nD Cert.RsSum0.τ Cert.RsSum0.sig) → Buf (Elt Bits) ℓ) : Prop :=
  True

def Pre_RsSum0Ideal (m : (ℓ : Loc Cert.RsSum0Ideal.nD Cert.RsSum0Ideal.τ Cert.RsSum0Ideal.sig) → Buf (Elt Ideal) ℓ) : Prop :=
  True

def Pre_RsSum0RefIdeal (m : (ℓ : Loc Cert.RsSum0RefIdeal.nD Cert.RsSum0RefIdeal.τ Cert.RsSum0RefIdeal.sig) → Buf (Elt Ideal) ℓ) : Prop :=
  True

def Pre_RsSum1 (m : (ℓ : Loc Cert.RsSum1.nD Cert.RsSum1.τ Cert.RsSum1.sig) → Buf (Elt Bits) ℓ) : Prop :=
  True

def Pre_RsSum1Ideal (m : (ℓ : Loc Cert.RsSum1Ideal.nD Cert.RsSum1Ideal.τ Cert.RsSum1Ideal.sig) → Buf (Elt Ideal) ℓ) : Prop :=
  True

def Pre_RsSum1RefIdeal (m : (ℓ : Loc Cert.RsSum1RefIdeal.nD Cert.RsSum1RefIdeal.τ Cert.RsSum1RefIdeal.sig) → Buf (Elt Ideal) ℓ) : Prop :=
  True

def Pre_RsSum2 (m : (ℓ : Loc Cert.RsSum2.nD Cert.RsSum2.τ Cert.RsSum2.sig) → Buf (Elt Bits) ℓ) : Prop :=
  True

def Pre_RsSum2Ideal (m : (ℓ : Loc Cert.RsSum2Ideal.nD Cert.RsSum2Ideal.τ Cert.RsSum2Ideal.sig) → Buf (Elt Ideal) ℓ) : Prop :=
  True

def Pre_RsSum2RefIdeal (m : (ℓ : Loc Cert.RsSum2RefIdeal.nD Cert.RsSum2RefIdeal.τ Cert.RsSum2RefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2)
      ∧ r.2.mem ((c.tc : Thread Cert.DwUpRefIdeal.nD Cert.DwUpRefIdeal.τ).loc Cert.DwUpRefIdeal.main_arg3) = m ((c.tc : Thread Cert.DwUpRefIdeal.nD Cert.DwUpRefIdeal.τ).loc Cert.DwUpRefIdeal.main_arg3))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_DwOutA [hDwOutA : Cert.DwOutA.Facts] : Prop :=
  ∀ (m : (ℓ : Loc Cert.DwOutA.nD Cert.DwOutA.τ Cert.DwOutA.sig) → Buf (Elt Bits) ℓ) (g : Dev Cert.DwOutA.nD → PrngReg), Pre_DwOutA m →
    θ_run (Cert.DwOutA.defs (F := Bits)) (onTc (τ := Cert.DwOutA.τ) (Cert.DwOutA.main (F := Bits))) ⟨m, fun _ => 0, g⟩ (fun r => (∀ c : Dev Cert.DwOutA.nD,
      r.2.mem ((c.tc : Thread Cert.DwOutA.nD Cert.DwOutA.τ).loc Cert.DwOutA.main_arg0) = m ((c.tc : Thread Cert.DwOutA.nD Cert.DwOutA.τ).loc Cert.DwOutA.main_arg0)
      ∧ r.2.mem ((c.tc : Thread Cert.DwOutA.nD Cert.DwOutA.τ).loc Cert.DwOutA.main_arg1) = m ((c.tc : Thread Cert.DwOutA.nD Cert.DwOutA.τ).loc Cert.DwOutA.main_arg1))
      ∧ r.2.sem = fun _ => 0)

def quiescent_DwOutAIdeal [hDwOutAIdeal : Cert.DwOutAIdeal.Facts] : Prop :=
  ∀ (m : (ℓ : Loc Cert.DwOutAIdeal.nD Cert.DwOutAIdeal.τ Cert.DwOutAIdeal.sig) → Buf (Elt Ideal) ℓ) (g : Dev Cert.DwOutAIdeal.nD → PrngReg), Pre_DwOutAIdeal m →
    θ_run (Cert.DwOutAIdeal.defs (F := Ideal)) (onTc (τ := Cert.DwOutAIdeal.τ) (Cert.DwOutAIdeal.main (F := Ideal))) ⟨m, fun _ => 0, g⟩ (fun r => (∀ c : Dev Cert.DwOutAIdeal.nD,
      r.2.mem ((c.tc : Thread Cert.DwOutAIdeal.nD Cert.DwOutAIdeal.τ).loc Cert.DwOutAIdeal.main_arg0) = m ((c.tc : Thread Cert.DwOutAIdeal.nD Cert.DwOutAIdeal.τ).loc Cert.DwOutAIdeal.main_arg0)
      ∧ r.2.mem ((c.tc : Thread Cert.DwOutAIdeal.nD Cert.DwOutAIdeal.τ).loc Cert.DwOutAIdeal.main_arg1) = m ((c.tc : Thread Cert.DwOutAIdeal.nD Cert.DwOutAIdeal.τ).loc Cert.DwOutAIdeal.main_arg1))
      ∧ r.2.sem = fun _ => 0)

def quiescent_DwOutARefIdeal [hDwOutARefIdeal : Cert.DwOutARefIdeal.Facts] : Prop :=
  ∀ (m : (ℓ : Loc Cert.DwOutARefIdeal.nD Cert.DwOutARefIdeal.τ Cert.DwOutARefIdeal.sig) → Buf (Elt Ideal) ℓ) (g : Dev Cert.DwOutARefIdeal.nD → PrngReg), Pre_DwOutARefIdeal m →
    θ_run (Cert.DwOutARefIdeal.defs (F := Ideal)) (onTc (τ := Cert.DwOutARefIdeal.τ) (Cert.DwOutARefIdeal.main (F := Ideal))) ⟨m, fun _ => 0, g⟩ (fun r => (∀ c : Dev Cert.DwOutARefIdeal.nD,
      r.2.mem ((c.tc : Thread Cert.DwOutARefIdeal.nD Cert.DwOutARefIdeal.τ).loc Cert.DwOutARefIdeal.main_arg0) = m ((c.tc : Thread Cert.DwOutARefIdeal.nD Cert.DwOutARefIdeal.τ).loc Cert.DwOutARefIdeal.main_arg0)
      ∧ r.2.mem ((c.tc : Thread Cert.DwOutARefIdeal.nD Cert.DwOutARefIdeal.τ).loc Cert.DwOutARefIdeal.main_arg1) = m ((c.tc : Thread Cert.DwOutARefIdeal.nD Cert.DwOutARefIdeal.τ).loc Cert.DwOutARefIdeal.main_arg1))
      ∧ r.2.sem = fun _ => 0)

def quiescent_DwOutB [hDwOutB : Cert.DwOutB.Facts] : Prop :=
  ∀ (m : (ℓ : Loc Cert.DwOutB.nD Cert.DwOutB.τ Cert.DwOutB.sig) → Buf (Elt Bits) ℓ) (g : Dev Cert.DwOutB.nD → PrngReg), Pre_DwOutB m →
    θ_run (Cert.DwOutB.defs (F := Bits)) (onTc (τ := Cert.DwOutB.τ) (Cert.DwOutB.main (F := Bits))) ⟨m, fun _ => 0, g⟩ (fun r => (∀ c : Dev Cert.DwOutB.nD,
      r.2.mem ((c.tc : Thread Cert.DwOutB.nD Cert.DwOutB.τ).loc Cert.DwOutB.main_arg0) = m ((c.tc : Thread Cert.DwOutB.nD Cert.DwOutB.τ).loc Cert.DwOutB.main_arg0)
      ∧ r.2.mem ((c.tc : Thread Cert.DwOutB.nD Cert.DwOutB.τ).loc Cert.DwOutB.main_arg1) = m ((c.tc : Thread Cert.DwOutB.nD Cert.DwOutB.τ).loc Cert.DwOutB.main_arg1)
      ∧ r.2.mem ((c.tc : Thread Cert.DwOutB.nD Cert.DwOutB.τ).loc Cert.DwOutB.main_arg2) = m ((c.tc : Thread Cert.DwOutB.nD Cert.DwOutB.τ).loc Cert.DwOutB.main_arg2))
      ∧ r.2.sem = fun _ => 0)

def quiescent_DwOutBIdeal [hDwOutBIdeal : Cert.DwOutBIdeal.Facts] : Prop :=
  ∀ (m : (ℓ : Loc Cert.DwOutBIdeal.nD Cert.DwOutBIdeal.τ Cert.DwOutBIdeal.sig) → Buf (Elt Ideal) ℓ) (g : Dev Cert.DwOutBIdeal.nD → PrngReg), Pre_DwOutBIdeal m →
    θ_run (Cert.DwOutBIdeal.defs (F := Ideal)) (onTc (τ := Cert.DwOutBIdeal.τ) (Cert.DwOutBIdeal.main (F := Ideal))) ⟨m, fun _ => 0, g⟩ (fun r => (∀ c : Dev Cert.DwOutBIdeal.nD,
      r.2.mem ((c.tc : Thread Cert.DwOutBIdeal.nD Cert.DwOutBIdeal.τ).loc Cert.DwOutBIdeal.main_arg0) = m ((c.tc : Thread Cert.DwOutBIdeal.nD Cert.DwOutBIdeal.τ).loc Cert.DwOutBIdeal.main_arg0)
      ∧ r.2.mem ((c.tc : Thread Cert.DwOutBIdeal.nD Cert.DwOutBIdeal.τ).loc Cert.DwOutBIdeal.main_arg1) = m ((c.tc : Thread Cert.DwOutBIdeal.nD Cert.DwOutBIdeal.τ).loc Cert.DwOutBIdeal.main_arg1)
      ∧ r.2.mem ((c.tc : Thread Cert.DwOutBIdeal.nD Cert.DwOutBIdeal.τ).loc Cert.DwOutBIdeal.main_arg2) = m ((c.tc : Thread Cert.DwOutBIdeal.nD Cert.DwOutBIdeal.τ).loc Cert.DwOutBIdeal.main_arg2))
      ∧ r.2.sem = fun _ => 0)

def quiescent_DwOutBRefIdeal [hDwOutBRefIdeal : Cert.DwOutBRefIdeal.Facts] : Prop :=
  ∀ (m : (ℓ : Loc Cert.DwOutBRefIdeal.nD Cert.DwOutBRefIdeal.τ Cert.DwOutBRefIdeal.sig) → Buf (Elt Ideal) ℓ) (g : Dev Cert.DwOutBRefIdeal.nD → PrngReg), Pre_DwOutBRefIdeal m →
    θ_run (Cert.DwOutBRefIdeal.defs (F := Ideal)) (onTc (τ := Cert.DwOutBRefIdeal.τ) (Cert.DwOutBRefIdeal.main (F := Ideal))) ⟨m, fun _ => 0, g⟩ (fun r => (∀ c : Dev Cert.DwOutBRefIdeal.nD,
      r.2.mem ((c.tc : Thread Cert.DwOutBRefIdeal.nD Cert.DwOutBRefIdeal.τ).loc Cert.DwOutBRefIdeal.main_arg0) = m ((c.tc : Thread Cert.DwOutBRefIdeal.nD Cert.DwOutBRefIdeal.τ).loc Cert.DwOutBRefIdeal.main_arg0)
      ∧ r.2.mem ((c.tc : Thread Cert.DwOutBRefIdeal.nD Cert.DwOutBRefIdeal.τ).loc Cert.DwOutBRefIdeal.main_arg1) = m ((c.tc : Thread Cert.DwOutBRefIdeal.nD Cert.DwOutBRefIdeal.τ).loc Cert.DwOutBRefIdeal.main_arg1)
      ∧ r.2.mem ((c.tc : Thread Cert.DwOutBRefIdeal.nD Cert.DwOutBRefIdeal.τ).loc Cert.DwOutBRefIdeal.main_arg2) = m ((c.tc : Thread Cert.DwOutBRefIdeal.nD Cert.DwOutBRefIdeal.τ).loc Cert.DwOutBRefIdeal.main_arg2))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1)
      ∧ r.2.mem ((c.tc : Thread Cert.DwGlu.nD Cert.DwGlu.τ).loc Cert.DwGlu.main_arg2) = m ((c.tc : Thread Cert.DwGlu.nD Cert.DwGlu.τ).loc Cert.DwGlu.main_arg2)
      ∧ r.2.mem ((c.tc : Thread Cert.DwGlu.nD Cert.DwGlu.τ).loc Cert.DwGlu.main_arg3) = m ((c.tc : Thread Cert.DwGlu.nD Cert.DwGlu.τ).loc Cert.DwGlu.main_arg3))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1)
      ∧ r.2.mem ((c.tc : Thread Cert.DwGluIdeal.nD Cert.DwGluIdeal.τ).loc Cert.DwGluIdeal.main_arg2) = m ((c.tc : Thread Cert.DwGluIdeal.nD Cert.DwGluIdeal.τ).loc Cert.DwGluIdeal.main_arg2)
      ∧ r.2.mem ((c.tc : Thread Cert.DwGluIdeal.nD Cert.DwGluIdeal.τ).loc Cert.DwGluIdeal.main_arg3) = m ((c.tc : Thread Cert.DwGluIdeal.nD Cert.DwGluIdeal.τ).loc Cert.DwGluIdeal.main_arg3))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1)
      ∧ r.2.mem ((c.tc : Thread Cert.DwGluRefIdeal.nD Cert.DwGluRefIdeal.τ).loc Cert.DwGluRefIdeal.main_arg2) = m ((c.tc : Thread Cert.DwGluRefIdeal.nD Cert.DwGluRefIdeal.τ).loc Cert.DwGluRefIdeal.main_arg2)
      ∧ r.2.mem ((c.tc : Thread Cert.DwGluRefIdeal.nD Cert.DwGluRefIdeal.τ).loc Cert.DwGluRefIdeal.main_arg3) = m ((c.tc : Thread Cert.DwGluRefIdeal.nD Cert.DwGluRefIdeal.τ).loc Cert.DwGluRefIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluBwdIdeal_pre_bounded [hGluBwdIdeal : Cert.GluBwdIdeal.Facts] [hPre_bounded : Cert.Pre_bounded.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_bounded m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3))
      ∧ r.2.sem = fun _ => 0)

def quiescent_GluBwdRefIdeal_pre_bounded [hGluBwdRefIdeal : Cert.GluBwdRefIdeal.Facts] [hPre_bounded : Cert.Pre_bounded.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal_bounded m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamHeads [hAdamHeads : Cert.AdamHeads.Facts] : Prop :=
  ∀ (m : (ℓ : Loc Cert.AdamHeads.nD Cert.AdamHeads.τ Cert.AdamHeads.sig) → Buf (Elt Bits) ℓ) (g : Dev Cert.AdamHeads.nD → PrngReg), Pre_AdamHeads m →
    θ_run (Cert.AdamHeads.defs (F := Bits)) (onTc (τ := Cert.AdamHeads.τ) (Cert.AdamHeads.main (F := Bits))) ⟨m, fun _ => 0, g⟩ (fun r => (∀ c : Dev Cert.AdamHeads.nD,
      r.2.mem ((c.tc : Thread Cert.AdamHeads.nD Cert.AdamHeads.τ).loc Cert.AdamHeads.main_arg0) = m ((c.tc : Thread Cert.AdamHeads.nD Cert.AdamHeads.τ).loc Cert.AdamHeads.main_arg0)
      ∧ r.2.mem ((c.tc : Thread Cert.AdamHeads.nD Cert.AdamHeads.τ).loc Cert.AdamHeads.main_arg1) = m ((c.tc : Thread Cert.AdamHeads.nD Cert.AdamHeads.τ).loc Cert.AdamHeads.main_arg1)
      ∧ r.2.mem ((c.tc : Thread Cert.AdamHeads.nD Cert.AdamHeads.τ).loc Cert.AdamHeads.main_arg2) = m ((c.tc : Thread Cert.AdamHeads.nD Cert.AdamHeads.τ).loc Cert.AdamHeads.main_arg2)
      ∧ r.2.mem ((c.tc : Thread Cert.AdamHeads.nD Cert.AdamHeads.τ).loc Cert.AdamHeads.main_arg3) = m ((c.tc : Thread Cert.AdamHeads.nD Cert.AdamHeads.τ).loc Cert.AdamHeads.main_arg3))
      ∧ r.2.sem = fun _ => 0)

def quiescent_AdamHeadsIdeal [hAdamHeadsIdeal : Cert.AdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg), Pre_AdamHeadsIdeal m →
    θ_run (Cert.AdamHeadsIdeal.defs (F := Ideal)) (onTc (τ := Cert.AdamHeadsIdeal.τ) (Cert.AdamHeadsIdeal.main (F := Ideal))) ⟨m, fun _ => 0, g⟩ (fun r => (∀ c : Dev Cert.AdamHeadsIdeal.nD,
      r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
      ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
      ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
      ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ r.2.sem = fun _ => 0)

def quiescent_AdamHeadsRefIdeal [hAdamHeadsRefIdeal : Cert.AdamHeadsRefIdeal.Facts] : Prop :=
  ∀ (m : (ℓ : Loc Cert.AdamHeadsRefIdeal.nD Cert.AdamHeadsRefIdeal.τ Cert.AdamHeadsRefIdeal.sig) → Buf (Elt Ideal) ℓ) (g : Dev Cert.AdamHeadsRefIdeal.nD → PrngReg), Pre_AdamHeadsRefIdeal m →
    θ_run (Cert.AdamHeadsRefIdeal.defs (F := Ideal)) (onTc (τ := Cert.AdamHeadsRefIdeal.τ) (Cert.AdamHeadsRefIdeal.main (F := Ideal))) ⟨m, fun _ => 0, g⟩ (fun r => (∀ c : Dev Cert.AdamHeadsRefIdeal.nD,
      r.2.mem ((c.tc : Thread Cert.AdamHeadsRefIdeal.nD Cert.AdamHeadsRefIdeal.τ).loc Cert.AdamHeadsRefIdeal.main_arg0) = m ((c.tc : Thread Cert.AdamHeadsRefIdeal.nD Cert.AdamHeadsRefIdeal.τ).loc Cert.AdamHeadsRefIdeal.main_arg0)
      ∧ r.2.mem ((c.tc : Thread Cert.AdamHeadsRefIdeal.nD Cert.AdamHeadsRefIdeal.τ).loc Cert.AdamHeadsRefIdeal.main_arg1) = m ((c.tc : Thread Cert.AdamHeadsRefIdeal.nD Cert.AdamHeadsRefIdeal.τ).loc Cert.AdamHeadsRefIdeal.main_arg1)
      ∧ r.2.mem ((c.tc : Thread Cert.AdamHeadsRefIdeal.nD Cert.AdamHeadsRefIdeal.τ).loc Cert.AdamHeadsRefIdeal.main_arg2) = m ((c.tc : Thread Cert.AdamHeadsRefIdeal.nD Cert.AdamHeadsRefIdeal.τ).loc Cert.AdamHeadsRefIdeal.main_arg2)
      ∧ r.2.mem ((c.tc : Thread Cert.AdamHeadsRefIdeal.nD Cert.AdamHeadsRefIdeal.τ).loc Cert.AdamHeadsRefIdeal.main_arg3) = m ((c.tc : Thread Cert.AdamHeadsRefIdeal.nD Cert.AdamHeadsRefIdeal.τ).loc Cert.AdamHeadsRefIdeal.main_arg3))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ r.2.sem = fun _ => 0)

def quiescent_AdamStepRefIdeal [hAdamStepRefIdeal : Cert.AdamStepRefIdeal.Facts] : Prop :=
  ∀ (m : (ℓ : Loc Cert.AdamStepRefIdeal.nD Cert.AdamStepRefIdeal.τ Cert.AdamStepRefIdeal.sig) → Buf (Elt Ideal) ℓ) (g : Dev Cert.AdamStepRefIdeal.nD → PrngReg), Pre_AdamStepRefIdeal m →
    θ_run (Cert.AdamStepRefIdeal.defs (F := Ideal)) (onTc (τ := Cert.AdamStepRefIdeal.τ) (Cert.AdamStepRefIdeal.main (F := Ideal))) ⟨m, fun _ => 0, g⟩ (fun r => (∀ c : Dev Cert.AdamStepRefIdeal.nD,
      r.2.mem ((c.tc : Thread Cert.AdamStepRefIdeal.nD Cert.AdamStepRefIdeal.τ).loc Cert.AdamStepRefIdeal.main_arg0) = m ((c.tc : Thread Cert.AdamStepRefIdeal.nD Cert.AdamStepRefIdeal.τ).loc Cert.AdamStepRefIdeal.main_arg0)
      ∧ r.2.mem ((c.tc : Thread Cert.AdamStepRefIdeal.nD Cert.AdamStepRefIdeal.τ).loc Cert.AdamStepRefIdeal.main_arg1) = m ((c.tc : Thread Cert.AdamStepRefIdeal.nD Cert.AdamStepRefIdeal.τ).loc Cert.AdamStepRefIdeal.main_arg1)
      ∧ r.2.mem ((c.tc : Thread Cert.AdamStepRefIdeal.nD Cert.AdamStepRefIdeal.τ).loc Cert.AdamStepRefIdeal.main_arg2) = m ((c.tc : Thread Cert.AdamStepRefIdeal.nD Cert.AdamStepRefIdeal.τ).loc Cert.AdamStepRefIdeal.main_arg2)
      ∧ r.2.mem ((c.tc : Thread Cert.AdamStepRefIdeal.nD Cert.AdamStepRefIdeal.τ).loc Cert.AdamStepRefIdeal.main_arg3) = m ((c.tc : Thread Cert.AdamStepRefIdeal.nD Cert.AdamStepRefIdeal.τ).loc Cert.AdamStepRefIdeal.main_arg3))
      ∧ r.2.sem = fun _ => 0)

def quiescent_AdamLam [hAdamLam : Cert.AdamLam.Facts] : Prop :=
  ∀ (m : (ℓ : Loc Cert.AdamLam.nD Cert.AdamLam.τ Cert.AdamLam.sig) → Buf (Elt Bits) ℓ) (g : Dev Cert.AdamLam.nD → PrngReg), Pre_AdamLam m →
    θ_run (Cert.AdamLam.defs (F := Bits)) (onTc (τ := Cert.AdamLam.τ) (Cert.AdamLam.main (F := Bits))) ⟨m, fun _ => 0, g⟩ (fun r => (∀ c : Dev Cert.AdamLam.nD,
      r.2.mem ((c.tc : Thread Cert.AdamLam.nD Cert.AdamLam.τ).loc Cert.AdamLam.main_arg0) = m ((c.tc : Thread Cert.AdamLam.nD Cert.AdamLam.τ).loc Cert.AdamLam.main_arg0)
      ∧ r.2.mem ((c.tc : Thread Cert.AdamLam.nD Cert.AdamLam.τ).loc Cert.AdamLam.main_arg1) = m ((c.tc : Thread Cert.AdamLam.nD Cert.AdamLam.τ).loc Cert.AdamLam.main_arg1)
      ∧ r.2.mem ((c.tc : Thread Cert.AdamLam.nD Cert.AdamLam.τ).loc Cert.AdamLam.main_arg2) = m ((c.tc : Thread Cert.AdamLam.nD Cert.AdamLam.τ).loc Cert.AdamLam.main_arg2)
      ∧ r.2.mem ((c.tc : Thread Cert.AdamLam.nD Cert.AdamLam.τ).loc Cert.AdamLam.main_arg3) = m ((c.tc : Thread Cert.AdamLam.nD Cert.AdamLam.τ).loc Cert.AdamLam.main_arg3))
      ∧ r.2.sem = fun _ => 0)

def quiescent_AdamLamIdeal [hAdamLamIdeal : Cert.AdamLamIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg), Pre_AdamLamIdeal m →
    θ_run (Cert.AdamLamIdeal.defs (F := Ideal)) (onTc (τ := Cert.AdamLamIdeal.τ) (Cert.AdamLamIdeal.main (F := Ideal))) ⟨m, fun _ => 0, g⟩ (fun r => (∀ c : Dev Cert.AdamLamIdeal.nD,
      r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
      ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
      ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
      ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ r.2.sem = fun _ => 0)

def quiescent_AdamLamRefIdeal [hAdamLamRefIdeal : Cert.AdamLamRefIdeal.Facts] : Prop :=
  ∀ (m : (ℓ : Loc Cert.AdamLamRefIdeal.nD Cert.AdamLamRefIdeal.τ Cert.AdamLamRefIdeal.sig) → Buf (Elt Ideal) ℓ) (g : Dev Cert.AdamLamRefIdeal.nD → PrngReg), Pre_AdamLamRefIdeal m →
    θ_run (Cert.AdamLamRefIdeal.defs (F := Ideal)) (onTc (τ := Cert.AdamLamRefIdeal.τ) (Cert.AdamLamRefIdeal.main (F := Ideal))) ⟨m, fun _ => 0, g⟩ (fun r => (∀ c : Dev Cert.AdamLamRefIdeal.nD,
      r.2.mem ((c.tc : Thread Cert.AdamLamRefIdeal.nD Cert.AdamLamRefIdeal.τ).loc Cert.AdamLamRefIdeal.main_arg0) = m ((c.tc : Thread Cert.AdamLamRefIdeal.nD Cert.AdamLamRefIdeal.τ).loc Cert.AdamLamRefIdeal.main_arg0)
      ∧ r.2.mem ((c.tc : Thread Cert.AdamLamRefIdeal.nD Cert.AdamLamRefIdeal.τ).loc Cert.AdamLamRefIdeal.main_arg1) = m ((c.tc : Thread Cert.AdamLamRefIdeal.nD Cert.AdamLamRefIdeal.τ).loc Cert.AdamLamRefIdeal.main_arg1)
      ∧ r.2.mem ((c.tc : Thread Cert.AdamLamRefIdeal.nD Cert.AdamLamRefIdeal.τ).loc Cert.AdamLamRefIdeal.main_arg2) = m ((c.tc : Thread Cert.AdamLamRefIdeal.nD Cert.AdamLamRefIdeal.τ).loc Cert.AdamLamRefIdeal.main_arg2)
      ∧ r.2.mem ((c.tc : Thread Cert.AdamLamRefIdeal.nD Cert.AdamLamRefIdeal.τ).loc Cert.AdamLamRefIdeal.main_arg3) = m ((c.tc : Thread Cert.AdamLamRefIdeal.nD Cert.AdamLamRefIdeal.τ).loc Cert.AdamLamRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ r.2.sem = fun _ => 0)

def quiescent_AdamDRefIdeal [hAdamDRefIdeal : Cert.AdamDRefIdeal.Facts] : Prop :=
  ∀ (m : (ℓ : Loc Cert.AdamDRefIdeal.nD Cert.AdamDRefIdeal.τ Cert.AdamDRefIdeal.sig) → Buf (Elt Ideal) ℓ) (g : Dev Cert.AdamDRefIdeal.nD → PrngReg), Pre_AdamDRefIdeal m →
    θ_run (Cert.AdamDRefIdeal.defs (F := Ideal)) (onTc (τ := Cert.AdamDRefIdeal.τ) (Cert.AdamDRefIdeal.main (F := Ideal))) ⟨m, fun _ => 0, g⟩ (fun r => (∀ c : Dev Cert.AdamDRefIdeal.nD,
      r.2.mem ((c.tc : Thread Cert.AdamDRefIdeal.nD Cert.AdamDRefIdeal.τ).loc Cert.AdamDRefIdeal.main_arg0) = m ((c.tc : Thread Cert.AdamDRefIdeal.nD Cert.AdamDRefIdeal.τ).loc Cert.AdamDRefIdeal.main_arg0)
      ∧ r.2.mem ((c.tc : Thread Cert.AdamDRefIdeal.nD Cert.AdamDRefIdeal.τ).loc Cert.AdamDRefIdeal.main_arg1) = m ((c.tc : Thread Cert.AdamDRefIdeal.nD Cert.AdamDRefIdeal.τ).loc Cert.AdamDRefIdeal.main_arg1)
      ∧ r.2.mem ((c.tc : Thread Cert.AdamDRefIdeal.nD Cert.AdamDRefIdeal.τ).loc Cert.AdamDRefIdeal.main_arg2) = m ((c.tc : Thread Cert.AdamDRefIdeal.nD Cert.AdamDRefIdeal.τ).loc Cert.AdamDRefIdeal.main_arg2)
      ∧ r.2.mem ((c.tc : Thread Cert.AdamDRefIdeal.nD Cert.AdamDRefIdeal.τ).loc Cert.AdamDRefIdeal.main_arg3) = m ((c.tc : Thread Cert.AdamDRefIdeal.nD Cert.AdamDRefIdeal.τ).loc Cert.AdamDRefIdeal.main_arg3))
      ∧ r.2.sem = fun _ => 0)

def quiescent_SumEarly [hSumEarly : Cert.SumEarly.Facts] : Prop :=
  ∀ (m : (ℓ : Loc Cert.SumEarly.nD Cert.SumEarly.τ Cert.SumEarly.sig) → Buf (Elt Bits) ℓ) (g : Dev Cert.SumEarly.nD → PrngReg), Pre_SumEarly m →
    θ_run (Cert.SumEarly.defs (F := Bits)) (onTc (τ := Cert.SumEarly.τ) (Cert.SumEarly.main (F := Bits))) ⟨m, fun _ => 0, g⟩ (fun r => (∀ c : Dev Cert.SumEarly.nD,
      r.2.mem ((c.tc : Thread Cert.SumEarly.nD Cert.SumEarly.τ).loc Cert.SumEarly.main_arg0) = m ((c.tc : Thread Cert.SumEarly.nD Cert.SumEarly.τ).loc Cert.SumEarly.main_arg0))
      ∧ r.2.sem = fun _ => 0)

def quiescent_SumEarlyIdeal [hSumEarlyIdeal : Cert.SumEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg), Pre_SumEarlyIdeal m →
    θ_run (Cert.SumEarlyIdeal.defs (F := Ideal)) (onTc (τ := Cert.SumEarlyIdeal.τ) (Cert.SumEarlyIdeal.main (F := Ideal))) ⟨m, fun _ => 0, g⟩ (fun r => (∀ c : Dev Cert.SumEarlyIdeal.nD,
      r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ r.2.sem = fun _ => 0)

def quiescent_SumEarlyRefIdeal [hSumEarlyRefIdeal : Cert.SumEarlyRefIdeal.Facts] : Prop :=
  ∀ (m : (ℓ : Loc Cert.SumEarlyRefIdeal.nD Cert.SumEarlyRefIdeal.τ Cert.SumEarlyRefIdeal.sig) → Buf (Elt Ideal) ℓ) (g : Dev Cert.SumEarlyRefIdeal.nD → PrngReg), Pre_SumEarlyRefIdeal m →
    θ_run (Cert.SumEarlyRefIdeal.defs (F := Ideal)) (onTc (τ := Cert.SumEarlyRefIdeal.τ) (Cert.SumEarlyRefIdeal.main (F := Ideal))) ⟨m, fun _ => 0, g⟩ (fun r => (∀ c : Dev Cert.SumEarlyRefIdeal.nD,
      r.2.mem ((c.tc : Thread Cert.SumEarlyRefIdeal.nD Cert.SumEarlyRefIdeal.τ).loc Cert.SumEarlyRefIdeal.main_arg0) = m ((c.tc : Thread Cert.SumEarlyRefIdeal.nD Cert.SumEarlyRefIdeal.τ).loc Cert.SumEarlyRefIdeal.main_arg0))
      ∧ r.2.sem = fun _ => 0)

def quiescent_SumLate [hSumLate : Cert.SumLate.Facts] : Prop :=
  ∀ (m : (ℓ : Loc Cert.SumLate.nD Cert.SumLate.τ Cert.SumLate.sig) → Buf (Elt Bits) ℓ) (g : Dev Cert.SumLate.nD → PrngReg), Pre_SumLate m →
    θ_run (Cert.SumLate.defs (F := Bits)) (onTc (τ := Cert.SumLate.τ) (Cert.SumLate.main (F := Bits))) ⟨m, fun _ => 0, g⟩ (fun r => (∀ c : Dev Cert.SumLate.nD,
      r.2.mem ((c.tc : Thread Cert.SumLate.nD Cert.SumLate.τ).loc Cert.SumLate.main_arg0) = m ((c.tc : Thread Cert.SumLate.nD Cert.SumLate.τ).loc Cert.SumLate.main_arg0))
      ∧ r.2.sem = fun _ => 0)

def quiescent_SumLateIdeal [hSumLateIdeal : Cert.SumLateIdeal.Facts] : Prop :=
  ∀ (m : (ℓ : Loc Cert.SumLateIdeal.nD Cert.SumLateIdeal.τ Cert.SumLateIdeal.sig) → Buf (Elt Ideal) ℓ) (g : Dev Cert.SumLateIdeal.nD → PrngReg), Pre_SumLateIdeal m →
    θ_run (Cert.SumLateIdeal.defs (F := Ideal)) (onTc (τ := Cert.SumLateIdeal.τ) (Cert.SumLateIdeal.main (F := Ideal))) ⟨m, fun _ => 0, g⟩ (fun r => (∀ c : Dev Cert.SumLateIdeal.nD,
      r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ r.2.sem = fun _ => 0)

def quiescent_SumLateRefIdeal [hSumLateRefIdeal : Cert.SumLateRefIdeal.Facts] : Prop :=
  ∀ (m : (ℓ : Loc Cert.SumLateRefIdeal.nD Cert.SumLateRefIdeal.τ Cert.SumLateRefIdeal.sig) → Buf (Elt Ideal) ℓ) (g : Dev Cert.SumLateRefIdeal.nD → PrngReg), Pre_SumLateRefIdeal m →
    θ_run (Cert.SumLateRefIdeal.defs (F := Ideal)) (onTc (τ := Cert.SumLateRefIdeal.τ) (Cert.SumLateRefIdeal.main (F := Ideal))) ⟨m, fun _ => 0, g⟩ (fun r => (∀ c : Dev Cert.SumLateRefIdeal.nD,
      r.2.mem ((c.tc : Thread Cert.SumLateRefIdeal.nD Cert.SumLateRefIdeal.τ).loc Cert.SumLateRefIdeal.main_arg0) = m ((c.tc : Thread Cert.SumLateRefIdeal.nD Cert.SumLateRefIdeal.τ).loc Cert.SumLateRefIdeal.main_arg0))
      ∧ r.2.sem = fun _ => 0)

def quiescent_RsSum0 [hRsSum0 : Cert.RsSum0.Facts] : Prop :=
  ∀ (m : (ℓ : Loc Cert.RsSum0.nD Cert.RsSum0.τ Cert.RsSum0.sig) → Buf (Elt Bits) ℓ) (g : Dev Cert.RsSum0.nD → PrngReg), Pre_RsSum0 m →
    θ_run (Cert.RsSum0.defs (F := Bits)) (onTc (τ := Cert.RsSum0.τ) (Cert.RsSum0.main (F := Bits))) ⟨m, fun _ => 0, g⟩ (fun r => (∀ c : Dev Cert.RsSum0.nD,
      r.2.mem ((c.tc : Thread Cert.RsSum0.nD Cert.RsSum0.τ).loc Cert.RsSum0.main_arg0) = m ((c.tc : Thread Cert.RsSum0.nD Cert.RsSum0.τ).loc Cert.RsSum0.main_arg0)
      ∧ r.2.mem ((c.tc : Thread Cert.RsSum0.nD Cert.RsSum0.τ).loc Cert.RsSum0.main_arg1) = m ((c.tc : Thread Cert.RsSum0.nD Cert.RsSum0.τ).loc Cert.RsSum0.main_arg1))
      ∧ r.2.sem = fun _ => 0)

def quiescent_RsSum0Ideal [hRsSum0Ideal : Cert.RsSum0Ideal.Facts] : Prop :=
  ∀ (m : (ℓ : Loc Cert.RsSum0Ideal.nD Cert.RsSum0Ideal.τ Cert.RsSum0Ideal.sig) → Buf (Elt Ideal) ℓ) (g : Dev Cert.RsSum0Ideal.nD → PrngReg), Pre_RsSum0Ideal m →
    θ_run (Cert.RsSum0Ideal.defs (F := Ideal)) (onTc (τ := Cert.RsSum0Ideal.τ) (Cert.RsSum0Ideal.main (F := Ideal))) ⟨m, fun _ => 0, g⟩ (fun r => (∀ c : Dev Cert.RsSum0Ideal.nD,
      r.2.mem ((c.tc : Thread Cert.RsSum0Ideal.nD Cert.RsSum0Ideal.τ).loc Cert.RsSum0Ideal.main_arg0) = m ((c.tc : Thread Cert.RsSum0Ideal.nD Cert.RsSum0Ideal.τ).loc Cert.RsSum0Ideal.main_arg0)
      ∧ r.2.mem ((c.tc : Thread Cert.RsSum0Ideal.nD Cert.RsSum0Ideal.τ).loc Cert.RsSum0Ideal.main_arg1) = m ((c.tc : Thread Cert.RsSum0Ideal.nD Cert.RsSum0Ideal.τ).loc Cert.RsSum0Ideal.main_arg1))
      ∧ r.2.sem = fun _ => 0)

def quiescent_RsSum0RefIdeal [hRsSum0RefIdeal : Cert.RsSum0RefIdeal.Facts] : Prop :=
  ∀ (m : (ℓ : Loc Cert.RsSum0RefIdeal.nD Cert.RsSum0RefIdeal.τ Cert.RsSum0RefIdeal.sig) → Buf (Elt Ideal) ℓ) (g : Dev Cert.RsSum0RefIdeal.nD → PrngReg), Pre_RsSum0RefIdeal m →
    θ_run (Cert.RsSum0RefIdeal.defs (F := Ideal)) (onTc (τ := Cert.RsSum0RefIdeal.τ) (Cert.RsSum0RefIdeal.main (F := Ideal))) ⟨m, fun _ => 0, g⟩ (fun r => (∀ c : Dev Cert.RsSum0RefIdeal.nD,
      r.2.mem ((c.tc : Thread Cert.RsSum0RefIdeal.nD Cert.RsSum0RefIdeal.τ).loc Cert.RsSum0RefIdeal.main_arg0) = m ((c.tc : Thread Cert.RsSum0RefIdeal.nD Cert.RsSum0RefIdeal.τ).loc Cert.RsSum0RefIdeal.main_arg0)
      ∧ r.2.mem ((c.tc : Thread Cert.RsSum0RefIdeal.nD Cert.RsSum0RefIdeal.τ).loc Cert.RsSum0RefIdeal.main_arg1) = m ((c.tc : Thread Cert.RsSum0RefIdeal.nD Cert.RsSum0RefIdeal.τ).loc Cert.RsSum0RefIdeal.main_arg1))
      ∧ r.2.sem = fun _ => 0)

def quiescent_RsSum1 [hRsSum1 : Cert.RsSum1.Facts] : Prop :=
  ∀ (m : (ℓ : Loc Cert.RsSum1.nD Cert.RsSum1.τ Cert.RsSum1.sig) → Buf (Elt Bits) ℓ) (g : Dev Cert.RsSum1.nD → PrngReg), Pre_RsSum1 m →
    θ_run (Cert.RsSum1.defs (F := Bits)) (onTc (τ := Cert.RsSum1.τ) (Cert.RsSum1.main (F := Bits))) ⟨m, fun _ => 0, g⟩ (fun r => (∀ c : Dev Cert.RsSum1.nD,
      r.2.mem ((c.tc : Thread Cert.RsSum1.nD Cert.RsSum1.τ).loc Cert.RsSum1.main_arg0) = m ((c.tc : Thread Cert.RsSum1.nD Cert.RsSum1.τ).loc Cert.RsSum1.main_arg0)
      ∧ r.2.mem ((c.tc : Thread Cert.RsSum1.nD Cert.RsSum1.τ).loc Cert.RsSum1.main_arg1) = m ((c.tc : Thread Cert.RsSum1.nD Cert.RsSum1.τ).loc Cert.RsSum1.main_arg1))
      ∧ r.2.sem = fun _ => 0)

def quiescent_RsSum1Ideal [hRsSum1Ideal : Cert.RsSum1Ideal.Facts] : Prop :=
  ∀ (m : (ℓ : Loc Cert.RsSum1Ideal.nD Cert.RsSum1Ideal.τ Cert.RsSum1Ideal.sig) → Buf (Elt Ideal) ℓ) (g : Dev Cert.RsSum1Ideal.nD → PrngReg), Pre_RsSum1Ideal m →
    θ_run (Cert.RsSum1Ideal.defs (F := Ideal)) (onTc (τ := Cert.RsSum1Ideal.τ) (Cert.RsSum1Ideal.main (F := Ideal))) ⟨m, fun _ => 0, g⟩ (fun r => (∀ c : Dev Cert.RsSum1Ideal.nD,
      r.2.mem ((c.tc : Thread Cert.RsSum1Ideal.nD Cert.RsSum1Ideal.τ).loc Cert.RsSum1Ideal.main_arg0) = m ((c.tc : Thread Cert.RsSum1Ideal.nD Cert.RsSum1Ideal.τ).loc Cert.RsSum1Ideal.main_arg0)
      ∧ r.2.mem ((c.tc : Thread Cert.RsSum1Ideal.nD Cert.RsSum1Ideal.τ).loc Cert.RsSum1Ideal.main_arg1) = m ((c.tc : Thread Cert.RsSum1Ideal.nD Cert.RsSum1Ideal.τ).loc Cert.RsSum1Ideal.main_arg1))
      ∧ r.2.sem = fun _ => 0)

def quiescent_RsSum1RefIdeal [hRsSum1RefIdeal : Cert.RsSum1RefIdeal.Facts] : Prop :=
  ∀ (m : (ℓ : Loc Cert.RsSum1RefIdeal.nD Cert.RsSum1RefIdeal.τ Cert.RsSum1RefIdeal.sig) → Buf (Elt Ideal) ℓ) (g : Dev Cert.RsSum1RefIdeal.nD → PrngReg), Pre_RsSum1RefIdeal m →
    θ_run (Cert.RsSum1RefIdeal.defs (F := Ideal)) (onTc (τ := Cert.RsSum1RefIdeal.τ) (Cert.RsSum1RefIdeal.main (F := Ideal))) ⟨m, fun _ => 0, g⟩ (fun r => (∀ c : Dev Cert.RsSum1RefIdeal.nD,
      r.2.mem ((c.tc : Thread Cert.RsSum1RefIdeal.nD Cert.RsSum1RefIdeal.τ).loc Cert.RsSum1RefIdeal.main_arg0) = m ((c.tc : Thread Cert.RsSum1RefIdeal.nD Cert.RsSum1RefIdeal.τ).loc Cert.RsSum1RefIdeal.main_arg0)
      ∧ r.2.mem ((c.tc : Thread Cert.RsSum1RefIdeal.nD Cert.RsSum1RefIdeal.τ).loc Cert.RsSum1RefIdeal.main_arg1) = m ((c.tc : Thread Cert.RsSum1RefIdeal.nD Cert.RsSum1RefIdeal.τ).loc Cert.RsSum1RefIdeal.main_arg1))
      ∧ r.2.sem = fun _ => 0)

def quiescent_RsSum2 [hRsSum2 : Cert.RsSum2.Facts] : Prop :=
  ∀ (m : (ℓ : Loc Cert.RsSum2.nD Cert.RsSum2.τ Cert.RsSum2.sig) → Buf (Elt Bits) ℓ) (g : Dev Cert.RsSum2.nD → PrngReg), Pre_RsSum2 m →
    θ_run (Cert.RsSum2.defs (F := Bits)) (onTc (τ := Cert.RsSum2.τ) (Cert.RsSum2.main (F := Bits))) ⟨m, fun _ => 0, g⟩ (fun r => (∀ c : Dev Cert.RsSum2.nD,
      r.2.mem ((c.tc : Thread Cert.RsSum2.nD Cert.RsSum2.τ).loc Cert.RsSum2.main_arg0) = m ((c.tc : Thread Cert.RsSum2.nD Cert.RsSum2.τ).loc Cert.RsSum2.main_arg0)
      ∧ r.2.mem ((c.tc : Thread Cert.RsSum2.nD Cert.RsSum2.τ).loc Cert.RsSum2.main_arg1) = m ((c.tc : Thread Cert.RsSum2.nD Cert.RsSum2.τ).loc Cert.RsSum2.main_arg1))
      ∧ r.2.sem = fun _ => 0)

def quiescent_RsSum2Ideal [hRsSum2Ideal : Cert.RsSum2Ideal.Facts] : Prop :=
  ∀ (m : (ℓ : Loc Cert.RsSum2Ideal.nD Cert.RsSum2Ideal.τ Cert.RsSum2Ideal.sig) → Buf (Elt Ideal) ℓ) (g : Dev Cert.RsSum2Ideal.nD → PrngReg), Pre_RsSum2Ideal m →
    θ_run (Cert.RsSum2Ideal.defs (F := Ideal)) (onTc (τ := Cert.RsSum2Ideal.τ) (Cert.RsSum2Ideal.main (F := Ideal))) ⟨m, fun _ => 0, g⟩ (fun r => (∀ c : Dev Cert.RsSum2Ideal.nD,
      r.2.mem ((c.tc : Thread Cert.RsSum2Ideal.nD Cert.RsSum2Ideal.τ).loc Cert.RsSum2Ideal.main_arg0) = m ((c.tc : Thread Cert.RsSum2Ideal.nD Cert.RsSum2Ideal.τ).loc Cert.RsSum2Ideal.main_arg0)
      ∧ r.2.mem ((c.tc : Thread Cert.RsSum2Ideal.nD Cert.RsSum2Ideal.τ).loc Cert.RsSum2Ideal.main_arg1) = m ((c.tc : Thread Cert.RsSum2Ideal.nD Cert.RsSum2Ideal.τ).loc Cert.RsSum2Ideal.main_arg1))
      ∧ r.2.sem = fun _ => 0)

def quiescent_RsSum2RefIdeal [hRsSum2RefIdeal : Cert.RsSum2RefIdeal.Facts] : Prop :=
  ∀ (m : (ℓ : Loc Cert.RsSum2RefIdeal.nD Cert.RsSum2RefIdeal.τ Cert.RsSum2RefIdeal.sig) → Buf (Elt Ideal) ℓ) (g : Dev Cert.RsSum2RefIdeal.nD → PrngReg), Pre_RsSum2RefIdeal m →
    θ_run (Cert.RsSum2RefIdeal.defs (F := Ideal)) (onTc (τ := Cert.RsSum2RefIdeal.τ) (Cert.RsSum2RefIdeal.main (F := Ideal))) ⟨m, fun _ => 0, g⟩ (fun r => (∀ c : Dev Cert.RsSum2RefIdeal.nD,
      r.2.mem ((c.tc : Thread Cert.RsSum2RefIdeal.nD Cert.RsSum2RefIdeal.τ).loc Cert.RsSum2RefIdeal.main_arg0) = m ((c.tc : Thread Cert.RsSum2RefIdeal.nD Cert.RsSum2RefIdeal.τ).loc Cert.RsSum2RefIdeal.main_arg0)
      ∧ r.2.mem ((c.tc : Thread Cert.RsSum2RefIdeal.nD Cert.RsSum2RefIdeal.τ).loc Cert.RsSum2RefIdeal.main_arg1) = m ((c.tc : Thread Cert.RsSum2RefIdeal.nD Cert.RsSum2RefIdeal.τ).loc Cert.RsSum2RefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DwDown_DwDownIdeal : Prop :=
  True

def algebraic_DwDownIdeal_DwDownRefIdeal_on_down_rows [hDwDownIdeal : Cert.DwDownIdeal.Facts] [hDwDownRefIdeal : Cert.DwDownRefIdeal.Facts] [hOn_down_rows : Cert.On_down_rows.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v3)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          (∀ i : (⟨3, ![4, 2048, 1024]⟩ : Shape).Idx, (Cert.On_down_rows.fn (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1))) i = 1#1 → r.2.mem ((c.tc : Thread Cert.DwDownIdeal.nD Cert.DwDownIdeal.τ).loc Cert.DwDownIdeal.main_v3) i = v0 c i)
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          (∀ i : (⟨3, ![4, 2048, 1024]⟩ : Shape).Idx, (Cert.On_down_rows.fn (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1))) i = 1#1 → r.2.mem ((c.tc : Thread Cert.DwDownRefIdeal.nD Cert.DwDownRefIdeal.τ).loc Cert.DwDownRefIdeal.main_v9) i = v0 c i)
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)
      ∧ m' ((c.tc : Thread Cert.DwUpRefIdeal.nD Cert.DwUpRefIdeal.τ).loc Cert.DwUpRefIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v16)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v16) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v22) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2)
          ∧ r.2.mem ((c.tc : Thread Cert.DwUpRefIdeal.nD Cert.DwUpRefIdeal.τ).loc Cert.DwUpRefIdeal.main_arg3) = m' ((c.tc : Thread Cert.DwUpRefIdeal.nD Cert.DwUpRefIdeal.τ).loc Cert.DwUpRefIdeal.main_arg3))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v3_0)) (v1 : (c : Dev Cert.UpProjIdeal.nD) → Buf (Elt Ideal) ((c.tc : Thread Cert.UpProjIdeal.nD Cert.UpProjIdeal.τ).loc Cert.UpProjIdeal.main_v3_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v3_0) = v0 c
          ∧ r.2.mem ((c.tc : Thread Cert.UpProjIdeal.nD Cert.UpProjIdeal.τ).loc Cert.UpProjIdeal.main_v3_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v16) = v0 c
          ∧ r.2.mem ((c.tc : Thread Cert.UpProjRefIdeal.nD Cert.UpProjRefIdeal.τ).loc Cert.UpProjRefIdeal.main_v31) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v4)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v4) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v22)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v22) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v25) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v12)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v6_0)) (v1 : (c : Dev Cert.GluIdeal.nD) → Buf (Elt Ideal) ((c.tc : Thread Cert.GluIdeal.nD Cert.GluIdeal.τ).loc Cert.GluIdeal.main_v6_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6_0) = v0 c
          ∧ r.2.mem ((c.tc : Thread Cert.GluIdeal.nD Cert.GluIdeal.τ).loc Cert.GluIdeal.main_v6_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v5) = v0 c
          ∧ r.2.mem ((c.tc : Thread Cert.GluRefIdeal.nD Cert.GluRefIdeal.τ).loc Cert.GluRefIdeal.main_v29) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_DwOutA_DwOutAIdeal : Prop :=
  True

def algebraic_DwOutAIdeal_DwOutARefIdeal_on_out_rows [hDwOutAIdeal : Cert.DwOutAIdeal.Facts] [hDwOutARefIdeal : Cert.DwOutARefIdeal.Facts] [hOn_out_rows : Cert.On_out_rows.Facts] : Prop :=
  ∀ (m : (ℓ : Loc Cert.DwOutAIdeal.nD Cert.DwOutAIdeal.τ Cert.DwOutAIdeal.sig) → Buf (Elt Ideal) ℓ) (g : Dev Cert.DwOutAIdeal.nD → PrngReg)
    (m' : (ℓ : Loc Cert.DwOutARefIdeal.nD Cert.DwOutARefIdeal.τ Cert.DwOutARefIdeal.sig) → Buf (Elt Ideal) ℓ) (g' : Dev Cert.DwOutARefIdeal.nD → PrngReg), Pre_DwOutAIdeal m →
    (∀ c : Dev Cert.DwOutAIdeal.nD,
      m' ((c.tc : Thread Cert.DwOutARefIdeal.nD Cert.DwOutARefIdeal.τ).loc Cert.DwOutARefIdeal.main_arg0) = m ((c.tc : Thread Cert.DwOutAIdeal.nD Cert.DwOutAIdeal.τ).loc Cert.DwOutAIdeal.main_arg0)
      ∧ m' ((c.tc : Thread Cert.DwOutARefIdeal.nD Cert.DwOutARefIdeal.τ).loc Cert.DwOutARefIdeal.main_arg1) = m ((c.tc : Thread Cert.DwOutAIdeal.nD Cert.DwOutAIdeal.τ).loc Cert.DwOutAIdeal.main_arg1)) →
    ∃ (v0 : (c : Dev Cert.DwOutAIdeal.nD) → Buf (Elt Ideal) ((c.tc : Thread Cert.DwOutAIdeal.nD Cert.DwOutAIdeal.τ).loc Cert.DwOutAIdeal.main_v3)),
      θ_run (Cert.DwOutAIdeal.defs (F := Ideal)) (onTc (τ := Cert.DwOutAIdeal.τ) (Cert.DwOutAIdeal.main (F := Ideal))) ⟨m, fun _ => 0, g⟩ (fun r => ∀ c : Dev Cert.DwOutAIdeal.nD,
          (∀ i : (⟨3, ![4, 1024, 1024]⟩ : Shape).Idx, (Cert.On_out_rows.fn (F := Ideal) (m ((c.tc : Thread Cert.DwOutAIdeal.nD Cert.DwOutAIdeal.τ).loc Cert.DwOutAIdeal.main_arg0)) (m ((c.tc : Thread Cert.DwOutAIdeal.nD Cert.DwOutAIdeal.τ).loc Cert.DwOutAIdeal.main_arg1))) i = 1#1 → r.2.mem ((c.tc : Thread Cert.DwOutAIdeal.nD Cert.DwOutAIdeal.τ).loc Cert.DwOutAIdeal.main_v3) i = v0 c i)
          ∧ r.2.mem ((c.tc : Thread Cert.DwOutAIdeal.nD Cert.DwOutAIdeal.τ).loc Cert.DwOutAIdeal.main_arg0) = m ((c.tc : Thread Cert.DwOutAIdeal.nD Cert.DwOutAIdeal.τ).loc Cert.DwOutAIdeal.main_arg0)
          ∧ r.2.mem ((c.tc : Thread Cert.DwOutAIdeal.nD Cert.DwOutAIdeal.τ).loc Cert.DwOutAIdeal.main_arg1) = m ((c.tc : Thread Cert.DwOutAIdeal.nD Cert.DwOutAIdeal.τ).loc Cert.DwOutAIdeal.main_arg1))
      ∧ θ_run (Cert.DwOutARefIdeal.defs (F := Ideal)) (onTc (τ := Cert.DwOutARefIdeal.τ) (Cert.DwOutARefIdeal.main (F := Ideal))) ⟨m', fun _ => 0, g'⟩ (fun r => ∀ c : Dev Cert.DwOutARefIdeal.nD,
          (∀ i : (⟨3, ![4, 1024, 1024]⟩ : Shape).Idx, (Cert.On_out_rows.fn (F := Ideal) (m ((c.tc : Thread Cert.DwOutAIdeal.nD Cert.DwOutAIdeal.τ).loc Cert.DwOutAIdeal.main_arg0)) (m ((c.tc : Thread Cert.DwOutAIdeal.nD Cert.DwOutAIdeal.τ).loc Cert.DwOutAIdeal.main_arg1))) i = 1#1 → r.2.mem ((c.tc : Thread Cert.DwOutARefIdeal.nD Cert.DwOutARefIdeal.τ).loc Cert.DwOutARefIdeal.main_v7) i = v0 c i)
          ∧ r.2.mem ((c.tc : Thread Cert.DwOutARefIdeal.nD Cert.DwOutARefIdeal.τ).loc Cert.DwOutARefIdeal.main_arg0) = m' ((c.tc : Thread Cert.DwOutARefIdeal.nD Cert.DwOutARefIdeal.τ).loc Cert.DwOutARefIdeal.main_arg0)
          ∧ r.2.mem ((c.tc : Thread Cert.DwOutARefIdeal.nD Cert.DwOutARefIdeal.τ).loc Cert.DwOutARefIdeal.main_arg1) = m' ((c.tc : Thread Cert.DwOutARefIdeal.nD Cert.DwOutARefIdeal.τ).loc Cert.DwOutARefIdeal.main_arg1))

def preserves_DwOutB_DwOutBIdeal : Prop :=
  True

def algebraic_DwOutBIdeal_DwOutBRefIdeal [hDwOutBIdeal : Cert.DwOutBIdeal.Facts] [hDwOutBRefIdeal : Cert.DwOutBRefIdeal.Facts] : Prop :=
  ∀ (m : (ℓ : Loc Cert.DwOutBIdeal.nD Cert.DwOutBIdeal.τ Cert.DwOutBIdeal.sig) → Buf (Elt Ideal) ℓ) (g : Dev Cert.DwOutBIdeal.nD → PrngReg)
    (m' : (ℓ : Loc Cert.DwOutBRefIdeal.nD Cert.DwOutBRefIdeal.τ Cert.DwOutBRefIdeal.sig) → Buf (Elt Ideal) ℓ) (g' : Dev Cert.DwOutBRefIdeal.nD → PrngReg), Pre_DwOutBIdeal m →
    (∀ c : Dev Cert.DwOutBIdeal.nD,
      m' ((c.tc : Thread Cert.DwOutBRefIdeal.nD Cert.DwOutBRefIdeal.τ).loc Cert.DwOutBRefIdeal.main_arg0) = m ((c.tc : Thread Cert.DwOutBIdeal.nD Cert.DwOutBIdeal.τ).loc Cert.DwOutBIdeal.main_arg0)
      ∧ m' ((c.tc : Thread Cert.DwOutBRefIdeal.nD Cert.DwOutBRefIdeal.τ).loc Cert.DwOutBRefIdeal.main_arg1) = m ((c.tc : Thread Cert.DwOutBIdeal.nD Cert.DwOutBIdeal.τ).loc Cert.DwOutBIdeal.main_arg1)
      ∧ m' ((c.tc : Thread Cert.DwOutBRefIdeal.nD Cert.DwOutBRefIdeal.τ).loc Cert.DwOutBRefIdeal.main_arg2) = m ((c.tc : Thread Cert.DwOutBIdeal.nD Cert.DwOutBIdeal.τ).loc Cert.DwOutBIdeal.main_arg2)) →
    ∃ (v0 : (c : Dev Cert.DwOutBIdeal.nD) → Buf (Elt Ideal) ((c.tc : Thread Cert.DwOutBIdeal.nD Cert.DwOutBIdeal.τ).loc Cert.DwOutBIdeal.main_v3)),
      θ_run (Cert.DwOutBIdeal.defs (F := Ideal)) (onTc (τ := Cert.DwOutBIdeal.τ) (Cert.DwOutBIdeal.main (F := Ideal))) ⟨m, fun _ => 0, g⟩ (fun r => ∀ c : Dev Cert.DwOutBIdeal.nD,
          r.2.mem ((c.tc : Thread Cert.DwOutBIdeal.nD Cert.DwOutBIdeal.τ).loc Cert.DwOutBIdeal.main_v3) = v0 c
          ∧ r.2.mem ((c.tc : Thread Cert.DwOutBIdeal.nD Cert.DwOutBIdeal.τ).loc Cert.DwOutBIdeal.main_arg0) = m ((c.tc : Thread Cert.DwOutBIdeal.nD Cert.DwOutBIdeal.τ).loc Cert.DwOutBIdeal.main_arg0)
          ∧ r.2.mem ((c.tc : Thread Cert.DwOutBIdeal.nD Cert.DwOutBIdeal.τ).loc Cert.DwOutBIdeal.main_arg1) = m ((c.tc : Thread Cert.DwOutBIdeal.nD Cert.DwOutBIdeal.τ).loc Cert.DwOutBIdeal.main_arg1)
          ∧ r.2.mem ((c.tc : Thread Cert.DwOutBIdeal.nD Cert.DwOutBIdeal.τ).loc Cert.DwOutBIdeal.main_arg2) = m ((c.tc : Thread Cert.DwOutBIdeal.nD Cert.DwOutBIdeal.τ).loc Cert.DwOutBIdeal.main_arg2))
      ∧ θ_run (Cert.DwOutBRefIdeal.defs (F := Ideal)) (onTc (τ := Cert.DwOutBRefIdeal.τ) (Cert.DwOutBRefIdeal.main (F := Ideal))) ⟨m', fun _ => 0, g'⟩ (fun r => ∀ c : Dev Cert.DwOutBRefIdeal.nD,
          r.2.mem ((c.tc : Thread Cert.DwOutBRefIdeal.nD Cert.DwOutBRefIdeal.τ).loc Cert.DwOutBRefIdeal.main_v10) = v0 c
          ∧ r.2.mem ((c.tc : Thread Cert.DwOutBRefIdeal.nD Cert.DwOutBRefIdeal.τ).loc Cert.DwOutBRefIdeal.main_arg0) = m' ((c.tc : Thread Cert.DwOutBRefIdeal.nD Cert.DwOutBRefIdeal.τ).loc Cert.DwOutBRefIdeal.main_arg0)
          ∧ r.2.mem ((c.tc : Thread Cert.DwOutBRefIdeal.nD Cert.DwOutBRefIdeal.τ).loc Cert.DwOutBRefIdeal.main_arg1) = m' ((c.tc : Thread Cert.DwOutBRefIdeal.nD Cert.DwOutBRefIdeal.τ).loc Cert.DwOutBRefIdeal.main_arg1)
          ∧ r.2.mem ((c.tc : Thread Cert.DwOutBRefIdeal.nD Cert.DwOutBRefIdeal.τ).loc Cert.DwOutBRefIdeal.main_arg2) = m' ((c.tc : Thread Cert.DwOutBRefIdeal.nD Cert.DwOutBRefIdeal.τ).loc Cert.DwOutBRefIdeal.main_arg2))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)
      ∧ m' ((c.tc : Thread Cert.DwGluRefIdeal.nD Cert.DwGluRefIdeal.τ).loc Cert.DwGluRefIdeal.main_arg2) = m ((c.tc : Thread Cert.DwGluIdeal.nD Cert.DwGluIdeal.τ).loc Cert.DwGluIdeal.main_arg2)
      ∧ m' ((c.tc : Thread Cert.DwGluRefIdeal.nD Cert.DwGluRefIdeal.τ).loc Cert.DwGluRefIdeal.main_arg3) = m ((c.tc : Thread Cert.DwGluIdeal.nD Cert.DwGluIdeal.τ).loc Cert.DwGluIdeal.main_arg3)) →
    ∃ (v0 : (c : Dev Cert.DwGluIdeal.nD) → Buf (Elt Ideal) ((c.tc : Thread Cert.DwGluIdeal.nD Cert.DwGluIdeal.τ).loc Cert.DwGluIdeal.main_v2)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v2) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1)
          ∧ r.2.mem ((c.tc : Thread Cert.DwGluIdeal.nD Cert.DwGluIdeal.τ).loc Cert.DwGluIdeal.main_arg2) = m ((c.tc : Thread Cert.DwGluIdeal.nD Cert.DwGluIdeal.τ).loc Cert.DwGluIdeal.main_arg2)
          ∧ r.2.mem ((c.tc : Thread Cert.DwGluIdeal.nD Cert.DwGluIdeal.τ).loc Cert.DwGluIdeal.main_arg3) = m ((c.tc : Thread Cert.DwGluIdeal.nD Cert.DwGluIdeal.τ).loc Cert.DwGluIdeal.main_arg3))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v12) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1)
          ∧ r.2.mem ((c.tc : Thread Cert.DwGluRefIdeal.nD Cert.DwGluRefIdeal.τ).loc Cert.DwGluRefIdeal.main_arg2) = m' ((c.tc : Thread Cert.DwGluRefIdeal.nD Cert.DwGluRefIdeal.τ).loc Cert.DwGluRefIdeal.main_arg2)
          ∧ r.2.mem ((c.tc : Thread Cert.DwGluRefIdeal.nD Cert.DwGluRefIdeal.τ).loc Cert.DwGluRefIdeal.main_arg3) = m' ((c.tc : Thread Cert.DwGluRefIdeal.nD Cert.DwGluRefIdeal.τ).loc Cert.DwGluRefIdeal.main_arg3))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v4_0)) (v1 : (c : Dev Cert.UpBwdIdeal.nD) → Buf (Elt Ideal) ((c.tc : Thread Cert.UpBwdIdeal.nD Cert.UpBwdIdeal.τ).loc Cert.UpBwdIdeal.main_v4_1)) (v2 : (c : Dev Cert.UpBwdIdeal.nD) → Buf (Elt Ideal) ((c.tc : Thread Cert.UpBwdIdeal.nD Cert.UpBwdIdeal.τ).loc Cert.UpBwdIdeal.main_v4_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v4_0) = v0 c
          ∧ r.2.mem ((c.tc : Thread Cert.UpBwdIdeal.nD Cert.UpBwdIdeal.τ).loc Cert.UpBwdIdeal.main_v4_1) = v1 c
          ∧ r.2.mem ((c.tc : Thread Cert.UpBwdIdeal.nD Cert.UpBwdIdeal.τ).loc Cert.UpBwdIdeal.main_v4_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v36) = v0 c
          ∧ r.2.mem ((c.tc : Thread Cert.UpBwdRefIdeal.nD Cert.UpBwdRefIdeal.τ).loc Cert.UpBwdRefIdeal.main_v41) = v1 c
          ∧ r.2.mem ((c.tc : Thread Cert.UpBwdRefIdeal.nD Cert.UpBwdRefIdeal.τ).loc Cert.UpBwdRefIdeal.main_v40) = v2 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v7_0)) (v1 : (c : Dev Cert.OutBwdIdeal.nD) → Buf (Elt Ideal) ((c.tc : Thread Cert.OutBwdIdeal.nD Cert.OutBwdIdeal.τ).loc Cert.OutBwdIdeal.main_v7_1)) (v2 : (c : Dev Cert.OutBwdIdeal.nD) → Buf (Elt Ideal) ((c.tc : Thread Cert.OutBwdIdeal.nD Cert.OutBwdIdeal.τ).loc Cert.OutBwdIdeal.main_v7_2)) (v3 : (c : Dev Cert.OutBwdIdeal.nD) → Buf (Elt Ideal) ((c.tc : Thread Cert.OutBwdIdeal.nD Cert.OutBwdIdeal.τ).loc Cert.OutBwdIdeal.main_v7_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v7_0) = v0 c
          ∧ r.2.mem ((c.tc : Thread Cert.OutBwdIdeal.nD Cert.OutBwdIdeal.τ).loc Cert.OutBwdIdeal.main_v7_1) = v1 c
          ∧ r.2.mem ((c.tc : Thread Cert.OutBwdIdeal.nD Cert.OutBwdIdeal.τ).loc Cert.OutBwdIdeal.main_v7_2) = v2 c
          ∧ r.2.mem ((c.tc : Thread Cert.OutBwdIdeal.nD Cert.OutBwdIdeal.τ).loc Cert.OutBwdIdeal.main_v7_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v39) = v0 c
          ∧ r.2.mem ((c.tc : Thread Cert.OutBwdRefIdeal.nD Cert.OutBwdRefIdeal.τ).loc Cert.OutBwdRefIdeal.main_v71) = v1 c
          ∧ r.2.mem ((c.tc : Thread Cert.OutBwdRefIdeal.nD Cert.OutBwdRefIdeal.τ).loc Cert.OutBwdRefIdeal.main_v60) = v2 c
          ∧ r.2.mem ((c.tc : Thread Cert.OutBwdRefIdeal.nD Cert.OutBwdRefIdeal.τ).loc Cert.OutBwdRefIdeal.main_v70) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_GluBwd_GluBwdIdeal : Prop :=
  IdealRules.named_const.Statement Cert.GluBwdIdeal.κ "inv_sqrt_2" .f32 0x3F3504F3#32 (((Real.sqrt 2)⁻¹ : ℝ) : EReal)
  ∧ IdealRules.named_const.Statement Cert.GluBwdIdeal.κ "inv_sqrt_2pi" .f32 0x3ECC422A#32 (((9465531 / 16777216) * (Real.sqrt 2)⁻¹ : ℝ) : EReal)

def algebraic_GluBwdIdeal_GluBwdRefIdeal_pre_bounded [hGluBwdIdeal : Cert.GluBwdIdeal.Facts] [hGluBwdRefIdeal : Cert.GluBwdRefIdeal.Facts] [hPre_bounded : Cert.Pre_bounded.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal_bounded m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)) →
    ∃ (v0 : (c : Dev Cert.GluBwdIdeal.nD) → Buf (Elt Ideal) ((c.tc : Thread Cert.GluBwdIdeal.nD Cert.GluBwdIdeal.τ).loc Cert.GluBwdIdeal.main_v6)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v6) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v29) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v25) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v27) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v4_0)) (v1 : (c : Dev Cert.AdamBIdeal.nD) → Buf (Elt Ideal) ((c.tc : Thread Cert.AdamBIdeal.nD Cert.AdamBIdeal.τ).loc Cert.AdamBIdeal.main_v4_1)) (v2 : (c : Dev Cert.AdamBIdeal.nD) → Buf (Elt Ideal) ((c.tc : Thread Cert.AdamBIdeal.nD Cert.AdamBIdeal.τ).loc Cert.AdamBIdeal.main_v4_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v4_0) = v0 c
          ∧ r.2.mem ((c.tc : Thread Cert.AdamBIdeal.nD Cert.AdamBIdeal.τ).loc Cert.AdamBIdeal.main_v4_1) = v1 c
          ∧ r.2.mem ((c.tc : Thread Cert.AdamBIdeal.nD Cert.AdamBIdeal.τ).loc Cert.AdamBIdeal.main_v4_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v24) = v0 c
          ∧ r.2.mem ((c.tc : Thread Cert.AdamBRefIdeal.nD Cert.AdamBRefIdeal.τ).loc Cert.AdamBRefIdeal.main_v25) = v1 c
          ∧ r.2.mem ((c.tc : Thread Cert.AdamBRefIdeal.nD Cert.AdamBRefIdeal.τ).loc Cert.AdamBRefIdeal.main_v26) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v23) = v0 c
          ∧ r.2.mem ((c.tc : Thread Cert.AdamConvWRefIdeal.nD Cert.AdamConvWRefIdeal.τ).loc Cert.AdamConvWRefIdeal.main_v4) = v1 c
          ∧ r.2.mem ((c.tc : Thread Cert.AdamConvWRefIdeal.nD Cert.AdamConvWRefIdeal.τ).loc Cert.AdamConvWRefIdeal.main_v10) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v23) = v0 c
          ∧ r.2.mem ((c.tc : Thread Cert.AdamMetaRefIdeal.nD Cert.AdamMetaRefIdeal.τ).loc Cert.AdamMetaRefIdeal.main_v4) = v1 c
          ∧ r.2.mem ((c.tc : Thread Cert.AdamMetaRefIdeal.nD Cert.AdamMetaRefIdeal.τ).loc Cert.AdamMetaRefIdeal.main_v10) = v2 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamHeads_AdamHeadsIdeal : Prop :=
  True

def algebraic_AdamHeadsIdeal_AdamHeadsRefIdeal [hAdamHeadsIdeal : Cert.AdamHeadsIdeal.Facts] [hAdamHeadsRefIdeal : Cert.AdamHeadsRefIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg)
    (m' : (ℓ : Loc Cert.AdamHeadsRefIdeal.nD Cert.AdamHeadsRefIdeal.τ Cert.AdamHeadsRefIdeal.sig) → Buf (Elt Ideal) ℓ) (g' : Dev Cert.AdamHeadsRefIdeal.nD → PrngReg), Pre_AdamHeadsIdeal m →
    (∀ c : Dev Cert.AdamHeadsIdeal.nD,
      m' ((c.tc : Thread Cert.AdamHeadsRefIdeal.nD Cert.AdamHeadsRefIdeal.τ).loc Cert.AdamHeadsRefIdeal.main_arg0) = m ((c.tc : Thread Cert.AdamHeadsIdeal.nD Cert.AdamHeadsIdeal.τ).loc Cert.AdamHeadsIdeal.main_arg0)
      ∧ m' ((c.tc : Thread Cert.AdamHeadsRefIdeal.nD Cert.AdamHeadsRefIdeal.τ).loc Cert.AdamHeadsRefIdeal.main_arg1) = m ((c.tc : Thread Cert.AdamHeadsIdeal.nD Cert.AdamHeadsIdeal.τ).loc Cert.AdamHeadsIdeal.main_arg1)
      ∧ m' ((c.tc : Thread Cert.AdamHeadsRefIdeal.nD Cert.AdamHeadsRefIdeal.τ).loc Cert.AdamHeadsRefIdeal.main_arg2) = m ((c.tc : Thread Cert.AdamHeadsIdeal.nD Cert.AdamHeadsIdeal.τ).loc Cert.AdamHeadsIdeal.main_arg2)
      ∧ m' ((c.tc : Thread Cert.AdamHeadsRefIdeal.nD Cert.AdamHeadsRefIdeal.τ).loc Cert.AdamHeadsRefIdeal.main_arg3) = m ((c.tc : Thread Cert.AdamHeadsIdeal.nD Cert.AdamHeadsIdeal.τ).loc Cert.AdamHeadsIdeal.main_arg3)) →
    ∃ (v0 : (c : Dev Cert.AdamHeadsIdeal.nD) → Buf (Elt Ideal) ((c.tc : Thread Cert.AdamHeadsIdeal.nD Cert.AdamHeadsIdeal.τ).loc Cert.AdamHeadsIdeal.main_v0_0)) (v1 : (c : Dev Cert.AdamHeadsIdeal.nD) → Buf (Elt Ideal) ((c.tc : Thread Cert.AdamHeadsIdeal.nD Cert.AdamHeadsIdeal.τ).loc Cert.AdamHeadsIdeal.main_v0_1)) (v2 : (c : Dev Cert.AdamHeadsIdeal.nD) → Buf (Elt Ideal) ((c.tc : Thread Cert.AdamHeadsIdeal.nD Cert.AdamHeadsIdeal.τ).loc Cert.AdamHeadsIdeal.main_v0_2)),
      θ_run (Cert.AdamHeadsIdeal.defs (F := Ideal)) (onTc (τ := Cert.AdamHeadsIdeal.τ) (Cert.AdamHeadsIdeal.main (F := Ideal))) ⟨m, fun _ => 0, g⟩ (fun r => ∀ c : Dev Cert.AdamHeadsIdeal.nD,
          r.2.mem ((c.tc : Thread Cert.AdamHeadsIdeal.nD Cert.AdamHeadsIdeal.τ).loc Cert.AdamHeadsIdeal.main_v0_0) = v0 c
          ∧ r.2.mem ((c.tc : Thread Cert.AdamHeadsIdeal.nD Cert.AdamHeadsIdeal.τ).loc Cert.AdamHeadsIdeal.main_v0_1) = v1 c
          ∧ r.2.mem ((c.tc : Thread Cert.AdamHeadsIdeal.nD Cert.AdamHeadsIdeal.τ).loc Cert.AdamHeadsIdeal.main_v0_2) = v2 c
          ∧ r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
          ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
          ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
          ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ θ_run (Cert.AdamHeadsRefIdeal.defs (F := Ideal)) (onTc (τ := Cert.AdamHeadsRefIdeal.τ) (Cert.AdamHeadsRefIdeal.main (F := Ideal))) ⟨m', fun _ => 0, g'⟩ (fun r => ∀ c : Dev Cert.AdamHeadsRefIdeal.nD,
          r.2.mem ((c.tc : Thread Cert.AdamHeadsRefIdeal.nD Cert.AdamHeadsRefIdeal.τ).loc Cert.AdamHeadsRefIdeal.main_v23) = v0 c
          ∧ r.2.mem ((c.tc : Thread Cert.AdamHeadsRefIdeal.nD Cert.AdamHeadsRefIdeal.τ).loc Cert.AdamHeadsRefIdeal.main_v4) = v1 c
          ∧ r.2.mem ((c.tc : Thread Cert.AdamHeadsRefIdeal.nD Cert.AdamHeadsRefIdeal.τ).loc Cert.AdamHeadsRefIdeal.main_v10) = v2 c
          ∧ r.2.mem ((c.tc : Thread Cert.AdamHeadsRefIdeal.nD Cert.AdamHeadsRefIdeal.τ).loc Cert.AdamHeadsRefIdeal.main_arg0) = m' ((c.tc : Thread Cert.AdamHeadsRefIdeal.nD Cert.AdamHeadsRefIdeal.τ).loc Cert.AdamHeadsRefIdeal.main_arg0)
          ∧ r.2.mem ((c.tc : Thread Cert.AdamHeadsRefIdeal.nD Cert.AdamHeadsRefIdeal.τ).loc Cert.AdamHeadsRefIdeal.main_arg1) = m' ((c.tc : Thread Cert.AdamHeadsRefIdeal.nD Cert.AdamHeadsRefIdeal.τ).loc Cert.AdamHeadsRefIdeal.main_arg1)
          ∧ r.2.mem ((c.tc : Thread Cert.AdamHeadsRefIdeal.nD Cert.AdamHeadsRefIdeal.τ).loc Cert.AdamHeadsRefIdeal.main_arg2) = m' ((c.tc : Thread Cert.AdamHeadsRefIdeal.nD Cert.AdamHeadsRefIdeal.τ).loc Cert.AdamHeadsRefIdeal.main_arg2)
          ∧ r.2.mem ((c.tc : Thread Cert.AdamHeadsRefIdeal.nD Cert.AdamHeadsRefIdeal.τ).loc Cert.AdamHeadsRefIdeal.main_arg3) = m' ((c.tc : Thread Cert.AdamHeadsRefIdeal.nD Cert.AdamHeadsRefIdeal.τ).loc Cert.AdamHeadsRefIdeal.main_arg3))

def preserves_AdamStep_AdamStepIdeal : Prop :=
  True

def algebraic_AdamStepIdeal_AdamStepRefIdeal [hAdamStepIdeal : Cert.AdamStepIdeal.Facts] [hAdamStepRefIdeal : Cert.AdamStepRefIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamStepRefIdeal.nD Cert.AdamStepRefIdeal.τ Cert.AdamStepRefIdeal.sig) → Buf (Elt Ideal) ℓ) (g' : Dev Cert.AdamStepRefIdeal.nD → PrngReg), Pre_AdamStepIdeal m →
    (∀ c : Dev Cert.AdamStepIdeal.nD,
      m' ((c.tc : Thread Cert.AdamStepRefIdeal.nD Cert.AdamStepRefIdeal.τ).loc Cert.AdamStepRefIdeal.main_arg0) = m ((c.tc : Thread Cert.AdamStepIdeal.nD Cert.AdamStepIdeal.τ).loc Cert.AdamStepIdeal.main_arg0)
      ∧ m' ((c.tc : Thread Cert.AdamStepRefIdeal.nD Cert.AdamStepRefIdeal.τ).loc Cert.AdamStepRefIdeal.main_arg1) = m ((c.tc : Thread Cert.AdamStepIdeal.nD Cert.AdamStepIdeal.τ).loc Cert.AdamStepIdeal.main_arg1)
      ∧ m' ((c.tc : Thread Cert.AdamStepRefIdeal.nD Cert.AdamStepRefIdeal.τ).loc Cert.AdamStepRefIdeal.main_arg2) = m ((c.tc : Thread Cert.AdamStepIdeal.nD Cert.AdamStepIdeal.τ).loc Cert.AdamStepIdeal.main_arg2)
      ∧ m' ((c.tc : Thread Cert.AdamStepRefIdeal.nD Cert.AdamStepRefIdeal.τ).loc Cert.AdamStepRefIdeal.main_arg3) = m ((c.tc : Thread Cert.AdamStepIdeal.nD Cert.AdamStepIdeal.τ).loc Cert.AdamStepIdeal.main_arg3)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3))
      ∧ θ_run (Cert.AdamStepRefIdeal.defs (F := Ideal)) (onTc (τ := Cert.AdamStepRefIdeal.τ) (Cert.AdamStepRefIdeal.main (F := Ideal))) ⟨m', fun _ => 0, g'⟩ (fun r => ∀ c : Dev Cert.AdamStepRefIdeal.nD,
          r.2.mem ((c.tc : Thread Cert.AdamStepRefIdeal.nD Cert.AdamStepRefIdeal.τ).loc Cert.AdamStepRefIdeal.main_v23) = v0 c
          ∧ r.2.mem ((c.tc : Thread Cert.AdamStepRefIdeal.nD Cert.AdamStepRefIdeal.τ).loc Cert.AdamStepRefIdeal.main_v4) = v1 c
          ∧ r.2.mem ((c.tc : Thread Cert.AdamStepRefIdeal.nD Cert.AdamStepRefIdeal.τ).loc Cert.AdamStepRefIdeal.main_v10) = v2 c
          ∧ r.2.mem ((c.tc : Thread Cert.AdamStepRefIdeal.nD Cert.AdamStepRefIdeal.τ).loc Cert.AdamStepRefIdeal.main_arg0) = m' ((c.tc : Thread Cert.AdamStepRefIdeal.nD Cert.AdamStepRefIdeal.τ).loc Cert.AdamStepRefIdeal.main_arg0)
          ∧ r.2.mem ((c.tc : Thread Cert.AdamStepRefIdeal.nD Cert.AdamStepRefIdeal.τ).loc Cert.AdamStepRefIdeal.main_arg1) = m' ((c.tc : Thread Cert.AdamStepRefIdeal.nD Cert.AdamStepRefIdeal.τ).loc Cert.AdamStepRefIdeal.main_arg1)
          ∧ r.2.mem ((c.tc : Thread Cert.AdamStepRefIdeal.nD Cert.AdamStepRefIdeal.τ).loc Cert.AdamStepRefIdeal.main_arg2) = m' ((c.tc : Thread Cert.AdamStepRefIdeal.nD Cert.AdamStepRefIdeal.τ).loc Cert.AdamStepRefIdeal.main_arg2)
          ∧ r.2.mem ((c.tc : Thread Cert.AdamStepRefIdeal.nD Cert.AdamStepRefIdeal.τ).loc Cert.AdamStepRefIdeal.main_arg3) = m' ((c.tc : Thread Cert.AdamStepRefIdeal.nD Cert.AdamStepRefIdeal.τ).loc Cert.AdamStepRefIdeal.main_arg3))

def preserves_AdamLam_AdamLamIdeal : Prop :=
  True

def algebraic_AdamLamIdeal_AdamLamRefIdeal [hAdamLamIdeal : Cert.AdamLamIdeal.Facts] [hAdamLamRefIdeal : Cert.AdamLamRefIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg)
    (m' : (ℓ : Loc Cert.AdamLamRefIdeal.nD Cert.AdamLamRefIdeal.τ Cert.AdamLamRefIdeal.sig) → Buf (Elt Ideal) ℓ) (g' : Dev Cert.AdamLamRefIdeal.nD → PrngReg), Pre_AdamLamIdeal m →
    (∀ c : Dev Cert.AdamLamIdeal.nD,
      m' ((c.tc : Thread Cert.AdamLamRefIdeal.nD Cert.AdamLamRefIdeal.τ).loc Cert.AdamLamRefIdeal.main_arg0) = m ((c.tc : Thread Cert.AdamLamIdeal.nD Cert.AdamLamIdeal.τ).loc Cert.AdamLamIdeal.main_arg0)
      ∧ m' ((c.tc : Thread Cert.AdamLamRefIdeal.nD Cert.AdamLamRefIdeal.τ).loc Cert.AdamLamRefIdeal.main_arg1) = m ((c.tc : Thread Cert.AdamLamIdeal.nD Cert.AdamLamIdeal.τ).loc Cert.AdamLamIdeal.main_arg1)
      ∧ m' ((c.tc : Thread Cert.AdamLamRefIdeal.nD Cert.AdamLamRefIdeal.τ).loc Cert.AdamLamRefIdeal.main_arg2) = m ((c.tc : Thread Cert.AdamLamIdeal.nD Cert.AdamLamIdeal.τ).loc Cert.AdamLamIdeal.main_arg2)
      ∧ m' ((c.tc : Thread Cert.AdamLamRefIdeal.nD Cert.AdamLamRefIdeal.τ).loc Cert.AdamLamRefIdeal.main_arg3) = m ((c.tc : Thread Cert.AdamLamIdeal.nD Cert.AdamLamIdeal.τ).loc Cert.AdamLamIdeal.main_arg3)) →
    ∃ (v0 : (c : Dev Cert.AdamLamIdeal.nD) → Buf (Elt Ideal) ((c.tc : Thread Cert.AdamLamIdeal.nD Cert.AdamLamIdeal.τ).loc Cert.AdamLamIdeal.main_v0_0)) (v1 : (c : Dev Cert.AdamLamIdeal.nD) → Buf (Elt Ideal) ((c.tc : Thread Cert.AdamLamIdeal.nD Cert.AdamLamIdeal.τ).loc Cert.AdamLamIdeal.main_v0_1)) (v2 : (c : Dev Cert.AdamLamIdeal.nD) → Buf (Elt Ideal) ((c.tc : Thread Cert.AdamLamIdeal.nD Cert.AdamLamIdeal.τ).loc Cert.AdamLamIdeal.main_v0_2)),
      θ_run (Cert.AdamLamIdeal.defs (F := Ideal)) (onTc (τ := Cert.AdamLamIdeal.τ) (Cert.AdamLamIdeal.main (F := Ideal))) ⟨m, fun _ => 0, g⟩ (fun r => ∀ c : Dev Cert.AdamLamIdeal.nD,
          r.2.mem ((c.tc : Thread Cert.AdamLamIdeal.nD Cert.AdamLamIdeal.τ).loc Cert.AdamLamIdeal.main_v0_0) = v0 c
          ∧ r.2.mem ((c.tc : Thread Cert.AdamLamIdeal.nD Cert.AdamLamIdeal.τ).loc Cert.AdamLamIdeal.main_v0_1) = v1 c
          ∧ r.2.mem ((c.tc : Thread Cert.AdamLamIdeal.nD Cert.AdamLamIdeal.τ).loc Cert.AdamLamIdeal.main_v0_2) = v2 c
          ∧ r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
          ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
          ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
          ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ θ_run (Cert.AdamLamRefIdeal.defs (F := Ideal)) (onTc (τ := Cert.AdamLamRefIdeal.τ) (Cert.AdamLamRefIdeal.main (F := Ideal))) ⟨m', fun _ => 0, g'⟩ (fun r => ∀ c : Dev Cert.AdamLamRefIdeal.nD,
          r.2.mem ((c.tc : Thread Cert.AdamLamRefIdeal.nD Cert.AdamLamRefIdeal.τ).loc Cert.AdamLamRefIdeal.main_v23) = v0 c
          ∧ r.2.mem ((c.tc : Thread Cert.AdamLamRefIdeal.nD Cert.AdamLamRefIdeal.τ).loc Cert.AdamLamRefIdeal.main_v4) = v1 c
          ∧ r.2.mem ((c.tc : Thread Cert.AdamLamRefIdeal.nD Cert.AdamLamRefIdeal.τ).loc Cert.AdamLamRefIdeal.main_v10) = v2 c
          ∧ r.2.mem ((c.tc : Thread Cert.AdamLamRefIdeal.nD Cert.AdamLamRefIdeal.τ).loc Cert.AdamLamRefIdeal.main_arg0) = m' ((c.tc : Thread Cert.AdamLamRefIdeal.nD Cert.AdamLamRefIdeal.τ).loc Cert.AdamLamRefIdeal.main_arg0)
          ∧ r.2.mem ((c.tc : Thread Cert.AdamLamRefIdeal.nD Cert.AdamLamRefIdeal.τ).loc Cert.AdamLamRefIdeal.main_arg1) = m' ((c.tc : Thread Cert.AdamLamRefIdeal.nD Cert.AdamLamRefIdeal.τ).loc Cert.AdamLamRefIdeal.main_arg1)
          ∧ r.2.mem ((c.tc : Thread Cert.AdamLamRefIdeal.nD Cert.AdamLamRefIdeal.τ).loc Cert.AdamLamRefIdeal.main_arg2) = m' ((c.tc : Thread Cert.AdamLamRefIdeal.nD Cert.AdamLamRefIdeal.τ).loc Cert.AdamLamRefIdeal.main_arg2)
          ∧ r.2.mem ((c.tc : Thread Cert.AdamLamRefIdeal.nD Cert.AdamLamRefIdeal.τ).loc Cert.AdamLamRefIdeal.main_arg3) = m' ((c.tc : Thread Cert.AdamLamRefIdeal.nD Cert.AdamLamRefIdeal.τ).loc Cert.AdamLamRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamD_AdamDIdeal : Prop :=
  True

def algebraic_AdamDIdeal_AdamDRefIdeal [hAdamDIdeal : Cert.AdamDIdeal.Facts] [hAdamDRefIdeal : Cert.AdamDRefIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDRefIdeal.nD Cert.AdamDRefIdeal.τ Cert.AdamDRefIdeal.sig) → Buf (Elt Ideal) ℓ) (g' : Dev Cert.AdamDRefIdeal.nD → PrngReg), Pre_AdamDIdeal m →
    (∀ c : Dev Cert.AdamDIdeal.nD,
      m' ((c.tc : Thread Cert.AdamDRefIdeal.nD Cert.AdamDRefIdeal.τ).loc Cert.AdamDRefIdeal.main_arg0) = m ((c.tc : Thread Cert.AdamDIdeal.nD Cert.AdamDIdeal.τ).loc Cert.AdamDIdeal.main_arg0)
      ∧ m' ((c.tc : Thread Cert.AdamDRefIdeal.nD Cert.AdamDRefIdeal.τ).loc Cert.AdamDRefIdeal.main_arg1) = m ((c.tc : Thread Cert.AdamDIdeal.nD Cert.AdamDIdeal.τ).loc Cert.AdamDIdeal.main_arg1)
      ∧ m' ((c.tc : Thread Cert.AdamDRefIdeal.nD Cert.AdamDRefIdeal.τ).loc Cert.AdamDRefIdeal.main_arg2) = m ((c.tc : Thread Cert.AdamDIdeal.nD Cert.AdamDIdeal.τ).loc Cert.AdamDIdeal.main_arg2)
      ∧ m' ((c.tc : Thread Cert.AdamDRefIdeal.nD Cert.AdamDRefIdeal.τ).loc Cert.AdamDRefIdeal.main_arg3) = m ((c.tc : Thread Cert.AdamDIdeal.nD Cert.AdamDIdeal.τ).loc Cert.AdamDIdeal.main_arg3)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ θ_run (Cert.AdamDRefIdeal.defs (F := Ideal)) (onTc (τ := Cert.AdamDRefIdeal.τ) (Cert.AdamDRefIdeal.main (F := Ideal))) ⟨m', fun _ => 0, g'⟩ (fun r => ∀ c : Dev Cert.AdamDRefIdeal.nD,
          r.2.mem ((c.tc : Thread Cert.AdamDRefIdeal.nD Cert.AdamDRefIdeal.τ).loc Cert.AdamDRefIdeal.main_v23) = v0 c
          ∧ r.2.mem ((c.tc : Thread Cert.AdamDRefIdeal.nD Cert.AdamDRefIdeal.τ).loc Cert.AdamDRefIdeal.main_v4) = v1 c
          ∧ r.2.mem ((c.tc : Thread Cert.AdamDRefIdeal.nD Cert.AdamDRefIdeal.τ).loc Cert.AdamDRefIdeal.main_v10) = v2 c
          ∧ r.2.mem ((c.tc : Thread Cert.AdamDRefIdeal.nD Cert.AdamDRefIdeal.τ).loc Cert.AdamDRefIdeal.main_arg0) = m' ((c.tc : Thread Cert.AdamDRefIdeal.nD Cert.AdamDRefIdeal.τ).loc Cert.AdamDRefIdeal.main_arg0)
          ∧ r.2.mem ((c.tc : Thread Cert.AdamDRefIdeal.nD Cert.AdamDRefIdeal.τ).loc Cert.AdamDRefIdeal.main_arg1) = m' ((c.tc : Thread Cert.AdamDRefIdeal.nD Cert.AdamDRefIdeal.τ).loc Cert.AdamDRefIdeal.main_arg1)
          ∧ r.2.mem ((c.tc : Thread Cert.AdamDRefIdeal.nD Cert.AdamDRefIdeal.τ).loc Cert.AdamDRefIdeal.main_arg2) = m' ((c.tc : Thread Cert.AdamDRefIdeal.nD Cert.AdamDRefIdeal.τ).loc Cert.AdamDRefIdeal.main_arg2)
          ∧ r.2.mem ((c.tc : Thread Cert.AdamDRefIdeal.nD Cert.AdamDRefIdeal.τ).loc Cert.AdamDRefIdeal.main_arg3) = m' ((c.tc : Thread Cert.AdamDRefIdeal.nD Cert.AdamDRefIdeal.τ).loc Cert.AdamDRefIdeal.main_arg3))

def preserves_SumEarly_SumEarlyIdeal : Prop :=
  True

def algebraic_SumEarlyIdeal_SumEarlyRefIdeal [hSumEarlyIdeal : Cert.SumEarlyIdeal.Facts] [hSumEarlyRefIdeal : Cert.SumEarlyRefIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg)
    (m' : (ℓ : Loc Cert.SumEarlyRefIdeal.nD Cert.SumEarlyRefIdeal.τ Cert.SumEarlyRefIdeal.sig) → Buf (Elt Ideal) ℓ) (g' : Dev Cert.SumEarlyRefIdeal.nD → PrngReg), Pre_SumEarlyIdeal m →
    (∀ c : Dev Cert.SumEarlyIdeal.nD,
      m' ((c.tc : Thread Cert.SumEarlyRefIdeal.nD Cert.SumEarlyRefIdeal.τ).loc Cert.SumEarlyRefIdeal.main_arg0) = m ((c.tc : Thread Cert.SumEarlyIdeal.nD Cert.SumEarlyIdeal.τ).loc Cert.SumEarlyIdeal.main_arg0)) →
    ∃ (v0 : (c : Dev Cert.SumEarlyIdeal.nD) → Buf (Elt Ideal) ((c.tc : Thread Cert.SumEarlyIdeal.nD Cert.SumEarlyIdeal.τ).loc Cert.SumEarlyIdeal.main_v1)),
      θ_run (Cert.SumEarlyIdeal.defs (F := Ideal)) (onTc (τ := Cert.SumEarlyIdeal.τ) (Cert.SumEarlyIdeal.main (F := Ideal))) ⟨m, fun _ => 0, g⟩ (fun r => ∀ c : Dev Cert.SumEarlyIdeal.nD,
          r.2.mem ((c.tc : Thread Cert.SumEarlyIdeal.nD Cert.SumEarlyIdeal.τ).loc Cert.SumEarlyIdeal.main_v1) = v0 c
          ∧ r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ θ_run (Cert.SumEarlyRefIdeal.defs (F := Ideal)) (onTc (τ := Cert.SumEarlyRefIdeal.τ) (Cert.SumEarlyRefIdeal.main (F := Ideal))) ⟨m', fun _ => 0, g'⟩ (fun r => ∀ c : Dev Cert.SumEarlyRefIdeal.nD,
          r.2.mem ((c.tc : Thread Cert.SumEarlyRefIdeal.nD Cert.SumEarlyRefIdeal.τ).loc Cert.SumEarlyRefIdeal.main_v1) = v0 c
          ∧ r.2.mem ((c.tc : Thread Cert.SumEarlyRefIdeal.nD Cert.SumEarlyRefIdeal.τ).loc Cert.SumEarlyRefIdeal.main_arg0) = m' ((c.tc : Thread Cert.SumEarlyRefIdeal.nD Cert.SumEarlyRefIdeal.τ).loc Cert.SumEarlyRefIdeal.main_arg0))

def preserves_SumLate_SumLateIdeal : Prop :=
  True

def algebraic_SumLateIdeal_SumLateRefIdeal [hSumLateIdeal : Cert.SumLateIdeal.Facts] [hSumLateRefIdeal : Cert.SumLateRefIdeal.Facts] : Prop :=
  ∀ (m : (ℓ : Loc Cert.SumLateIdeal.nD Cert.SumLateIdeal.τ Cert.SumLateIdeal.sig) → Buf (Elt Ideal) ℓ) (g : Dev Cert.SumLateIdeal.nD → PrngReg)
    (m' : (ℓ : Loc Cert.SumLateRefIdeal.nD Cert.SumLateRefIdeal.τ Cert.SumLateRefIdeal.sig) → Buf (Elt Ideal) ℓ) (g' : Dev Cert.SumLateRefIdeal.nD → PrngReg), Pre_SumLateIdeal m →
    (∀ c : Dev Cert.SumLateIdeal.nD,
      m' ((c.tc : Thread Cert.SumLateRefIdeal.nD Cert.SumLateRefIdeal.τ).loc Cert.SumLateRefIdeal.main_arg0) = m ((c.tc : Thread Cert.SumLateIdeal.nD Cert.SumLateIdeal.τ).loc Cert.SumLateIdeal.main_arg0)) →
    ∃ (v0 : (c : Dev Cert.SumLateIdeal.nD) → Buf (Elt Ideal) ((c.tc : Thread Cert.SumLateIdeal.nD Cert.SumLateIdeal.τ).loc Cert.SumLateIdeal.main_v1)),
      θ_run (Cert.SumLateIdeal.defs (F := Ideal)) (onTc (τ := Cert.SumLateIdeal.τ) (Cert.SumLateIdeal.main (F := Ideal))) ⟨m, fun _ => 0, g⟩ (fun r => ∀ c : Dev Cert.SumLateIdeal.nD,
          r.2.mem ((c.tc : Thread Cert.SumLateIdeal.nD Cert.SumLateIdeal.τ).loc Cert.SumLateIdeal.main_v1) = v0 c
          ∧ r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ θ_run (Cert.SumLateRefIdeal.defs (F := Ideal)) (onTc (τ := Cert.SumLateRefIdeal.τ) (Cert.SumLateRefIdeal.main (F := Ideal))) ⟨m', fun _ => 0, g'⟩ (fun r => ∀ c : Dev Cert.SumLateRefIdeal.nD,
          r.2.mem ((c.tc : Thread Cert.SumLateRefIdeal.nD Cert.SumLateRefIdeal.τ).loc Cert.SumLateRefIdeal.main_v1) = v0 c
          ∧ r.2.mem ((c.tc : Thread Cert.SumLateRefIdeal.nD Cert.SumLateRefIdeal.τ).loc Cert.SumLateRefIdeal.main_arg0) = m' ((c.tc : Thread Cert.SumLateRefIdeal.nD Cert.SumLateRefIdeal.τ).loc Cert.SumLateRefIdeal.main_arg0))

def preserves_RsSum0_RsSum0Ideal : Prop :=
  True

def algebraic_RsSum0Ideal_RsSum0RefIdeal [hRsSum0Ideal : Cert.RsSum0Ideal.Facts] [hRsSum0RefIdeal : Cert.RsSum0RefIdeal.Facts] : Prop :=
  ∀ (m : (ℓ : Loc Cert.RsSum0Ideal.nD Cert.RsSum0Ideal.τ Cert.RsSum0Ideal.sig) → Buf (Elt Ideal) ℓ) (g : Dev Cert.RsSum0Ideal.nD → PrngReg)
    (m' : (ℓ : Loc Cert.RsSum0RefIdeal.nD Cert.RsSum0RefIdeal.τ Cert.RsSum0RefIdeal.sig) → Buf (Elt Ideal) ℓ) (g' : Dev Cert.RsSum0RefIdeal.nD → PrngReg), Pre_RsSum0Ideal m →
    (∀ c : Dev Cert.RsSum0Ideal.nD,
      m' ((c.tc : Thread Cert.RsSum0RefIdeal.nD Cert.RsSum0RefIdeal.τ).loc Cert.RsSum0RefIdeal.main_arg0) = m ((c.tc : Thread Cert.RsSum0Ideal.nD Cert.RsSum0Ideal.τ).loc Cert.RsSum0Ideal.main_arg0)
      ∧ m' ((c.tc : Thread Cert.RsSum0RefIdeal.nD Cert.RsSum0RefIdeal.τ).loc Cert.RsSum0RefIdeal.main_arg1) = m ((c.tc : Thread Cert.RsSum0Ideal.nD Cert.RsSum0Ideal.τ).loc Cert.RsSum0Ideal.main_arg1)) →
    ∃ (v0 : (c : Dev Cert.RsSum0Ideal.nD) → Buf (Elt Ideal) ((c.tc : Thread Cert.RsSum0Ideal.nD Cert.RsSum0Ideal.τ).loc Cert.RsSum0Ideal.main_v0)),
      θ_run (Cert.RsSum0Ideal.defs (F := Ideal)) (onTc (τ := Cert.RsSum0Ideal.τ) (Cert.RsSum0Ideal.main (F := Ideal))) ⟨m, fun _ => 0, g⟩ (fun r => ∀ c : Dev Cert.RsSum0Ideal.nD,
          r.2.mem ((c.tc : Thread Cert.RsSum0Ideal.nD Cert.RsSum0Ideal.τ).loc Cert.RsSum0Ideal.main_v0) = v0 c
          ∧ r.2.mem ((c.tc : Thread Cert.RsSum0Ideal.nD Cert.RsSum0Ideal.τ).loc Cert.RsSum0Ideal.main_arg0) = m ((c.tc : Thread Cert.RsSum0Ideal.nD Cert.RsSum0Ideal.τ).loc Cert.RsSum0Ideal.main_arg0)
          ∧ r.2.mem ((c.tc : Thread Cert.RsSum0Ideal.nD Cert.RsSum0Ideal.τ).loc Cert.RsSum0Ideal.main_arg1) = m ((c.tc : Thread Cert.RsSum0Ideal.nD Cert.RsSum0Ideal.τ).loc Cert.RsSum0Ideal.main_arg1))
      ∧ θ_run (Cert.RsSum0RefIdeal.defs (F := Ideal)) (onTc (τ := Cert.RsSum0RefIdeal.τ) (Cert.RsSum0RefIdeal.main (F := Ideal))) ⟨m', fun _ => 0, g'⟩ (fun r => ∀ c : Dev Cert.RsSum0RefIdeal.nD,
          r.2.mem ((c.tc : Thread Cert.RsSum0RefIdeal.nD Cert.RsSum0RefIdeal.τ).loc Cert.RsSum0RefIdeal.main_v3) = v0 c
          ∧ r.2.mem ((c.tc : Thread Cert.RsSum0RefIdeal.nD Cert.RsSum0RefIdeal.τ).loc Cert.RsSum0RefIdeal.main_arg0) = m' ((c.tc : Thread Cert.RsSum0RefIdeal.nD Cert.RsSum0RefIdeal.τ).loc Cert.RsSum0RefIdeal.main_arg0)
          ∧ r.2.mem ((c.tc : Thread Cert.RsSum0RefIdeal.nD Cert.RsSum0RefIdeal.τ).loc Cert.RsSum0RefIdeal.main_arg1) = m' ((c.tc : Thread Cert.RsSum0RefIdeal.nD Cert.RsSum0RefIdeal.τ).loc Cert.RsSum0RefIdeal.main_arg1))

def preserves_RsSum1_RsSum1Ideal : Prop :=
  True

def algebraic_RsSum1Ideal_RsSum1RefIdeal [hRsSum1Ideal : Cert.RsSum1Ideal.Facts] [hRsSum1RefIdeal : Cert.RsSum1RefIdeal.Facts] : Prop :=
  ∀ (m : (ℓ : Loc Cert.RsSum1Ideal.nD Cert.RsSum1Ideal.τ Cert.RsSum1Ideal.sig) → Buf (Elt Ideal) ℓ) (g : Dev Cert.RsSum1Ideal.nD → PrngReg)
    (m' : (ℓ : Loc Cert.RsSum1RefIdeal.nD Cert.RsSum1RefIdeal.τ Cert.RsSum1RefIdeal.sig) → Buf (Elt Ideal) ℓ) (g' : Dev Cert.RsSum1RefIdeal.nD → PrngReg), Pre_RsSum1Ideal m →
    (∀ c : Dev Cert.RsSum1Ideal.nD,
      m' ((c.tc : Thread Cert.RsSum1RefIdeal.nD Cert.RsSum1RefIdeal.τ).loc Cert.RsSum1RefIdeal.main_arg0) = m ((c.tc : Thread Cert.RsSum1Ideal.nD Cert.RsSum1Ideal.τ).loc Cert.RsSum1Ideal.main_arg0)
      ∧ m' ((c.tc : Thread Cert.RsSum1RefIdeal.nD Cert.RsSum1RefIdeal.τ).loc Cert.RsSum1RefIdeal.main_arg1) = m ((c.tc : Thread Cert.RsSum1Ideal.nD Cert.RsSum1Ideal.τ).loc Cert.RsSum1Ideal.main_arg1)) →
    ∃ (v0 : (c : Dev Cert.RsSum1Ideal.nD) → Buf (Elt Ideal) ((c.tc : Thread Cert.RsSum1Ideal.nD Cert.RsSum1Ideal.τ).loc Cert.RsSum1Ideal.main_v0)),
      θ_run (Cert.RsSum1Ideal.defs (F := Ideal)) (onTc (τ := Cert.RsSum1Ideal.τ) (Cert.RsSum1Ideal.main (F := Ideal))) ⟨m, fun _ => 0, g⟩ (fun r => ∀ c : Dev Cert.RsSum1Ideal.nD,
          r.2.mem ((c.tc : Thread Cert.RsSum1Ideal.nD Cert.RsSum1Ideal.τ).loc Cert.RsSum1Ideal.main_v0) = v0 c
          ∧ r.2.mem ((c.tc : Thread Cert.RsSum1Ideal.nD Cert.RsSum1Ideal.τ).loc Cert.RsSum1Ideal.main_arg0) = m ((c.tc : Thread Cert.RsSum1Ideal.nD Cert.RsSum1Ideal.τ).loc Cert.RsSum1Ideal.main_arg0)
          ∧ r.2.mem ((c.tc : Thread Cert.RsSum1Ideal.nD Cert.RsSum1Ideal.τ).loc Cert.RsSum1Ideal.main_arg1) = m ((c.tc : Thread Cert.RsSum1Ideal.nD Cert.RsSum1Ideal.τ).loc Cert.RsSum1Ideal.main_arg1))
      ∧ θ_run (Cert.RsSum1RefIdeal.defs (F := Ideal)) (onTc (τ := Cert.RsSum1RefIdeal.τ) (Cert.RsSum1RefIdeal.main (F := Ideal))) ⟨m', fun _ => 0, g'⟩ (fun r => ∀ c : Dev Cert.RsSum1RefIdeal.nD,
          r.2.mem ((c.tc : Thread Cert.RsSum1RefIdeal.nD Cert.RsSum1RefIdeal.τ).loc Cert.RsSum1RefIdeal.main_v3) = v0 c
          ∧ r.2.mem ((c.tc : Thread Cert.RsSum1RefIdeal.nD Cert.RsSum1RefIdeal.τ).loc Cert.RsSum1RefIdeal.main_arg0) = m' ((c.tc : Thread Cert.RsSum1RefIdeal.nD Cert.RsSum1RefIdeal.τ).loc Cert.RsSum1RefIdeal.main_arg0)
          ∧ r.2.mem ((c.tc : Thread Cert.RsSum1RefIdeal.nD Cert.RsSum1RefIdeal.τ).loc Cert.RsSum1RefIdeal.main_arg1) = m' ((c.tc : Thread Cert.RsSum1RefIdeal.nD Cert.RsSum1RefIdeal.τ).loc Cert.RsSum1RefIdeal.main_arg1))

def preserves_RsSum2_RsSum2Ideal : Prop :=
  True

def algebraic_RsSum2Ideal_RsSum2RefIdeal [hRsSum2Ideal : Cert.RsSum2Ideal.Facts] [hRsSum2RefIdeal : Cert.RsSum2RefIdeal.Facts] : Prop :=
  ∀ (m : (ℓ : Loc Cert.RsSum2Ideal.nD Cert.RsSum2Ideal.τ Cert.RsSum2Ideal.sig) → Buf (Elt Ideal) ℓ) (g : Dev Cert.RsSum2Ideal.nD → PrngReg)
    (m' : (ℓ : Loc Cert.RsSum2RefIdeal.nD Cert.RsSum2RefIdeal.τ Cert.RsSum2RefIdeal.sig) → Buf (Elt Ideal) ℓ) (g' : Dev Cert.RsSum2RefIdeal.nD → PrngReg), Pre_RsSum2Ideal m →
    (∀ c : Dev Cert.RsSum2Ideal.nD,
      m' ((c.tc : Thread Cert.RsSum2RefIdeal.nD Cert.RsSum2RefIdeal.τ).loc Cert.RsSum2RefIdeal.main_arg0) = m ((c.tc : Thread Cert.RsSum2Ideal.nD Cert.RsSum2Ideal.τ).loc Cert.RsSum2Ideal.main_arg0)
      ∧ m' ((c.tc : Thread Cert.RsSum2RefIdeal.nD Cert.RsSum2RefIdeal.τ).loc Cert.RsSum2RefIdeal.main_arg1) = m ((c.tc : Thread Cert.RsSum2Ideal.nD Cert.RsSum2Ideal.τ).loc Cert.RsSum2Ideal.main_arg1)) →
    ∃ (v0 : (c : Dev Cert.RsSum2Ideal.nD) → Buf (Elt Ideal) ((c.tc : Thread Cert.RsSum2Ideal.nD Cert.RsSum2Ideal.τ).loc Cert.RsSum2Ideal.main_v0)),
      θ_run (Cert.RsSum2Ideal.defs (F := Ideal)) (onTc (τ := Cert.RsSum2Ideal.τ) (Cert.RsSum2Ideal.main (F := Ideal))) ⟨m, fun _ => 0, g⟩ (fun r => ∀ c : Dev Cert.RsSum2Ideal.nD,
          r.2.mem ((c.tc : Thread Cert.RsSum2Ideal.nD Cert.RsSum2Ideal.τ).loc Cert.RsSum2Ideal.main_v0) = v0 c
          ∧ r.2.mem ((c.tc : Thread Cert.RsSum2Ideal.nD Cert.RsSum2Ideal.τ).loc Cert.RsSum2Ideal.main_arg0) = m ((c.tc : Thread Cert.RsSum2Ideal.nD Cert.RsSum2Ideal.τ).loc Cert.RsSum2Ideal.main_arg0)
          ∧ r.2.mem ((c.tc : Thread Cert.RsSum2Ideal.nD Cert.RsSum2Ideal.τ).loc Cert.RsSum2Ideal.main_arg1) = m ((c.tc : Thread Cert.RsSum2Ideal.nD Cert.RsSum2Ideal.τ).loc Cert.RsSum2Ideal.main_arg1))
      ∧ θ_run (Cert.RsSum2RefIdeal.defs (F := Ideal)) (onTc (τ := Cert.RsSum2RefIdeal.τ) (Cert.RsSum2RefIdeal.main (F := Ideal))) ⟨m', fun _ => 0, g'⟩ (fun r => ∀ c : Dev Cert.RsSum2RefIdeal.nD,
          r.2.mem ((c.tc : Thread Cert.RsSum2RefIdeal.nD Cert.RsSum2RefIdeal.τ).loc Cert.RsSum2RefIdeal.main_v3) = v0 c
          ∧ r.2.mem ((c.tc : Thread Cert.RsSum2RefIdeal.nD Cert.RsSum2RefIdeal.τ).loc Cert.RsSum2RefIdeal.main_arg0) = m' ((c.tc : Thread Cert.RsSum2RefIdeal.nD Cert.RsSum2RefIdeal.τ).loc Cert.RsSum2RefIdeal.main_arg0)
          ∧ r.2.mem ((c.tc : Thread Cert.RsSum2RefIdeal.nD Cert.RsSum2RefIdeal.τ).loc Cert.RsSum2RefIdeal.main_arg1) = m' ((c.tc : Thread Cert.RsSum2RefIdeal.nD Cert.RsSum2RefIdeal.τ).loc Cert.RsSum2RefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v50) = v0 c
          ∧ r.2.mem ((c.tc : Thread Cert.FinalRefIdeal.nD Cert.FinalRefIdeal.τ).loc Cert.FinalRefIdeal.main_v55) = v1 c
          ∧ r.2.mem ((c.tc : Thread Cert.FinalRefIdeal.nD Cert.FinalRefIdeal.τ).loc Cert.FinalRefIdeal.main_v75) = v2 c
          ∧ r.2.mem ((c.tc : Thread Cert.FinalRefIdeal.nD Cert.FinalRefIdeal.τ).loc Cert.FinalRefIdeal.main_v54) = v3 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hUpProj : Cert.UpProj.Facts) (hUpProjIdeal : Cert.UpProjIdeal.Facts) (hUpProjRefIdeal : Cert.UpProjRefIdeal.Facts) (hDownProj : Cert.DownProj.Facts) (hDownProjIdeal : Cert.DownProjIdeal.Facts) (hDownProjRefIdeal : Cert.DownProjRefIdeal.Facts) (hDwIn : Cert.DwIn.Facts) (hDwInIdeal : Cert.DwInIdeal.Facts) (hDwInRefIdeal : Cert.DwInRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hDwOutA : Cert.DwOutA.Facts) (hDwOutAIdeal : Cert.DwOutAIdeal.Facts) (hDwOutARefIdeal : Cert.DwOutARefIdeal.Facts) (hDwOutB : Cert.DwOutB.Facts) (hDwOutBIdeal : Cert.DwOutBIdeal.Facts) (hDwOutBRefIdeal : Cert.DwOutBRefIdeal.Facts) (hDwGlu : Cert.DwGlu.Facts) (hDwGluIdeal : Cert.DwGluIdeal.Facts) (hDwGluRefIdeal : Cert.DwGluRefIdeal.Facts) (hUpBwd : Cert.UpBwd.Facts) (hUpBwdIdeal : Cert.UpBwdIdeal.Facts) (hUpBwdRefIdeal : Cert.UpBwdRefIdeal.Facts) (hOutBwd : Cert.OutBwd.Facts) (hOutBwdIdeal : Cert.OutBwdIdeal.Facts) (hOutBwdRefIdeal : Cert.OutBwdRefIdeal.Facts) (hGluBwd : Cert.GluBwd.Facts) (hGluBwdIdeal : Cert.GluBwdIdeal.Facts) (hGluBwdRefIdeal : Cert.GluBwdRefIdeal.Facts) (hAdamIn : Cert.AdamIn.Facts) (hAdamInIdeal : Cert.AdamInIdeal.Facts) (hAdamInRefIdeal : Cert.AdamInRefIdeal.Facts) (hAdamB : Cert.AdamB.Facts) (hAdamBIdeal : Cert.AdamBIdeal.Facts) (hAdamBRefIdeal : Cert.AdamBRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamRow : Cert.AdamRow.Facts) (hAdamRowIdeal : Cert.AdamRowIdeal.Facts) (hAdamRowRefIdeal : Cert.AdamRowRefIdeal.Facts) (hAdamBias : Cert.AdamBias.Facts) (hAdamBiasIdeal : Cert.AdamBiasIdeal.Facts) (hAdamBiasRefIdeal : Cert.AdamBiasRefIdeal.Facts) (hAdamConvB : Cert.AdamConvB.Facts) (hAdamConvBIdeal : Cert.AdamConvBIdeal.Facts) (hAdamConvBRefIdeal : Cert.AdamConvBRefIdeal.Facts) (hAdamConvW : Cert.AdamConvW.Facts) (hAdamConvWIdeal : Cert.AdamConvWIdeal.Facts) (hAdamConvWRefIdeal : Cert.AdamConvWRefIdeal.Facts) (hAdamMeta : Cert.AdamMeta.Facts) (hAdamMetaIdeal : Cert.AdamMetaIdeal.Facts) (hAdamMetaRefIdeal : Cert.AdamMetaRefIdeal.Facts) (hAdamHeads : Cert.AdamHeads.Facts) (hAdamHeadsIdeal : Cert.AdamHeadsIdeal.Facts) (hAdamHeadsRefIdeal : Cert.AdamHeadsRefIdeal.Facts) (hAdamStep : Cert.AdamStep.Facts) (hAdamStepIdeal : Cert.AdamStepIdeal.Facts) (hAdamStepRefIdeal : Cert.AdamStepRefIdeal.Facts) (hAdamLam : Cert.AdamLam.Facts) (hAdamLamIdeal : Cert.AdamLamIdeal.Facts) (hAdamLamRefIdeal : Cert.AdamLamRefIdeal.Facts) (hAdamC : Cert.AdamC.Facts) (hAdamCIdeal : Cert.AdamCIdeal.Facts) (hAdamCRefIdeal : Cert.AdamCRefIdeal.Facts) (hAdamD : Cert.AdamD.Facts) (hAdamDIdeal : Cert.AdamDIdeal.Facts) (hAdamDRefIdeal : Cert.AdamDRefIdeal.Facts) (hSumEarly : Cert.SumEarly.Facts) (hSumEarlyIdeal : Cert.SumEarlyIdeal.Facts) (hSumEarlyRefIdeal : Cert.SumEarlyRefIdeal.Facts) (hSumLate : Cert.SumLate.Facts) (hSumLateIdeal : Cert.SumLateIdeal.Facts) (hSumLateRefIdeal : Cert.SumLateRefIdeal.Facts) (hRsSum0 : Cert.RsSum0.Facts) (hRsSum0Ideal : Cert.RsSum0Ideal.Facts) (hRsSum0RefIdeal : Cert.RsSum0RefIdeal.Facts) (hRsSum1 : Cert.RsSum1.Facts) (hRsSum1Ideal : Cert.RsSum1Ideal.Facts) (hRsSum1RefIdeal : Cert.RsSum1RefIdeal.Facts) (hRsSum2 : Cert.RsSum2.Facts) (hRsSum2Ideal : Cert.RsSum2Ideal.Facts) (hRsSum2RefIdeal : Cert.RsSum2RefIdeal.Facts) (hFinal : Cert.Final.Facts) (hFinalIdeal : Cert.FinalIdeal.Facts) (hFinalRefIdeal : Cert.FinalRefIdeal.Facts) (hPre_bounded : Cert.Pre_bounded.Facts) (hOn_down_rows : Cert.On_down_rows.Facts) (hOn_out_rows : Cert.On_out_rows.Facts),
    quiescent_Kernel (hKernel := hKernel)
    ∧ quiescent_KernelIdeal (hKernelIdeal := hKernelIdeal)
    ∧ quiescent_ReferenceIdeal (hReferenceIdeal := hReferenceIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ quiescent_DwOutA (hDwOutA := hDwOutA)
    ∧ quiescent_DwOutAIdeal (hDwOutAIdeal := hDwOutAIdeal)
    ∧ quiescent_DwOutARefIdeal (hDwOutARefIdeal := hDwOutARefIdeal)
    ∧ quiescent_DwOutB (hDwOutB := hDwOutB)
    ∧ quiescent_DwOutBIdeal (hDwOutBIdeal := hDwOutBIdeal)
    ∧ quiescent_DwOutBRefIdeal (hDwOutBRefIdeal := hDwOutBRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_GluBwd (hGluBwd := hGluBwd)
    ∧ quiescent_GluBwdIdeal (hGluBwdIdeal := hGluBwdIdeal)
    ∧ quiescent_GluBwdIdeal_pre_bounded (hGluBwdIdeal := hGluBwdIdeal) (hPre_bounded := hPre_bounded)
    ∧ quiescent_GluBwdRefIdeal (hGluBwdRefIdeal := hGluBwdRefIdeal)
    ∧ quiescent_GluBwdRefIdeal_pre_bounded (hGluBwdRefIdeal := hGluBwdRefIdeal) (hPre_bounded := hPre_bounded)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamHeads (hAdamHeads := hAdamHeads)
    ∧ quiescent_AdamHeadsIdeal (hAdamHeadsIdeal := hAdamHeadsIdeal)
    ∧ quiescent_AdamHeadsRefIdeal (hAdamHeadsRefIdeal := hAdamHeadsRefIdeal)
    ∧ quiescent_AdamStep (hAdamStep := hAdamStep)
    ∧ quiescent_AdamStepIdeal (hAdamStepIdeal := hAdamStepIdeal)
    ∧ quiescent_AdamStepRefIdeal (hAdamStepRefIdeal := hAdamStepRefIdeal)
    ∧ quiescent_AdamLam (hAdamLam := hAdamLam)
    ∧ quiescent_AdamLamIdeal (hAdamLamIdeal := hAdamLamIdeal)
    ∧ quiescent_AdamLamRefIdeal (hAdamLamRefIdeal := hAdamLamRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamD (hAdamD := hAdamD)
    ∧ quiescent_AdamDIdeal (hAdamDIdeal := hAdamDIdeal)
    ∧ quiescent_AdamDRefIdeal (hAdamDRefIdeal := hAdamDRefIdeal)
    ∧ quiescent_SumEarly (hSumEarly := hSumEarly)
    ∧ quiescent_SumEarlyIdeal (hSumEarlyIdeal := hSumEarlyIdeal)
    ∧ quiescent_SumEarlyRefIdeal (hSumEarlyRefIdeal := hSumEarlyRefIdeal)
    ∧ quiescent_SumLate (hSumLate := hSumLate)
    ∧ quiescent_SumLateIdeal (hSumLateIdeal := hSumLateIdeal)
    ∧ quiescent_SumLateRefIdeal (hSumLateRefIdeal := hSumLateRefIdeal)
    ∧ quiescent_RsSum0 (hRsSum0 := hRsSum0)
    ∧ quiescent_RsSum0Ideal (hRsSum0Ideal := hRsSum0Ideal)
    ∧ quiescent_RsSum0RefIdeal (hRsSum0RefIdeal := hRsSum0RefIdeal)
    ∧ quiescent_RsSum1 (hRsSum1 := hRsSum1)
    ∧ quiescent_RsSum1Ideal (hRsSum1Ideal := hRsSum1Ideal)
    ∧ quiescent_RsSum1RefIdeal (hRsSum1RefIdeal := hRsSum1RefIdeal)
    ∧ quiescent_RsSum2 (hRsSum2 := hRsSum2)
    ∧ quiescent_RsSum2Ideal (hRsSum2Ideal := hRsSum2Ideal)
    ∧ quiescent_RsSum2RefIdeal (hRsSum2RefIdeal := hRsSum2RefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal (hKernelIdeal := hKernelIdeal) (hReferenceIdeal := hReferenceIdeal)
    ∧ preserves_DwDown_DwDownIdeal
    ∧ algebraic_DwDownIdeal_DwDownRefIdeal_on_down_rows (hDwDownIdeal := hDwDownIdeal) (hDwDownRefIdeal := hDwDownRefIdeal) (hOn_down_rows := hOn_down_rows)
    ∧ preserves_DwUp_DwUpIdeal
    ∧ algebraic_DwUpIdeal_DwUpRefIdeal (hDwUpIdeal := hDwUpIdeal) (hDwUpRefIdeal := hDwUpRefIdeal)
    ∧ preserves_UpProj_UpProjIdeal
    ∧ algebraic_UpProjIdeal_UpProjRefIdeal (hUpProjIdeal := hUpProjIdeal) (hUpProjRefIdeal := hUpProjRefIdeal)
    ∧ preserves_DownProj_DownProjIdeal
    ∧ algebraic_DownProjIdeal_DownProjRefIdeal (hDownProjIdeal := hDownProjIdeal) (hDownProjRefIdeal := hDownProjRefIdeal)
    ∧ preserves_DwIn_DwInIdeal
    ∧ algebraic_DwInIdeal_DwInRefIdeal (hDwInIdeal := hDwInIdeal) (hDwInRefIdeal := hDwInRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
    ∧ preserves_DwOutA_DwOutAIdeal
    ∧ algebraic_DwOutAIdeal_DwOutARefIdeal_on_out_rows (hDwOutAIdeal := hDwOutAIdeal) (hDwOutARefIdeal := hDwOutARefIdeal) (hOn_out_rows := hOn_out_rows)
    ∧ preserves_DwOutB_DwOutBIdeal
    ∧ algebraic_DwOutBIdeal_DwOutBRefIdeal (hDwOutBIdeal := hDwOutBIdeal) (hDwOutBRefIdeal := hDwOutBRefIdeal)
    ∧ preserves_DwGlu_DwGluIdeal
    ∧ algebraic_DwGluIdeal_DwGluRefIdeal (hDwGluIdeal := hDwGluIdeal) (hDwGluRefIdeal := hDwGluRefIdeal)
    ∧ preserves_UpBwd_UpBwdIdeal
    ∧ algebraic_UpBwdIdeal_UpBwdRefIdeal (hUpBwdIdeal := hUpBwdIdeal) (hUpBwdRefIdeal := hUpBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_GluBwd_GluBwdIdeal
    ∧ algebraic_GluBwdIdeal_GluBwdRefIdeal_pre_bounded (hGluBwdIdeal := hGluBwdIdeal) (hGluBwdRefIdeal := hGluBwdRefIdeal) (hPre_bounded := hPre_bounded)
    ∧ preserves_AdamIn_AdamInIdeal
    ∧ algebraic_AdamInIdeal_AdamInRefIdeal (hAdamInIdeal := hAdamInIdeal) (hAdamInRefIdeal := hAdamInRefIdeal)
    ∧ preserves_AdamB_AdamBIdeal
    ∧ algebraic_AdamBIdeal_AdamBRefIdeal (hAdamBIdeal := hAdamBIdeal) (hAdamBRefIdeal := hAdamBRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamHeads_AdamHeadsIdeal
    ∧ algebraic_AdamHeadsIdeal_AdamHeadsRefIdeal (hAdamHeadsIdeal := hAdamHeadsIdeal) (hAdamHeadsRefIdeal := hAdamHeadsRefIdeal)
    ∧ preserves_AdamStep_AdamStepIdeal
    ∧ algebraic_AdamStepIdeal_AdamStepRefIdeal (hAdamStepIdeal := hAdamStepIdeal) (hAdamStepRefIdeal := hAdamStepRefIdeal)
    ∧ preserves_AdamLam_AdamLamIdeal
    ∧ algebraic_AdamLamIdeal_AdamLamRefIdeal (hAdamLamIdeal := hAdamLamIdeal) (hAdamLamRefIdeal := hAdamLamRefIdeal)
    ∧ preserves_AdamC_AdamCIdeal
    ∧ algebraic_AdamCIdeal_AdamCRefIdeal (hAdamCIdeal := hAdamCIdeal) (hAdamCRefIdeal := hAdamCRefIdeal)
    ∧ preserves_AdamD_AdamDIdeal
    ∧ algebraic_AdamDIdeal_AdamDRefIdeal (hAdamDIdeal := hAdamDIdeal) (hAdamDRefIdeal := hAdamDRefIdeal)
    ∧ preserves_SumEarly_SumEarlyIdeal
    ∧ algebraic_SumEarlyIdeal_SumEarlyRefIdeal (hSumEarlyIdeal := hSumEarlyIdeal) (hSumEarlyRefIdeal := hSumEarlyRefIdeal)
    ∧ preserves_SumLate_SumLateIdeal
    ∧ algebraic_SumLateIdeal_SumLateRefIdeal (hSumLateIdeal := hSumLateIdeal) (hSumLateRefIdeal := hSumLateRefIdeal)
    ∧ preserves_RsSum0_RsSum0Ideal
    ∧ algebraic_RsSum0Ideal_RsSum0RefIdeal (hRsSum0Ideal := hRsSum0Ideal) (hRsSum0RefIdeal := hRsSum0RefIdeal)
    ∧ preserves_RsSum1_RsSum1Ideal
    ∧ algebraic_RsSum1Ideal_RsSum1RefIdeal (hRsSum1Ideal := hRsSum1Ideal) (hRsSum1RefIdeal := hRsSum1RefIdeal)
    ∧ preserves_RsSum2_RsSum2Ideal
    ∧ algebraic_RsSum2Ideal_RsSum2RefIdeal (hRsSum2Ideal := hRsSum2Ideal) (hRsSum2RefIdeal := hRsSum2RefIdeal)
    ∧ preserves_Final_FinalIdeal
    ∧ algebraic_FinalIdeal_FinalRefIdeal (hFinalIdeal := hFinalIdeal) (hFinalRefIdeal := hFinalRefIdeal)
-- ==== On_down_rows.lean ====
abbrev S8448x4096 : Shape := ⟨2, ![8448, 4096]⟩
abbrev S8448x1024 : Shape := ⟨2, ![8448, 1024]⟩
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S8448x4096 .f32) (main_arg1 : FVec F S8448x1024 .f32) : IVec S4x2048x1024 1 :=
  let main_v0 : IVec S4x2048x1024 32 := iotaInDim S4x2048x1024 32 1
  let main_c : IVec S_ 32 := constantI S_ 32 1024#32
  let main_v1 : IVec S4x2048x1024 32 := broadcastInDim S4x2048x1024 ![] bcast_S_S4x2048x1024 main_c
  let main_v2 : IVec S4x2048x1024 1 := cmpi .sge main_v0 main_v1
  main_v2
-- ==== On_out_rows.lean ====
abbrev S8448x2048 : Shape := ⟨2, ![8448, 2048]⟩
abbrev S8448x1024 : Shape := ⟨2, ![8448, 1024]⟩
abbrev S4x1024x1024 : Shape := ⟨3, ![4, 1024, 1024]⟩
abbrev S_ : Shape := ⟨0, ![]⟩

class Facts : Prop where
  bcast_S_S4x1024x1024 : S_.BroadcastsInDim S4x1024x1024 (![] : Fin 0 → Fin S4x1024x1024.rank)

variable [Facts]

def fn {F : FTy → Type} [FloatOps F] (main_arg0 : FVec F S8448x2048 .f32) (main_arg1 : FVec F S8448x1024 .f32) : IVec S4x1024x1024 1 :=
  let main_v0 : IVec S4x1024x1024 32 := iotaInDim S4x1024x1024 32 1
  let main_c : IVec S_ 32 := constantI S_ 32 512#32
  let main_v1 : IVec S4x1024x1024 32 := broadcastInDim S4x1024x1024 ![] bcast_S_S4x1024x1024 main_c
  let main_v2 : IVec S4x1024x1024 1 := cmpi .sge main_v0 main_v1
  let main_v3 : IVec S4x1024x1024 32 := iotaInDim S4x1024x1024 32 0
  let main_c_0 : IVec S_ 32 := constantI S_ 32 2#32
  let main_v4 : IVec S4x1024x1024 32 := broadcastInDim S4x1024x1024 ![] bcast_S_S4x1024x1024 main_c_0
  let main_v5 : IVec S4x1024x1024 1 := cmpi .slt main_v3 main_v4
  let main_v6 : IVec S4x1024x1024 1 := andi main_v2 main_v5
  main_v6
-- ==== Pre_bounded.lean ====
abbrev S8448x2048 : Shape := ⟨2, ![8448, 2048]⟩
abbrev S8448x1024 : Shape := ⟨2, ![8448, 1024]⟩
abbrev S1024x2048 : Shape := ⟨2, ![1024, 2048]⟩
abbrev S2048x1024 : Shape := ⟨2, ![2048, 1024]⟩
abbrev S_ : Shape := ⟨0, ![]⟩

class Facts : Prop where
  bcast_S_S8448x2048 : S_.BroadcastsInDim S8448x2048 (![] : Fin 0 → Fin S8448x2048.rank)
  bcast_S_S1024x2048 : S_.BroadcastsInDim S1024x2048 (![] : Fin 0 → Fin S1024x2048.rank)

variable [Facts]

def fn {F : FTy → Type} [FloatOps F] (main_arg0 : FVec F S8448x2048 .f32) (main_arg1 : FVec F S8448x1024 .f32) (main_arg2 : FVec F S1024x2048 .f32) (main_arg3 : FVec F S2048x1024 .f32) : IVec S8448x2048 1 × IVec S1024x2048 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  (main_v2, main_v5)
-- ==== Kernel.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S4x1024x1024 : Shape := ⟨3, ![4, 1024, 1024]⟩
abbrev S768x1024 : Shape := ⟨2, ![768, 1024]⟩
abbrev S768x4096 : Shape := ⟨2, ![768, 4096]⟩
abbrev S1x1024x1024 : Shape := ⟨3, ![1, 1024, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096x1024, .f32⟩
  | .hbm, ⟨2, _⟩ => ⟨S8448x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S8448x1024, .bf16⟩
  | .hbm, ⟨8, _⟩ => ⟨S4x1024x1024, .f32⟩
  | .hbm, ⟨9, _⟩ => ⟨S4x1024x1024, .bf16⟩
  | .hbm, ⟨10, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S768x4096, .bf16⟩
  | .local _ .vmem, ⟨3, _⟩ => ⟨S768x4096, .bf16⟩
  | .local _ .vmem, ⟨4, _⟩ => ⟨S4x1024x1024, .bf16⟩
  | .local _ .vmem, ⟨5, _⟩ => ⟨S768x4096, .bf16⟩
  | .local _ .vmem, ⟨6, _⟩ => ⟨S768x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x1024, .f32⟩
  | .hbm, ⟨2, _⟩ => ⟨S8448x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S_, .f32⟩
  | .hbm, ⟨7, _⟩ => ⟨S8448x4096, .f32⟩
  | .hbm, ⟨8, _⟩ => ⟨S8448x4096, .i1⟩
  | .hbm, ⟨9, _⟩ => ⟨S_, .f32⟩
  | .hbm, ⟨10, _⟩ => ⟨S8448x4096, .f32⟩
  | .hbm, ⟨11, _⟩ => ⟨S8448x4096, .f32⟩
  | .hbm, ⟨12, _⟩ => ⟨S_, .f32⟩
  | .hbm, ⟨13, _⟩ => ⟨S8448x4096, .f32⟩
  | .hbm, ⟨14, _⟩ => ⟨S8448x4096, .f32⟩
  | .hbm, ⟨15, _⟩ => ⟨S8448x1024, .f32⟩
  | .hbm, ⟨16, _⟩ => ⟨S1024x4096, .f32⟩
  | .hbm, ⟨17, _⟩ => ⟨S4096x1024, .f32⟩
  | .hbm, ⟨18, _⟩ => ⟨S8448x4096, .f32⟩
  | .hbm, ⟨19, _⟩ => ⟨S8448x4096, .f32⟩
  | .hbm, ⟨20, _⟩ => ⟨S_, .f32⟩
  | .hbm, ⟨21, _⟩ => ⟨S8448x4096, .f32⟩
  | .hbm, ⟨22, _⟩ => ⟨S8448x4096, .f32⟩
  | .hbm, ⟨23, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S8448x4096 : Shape := ⟨2, ![8448, 4096]⟩
abbrev S8448x1024 : Shape := ⟨2, ![8448, 1024]⟩
abbrev S_ : Shape := ⟨0, ![]⟩
abbrev S4x2048x1024 : Shape := ⟨3, ![4, 2048, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S_, .f32⟩
  | .hbm, ⟨3, _⟩ => ⟨S8448x4096, .f32⟩
  | .hbm, ⟨4, _⟩ => ⟨S8448x4096, .f32⟩
  | .hbm, ⟨5, _⟩ => ⟨S8448x4096, .bf16⟩
  | .hbm, ⟨6, _⟩ => ⟨S8448x1024, .bf16⟩
  | .hbm, ⟨7, _⟩ => ⟨S4x2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![v0.toNat, c1_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x2048x1024 : Shape := ⟨3, ![4, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8448x4096, .f32⟩
  | .hbm, ⟨6, _⟩ => ⟨S8448x4096, .f32⟩
  | .hbm, ⟨7, _⟩ => ⟨S8448x4096, .f32⟩
  | .hbm, ⟨8, _⟩ => ⟨S8448x1024, .f32⟩
  | .hbm, ⟨9, _⟩ => ⟨S1024x4096, .f32⟩
  | .hbm, ⟨10, _⟩ => ⟨S4096x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x2048x1024, .f32⟩
  | .hbm, ⟨15, _⟩ => ⟨S4x2048x1024, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DwUp.lean ====
abbrev S8448x1024 : Shape := ⟨2, ![8448, 1024]⟩
abbrev S1x1024 : Shape := ⟨2, ![1, 1024]⟩
abbrev S8448x4096 : Shape := ⟨2, ![8448, 4096]⟩
abbrev S4x2048x1024 : Shape := ⟨3, ![4, 2048, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x4096, .f32⟩
  | .hbm, ⟨3, _⟩ => ⟨S4x2048x1024, .bf16⟩
  | .hbm, ⟨4, _⟩ => ⟨S1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S1x1024, .f32⟩
  | .hbm, ⟨19, _⟩ => ⟨S8448x1024, .f32⟩
  | .hbm, ⟨20, _⟩ => ⟨S8448x1024, .f32⟩
  | .hbm, ⟨21, _⟩ => ⟨S8448x1024, .bf16⟩
  | .hbm, ⟨22, _⟩ => ⟨S8448x4096, .bf16⟩
  | .hbm, ⟨23, _⟩ => ⟨S4x2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8448x1024 : Shape := ⟨2, ![8448, 1024]⟩
abbrev S1x1024 : Shape := ⟨2, ![1, 1024]⟩
abbrev S8448x4096 : Shape := ⟨2, ![8448, 4096]⟩
abbrev S4x2048x1024 : Shape := ⟨3, ![4, 2048, 1024]⟩
abbrev S_ : Shape := ⟨0, ![]⟩
abbrev S1024x4096 : Shape := ⟨2, ![1024, 4096]⟩
abbrev S1024 : Shape := ⟨1, ![1024]⟩
abbrev S8448 : Shape := ⟨1, ![8448]⟩
abbrev S8448x1 : Shape := ⟨2, ![8448, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x4096, .f32⟩
  | .hbm, ⟨3, _⟩ => ⟨S4x2048x1024, .bf16⟩
  | .hbm, ⟨4, _⟩ => ⟨S_, .f32⟩
  | .hbm, ⟨5, _⟩ => ⟨S1024x4096, .f32⟩
  | .hbm, ⟨6, _⟩ => ⟨S1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x4096, .f32⟩
  | .hbm, ⟨24, _⟩ => ⟨S4096x1024, .f32⟩
  | .hbm, ⟨25, _⟩ => ⟨S1024x4096, .f32⟩
  | .hbm, ⟨26, _⟩ => ⟨S1024x4x1024, .f32⟩
  | .hbm, ⟨27, _⟩ => ⟨S4x1024x1024, .f32⟩
  | .hbm, ⟨28, _⟩ => ⟨S4x1024x1024, .bf16⟩
  | .hbm, ⟨29, _⟩ => ⟨S4x1024x1024, .bf16⟩
  | .hbm, ⟨30, _⟩ => ⟨S4x2048x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== UpProj.lean ====
abbrev S8448x1024 : Shape := ⟨2, ![8448, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8448x4096 : Shape := ⟨2, ![8448, 4096]⟩
abbrev S768x1024 : Shape := ⟨2, ![768, 1024]⟩
abbrev S768x4096 : Shape := ⟨2, ![768, 4096]⟩
abbrev S768 : Shape := ⟨1, ![768]⟩
abbrev S768x1 : Shape := ⟨2, ![768, 1]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S8448x4096, .bf16⟩
  | .hbm, ⟨7, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S4x1024x1024, .bf16⟩
  | .local _ .vmem, ⟨4, _⟩ => ⟨S768x4096, .bf16⟩
  | .local _ .vmem, ⟨5, _⟩ => ⟨S768x4096, .bf16⟩
  | .local _ .vmem, ⟨6, _⟩ => ⟨S768x1024, .bf16⟩
  | .local _ .vmem, ⟨7, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpProjRefIdeal.lean ====
abbrev S8448x1024 : Shape := ⟨2, ![8448, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8448 : Shape := ⟨1, ![8448]⟩
abbrev S8448x1 : Shape := ⟨2, ![8448, 1]⟩
abbrev S8448x4096 : Shape := ⟨2, ![8448, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x4096, .f32⟩
  | .hbm, ⟨21, _⟩ => ⟨S_, .f32⟩
  | .hbm, ⟨22, _⟩ => ⟨S8448x4096, .f32⟩
  | .hbm, ⟨23, _⟩ => ⟨S8448x4096, .f32⟩
  | .hbm, ⟨24, _⟩ => ⟨S8448x4096, .bf16⟩
  | .hbm, ⟨25, _⟩ => ⟨S1024, .f32⟩
  | .hbm, ⟨26, _⟩ => ⟨S8448x1024, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== DownProj.lean ====
abbrev S8448x4096 : Shape := ⟨2, ![8448, 4096]⟩
abbrev S8448x1024 : Shape := ⟨2, ![8448, 1024]⟩
abbrev S4096x1024 : Shape := ⟨2, ![4096, 1024]⟩
abbrev S_ : Shape := ⟨0, ![]⟩
abbrev S4x1024x1024 : Shape := ⟨3, ![4, 1024, 1024]⟩
abbrev S768x4096 : Shape := ⟨2, ![768, 4096]⟩
abbrev S768x1024 : Shape := ⟨2, ![768, 1024]⟩
abbrev S1x1024x1024 : Shape := ⟨3, ![1, 1024, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S4096x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S4x1024x1024, .f32⟩
  | .hbm, ⟨8, _⟩ => ⟨S4x1024x1024, .bf16⟩
  | .hbm, ⟨9, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S768x1024, .f32⟩
  | .local _ .vmem, ⟨3, _⟩ => ⟨S768x1024, .f32⟩
  | .local _ .vmem, ⟨4, _⟩ => ⟨S4x1024x1024, .bf16⟩
  | .local _ .vmem, ⟨5, _⟩ => ⟨S768x1024, .f32⟩
  | .local _ .vmem, ⟨6, _⟩ => ⟨S768x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownProjRefIdeal.lean ====
abbrev S8448x4096 : Shape := ⟨2, ![8448, 4096]⟩
abbrev S8448x1024 : Shape := ⟨2, ![8448, 1024]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S4096x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .f32⟩
  | .hbm, ⟨7, _⟩ => ⟨S8448x1024, .f32⟩
  | .hbm, ⟨8, _⟩ => ⟨S8448x1024, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== DwIn.lean ====
abbrev S8448x1024 : Shape := ⟨2, ![8448, 1024]⟩
abbrev S1x1024 : Shape := ⟨2, ![1, 1024]⟩
abbrev S8448x3600 : Shape := ⟨2, ![8448, 3600]⟩
abbrev S1024 : Shape := ⟨1, ![1024]⟩
abbrev S_ : Shape := ⟨0, ![]⟩
abbrev S8448 : Shape := ⟨1, ![8448]⟩
abbrev S8448x1 : Shape := ⟨2, ![8448, 1]⟩
abbrev S8448x1536 : Shape := ⟨2, ![8448, 1536]⟩
abbrev S8448x16 : Shape := ⟨2, ![8448, 16]⟩
abbrev S8448x112 : Shape := ⟨2, ![8448, 112]⟩
abbrev S8448x3712 : Shape := ⟨2, ![8448, 3712]⟩
abbrev S3712x1024 : Shape := ⟨2, ![3712, 1024]⟩
abbrev S768x3712 : Shape := ⟨2, ![768, 3712]⟩
abbrev S768x512 : Shape := ⟨2, ![768, 512]⟩
abbrev S3712x512 : Shape := ⟨2, ![3712, 512]⟩

abbrev nBuf : Space → Nat
  | .hbm => 30
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x3600, .f32⟩
  | .hbm, ⟨3, _⟩ => ⟨S1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | .hbm, ⟨21, _⟩ => ⟨S8448x1024, .f32⟩
  | .hbm, ⟨22, _⟩ => ⟨S8448x1024, .f32⟩
  | .hbm, ⟨23, _⟩ => ⟨S8448x1536, .f32⟩
  | .hbm, ⟨24, _⟩ => ⟨S8448x16, .f32⟩
  | .hbm, ⟨25, _⟩ => ⟨S_, .f32⟩
  | .hbm, ⟨26, _⟩ => ⟨S8448x112, .f32⟩
  | .hbm, ⟨27, _⟩ => ⟨S8448x3712, .f32⟩
  | .hbm, ⟨28, _⟩ => ⟨S8448x3712, .bf16⟩
  | .hbm, ⟨29, _⟩ => ⟨S3712x1024, .bf16⟩
  | .local _ .vmem, ⟨0, _⟩ => ⟨S768x3712, .bf16⟩
  | .local _ .vmem, ⟨1, _⟩ => ⟨S768x3712, .bf16⟩
  | .local _ .vmem, ⟨2, _⟩ => ⟨S768x512, .bf16⟩
  | .local _ .vmem, ⟨3, _⟩ => ⟨S768x512, .bf16⟩
  | .local _ .vmem, ⟨4, _⟩ => ⟨S3712x512, .bf16⟩
  | .local _ .vmem, ⟨5, _⟩ => ⟨S3712x512, .bf16⟩
  | .local _ .vmem, ⟨6, _⟩ => ⟨S3712x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3712x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8448x1024 : Shape := ⟨2, ![8448, 1024]⟩
abbrev S1x1024 : Shape := ⟨2, ![1, 1024]⟩
abbrev S8448x3600 : Shape := ⟨2, ![8448, 3600]⟩
abbrev S_ : Shape := ⟨0, ![]⟩
abbrev S1024x3600 : Shape := ⟨2, ![1024, 3600]⟩
abbrev S1024 : Shape := ⟨1, ![1024]⟩
abbrev S8448 : Shape := ⟨1, ![8448]⟩
abbrev S8448x1 : Shape := ⟨2, ![8448, 1]⟩
abbrev S3600x1024 : Shape := ⟨2, ![3600, 1024]⟩
abbrev S1024x1024 : Shape := ⟨2, ![1024, 1024]⟩
abbrev S1024x1536 : Shape := ⟨2, ![1024, 1536]⟩
abbrev S1024x16 : Shape := ⟨2, ![1024, 16]⟩
abbrev S1024x112 : Shape := ⟨2, ![1024, 112]⟩
abbrev S1024x3712 : Shape := ⟨2, ![1024, 3712]⟩
abbrev S3712x1024 : Shape := ⟨2, ![3712, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x3600, .f32⟩
  | .hbm, ⟨3, _⟩ => ⟨S_, .f32⟩
  | .hbm, ⟨4, _⟩ => ⟨S1024x3600, .f32⟩
  | .hbm, ⟨5, _⟩ => ⟨S1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S1x1024, .f32⟩
  | .hbm, ⟨20, _⟩ => ⟨S8448x1024, .f32⟩
  | .hbm, ⟨21, _⟩ => ⟨S8448x1024, .f32⟩
  | .hbm, ⟨22, _⟩ => ⟨S8448x3600, .f32⟩
  | .hbm, ⟨23, _⟩ => ⟨S3600x1024, .f32⟩
  | .hbm, ⟨24, _⟩ => ⟨S1024x3600, .f32⟩
  | .hbm, ⟨25, _⟩ => ⟨S1024x1024, .f32⟩
  | .hbm, ⟨26, _⟩ => ⟨S1024x1536, .f32⟩
  | .hbm, ⟨27, _⟩ => ⟨S1024x16, .f32⟩
  | .hbm, ⟨28, _⟩ => ⟨S1024x1024, .f32⟩
  | .hbm, ⟨29, _⟩ => ⟨S_, .f32⟩
  | .hbm, ⟨30, _⟩ => ⟨S1024x112, .f32⟩
  | .hbm, ⟨31, _⟩ => ⟨S1024x3712, .f32⟩
  | .hbm, ⟨32, _⟩ => ⟨S3712x1024, .f32⟩
  | .hbm, ⟨33, _⟩ => ⟨S3712x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== OutProj.lean ====
abbrev S8448x2048 : Shape := ⟨2, ![8448, 2048]⟩
abbrev S8192x1024 : Shape := ⟨2, ![8192, 1024]⟩
abbrev S16x1024 : Shape := ⟨2, ![16, 1024]⟩
abbrev S1024x2048 : Shape := ⟨2, ![1024, 2048]⟩
abbrev S2048x1024 : Shape := ⟨2, ![2048, 1024]⟩
abbrev S8448x1024 : Shape := ⟨2, ![8448, 1024]⟩
abbrev S4x512x1024 : Shape := ⟨3, ![4, 512, 1024]⟩
abbrev S4x1024x1024 : Shape := ⟨3, ![4, 1024, 1024]⟩
abbrev S_ : Shape := ⟨0, ![]⟩
abbrev S240x1024 : Shape := ⟨2, ![240, 1024]⟩
abbrev S512x1024 : Shape := ⟨2, ![512, 1024]⟩
abbrev S768x1024 : Shape := ⟨2, ![768, 1024]⟩
abbrev S256x1024 : Shape := ⟨2, ![256, 1024]⟩
abbrev S768x512 : Shape := ⟨2, ![768, 512]⟩
abbrev S1x512x1024 : Shape := ⟨3, ![1, 512, 1024]⟩
abbrev S768x1 : Shape := ⟨2, ![768, 1]⟩

abbrev nBuf : Space → Nat
  | .hbm => 20
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S8192x1024, .f32⟩
  | .hbm, ⟨2, _⟩ => ⟨S16x1024, .f32⟩
  | .hbm, ⟨3, _⟩ => ⟨S1024x2048, .f32⟩
  | .hbm, ⟨4, _⟩ => ⟨S2048x1024, .f32⟩
  | .hbm, ⟨5, _⟩ => ⟨S8448x1024, .f32⟩
  | .hbm, ⟨6, _⟩ => ⟨S8448x1024, .bf16⟩
  | .hbm, ⟨7, _⟩ => ⟨S8448x1024, .f32⟩
  | .hbm, ⟨8, _⟩ => ⟨S8448x1024, .bf16⟩
  | .hbm, ⟨9, _⟩ => ⟨S2048x1024, .f32⟩
  | .hbm, ⟨10, _⟩ => ⟨S4x512x1024, .f32⟩
  | .hbm, ⟨11, _⟩ => ⟨S4x512x1024, .f32⟩
  | .hbm, ⟨12, _⟩ => ⟨S4x1024x1024, .f32⟩
  | .hbm, ⟨13, _⟩ => ⟨S4x1024x1024, .bf16⟩
  | .hbm, ⟨14, _⟩ => ⟨S_, .f32⟩
  | .hbm, ⟨15, _⟩ => ⟨S240x1024, .f32⟩
  | .hbm, ⟨16, _⟩ => ⟨S_, .f32⟩
  | .hbm, ⟨17, _⟩ => ⟨S512x1024, .f32⟩
  | .hbm, ⟨18, _⟩ => ⟨S768x1024, .f32⟩
  | .hbm, ⟨19, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S768x1024, .f32⟩
  | .local _ .vmem, ⟨11, _⟩ => ⟨S4x512x1024, .bf16⟩
  | .local _ .vmem, ⟨12, _⟩ => ⟨S768x1024, .f32⟩
  | .local _ .vmem, ⟨13, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S8448x2048 : Shape := ⟨2, ![8448, 2048]⟩
abbrev S8192x1024 : Shape := ⟨2, ![8192, 1024]⟩
abbrev S16x1024 : Shape := ⟨2, ![16, 1024]⟩
abbrev S1024x2048 : Shape := ⟨2, ![1024, 2048]⟩
abbrev S2048x1024 : Shape := ⟨2, ![2048, 1024]⟩
abbrev S_ : Shape := ⟨0, ![]⟩
abbrev S240x1024 : Shape := ⟨2, ![240, 1024]⟩
abbrev S8448x1024 : Shape := ⟨2, ![8448, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x1024, .f32⟩
  | .hbm, ⟨2, _⟩ => ⟨S16x1024, .f32⟩
  | .hbm, ⟨3, _⟩ => ⟨S1024x2048, .f32⟩
  | .hbm, ⟨4, _⟩ => ⟨S2048x1024, .f32⟩
  | .hbm, ⟨5, _⟩ => ⟨S_, .f32⟩
  | .hbm, ⟨6, _⟩ => ⟨S240x1024, .f32⟩
  | .hbm, ⟨7, _⟩ => ⟨S8448x1024, .f32⟩
  | .hbm, ⟨8, _⟩ => ⟨S8448x1024, .f32⟩
  | .hbm, ⟨9, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Glu.lean ====
abbrev S8448x1024 : Shape := ⟨2, ![8448, 1024]⟩
abbrev S1x2048 : Shape := ⟨2, ![1, 2048]⟩
abbrev S1x1024 : Shape := ⟨2, ![1, 1024]⟩
abbrev S1024x2048 : Shape := ⟨2, ![1024, 2048]⟩
abbrev S2048x1024 : Shape := ⟨2, ![2048, 1024]⟩
abbrev S4x512x1024 : Shape := ⟨3, ![4, 512, 1024]⟩
abbrev S4x1024x1024 : Shape := ⟨3, ![4, 1024, 1024]⟩
abbrev S8448x2048 : Shape := ⟨2, ![8448, 2048]⟩
abbrev S768x1024 : Shape := ⟨2, ![768, 1024]⟩
abbrev S768x2048 : Shape := ⟨2, ![768, 2048]⟩
abbrev S1x512x1024 : Shape := ⟨3, ![1, 512, 1024]⟩
abbrev S512x1024 : Shape := ⟨2, ![512, 1024]⟩
abbrev S768x512 : Shape := ⟨2, ![768, 512]⟩
abbrev S768 : Shape := ⟨1, ![768]⟩
abbrev S768x1 : Shape := ⟨2, ![768, 1]⟩

abbrev nBuf : Space → Nat
  | .hbm => 13
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x2048, .f32⟩
  | .hbm, ⟨2, _⟩ => ⟨S1x1024, .f32⟩
  | .hbm, ⟨3, _⟩ => ⟨S1024x2048, .f32⟩
  | .hbm, ⟨4, _⟩ => ⟨S2048x1024, .f32⟩
  | .hbm, ⟨5, _⟩ => ⟨S8448x1024, .bf16⟩
  | .hbm, ⟨6, _⟩ => ⟨S2048x1024, .f32⟩
  | .hbm, ⟨7, _⟩ => ⟨S4x512x1024, .f32⟩
  | .hbm, ⟨8, _⟩ => ⟨S4x512x1024, .f32⟩
  | .hbm, ⟨9, _⟩ => ⟨S4x1024x1024, .f32⟩
  | .hbm, ⟨10, _⟩ => ⟨S4x1024x1024, .bf16⟩
  | .hbm, ⟨11, _⟩ => ⟨S8448x2048, .bf16⟩
  | .hbm, ⟨12, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1x2048, .f32⟩
  | .local _ .vmem, ⟨3, _⟩ => ⟨S1x1024, .f32⟩
  | .local _ .vmem, ⟨4, _⟩ => ⟨S4x512x1024, .bf16⟩
  | .local _ .vmem, ⟨5, _⟩ => ⟨S768x2048, .bf16⟩
  | .local _ .vmem, ⟨6, _⟩ => ⟨S768x2048, .bf16⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluRefIdeal.lean ====
abbrev S8448x1024 : Shape := ⟨2, ![8448, 1024]⟩
abbrev S1x2048 : Shape := ⟨2, ![1, 2048]⟩
abbrev S1x1024 : Shape := ⟨2, ![1, 1024]⟩
abbrev S1024x2048 : Shape := ⟨2, ![1024, 2048]⟩
abbrev S2048x1024 : Shape := ⟨2, ![2048, 1024]⟩
abbrev S8448x2048 : Shape := ⟨2, ![8448, 2048]⟩
abbrev S2048 : Shape := ⟨1, ![2048]⟩
abbrev S_ : Shape := ⟨0, ![]⟩
abbrev S1024 : Shape := ⟨1, ![1024]⟩
abbrev S8448 : Shape := ⟨1, ![8448]⟩
abbrev S8448x1 : Shape := ⟨2, ![8448, 1]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x2048, .f32⟩
  | .hbm, ⟨2, _⟩ => ⟨S1x1024, .f32⟩
  | .hbm, ⟨3, _⟩ => ⟨S1024x2048, .f32⟩
  | .hbm, ⟨4, _⟩ => ⟨S2048x1024, .f32⟩
  | .hbm, ⟨5, _⟩ => ⟨S8448x2048, .f32⟩
  | .hbm, ⟨6, _⟩ => ⟨S2048, .f32⟩
  | .hbm, ⟨7, _⟩ => ⟨S1x2048, .f32⟩
  | .hbm, ⟨8, _⟩ => ⟨S8448x2048, .f32⟩
  | .hbm, ⟨9, _⟩ => ⟨S8448x2048, .f32⟩
  | .hbm, ⟨10, _⟩ => ⟨S8448x2048, .bf16⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S1024, .f32⟩
  | .hbm, ⟨23, _⟩ => ⟨S8448x1024, .f32⟩
  | .hbm, ⟨24, _⟩ => ⟨S_, .f32⟩
  | .hbm, ⟨25, _⟩ => ⟨S8448, .f32⟩
  | .hbm, ⟨26, _⟩ => ⟨S8448x1, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== DwOutA.lean ====
abbrev S8448x2048 : Shape := ⟨2, ![8448, 2048]⟩
abbrev S8448x1024 : Shape := ⟨2, ![8448, 1024]⟩
abbrev S4x1024x1024 : Shape := ⟨3, ![4, 1024, 1024]⟩
abbrev S2816x512 : Shape := ⟨2, ![2816, 512]⟩
abbrev S2816x1024 : Shape := ⟨2, ![2816, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S8448x1024, .f32⟩
  | .hbm, ⟨3, _⟩ => ⟨S8448x1024, .bf16⟩
  | .hbm, ⟨4, _⟩ => ⟨S8448x1024, .bf16⟩
  | .hbm, ⟨5, _⟩ => ⟨S4x1024x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![v0.toNat, c1_i32.toNat, c0_i32_0.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutARefIdeal.lean ====
abbrev S8448x2048 : Shape := ⟨2, ![8448, 2048]⟩
abbrev S8448x1024 : Shape := ⟨2, ![8448, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S_, .f32⟩
  | .hbm, ⟨3, _⟩ => ⟨S2048x1024, .f32⟩
  | .hbm, ⟨4, _⟩ => ⟨S8448x1024, .f32⟩
  | .hbm, ⟨5, _⟩ => ⟨S1024x2048, .f32⟩
  | .hbm, ⟨6, _⟩ => ⟨S2048x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S4x1024x1024, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwOutB.lean ====
abbrev S8448x2048 : Shape := ⟨2, ![8448, 2048]⟩
abbrev S8448x1024 : Shape := ⟨2, ![8448, 1024]⟩
abbrev S4x1024x1024 : Shape := ⟨3, ![4, 1024, 1024]⟩
abbrev S2816x512 : Shape := ⟨2, ![2816, 512]⟩
abbrev S2816x1024 : Shape := ⟨2, ![2816, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S4x1024x1024, .bf16⟩
  | .hbm, ⟨3, _⟩ => ⟨S8448x1024, .f32⟩
  | .hbm, ⟨4, _⟩ => ⟨S8448x1024, .bf16⟩
  | .hbm, ⟨5, _⟩ => ⟨S8448x1024, .bf16⟩
  | .hbm, ⟨6, _⟩ => ⟨S4x1024x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  let c0_i32_0 : BitVec 32 := 0#32
  ![v0.toNat, c1_i32.toNat, c0_i32.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutBRefIdeal.lean ====
abbrev S8448x2048 : Shape := ⟨2, ![8448, 2048]⟩
abbrev S8448x1024 : Shape := ⟨2, ![8448, 1024]⟩
abbrev S4x1024x1024 : Shape := ⟨3, ![4, 1024, 1024]⟩
abbrev S_ : Shape := ⟨0, ![]⟩
abbrev S2048x1024 : Shape := ⟨2, ![2048, 1024]⟩
abbrev S1024x2048 : Shape := ⟨2, ![1024, 2048]⟩
abbrev S2x512x1024 : Shape := ⟨3, ![2, 512, 1024]⟩
abbrev S1024x1024 : Shape := ⟨2, ![1024, 1024]⟩
abbrev S2x1024x1024 : Shape := ⟨3, ![2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S4x1024x1024, .bf16⟩
  | .hbm, ⟨3, _⟩ => ⟨S_, .f32⟩
  | .hbm, ⟨4, _⟩ => ⟨S2048x1024, .f32⟩
  | .hbm, ⟨5, _⟩ => ⟨S8448x1024, .f32⟩
  | .hbm, ⟨6, _⟩ => ⟨S1024x2048, .f32⟩
  | .hbm, ⟨7, _⟩ => ⟨S2048x1024, .f32⟩
  | .hbm, ⟨8, _⟩ => ⟨S2x512x1024, .bf16⟩
  | .hbm, ⟨9, _⟩ => ⟨S1024x1024, .f32⟩
  | .hbm, ⟨10, _⟩ => ⟨S2x512x1024, .f32⟩
  | .hbm, ⟨11, _⟩ => ⟨S2x512x1024, .bf16⟩
  | .hbm, ⟨12, _⟩ => ⟨S2x1024x1024, .bf16⟩
  | .hbm, ⟨13, _⟩ => ⟨S2x1024x1024, .bf16⟩
  | .hbm, ⟨14, _⟩ => ⟨S4x1024x1024, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwGlu.lean ====
abbrev S8448x1024 : Shape := ⟨2, ![8448, 1024]⟩
abbrev S1x2048 : Shape := ⟨2, ![1, 2048]⟩
abbrev S8448x2048 : Shape := ⟨2, ![8448, 2048]⟩
abbrev S4x1024x1024 : Shape := ⟨3, ![4, 1024, 1024]⟩
abbrev S2816x512 : Shape := ⟨2, ![2816, 512]⟩
abbrev S2816x1024 : Shape := ⟨2, ![2816, 1024]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x2048, .f32⟩
  | .hbm, ⟨2, _⟩ => ⟨S8448x2048, .f32⟩
  | .hbm, ⟨3, _⟩ => ⟨S4x1024x1024, .bf16⟩
  | .hbm, ⟨4, _⟩ => ⟨S8448x2048, .bf16⟩
  | .hbm, ⟨5, _⟩ => ⟨S8448x1024, .bf16⟩
  | .hbm, ⟨6, _⟩ => ⟨S4x1024x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGluRefIdeal.lean ====
abbrev S8448x1024 : Shape := ⟨2, ![8448, 1024]⟩
abbrev S1x2048 : Shape := ⟨2, ![1, 2048]⟩
abbrev S8448x2048 : Shape := ⟨2, ![8448, 2048]⟩
abbrev S4x1024x1024 : Shape := ⟨3, ![4, 1024, 1024]⟩
abbrev S_ : Shape := ⟨0, ![]⟩
abbrev S1024x2048 : Shape := ⟨2, ![1024, 2048]⟩
abbrev S2048 : Shape := ⟨1, ![2048]⟩
abbrev S2048x1024 : Shape := ⟨2, ![2048, 1024]⟩
abbrev S4x512x1024 : Shape := ⟨3, ![4, 512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x2048, .f32⟩
  | .hbm, ⟨2, _⟩ => ⟨S8448x2048, .f32⟩
  | .hbm, ⟨3, _⟩ => ⟨S4x1024x1024, .bf16⟩
  | .hbm, ⟨4, _⟩ => ⟨S_, .f32⟩
  | .hbm, ⟨5, _⟩ => ⟨S1024x2048, .f32⟩
  | .hbm, ⟨6, _⟩ => ⟨S8448x2048, .f32⟩
  | .hbm, ⟨7, _⟩ => ⟨S2048, .f32⟩
  | .hbm, ⟨8, _⟩ => ⟨S1x2048, .f32⟩
  | .hbm, ⟨9, _⟩ => ⟨S8448x2048, .f32⟩
  | .hbm, ⟨10, _⟩ => ⟨S8448x2048, .f32⟩
  | .hbm, ⟨11, _⟩ => ⟨S2048x1024, .f32⟩
  | .hbm, ⟨12, _⟩ => ⟨S1024x2048, .f32⟩
  | .hbm, ⟨13, _⟩ => ⟨S2048x1024, .f32⟩
  | .hbm, ⟨14, _⟩ => ⟨S4x512x1024, .f32⟩
  | .hbm, ⟨15, _⟩ => ⟨S4x512x1024, .bf16⟩
  | .hbm, ⟨16, _⟩ => ⟨S4x512x1024, .bf16⟩
  | .hbm, ⟨17, _⟩ => ⟨S4x1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== UpBwd.lean ====
abbrev S8448x1024 : Shape := ⟨2, ![8448, 1024]⟩
abbrev S1x1024 : Shape := ⟨2, ![1, 1024]⟩
abbrev S1024x4096 : Shape := ⟨2, ![1024, 4096]⟩
abbrev S8448x4096 : Shape := ⟨2, ![8448, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S768x4096 : Shape := ⟨2, ![768, 4096]⟩
abbrev S768x1024 : Shape := ⟨2, ![768, 1024]⟩
abbrev S1x1024x1024 : Shape := ⟨3, ![1, 1024, 1024]⟩
abbrev S1024x1024 : Shape := ⟨2, ![1024, 1024]⟩
abbrev S768 : Shape := ⟨1, ![768]⟩
abbrev S768x1 : Shape := ⟨2, ![768, 1]⟩
abbrev S96x8x1024 : Shape := ⟨3, ![96, 8, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S8448x4096, .f32⟩
  | .hbm, ⟨4, _⟩ => ⟨S8448x1024, .f32⟩
  | .hbm, ⟨5, _⟩ => ⟨S8448x4096, .bf16⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S8448x1024, .f32⟩
  | .hbm, ⟨10, _⟩ => ⟨S8448x1024, .bf16⟩
  | .hbm, ⟨11, _⟩ => ⟨S8x1024, .f32⟩
  | .local _ .vmem, ⟨0, _⟩ => ⟨S768x4096, .bf16⟩
  | .local _ .vmem, ⟨1, _⟩ => ⟨S768x4096, .bf16⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S4x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpBwdRefIdeal.lean ====
abbrev S8448x1024 : Shape := ⟨2, ![8448, 1024]⟩
abbrev S1x1024 : Shape := ⟨2, ![1, 1024]⟩
abbrev S1024x4096 : Shape := ⟨2, ![1024, 4096]⟩
abbrev S8448x4096 : Shape := ⟨2, ![8448, 4096]⟩
abbrev S8x1024 : Shape := ⟨2, ![8, 1024]⟩
abbrev S1x8x1024 : Shape := ⟨3, ![1, 8, 1024]⟩
abbrev S1056x8x1024 : Shape := ⟨3, ![1056, 8, 1024]⟩
abbrev S_ : Shape := ⟨0, ![]⟩
abbrev S8448 : Shape := ⟨1, ![8448]⟩
abbrev S8448x1 : Shape := ⟨2, ![8448, 1]⟩

abbrev nBuf : Space → Nat
  | .hbm => 56
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S8448x4096, .f32⟩
  | .hbm, ⟨4, _⟩ => ⟨S8448x1024, .f32⟩
  | .hbm, ⟨5, _⟩ => ⟨S8x1024, .f32⟩
  | .hbm, ⟨6, _⟩ => ⟨S1x8x1024, .f32⟩
  | .hbm, ⟨7, _⟩ => ⟨S1056x8x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x4096, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448, .f32⟩
  | .hbm, ⟨34, _⟩ => ⟨S8448x1, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1, .f32⟩
  | .hbm, ⟨39, _⟩ => ⟨S_, .f32⟩
  | .hbm, ⟨40, _⟩ => ⟨S8448x1, .f32⟩
  | .hbm, ⟨41, _⟩ => ⟨S8448x1, .f32⟩
  | .hbm, ⟨42, _⟩ => ⟨S_, .f32⟩
  | .hbm, ⟨43, _⟩ => ⟨S8448, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S1056x8x1024, .f32⟩
  | .hbm, ⟨50, _⟩ => ⟨S_, .f32⟩
  | .hbm, ⟨51, _⟩ => ⟨S8x1024, .f32⟩
  | .hbm, ⟨52, _⟩ => ⟨S1x8x1024, .f32⟩
  | .hbm, ⟨53, _⟩ => ⟨S_, .f32⟩
  | .hbm, ⟨54, _⟩ => ⟨S8x1024, .f32⟩
  | .hbm, ⟨55, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutBwd.lean ====
abbrev S8448x1024 : Shape := ⟨2, ![8448, 1024]⟩
abbrev S8448x2048 : Shape := ⟨2, ![8448, 2048]⟩
abbrev S1x1024 : Shape := ⟨2, ![1, 1024]⟩
abbrev S1024x2048 : Shape := ⟨2, ![1024, 2048]⟩
abbrev S2048x1024 : Shape := ⟨2, ![2048, 1024]⟩
abbrev S4x512x1024 : Shape := ⟨3, ![4, 512, 1024]⟩
abbrev S4x1024x1024 : Shape := ⟨3, ![4, 1024, 1024]⟩
abbrev S8x1024 : Shape := ⟨2, ![8, 1024]⟩
abbrev S8x2048 : Shape := ⟨2, ![8, 2048]⟩
abbrev S768x1024 : Shape := ⟨2, ![768, 1024]⟩
abbrev S768x2048 : Shape := ⟨2, ![768, 2048]⟩
abbrev S1x512x1024 : Shape := ⟨3, ![1, 512, 1024]⟩
abbrev S512x1024 : Shape := ⟨2, ![512, 1024]⟩
abbrev S768x512 : Shape := ⟨2, ![768, 512]⟩
abbrev S768 : Shape := ⟨1, ![768]⟩
abbrev S768x1 : Shape := ⟨2, ![768, 1]⟩
abbrev S96x8x1024 : Shape := ⟨3, ![96, 8, 1024]⟩
abbrev S96x8x2048 : Shape := ⟨3, ![96, 8, 2048]⟩

abbrev nBuf : Space → Nat
  | .hbm => 16
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S1x1024, .f32⟩
  | .hbm, ⟨3, _⟩ => ⟨S1024x2048, .f32⟩
  | .hbm, ⟨4, _⟩ => ⟨S2048x1024, .f32⟩
  | .hbm, ⟨5, _⟩ => ⟨S8448x1024, .bf16⟩
  | .hbm, ⟨6, _⟩ => ⟨S8448x2048, .bf16⟩
  | .hbm, ⟨7, _⟩ => ⟨S2048x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S4x1024x1024, .bf16⟩
  | .hbm, ⟨12, _⟩ => ⟨S8448x1024, .f32⟩
  | .hbm, ⟨13, _⟩ => ⟨S8448x2048, .bf16⟩
  | .hbm, ⟨14, _⟩ => ⟨S8x1024, .f32⟩
  | .hbm, ⟨15, _⟩ => ⟨S8x2048, .f32⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1x1024, .f32⟩
  | .local _ .vmem, ⟨5, _⟩ => ⟨S4x512x1024, .bf16⟩
  | .local _ .vmem, ⟨6, _⟩ => ⟨S768x1024, .f32⟩
  | .local _ .vmem, ⟨7, _⟩ => ⟨S768x1024, .f32⟩
  | .local _ .vmem, ⟨8, _⟩ => ⟨S768x2048, .bf16⟩
  | .local _ .vmem, ⟨9, _⟩ => ⟨S768x2048, .bf16⟩
  | .local _ .vmem, ⟨10, _⟩ => ⟨S8x1024, .f32⟩
  | .local _ .vmem, ⟨11, _⟩ => ⟨S8x2048, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutBwdRefIdeal.lean ====
abbrev S8448x1024 : Shape := ⟨2, ![8448, 1024]⟩
abbrev S8448x2048 : Shape := ⟨2, ![8448, 2048]⟩
abbrev S1x1024 : Shape := ⟨2, ![1, 1024]⟩
abbrev S1024x2048 : Shape := ⟨2, ![1024, 2048]⟩
abbrev S2048x1024 : Shape := ⟨2, ![2048, 1024]⟩
abbrev S_ : Shape := ⟨0, ![]⟩
abbrev S8x1024 : Shape := ⟨2, ![8, 1024]⟩
abbrev S8x2048 : Shape := ⟨2, ![8, 2048]⟩
abbrev S1x8x2048 : Shape := ⟨3, ![1, 8, 2048]⟩
abbrev S1056x8x2048 : Shape := ⟨3, ![1056, 8, 2048]⟩
abbrev S1x8x1024 : Shape := ⟨3, ![1, 8, 1024]⟩
abbrev S1056x8x1024 : Shape := ⟨3, ![1056, 8, 1024]⟩
abbrev S8448 : Shape := ⟨1, ![8448]⟩
abbrev S8448x1 : Shape := ⟨2, ![8448, 1]⟩

abbrev nBuf : Space → Nat
  | .hbm => 95
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S1x1024, .f32⟩
  | .hbm, ⟨3, _⟩ => ⟨S1024x2048, .f32⟩
  | .hbm, ⟨4, _⟩ => ⟨S2048x1024, .f32⟩
  | .hbm, ⟨5, _⟩ => ⟨S_, .f32⟩
  | .hbm, ⟨6, _⟩ => ⟨S8448x1024, .f32⟩
  | .hbm, ⟨7, _⟩ => ⟨S8x1024, .f32⟩
  | .hbm, ⟨8, _⟩ => ⟨S_, .f32⟩
  | .hbm, ⟨9, _⟩ => ⟨S8x2048, .f32⟩
  | .hbm, ⟨10, _⟩ => ⟨S1x8x2048, .f32⟩
  | .hbm, ⟨11, _⟩ => ⟨S1056x8x2048, .f32⟩
  | .hbm, ⟨12, _⟩ => ⟨S8448x2048, .f32⟩
  | .hbm, ⟨13, _⟩ => ⟨S8448x2048, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1x8x1024, .f32⟩
  | .hbm, ⟨30, _⟩ => ⟨S1056x8x1024, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S8448, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448x1, .f32⟩
  | .hbm, ⟨41, _⟩ => ⟨S8448x1, .f32⟩
  | .hbm, ⟨42, _⟩ => ⟨S8448x1, .f32⟩
  | .hbm, ⟨43, _⟩ => ⟨S8448x1, .f32⟩
  | .hbm, ⟨44, _⟩ => ⟨S_, .f32⟩
  | .hbm, ⟨45, _⟩ => ⟨S8448x1, .f32⟩
  | .hbm, ⟨46, _⟩ => ⟨S8448x1, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x2048, .f32⟩
  | .hbm, ⟨51, _⟩ => ⟨S8448x1024, .f32⟩
  | .hbm, ⟨52, _⟩ => ⟨S8448x2048, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S_, .f32⟩
  | .hbm, ⟨59, _⟩ => ⟨S8448, .f32⟩
  | .hbm, ⟨60, _⟩ => ⟨S8448x1, .f32⟩
  | .hbm, ⟨61, _⟩ => ⟨S8448x1024, .f32⟩
  | .hbm, ⟨62, _⟩ => ⟨S8448x1024, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S_, .f32⟩
  | .hbm, ⟨68, _⟩ => ⟨S8448, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S1056x8x1024, .f32⟩
  | .hbm, ⟨75, _⟩ => ⟨S_, .f32⟩
  | .hbm, ⟨76, _⟩ => ⟨S8x1024, .f32⟩
  | .hbm, ⟨77, _⟩ => ⟨S1x8x1024, .f32⟩
  | .hbm, ⟨78, _⟩ => ⟨S_, .f32⟩
  | .hbm, ⟨79, _⟩ => ⟨S8x1024, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S_, .f32⟩
  | .hbm, ⟨84, _⟩ => ⟨S8448x2048, .f32⟩
  | .hbm, ⟨85, _⟩ => ⟨S_, .f32⟩
  | .hbm, ⟨86, _⟩ => ⟨S8448x2048, .f32⟩
  | .hbm, ⟨87, _⟩ => ⟨S8448x2048, .f32⟩
  | .hbm, ⟨88, _⟩ => ⟨S1056x8x2048, .f32⟩
  | .hbm, ⟨89, _⟩ => ⟨S_, .f32⟩
  | .hbm, ⟨90, _⟩ => ⟨S8x2048, .f32⟩
  | .hbm, ⟨91, _⟩ => ⟨S1x8x2048, .f32⟩
  | .hbm, ⟨92, _⟩ => ⟨S_, .f32⟩
  | .hbm, ⟨93, _⟩ => ⟨S8x2048, .f32⟩
  | .hbm, ⟨94, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== GluBwd.lean ====
abbrev S8448x2048 : Shape := ⟨2, ![8448, 2048]⟩
abbrev S8448x1024 : Shape := ⟨2, ![8448, 1024]⟩
abbrev S1024x2048 : Shape := ⟨2, ![1024, 2048]⟩
abbrev S2048x1024 : Shape := ⟨2, ![2048, 1024]⟩
abbrev S4x512x1024 : Shape := ⟨3, ![4, 512, 1024]⟩
abbrev S4x1024x1024 : Shape := ⟨3, ![4, 1024, 1024]⟩
abbrev S768x2048 : Shape := ⟨2, ![768, 2048]⟩
abbrev S768x1024 : Shape := ⟨2, ![768, 1024]⟩
abbrev S768x512 : Shape := ⟨2, ![768, 512]⟩
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S1024x2048, .f32⟩
  | .hbm, ⟨3, _⟩ => ⟨S2048x1024, .f32⟩
  | .hbm, ⟨4, _⟩ => ⟨S8448x2048, .bf16⟩
  | .hbm, ⟨5, _⟩ => ⟨S2048x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x1024x1024, .bf16⟩
  | .hbm, ⟨10, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S768x1024, .f32⟩
  | .local _ .vmem, ⟨3, _⟩ => ⟨S768x1024, .f32⟩
  | .local _ .vmem, ⟨4, _⟩ => ⟨S4x512x1024, .bf16⟩
  | .local _ .vmem, ⟨5, _⟩ => ⟨S768x1024, .f32⟩
  | .local _ .vmem, ⟨6, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdIdeal.lean ====
variable {F : FTy → Type} [FloatOps F] [Named F]
def κ : String → Option EReal := fun
  | "inv_sqrt_2" => some (((Real.sqrt 2)⁻¹ : ℝ) : EReal)
  | "inv_sqrt_2pi" => some (((9465531 / 16777216) * (Real.sqrt 2)⁻¹ : ℝ) : EReal)
  | _ => none
-- ==== GluBwdRefIdeal.lean ====
abbrev S8448x2048 : Shape := ⟨2, ![8448, 2048]⟩
abbrev S8448x1024 : Shape := ⟨2, ![8448, 1024]⟩
abbrev S1024x2048 : Shape := ⟨2, ![1024, 2048]⟩
abbrev S2048x1024 : Shape := ⟨2, ![2048, 1024]⟩
abbrev S_ : Shape := ⟨0, ![]⟩
abbrev S1x2048 : Shape := ⟨2, ![1, 2048]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S1x2048, .f32⟩
  | .hbm, ⟨22, _⟩ => ⟨S8448x2048, .f32⟩
  | .hbm, ⟨23, _⟩ => ⟨S2048, .f32⟩
  | .hbm, ⟨24, _⟩ => ⟨S1x2048, .f32⟩
  | .hbm, ⟨25, _⟩ => ⟨S8448x2048, .f32⟩
  | .hbm, ⟨26, _⟩ => ⟨S8448x2048, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S_, .f32⟩
  | .hbm, ⟨37, _⟩ => ⟨S8448x1024, .f32⟩
  | .hbm, ⟨38, _⟩ => ⟨S8448x1024, .f32⟩
  | .hbm, ⟨39, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== AdamIn.lean ====
abbrev S1024x900 : Shape := ⟨2, ![1024, 900]⟩
abbrev S900x1024 : Shape := ⟨2, ![900, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1024x900, .f32⟩
  | .hbm, ⟨1, _⟩ => ⟨S900x1024, .f32⟩
  | .hbm, ⟨2, _⟩ => ⟨S1024x900, .f32⟩
  | .hbm, ⟨3, _⟩ => ⟨S1024x900, .f32⟩
  | .hbm, ⟨4, _⟩ => ⟨S900x1024, .f32⟩
  | .hbm, ⟨5, _⟩ => ⟨S900x1024, .f32⟩
  | .hbm, ⟨6, _⟩ => ⟨S900x1024, .f32⟩
  | .hbm, ⟨7, _⟩ => ⟨S900x1024, .f32⟩
  | .hbm, ⟨8, _⟩ => ⟨S900x1024, .f32⟩
  | .hbm, ⟨9, _⟩ => ⟨S900x1024, .f32⟩
  | .local _ .vmem, ⟨0, _⟩ => ⟨S900x1024, .f32⟩
  | .local _ .vmem, ⟨1, _⟩ => ⟨S900x1024, .f32⟩
  | .local _ .vmem, ⟨2, _⟩ => ⟨S900x1024, .f32⟩
  | .local _ .vmem, ⟨3, _⟩ => ⟨S900x1024, .f32⟩
  | .local _ .vmem, ⟨4, _⟩ => ⟨S900x1024, .f32⟩
  | .local _ .vmem, ⟨5, _⟩ => ⟨S900x1024, .f32⟩
  | .local _ .vmem, ⟨6, _⟩ => ⟨S900x1024, .f32⟩
  | _, _ => ⟨S1024x900, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S900x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S900x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S900x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S900x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S900x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S900x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S900x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamInRefIdeal.lean ====
abbrev S1024x900 : Shape := ⟨2, ![1024, 900]⟩
abbrev S900x1024 : Shape := ⟨2, ![900, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x900, .f32⟩
  | .hbm, ⟨1, _⟩ => ⟨S900x1024, .f32⟩
  | .hbm, ⟨2, _⟩ => ⟨S1024x900, .f32⟩
  | .hbm, ⟨3, _⟩ => ⟨S1024x900, .f32⟩
  | .hbm, ⟨4, _⟩ => ⟨S1024x900, .f32⟩
  | .hbm, ⟨5, _⟩ => ⟨S_, .f32⟩
  | .hbm, ⟨6, _⟩ => ⟨S1024x900, .f32⟩
  | .hbm, ⟨7, _⟩ => ⟨S1024x900, .f32⟩
  | .hbm, ⟨8, _⟩ => ⟨S_, .f32⟩
  | .hbm, ⟨9, _⟩ => ⟨S1024x900, .f32⟩
  | .hbm, ⟨10, _⟩ => ⟨S1024x900, .f32⟩
  | .hbm, ⟨11, _⟩ => ⟨S1024x900, .f32⟩
  | .hbm, ⟨12, _⟩ => ⟨S_, .f32⟩
  | .hbm, ⟨13, _⟩ => ⟨S1024x900, .f32⟩
  | .hbm, ⟨14, _⟩ => ⟨S1024x900, .f32⟩
  | .hbm, ⟨15, _⟩ => ⟨S1024x900, .f32⟩
  | .hbm, ⟨16, _⟩ => ⟨S_, .f32⟩
  | .hbm, ⟨17, _⟩ => ⟨S1024x900, .f32⟩
  | .hbm, ⟨18, _⟩ => ⟨S1024x900, .f32⟩
  | .hbm, ⟨19, _⟩ => ⟨S1024x900, .f32⟩
  | .hbm, ⟨20, _⟩ => ⟨S_, .f32⟩
  | .hbm, ⟨21, _⟩ => ⟨S1024x900, .f32⟩
  | .hbm, ⟨22, _⟩ => ⟨S1024x900, .f32⟩
  | .hbm, ⟨23, _⟩ => ⟨S_, .f32⟩
  | .hbm, ⟨24, _⟩ => ⟨S1024x900, .f32⟩
  | .hbm, ⟨25, _⟩ => ⟨S1024x900, .f32⟩
  | .hbm, ⟨26, _⟩ => ⟨S1024x900, .f32⟩
  | .hbm, ⟨27, _⟩ => ⟨S_, .f32⟩
  | .hbm, ⟨28, _⟩ => ⟨S1024x900, .f32⟩
  | .hbm, ⟨29, _⟩ => ⟨S1024x900, .f32⟩
  | .hbm, ⟨30, _⟩ => ⟨S1024x900, .f32⟩
  | .hbm, ⟨31, _⟩ => ⟨S_, .f32⟩
  | .hbm, ⟨32, _⟩ => ⟨S1024x900, .f32⟩
  | .hbm, ⟨33, _⟩ => ⟨S1024x900, .f32⟩
  | .hbm, ⟨34, _⟩ => ⟨S1024x900, .f32⟩
  | .hbm, ⟨35, _⟩ => ⟨S_, .f32⟩
  | .hbm, ⟨36, _⟩ => ⟨S1024x900, .f32⟩
  | .hbm, ⟨37, _⟩ => ⟨S1024x900, .f32⟩
  | .hbm, ⟨38, _⟩ => ⟨S900x1024, .f32⟩
  | .hbm, ⟨39, _⟩ => ⟨S900x1024, .f32⟩
  | .hbm, ⟨40, _⟩ => ⟨S900x1024, .f32⟩
  | _, _ => ⟨S1024x900, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamB.lean ====
abbrev S1x64x64x16 : Shape := ⟨4, ![1, 64, 64, 16]⟩
abbrev S1x64x16x64 : Shape := ⟨4, ![1, 64, 16, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S1x64x16x64, .f32⟩
  | .hbm, ⟨5, _⟩ => ⟨S1x64x16x64, .f32⟩
  | .hbm, ⟨6, _⟩ => ⟨S1x64x16x64, .f32⟩
  | .hbm, ⟨7, _⟩ => ⟨S1x64x16x64, .f32⟩
  | .hbm, ⟨8, _⟩ => ⟨S1x64x16x64, .f32⟩
  | .hbm, ⟨9, _⟩ => ⟨S1x64x16x64, .f32⟩
  | .hbm, ⟨10, _⟩ => ⟨S1x64x16x64, .f32⟩
  | .local _ .vmem, ⟨0, _⟩ => ⟨S1x64x16x64, .f32⟩
  | .local _ .vmem, ⟨1, _⟩ => ⟨S1x64x16x64, .f32⟩
  | .local _ .vmem, ⟨2, _⟩ => ⟨S1x64x16x64, .f32⟩
  | .local _ .vmem, ⟨3, _⟩ => ⟨S1x64x16x64, .f32⟩
  | .local _ .vmem, ⟨4, _⟩ => ⟨S1x64x16x64, .f32⟩
  | .local _ .vmem, ⟨5, _⟩ => ⟨S1x64x16x64, .f32⟩
  | .local _ .vmem, ⟨6, _⟩ => ⟨S1x64x16x64, .f32⟩
  | _, _ => ⟨S1x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamBRefIdeal.lean ====
abbrev S1x64x64x16 : Shape := ⟨4, ![1, 64, 64, 16]⟩
abbrev S_ : Shape := ⟨0, ![]⟩
abbrev S1x64x16x64 : Shape := ⟨4, ![1, 64, 16, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S_, .f32⟩
  | .hbm, ⟨5, _⟩ => ⟨S1x64x64x16, .f32⟩
  | .hbm, ⟨6, _⟩ => ⟨S1x64x64x16, .f32⟩
  | .hbm, ⟨7, _⟩ => ⟨S_, .f32⟩
  | .hbm, ⟨8, _⟩ => ⟨S1x64x64x16, .f32⟩
  | .hbm, ⟨9, _⟩ => ⟨S1x64x64x16, .f32⟩
  | .hbm, ⟨10, _⟩ => ⟨S1x64x64x16, .f32⟩
  | .hbm, ⟨11, _⟩ => ⟨S_, .f32⟩
  | .hbm, ⟨12, _⟩ => ⟨S1x64x64x16, .f32⟩
  | .hbm, ⟨13, _⟩ => ⟨S1x64x64x16, .f32⟩
  | .hbm, ⟨14, _⟩ => ⟨S1x64x64x16, .f32⟩
  | .hbm, ⟨15, _⟩ => ⟨S_, .f32⟩
  | .hbm, ⟨16, _⟩ => ⟨S1x64x64x16, .f32⟩
  | .hbm, ⟨17, _⟩ => ⟨S1x64x64x16, .f32⟩
  | .hbm, ⟨18, _⟩ => ⟨S1x64x64x16, .f32⟩
  | .hbm, ⟨19, _⟩ => ⟨S_, .f32⟩
  | .hbm, ⟨20, _⟩ => ⟨S1x64x64x16, .f32⟩
  | .hbm, ⟨21, _⟩ => ⟨S1x64x64x16, .f32⟩
  | .hbm, ⟨22, _⟩ => ⟨S_, .f32⟩
  | .hbm, ⟨23, _⟩ => ⟨S1x64x64x16, .f32⟩
  | .hbm, ⟨24, _⟩ => ⟨S1x64x64x16, .f32⟩
  | .hbm, ⟨25, _⟩ => ⟨S1x64x64x16, .f32⟩
  | .hbm, ⟨26, _⟩ => ⟨S_, .f32⟩
  | .hbm, ⟨27, _⟩ => ⟨S1x64x64x16, .f32⟩
  | .hbm, ⟨28, _⟩ => ⟨S1x64x64x16, .f32⟩
  | .hbm, ⟨29, _⟩ => ⟨S1x64x64x16, .f32⟩
  | .hbm, ⟨30, _⟩ => ⟨S_, .f32⟩
  | .hbm, ⟨31, _⟩ => ⟨S1x64x64x16, .f32⟩
  | .hbm, ⟨32, _⟩ => ⟨S1x64x64x16, .f32⟩
  | .hbm, ⟨33, _⟩ => ⟨S1x64x64x16, .f32⟩
  | .hbm, ⟨34, _⟩ => ⟨S_, .f32⟩
  | .hbm, ⟨35, _⟩ => ⟨S1x64x64x16, .f32⟩
  | .hbm, ⟨36, _⟩ => ⟨S1x64x64x16, .f32⟩
  | .hbm, ⟨37, _⟩ => ⟨S1x64x16x64, .f32⟩
  | .hbm, ⟨38, _⟩ => ⟨S1x64x16x64, .f32⟩
  | .hbm, ⟨39, _⟩ => ⟨S1x64x16x64, .f32⟩
  | _, _ => ⟨S1x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRowRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamBiasRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvB.lean ====
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvBRefIdeal.lean ====
abbrev S1x1536 : Shape := ⟨2, ![1, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | .hbm, ⟨7, _⟩ => ⟨S_, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S_, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S_, .f32⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S_, .f32⟩
  | .hbm, ⟨20, _⟩ => ⟨S1x1536, .f32⟩
  | .hbm, ⟨21, _⟩ => ⟨S1x1536, .f32⟩
  | .hbm, ⟨22, _⟩ => ⟨S_, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S_, .f32⟩
  | .hbm, ⟨27, _⟩ => ⟨S1x1536, .f32⟩
  | .hbm, ⟨28, _⟩ => ⟨S1x1536, .f32⟩
  | .hbm, ⟨29, _⟩ => ⟨S1x1536, .f32⟩
  | .hbm, ⟨30, _⟩ => ⟨S_, .f32⟩
  | .hbm, ⟨31, _⟩ => ⟨S1x1536, .f32⟩
  | .hbm, ⟨32, _⟩ => ⟨S1x1536, .f32⟩
  | .hbm, ⟨33, _⟩ => ⟨S1x1536, .f32⟩
  | .hbm, ⟨34, _⟩ => ⟨S_, .f32⟩
  | .hbm, ⟨35, _⟩ => ⟨S1x1536, .f32⟩
  | .hbm, ⟨36, _⟩ => ⟨S1x1536, .f32⟩
  | _, _ => ⟨S1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvW.lean ====
abbrev S1x4x384 : Shape := ⟨3, ![1, 4, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvWRefIdeal.lean ====
abbrev S1x4x384 : Shape := ⟨3, ![1, 4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S_, .f32⟩
  | .hbm, ⟨5, _⟩ => ⟨S1x4x384, .f32⟩
  | .hbm, ⟨6, _⟩ => ⟨S1x4x384, .f32⟩
  | .hbm, ⟨7, _⟩ => ⟨S_, .f32⟩
  | .hbm, ⟨8, _⟩ => ⟨S1x4x384, .f32⟩
  | .hbm, ⟨9, _⟩ => ⟨S1x4x384, .f32⟩
  | .hbm, ⟨10, _⟩ => ⟨S1x4x384, .f32⟩
  | .hbm, ⟨11, _⟩ => ⟨S_, .f32⟩
  | .hbm, ⟨12, _⟩ => ⟨S1x4x384, .f32⟩
  | .hbm, ⟨13, _⟩ => ⟨S1x4x384, .f32⟩
  | .hbm, ⟨14, _⟩ => ⟨S1x4x384, .f32⟩
  | .hbm, ⟨15, _⟩ => ⟨S_, .f32⟩
  | .hbm, ⟨16, _⟩ => ⟨S1x4x384, .f32⟩
  | .hbm, ⟨17, _⟩ => ⟨S1x4x384, .f32⟩
  | .hbm, ⟨18, _⟩ => ⟨S1x4x384, .f32⟩
  | .hbm, ⟨19, _⟩ => ⟨S_, .f32⟩
  | .hbm, ⟨20, _⟩ => ⟨S1x4x384, .f32⟩
  | .hbm, ⟨21, _⟩ => ⟨S1x4x384, .f32⟩
  | .hbm, ⟨22, _⟩ => ⟨S_, .f32⟩
  | .hbm, ⟨23, _⟩ => ⟨S1x4x384, .f32⟩
  | .hbm, ⟨24, _⟩ => ⟨S1x4x384, .f32⟩
  | .hbm, ⟨25, _⟩ => ⟨S1x4x384, .f32⟩
  | .hbm, ⟨26, _⟩ => ⟨S_, .f32⟩
  | .hbm, ⟨27, _⟩ => ⟨S1x4x384, .f32⟩
  | .hbm, ⟨28, _⟩ => ⟨S1x4x384, .f32⟩
  | .hbm, ⟨29, _⟩ => ⟨S1x4x384, .f32⟩
  | .hbm, ⟨30, _⟩ => ⟨S_, .f32⟩
  | .hbm, ⟨31, _⟩ => ⟨S1x4x384, .f32⟩
  | .hbm, ⟨32, _⟩ => ⟨S1x4x384, .f32⟩
  | .hbm, ⟨33, _⟩ => ⟨S1x4x384, .f32⟩
  | .hbm, ⟨34, _⟩ => ⟨S_, .f32⟩
  | .hbm, ⟨35, _⟩ => ⟨S1x4x384, .f32⟩
  | .hbm, ⟨36, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamMetaRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHeads.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamHeadsRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamStep.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamStepRefIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLam.lean ====
abbrev S1x64x64 : Shape := ⟨3, ![1, 64, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLamRefIdeal.lean ====
abbrev S1x64x64 : Shape := ⟨3, ![1, 64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S_, .f32⟩
  | .hbm, ⟨5, _⟩ => ⟨S1x64x64, .f32⟩
  | .hbm, ⟨6, _⟩ => ⟨S1x64x64, .f32⟩
  | .hbm, ⟨7, _⟩ => ⟨S_, .f32⟩
  | .hbm, ⟨8, _⟩ => ⟨S1x64x64, .f32⟩
  | .hbm, ⟨9, _⟩ => ⟨S1x64x64, .f32⟩
  | .hbm, ⟨10, _⟩ => ⟨S1x64x64, .f32⟩
  | .hbm, ⟨11, _⟩ => ⟨S_, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S_, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S_, .f32⟩
  | .hbm, ⟨20, _⟩ => ⟨S1x64x64, .f32⟩
  | .hbm, ⟨21, _⟩ => ⟨S1x64x64, .f32⟩
  | .hbm, ⟨22, _⟩ => ⟨S_, .f32⟩
  | .hbm, ⟨23, _⟩ => ⟨S1x64x64, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S_, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S_, .f32⟩
  | .hbm, ⟨35, _⟩ => ⟨S1x64x64, .f32⟩
  | .hbm, ⟨36, _⟩ => ⟨S1x64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S1x64x16x64 : Shape := ⟨4, ![1, 64, 16, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S1x64x16x64, .f32⟩
  | .hbm, ⟨5, _⟩ => ⟨S1x64x16x64, .f32⟩
  | .hbm, ⟨6, _⟩ => ⟨S1x64x16x64, .f32⟩
  | .local _ .vmem, ⟨0, _⟩ => ⟨S1x64x16x64, .f32⟩
  | .local _ .vmem, ⟨1, _⟩ => ⟨S1x64x16x64, .f32⟩
  | .local _ .vmem, ⟨2, _⟩ => ⟨S1x64x16x64, .f32⟩
  | .local _ .vmem, ⟨3, _⟩ => ⟨S1x64x16x64, .f32⟩
  | .local _ .vmem, ⟨4, _⟩ => ⟨S1x64x16x64, .f32⟩
  | .local _ .vmem, ⟨5, _⟩ => ⟨S1x64x16x64, .f32⟩
  | .local _ .vmem, ⟨6, _⟩ => ⟨S1x64x16x64, .f32⟩
  | _, _ => ⟨S1x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamCRefIdeal.lean ====
abbrev S1x64x16x64 : Shape := ⟨4, ![1, 64, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S_, .f32⟩
  | .hbm, ⟨5, _⟩ => ⟨S1x64x16x64, .f32⟩
  | .hbm, ⟨6, _⟩ => ⟨S1x64x16x64, .f32⟩
  | .hbm, ⟨7, _⟩ => ⟨S_, .f32⟩
  | .hbm, ⟨8, _⟩ => ⟨S1x64x16x64, .f32⟩
  | .hbm, ⟨9, _⟩ => ⟨S1x64x16x64, .f32⟩
  | .hbm, ⟨10, _⟩ => ⟨S1x64x16x64, .f32⟩
  | .hbm, ⟨11, _⟩ => ⟨S_, .f32⟩
  | .hbm, ⟨12, _⟩ => ⟨S1x64x16x64, .f32⟩
  | .hbm, ⟨13, _⟩ => ⟨S1x64x16x64, .f32⟩
  | .hbm, ⟨14, _⟩ => ⟨S1x64x16x64, .f32⟩
  | .hbm, ⟨15, _⟩ => ⟨S_, .f32⟩
  | .hbm, ⟨16, _⟩ => ⟨S1x64x16x64, .f32⟩
  | .hbm, ⟨17, _⟩ => ⟨S1x64x16x64, .f32⟩
  | .hbm, ⟨18, _⟩ => ⟨S1x64x16x64, .f32⟩
  | .hbm, ⟨19, _⟩ => ⟨S_, .f32⟩
  | .hbm, ⟨20, _⟩ => ⟨S1x64x16x64, .f32⟩
  | .hbm, ⟨21, _⟩ => ⟨S1x64x16x64, .f32⟩
  | .hbm, ⟨22, _⟩ => ⟨S_, .f32⟩
  | .hbm, ⟨23, _⟩ => ⟨S1x64x16x64, .f32⟩
  | .hbm, ⟨24, _⟩ => ⟨S1x64x16x64, .f32⟩
  | .hbm, ⟨25, _⟩ => ⟨S1x64x16x64, .f32⟩
  | .hbm, ⟨26, _⟩ => ⟨S_, .f32⟩
  | .hbm, ⟨27, _⟩ => ⟨S1x64x16x64, .f32⟩
  | .hbm, ⟨28, _⟩ => ⟨S1x64x16x64, .f32⟩
  | .hbm, ⟨29, _⟩ => ⟨S1x64x16x64, .f32⟩
  | .hbm, ⟨30, _⟩ => ⟨S_, .f32⟩
  | .hbm, ⟨31, _⟩ => ⟨S1x64x16x64, .f32⟩
  | .hbm, ⟨32, _⟩ => ⟨S1x64x16x64, .f32⟩
  | .hbm, ⟨33, _⟩ => ⟨S1x64x16x64, .f32⟩
  | .hbm, ⟨34, _⟩ => ⟨S_, .f32⟩
  | .hbm, ⟨35, _⟩ => ⟨S1x64x16x64, .f32⟩
  | .hbm, ⟨36, _⟩ => ⟨S1x64x16x64, .f32⟩
  | _, _ => ⟨S1x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamD.lean ====
abbrev S1x64x16 : Shape := ⟨3, ![1, 64, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x64x16, .f32⟩
  | .hbm, ⟨1, _⟩ => ⟨S1x64x16, .f32⟩
  | .hbm, ⟨2, _⟩ => ⟨S1x64x16, .f32⟩
  | .hbm, ⟨3, _⟩ => ⟨S1x64x16, .f32⟩
  | .hbm, ⟨4, _⟩ => ⟨S1x64x16, .f32⟩
  | .hbm, ⟨5, _⟩ => ⟨S1x64x16, .f32⟩
  | .hbm, ⟨6, _⟩ => ⟨S1x64x16, .f32⟩
  | .local _ .vmem, ⟨0, _⟩ => ⟨S1x64x16, .f32⟩
  | .local _ .vmem, ⟨1, _⟩ => ⟨S1x64x16, .f32⟩
  | .local _ .vmem, ⟨2, _⟩ => ⟨S1x64x16, .f32⟩
  | .local _ .vmem, ⟨3, _⟩ => ⟨S1x64x16, .f32⟩
  | .local _ .vmem, ⟨4, _⟩ => ⟨S1x64x16, .f32⟩
  | .local _ .vmem, ⟨5, _⟩ => ⟨S1x64x16, .f32⟩
  | .local _ .vmem, ⟨6, _⟩ => ⟨S1x64x16, .f32⟩
  | _, _ => ⟨S1x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamDRefIdeal.lean ====
abbrev S1x64x16 : Shape := ⟨3, ![1, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x16, .f32⟩
  | .hbm, ⟨1, _⟩ => ⟨S1x64x16, .f32⟩
  | .hbm, ⟨2, _⟩ => ⟨S1x64x16, .f32⟩
  | .hbm, ⟨3, _⟩ => ⟨S1x64x16, .f32⟩
  | .hbm, ⟨4, _⟩ => ⟨S_, .f32⟩
  | .hbm, ⟨5, _⟩ => ⟨S1x64x16, .f32⟩
  | .hbm, ⟨6, _⟩ => ⟨S1x64x16, .f32⟩
  | .hbm, ⟨7, _⟩ => ⟨S_, .f32⟩
  | .hbm, ⟨8, _⟩ => ⟨S1x64x16, .f32⟩
  | .hbm, ⟨9, _⟩ => ⟨S1x64x16, .f32⟩
  | .hbm, ⟨10, _⟩ => ⟨S1x64x16, .f32⟩
  | .hbm, ⟨11, _⟩ => ⟨S_, .f32⟩
  | .hbm, ⟨12, _⟩ => ⟨S1x64x16, .f32⟩
  | .hbm, ⟨13, _⟩ => ⟨S1x64x16, .f32⟩
  | .hbm, ⟨14, _⟩ => ⟨S1x64x16, .f32⟩
  | .hbm, ⟨15, _⟩ => ⟨S_, .f32⟩
  | .hbm, ⟨16, _⟩ => ⟨S1x64x16, .f32⟩
  | .hbm, ⟨17, _⟩ => ⟨S1x64x16, .f32⟩
  | .hbm, ⟨18, _⟩ => ⟨S1x64x16, .f32⟩
  | .hbm, ⟨19, _⟩ => ⟨S_, .f32⟩
  | .hbm, ⟨20, _⟩ => ⟨S1x64x16, .f32⟩
  | .hbm, ⟨21, _⟩ => ⟨S1x64x16, .f32⟩
  | .hbm, ⟨22, _⟩ => ⟨S_, .f32⟩
  | .hbm, ⟨23, _⟩ => ⟨S1x64x16, .f32⟩
  | .hbm, ⟨24, _⟩ => ⟨S1x64x16, .f32⟩
  | .hbm, ⟨25, _⟩ => ⟨S1x64x16, .f32⟩
  | .hbm, ⟨26, _⟩ => ⟨S_, .f32⟩
  | .hbm, ⟨27, _⟩ => ⟨S1x64x16, .f32⟩
  | .hbm, ⟨28, _⟩ => ⟨S1x64x16, .f32⟩
  | .hbm, ⟨29, _⟩ => ⟨S1x64x16, .f32⟩
  | .hbm, ⟨30, _⟩ => ⟨S_, .f32⟩
  | .hbm, ⟨31, _⟩ => ⟨S1x64x16, .f32⟩
  | .hbm, ⟨32, _⟩ => ⟨S1x64x16, .f32⟩
  | .hbm, ⟨33, _⟩ => ⟨S1x64x16, .f32⟩
  | .hbm, ⟨34, _⟩ => ⟨S_, .f32⟩
  | .hbm, ⟨35, _⟩ => ⟨S1x64x16, .f32⟩
  | .hbm, ⟨36, _⟩ => ⟨S1x64x16, .f32⟩
  | _, _ => ⟨S1x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumEarly.lean ====
abbrev S2176x1024 : Shape := ⟨2, ![2176, 1024]⟩
abbrev S8x272x1024 : Shape := ⟨3, ![8, 272, 1024]⟩
abbrev S272x1024 : Shape := ⟨2, ![272, 1024]⟩
abbrev S1x272x1024 : Shape := ⟨3, ![1, 272, 1024]⟩

abbrev nBuf : Space → Nat
  | .hbm => 3
  | .vmem => 2
  | .smem => 0
  | _ => 0

abbrev bufTy : (tb : Table) → Fin (tcTables nBuf tb) → BufTy
  | .hbm, ⟨0, _⟩ => ⟨S2176x1024, .f32⟩
  | .hbm, ⟨1, _⟩ => ⟨S8x272x1024, .f32⟩
  | .hbm, ⟨2, _⟩ => ⟨S272x1024, .f32⟩
  | .local _ .vmem, ⟨0, _⟩ => ⟨S8x272x1024, .f32⟩
  | .local _ .vmem, ⟨1, _⟩ => ⟨S272x1024, .f32⟩
  | _, _ => ⟨S2176x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x272x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S272x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumEarlyRefIdeal.lean ====
abbrev S2176x1024 : Shape := ⟨2, ![2176, 1024]⟩
abbrev S8x272x1024 : Shape := ⟨3, ![8, 272, 1024]⟩
abbrev S_ : Shape := ⟨0, ![]⟩
abbrev S272x1024 : Shape := ⟨2, ![272, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S8x272x1024, .f32⟩
  | .hbm, ⟨2, _⟩ => ⟨S_, .f32⟩
  | .hbm, ⟨3, _⟩ => ⟨S272x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumLate.lean ====
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 3
  | .vmem => 2
  | .smem => 0
  | _ => 0

abbrev bufTy : (tb : Table) → Fin (tcTables nBuf tb) → BufTy
  | .hbm, ⟨0, _⟩ => ⟨S256x1024, .f32⟩
  | .hbm, ⟨1, _⟩ => ⟨S8x32x1024, .f32⟩
  | .hbm, ⟨2, _⟩ => ⟨S32x1024, .f32⟩
  | .local _ .vmem, ⟨0, _⟩ => ⟨S8x32x1024, .f32⟩
  | .local _ .vmem, ⟨1, _⟩ => ⟨S32x1024, .f32⟩
  | _, _ => ⟨S256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumLateRefIdeal.lean ====
abbrev S256x1024 : Shape := ⟨2, ![256, 1024]⟩
abbrev S8x32x1024 : Shape := ⟨3, ![8, 32, 1024]⟩
abbrev S_ : Shape := ⟨0, ![]⟩
abbrev S32x1024 : Shape := ⟨2, ![32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x32x1024, .f32⟩
  | .hbm, ⟨2, _⟩ => ⟨S_, .f32⟩
  | .hbm, ⟨3, _⟩ => ⟨S32x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RsSum0.lean ====
abbrev S1024x1024 : Shape := ⟨2, ![1024, 1024]⟩
abbrev S7x1024x1024 : Shape := ⟨3, ![7, 1024, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S7x1024x1024, .bf16⟩
  | .hbm, ⟨2, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsSum0RefIdeal.lean ====
abbrev S1024x1024 : Shape := ⟨2, ![1024, 1024]⟩
abbrev S7x1024x1024 : Shape := ⟨3, ![7, 1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S7x1024x1024, .bf16⟩
  | .hbm, ⟨2, _⟩ => ⟨S1024x1024, .f32⟩
  | .hbm, ⟨3, _⟩ => ⟨S7x1024x1024, .f32⟩
  | .hbm, ⟨4, _⟩ => ⟨S_, .f32⟩
  | .hbm, ⟨5, _⟩ => ⟨S1024x1024, .f32⟩
  | .hbm, ⟨6, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RsSum1.lean ====
abbrev S512x1024 : Shape := ⟨2, ![512, 1024]⟩
abbrev S7x512x1024 : Shape := ⟨3, ![7, 512, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S7x512x1024, .bf16⟩
  | .hbm, ⟨2, _⟩ => ⟨S512x1024, .f32⟩
  | .local _ .vmem, ⟨0, _⟩ => ⟨S256x1024, .bf16⟩
  | .local _ .vmem, ⟨1, _⟩ => ⟨S256x1024, .bf16⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsSum1RefIdeal.lean ====
abbrev S512x1024 : Shape := ⟨2, ![512, 1024]⟩
abbrev S7x512x1024 : Shape := ⟨3, ![7, 512, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S7x512x1024, .bf16⟩
  | .hbm, ⟨2, _⟩ => ⟨S512x1024, .f32⟩
  | .hbm, ⟨3, _⟩ => ⟨S7x512x1024, .f32⟩
  | .hbm, ⟨4, _⟩ => ⟨S_, .f32⟩
  | .hbm, ⟨5, _⟩ => ⟨S512x1024, .f32⟩
  | .hbm, ⟨6, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RsSum2.lean ====
abbrev S464x1024 : Shape := ⟨2, ![464, 1024]⟩
abbrev S7x464x1024 : Shape := ⟨3, ![7, 464, 1024]⟩
abbrev S1x464x1024 : Shape := ⟨3, ![1, 464, 1024]⟩

abbrev nBuf : Space → Nat
  | .hbm => 3
  | .vmem => 3
  | .smem => 0
  | _ => 0

abbrev bufTy : (tb : Table) → Fin (tcTables nBuf tb) → BufTy
  | .hbm, ⟨0, _⟩ => ⟨S464x1024, .bf16⟩
  | .hbm, ⟨1, _⟩ => ⟨S7x464x1024, .bf16⟩
  | .hbm, ⟨2, _⟩ => ⟨S464x1024, .f32⟩
  | .local _ .vmem, ⟨0, _⟩ => ⟨S464x1024, .bf16⟩
  | .local _ .vmem, ⟨1, _⟩ => ⟨S7x464x1024, .bf16⟩
  | .local _ .vmem, ⟨2, _⟩ => ⟨S464x1024, .f32⟩
  | _, _ => ⟨S464x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S464x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x464x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S464x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RsSum2RefIdeal.lean ====
abbrev S464x1024 : Shape := ⟨2, ![464, 1024]⟩
abbrev S7x464x1024 : Shape := ⟨3, ![7, 464, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S464x1024, .bf16⟩
  | .hbm, ⟨1, _⟩ => ⟨S7x464x1024, .bf16⟩
  | .hbm, ⟨2, _⟩ => ⟨S464x1024, .f32⟩
  | .hbm, ⟨3, _⟩ => ⟨S7x464x1024, .f32⟩
  | .hbm, ⟨4, _⟩ => ⟨S_, .f32⟩
  | .hbm, ⟨5, _⟩ => ⟨S464x1024, .f32⟩
  | .hbm, ⟨6, _⟩ => ⟨S464x1024, .f32⟩
  | _, _ => ⟨S464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Final.lean ====
abbrev S8448x1024 : Shape := ⟨2, ![8448, 1024]⟩
abbrev S8192x1024 : Shape := ⟨2, ![8192, 1024]⟩
abbrev S1x1024 : Shape := ⟨2, ![1, 1024]⟩
abbrev S8x1024 : Shape := ⟨2, ![8, 1024]⟩
abbrev S768x1024 : Shape := ⟨2, ![768, 1024]⟩
abbrev S256x1024 : Shape := ⟨2, ![256, 1024]⟩
abbrev S768x1 : Shape := ⟨2, ![768, 1]⟩
abbrev S768 : Shape := ⟨1, ![768]⟩
abbrev S96x8x1024 : Shape := ⟨3, ![96, 8, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x1024, .f32⟩
  | .hbm, ⟨3, _⟩ => ⟨S8448x1024, .f32⟩
  | .hbm, ⟨4, _⟩ => ⟨S8448x1024, .bf16⟩
  | .hbm, ⟨5, _⟩ => ⟨S8x1024, .f32⟩
  | .hbm, ⟨6, _⟩ => ⟨S8x1024, .f32⟩
  | .local _ .vmem, ⟨0, _⟩ => ⟨S768x1024, .f32⟩
  | .local _ .vmem, ⟨1, _⟩ => ⟨S768x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | .local _ .vmem, ⟨13, _⟩ => ⟨S8x1024, .f32⟩
  | .local _ .vmem, ⟨14, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FinalRefIdeal.lean ====
abbrev S8448x1024 : Shape := ⟨2, ![8448, 1024]⟩
abbrev S8192x1024 : Shape := ⟨2, ![8192, 1024]⟩
abbrev S1x1024 : Shape := ⟨2, ![1, 1024]⟩
abbrev S8x1024 : Shape := ⟨2, ![8, 1024]⟩
abbrev S1x8x1024 : Shape := ⟨3, ![1, 8, 1024]⟩
abbrev S1056x8x1024 : Shape := ⟨3, ![1056, 8, 1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S1024x8x1024 : Shape := ⟨3, ![1024, 8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x1024, .f32⟩
  | .hbm, ⟨3, _⟩ => ⟨S8x1024, .f32⟩
  | .hbm, ⟨4, _⟩ => ⟨S1x8x1024, .f32⟩
  | .hbm, ⟨5, _⟩ => ⟨S1056x8x1024, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S8448, .f32⟩
  | .hbm, ⟨56, _⟩ => ⟨S8448x1, .f32⟩
  | .hbm, ⟨57, _⟩ => ⟨S8448x1024, .f32⟩
  | .hbm, ⟨58, _⟩ => ⟨S8448x1024, .f32⟩
  | .hbm, ⟨59, _⟩ => ⟨S8448x1, .f32⟩
  | .hbm, ⟨60, _⟩ => ⟨S_, .f32⟩
  | .hbm, ⟨61, _⟩ => ⟨S8448x1, .f32⟩
  | .hbm, ⟨62, _⟩ => ⟨S8448x1, .f32⟩
  | .hbm, ⟨63, _⟩ => ⟨S_, .f32⟩
  | .hbm, ⟨64, _⟩ => ⟨S8448, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S1056x8x1024, .f32⟩
  | .hbm, ⟨71, _⟩ => ⟨S_, .f32⟩
  | .hbm, ⟨72, _⟩ => ⟨S8x1024, .f32⟩
  | .hbm, ⟨73, _⟩ => ⟨S1x8x1024, .f32⟩
  | .hbm, ⟨74, _⟩ => ⟨S_, .f32⟩
  | .hbm, ⟨75, _⟩ => ⟨S8x1024, .f32⟩
  | .hbm, ⟨76, _⟩ => ⟨S8448x1024, .bf16⟩
  | .hbm, ⟨77, _⟩ => ⟨S8x1024, .f32⟩
  | .hbm, ⟨78, _⟩ => ⟨S1x8x1024, .f32⟩
  | .hbm, ⟨79, _⟩ => ⟨S1056x8x1024, .f32⟩
  | .hbm, ⟨80, _⟩ => ⟨S8448x1024, .f32⟩
  | .hbm, ⟨81, _⟩ => ⟨S8448x1024, .f32⟩
  | .hbm, ⟨82, _⟩ => ⟨S_, .f32⟩
  | .hbm, ⟨83, _⟩ => ⟨S8448, .f32⟩
  | .hbm, ⟨84, _⟩ => ⟨S8448x1, .f32⟩
  | .hbm, ⟨85, _⟩ => ⟨S_, .f32⟩
  | .hbm, ⟨86, _⟩ => ⟨S8448x1, .f32⟩
  | .hbm, ⟨87, _⟩ => ⟨S8448x1, .f32⟩
  | .hbm, ⟨88, _⟩ => ⟨S_, .f32⟩
  | .hbm, ⟨89, _⟩ => ⟨S8448x1, .f32⟩
  | .hbm, ⟨90, _⟩ => ⟨S8448x1, .f32⟩
  | .hbm, ⟨91, _⟩ => ⟨S8448x1, .f32⟩
  | .hbm, ⟨92, _⟩ => ⟨S8448x1024, .f32⟩
  | .hbm, ⟨93, _⟩ => ⟨S8448x1024, .f32⟩
  | .hbm, ⟨94, _⟩ => ⟨S8448x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S1024x8x1024, .f32⟩
  | .hbm, ⟨99, _⟩ => ⟨S_, .f32⟩
  | .hbm, ⟨100, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_v64 : Ref sig .tc := ⟨.hbm, 87, rfl⟩
abbrev main_cst_19 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_20 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Proof.Common.lean ====
/-
  What the modules on the single calls share: the parts of a row of 4096 elements, four operands put side by side in such a
  row, a sum over it, and the facts on extended reals the comparisons end in.
-/
module

public import Idealize.ShloMosaic.Lib.Pipeline.Value
public import Idealize.ShloMosaic.Lib.Pipeline.ValueKit
public import Idealize.ShloMosaic.Lib.Pipeline.ReadBack
public import Idealize.ShloMosaic.Lib.Pointwise

@[expose] public section

noncomputable section

namespace Cert.Common

open Idealize.ShloMosaic

/-- Element `j` of part `n` of a row of 4096 elements. -/
abbrev col (n : Fin 4) (j : Fin 1024) : Fin 4096 := ⟨n.val * 1024 + j.val, by omega⟩

/-- Each of the 4096 columns is a column of one of the four shards. -/
theorem exists_col (q : Fin 4096) : ∃ (n : Fin 4) (j : Fin 1024), q = col n j :=
  ⟨⟨q.val / 1024, by omega⟩, ⟨q.val % 1024, Nat.mod_lt _ (by decide)⟩,
    Fin.ext (show q.val = q.val / 1024 * 1024 + q.val % 1024 by omega)⟩

/-- A sum over the row is the sum over its four parts. -/
theorem sum_col {M : Type} [AddCommMonoid M] (f : Fin 4096 → M) :
    ∑ q, f q = (∑ j, f (col 0 j)) + (∑ j, f (col 1 j)) + (∑ j, f (col 2 j)) + ∑ j, f (col 3 j) := by
  rw [← Fin.sum_mul_add_fin 4 1024 f, Fin.sum_univ_four]

/-- A sum over 2048 elements is the sum over its four parts. -/
theorem sum_quarter {M : Type} [AddCommMonoid M] (f : Fin 2048 → M) :
    ∑ q, f q = (∑ j : Fin 512, f ⟨j.val, by omega⟩) + (∑ j : Fin 512, f ⟨512 + j.val, by omega⟩)
      + (∑ j : Fin 512, f ⟨1024 + j.val, by omega⟩) + ∑ j : Fin 512, f ⟨1536 + j.val, by omega⟩ := by
  rw [← Fin.sum_mul_add_fin 4 512 f, Fin.sum_univ_four]
  have h0 (j : Fin 512) : (⟨(0 : Fin 4).val * 512 + j.val, by have := j.isLt; simp; omega⟩ : Fin 2048) = ⟨j.val, by omega⟩ :=
    Fin.ext (show 0 * 512 + j.val = j.val by omega)
  simp only [h0]
  rfl

/-- Four blocks put side by side, read at element `j` of part `n`: block `n` at `j`. -/
theorem concat4 {α : Type} {R : Nat} (f : Fin 4 → ((⟨2, ![R, 1024]⟩ : Shape).Idx → α))
    (h : Shape.Concatenates ((List.ofFn fun n : Fin 4 => (⟨⟨2, ![R, 1024]⟩, f n⟩ : (s : Shape) × (s.Idx → α))).map (·.1))
      ⟨2, ![R, 4096]⟩ 1) (r : Fin R) (n : Fin 4) (j : Fin 1024) :
    concatenate ⟨2, ![R, 4096]⟩ 1 [⟨⟨2, ![R, 1024]⟩, f 0⟩, ⟨⟨2, ![R, 1024]⟩, f 1⟩, ⟨⟨2, ![R, 1024]⟩, f 2⟩, ⟨⟨2, ![R, 1024]⟩, f 3⟩]
      h (ix2 r (col n j)) = f n (ix2 r j) :=
  concatenate_ofFn_apply (t := ⟨2, ![R, 4096]⟩) (s₁ := ⟨2, ![R, 1024]⟩) (1 : Fin 2) f h rfl 1024 rfl (ix2 r (col n j)) n
    (show (n.val * 1024 + j.val) / 1024 = n.val by omega) (ix2 r j)
    (show j.val = (n.val * 1024 + j.val) % 1024 by omega)
    (fun b hb => by match b with | ⟨0, _⟩ => rfl | ⟨1, _⟩ => exact absurd rfl hb)

/-- Four blocks of 512 columns put side by side, read at column `q`. -/
theorem concat_quarters {α : Type} {R : Nat} (f : Fin 4 → ((⟨2, ![R, 512]⟩ : Shape).Idx → α))
    (h : Shape.Concatenates ((List.ofFn fun n : Fin 4 => (⟨⟨2, ![R, 512]⟩, f n⟩ : (s : Shape) × (s.Idx → α))).map (·.1))
      ⟨2, ![R, 2048]⟩ 1) (r : Fin R) (q : Fin 2048) :
    concatenate ⟨2, ![R, 2048]⟩ 1 [⟨⟨2, ![R, 512]⟩, f 0⟩, ⟨⟨2, ![R, 512]⟩, f 1⟩, ⟨⟨2, ![R, 512]⟩, f 2⟩, ⟨⟨2, ![R, 512]⟩, f 3⟩]
      h (ix2 r q) = f ⟨q.val / 512, by omega⟩ (ix2 r ⟨q.val % 512, by omega⟩) :=
  concatenate_ofFn_apply (t := ⟨2, ![R, 2048]⟩) (s₁ := ⟨2, ![R, 512]⟩) (1 : Fin 2) f h rfl 512 rfl (ix2 r q) ⟨q.val / 512, by omega⟩
    rfl (ix2 r ⟨q.val % 512, by omega⟩) rfl
    (fun b hb => by match b with | ⟨0, _⟩ => rfl | ⟨1, _⟩ => exact absurd rfl hb)

/-- A factor that is the positive part of `x` makes the choice between the product and zero needless. -/
theorem relu_gate (s c x : EReal) : s * (c * max x 0) = if 0 < x then s * (c * max x 0) else 0 := by
  split_ifs with h
  · rfl
  · rw [max_eq_right (not_lt.mp h), mul_zero, mul_zero]

/-- The offset of a block that begins at the array's first element. -/
theorem off2_zero : (![0, 0] : Fin 2 → Nat) = fun _ => 0 := funext fun a => by fin_cases a <;> rfl

/-- An index of a block of one shard. -/
theorem exists_ix3 {a b : Nat} (y : (⟨3, ![1, a, b]⟩ : Shape).Idx) : ∃ (i : Fin a) (j : Fin b), y = ix3 0 i j :=
  ⟨y 1, y 2, (ix3_eta y).symm.trans (congrArg (fun s => ix3 s (y 1) (y 2)) (Subsingleton.elim (α := Fin 1) (y 0) 0))⟩

/-- An index of a stack of shards whose row lies below the upper half of its shard. -/
theorem exists_below {n r b : Nat} (j : (⟨3, ![n, r + r, b]⟩ : Shape).Idx) (h : r ≤ (j 1).val) :
    ∃ (s : Fin n) (i : Fin r) (k : Fin b), j = ix3 s ⟨r + i.val, by omega⟩ k := by
  have h1 : (j 1).val < r + r := (j 1).isLt
  refine ⟨j 0, ⟨(j 1).val - r, by omega⟩, j 2, (ix3_eta j).symm.trans (congrArg (fun x => ix3 (j 0) x (j 2)) (Fin.ext ?_))⟩
  show (j 1).val = r + ((j 1).val - r)
  omega

/-- Element `k` of a row `x` divided by the root of the row's mean square and multiplied by the gain `g`. -/
def normed (x g : Fin 1024 → EReal) (k : Fin 1024) : EReal :=
  x k * Ideal.rsqrt (Ideal.div (∑ q, x q * x q) (Ideal.ofBits .f32 0x44800000#32) + Ideal.ofBits .f32 0x3727C5AC#32) * g k

end Cert.Common

end
-- ==== Proof.Norm.lean ====
/-
  The gradient of a row's division by its root mean square: the form in which the kernels compute it and the one that the
  derivatives of the single steps give are the same, for all extended reals.
-/
module

public import proofs.«01_k».proof.Proof.Common
public import Mathlib.Data.EReal.Operations
public import Mathlib.Data.EReal.Inv

@[expose] public section

noncomputable section

namespace Cert.Common

open Idealize.ShloMosaic

/-- The mean square of a row, with the small constant that is added to it. -/
def meanSq (x : Fin 1024 → EReal) : EReal :=
  Ideal.div (∑ q, x q * x q) (Ideal.ofBits .f32 0x44800000#32) + Ideal.ofBits .f32 0x3727C5AC#32

/-- The reciprocal of the root mean square of a row. -/
def invRoot (x : Fin 1024 → EReal) : EReal := Ideal.rsqrt (meanSq x)

/-- The number of the row's elements, as the programs hold it. -/
theorem bits_1024 : Ideal.ofBits .f32 0x44800000#32 = ((1024 : ℝ) : EReal) := by
  simp [Ideal.ofBits, Ideal.ieee]
  norm_cast
  norm_num

/-- Minus a half, as the programs hold it. -/
theorem bits_neg_half : Ideal.ofBits .f32 0xBF000000#32 = ((-(1 / 2) : ℝ) : EReal) := by
  simp [Ideal.ofBits, Ideal.ieee]
  norm_cast
  norm_num

/-- The small constant is a positive number. -/
theorem bits_eps : ∃ e : ℝ, 0 < e ∧ Ideal.ofBits .f32 0x3727C5AC#32 = (e : EReal) := by
  refine ⟨_, ?_, by simp [Ideal.ofBits, Ideal.ieee]; norm_cast⟩
  norm_num

/-- A number that is not negative and not infinite goes through a sum. -/
theorem mul_sum_of_nonneg {ι : Type} (s : Finset ι) (f : ι → EReal) {r : EReal} (h0 : 0 ≤ r) (ht : r ≠ ⊤) :
    r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

/-- A square is not negative. -/
theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- The mean square of a row is infinite or a positive number. -/
theorem meanSq_cases (x : Fin 1024 → EReal) : meanSq x = ⊤ ∨ ∃ s : ℝ, 0 < s ∧ meanSq x = s := by
  obtain ⟨e, he, hb⟩ := bits_eps
  have h0 : 0 ≤ ∑ q, x q * x q := Finset.sum_nonneg fun q _ => mul_self_nonneg' (x q)
  unfold meanSq
  rw [hb, bits_1024, Ideal.div, if_neg (by norm_num), ← EReal.coe_inv]
  generalize ∑ q, x q * x q = a at h0
  induction a using EReal.rec with
  | bot => exact absurd h0 (by simp)
  | top =>
    left
    rw [EReal.top_mul_coe_of_pos (by norm_num)]
    rfl
  | coe a =>
    right
    refine ⟨a * 1024⁻¹ + e, ?_, by norm_cast⟩
    have : 0 ≤ a := by exact_mod_cast h0
    positivity

/-- Twice the product with a negative number is minus the product with twice its opposite. -/
theorem add_self_mul_neg (b : EReal) {k : ℝ} (hk : 0 < k) :
    b * ((-(k / 2) : ℝ) : EReal) + b * ((-(k / 2) : ℝ) : EReal) = -(b * (k : EReal)) := by
  induction b using EReal.rec with
  | bot =>
    rw [EReal.bot_mul_coe_of_neg (by linarith), EReal.bot_mul_coe_of_pos hk]
    rfl
  | top =>
    rw [EReal.top_mul_coe_of_neg (by linarith), EReal.top_mul_coe_of_pos hk]
    rfl
  | coe b =>
    norm_cast
    ring

/-- What the derivatives of the single steps give for the row through its mean square: `d` is the cotangent of the divided row. -/
def through (x d : Fin 1024 → EReal) : EReal :=
  Ideal.div ((∑ q, x q * d q) * (Ideal.ofBits .f32 0xBF000000#32 * Ideal.div (invRoot x) (meanSq x))) (Ideal.ofBits .f32 0x44800000#32)

/-- The two forms of the gradient of a row divided by its root mean square. -/
theorem norm_grad (x d : Fin 1024 → EReal) (k : Fin 1024) :
    invRoot x * (d k - x k * invRoot x * Ideal.div (∑ q, d q * (x q * invRoot x)) (Ideal.ofBits .f32 0x44800000#32))
      = d k * invRoot x + (x k * through x d + through x d * x k) := by
  have hd (a : EReal) : Ideal.div a ((1024 : ℝ) : EReal) = a * ((1024⁻¹ : ℝ) : EReal) := by
    rw [Ideal.div, if_neg (by norm_num), ← EReal.coe_inv]
  unfold through
  rw [bits_1024, bits_neg_half, hd, hd]
  rcases meanSq_cases x with h | ⟨s, hs, h⟩
  · have hr : invRoot x = 0 := by unfold invRoot; rw [h]; rfl
    have hz : Ideal.div 0 (⊤ : EReal) = 0 := by rw [Ideal.div, if_neg (by simp), zero_mul]
    simp only [h, hr, hz, mul_zero, zero_mul, add_zero]
  · set ρ : ℝ := (Real.sqrt s)⁻¹ with hρ
    have hp : 0 < ρ := inv_pos.mpr (Real.sqrt_pos.mpr hs)
    have hr : invRoot x = (ρ : EReal) := by
      unfold invRoot
      rw [h]
      show (if s < 0 then (⊥ : EReal) else if s = 0 then ⊤ else ((Real.sqrt s)⁻¹ : ℝ)) = _
      rw [if_neg (not_lt.mpr hs.le), if_neg hs.ne']
    have hq : Ideal.div (ρ : EReal) (s : EReal) = ((ρ * ρ * ρ : ℝ) : EReal) := by
      rw [Ideal.div, if_neg (by exact_mod_cast hs.ne'), ← EReal.coe_inv, ← EReal.coe_mul]
      congr 1
      have : s⁻¹ = ρ * ρ := by rw [hρ, ← mul_inv, Real.mul_self_sqrt hs.le]
      rw [this]
      ring
    have hsum : ∑ q, d q * (x q * (ρ : EReal)) = (ρ : EReal) * ∑ q, x q * d q := by
      rw [mul_sum_of_nonneg _ _ (by exact_mod_cast hp.le) (EReal.coe_ne_top _)]
      exact Finset.sum_congr rfl fun q _ => by ac_rfl
    rw [h, hr, hq, hsum]
    generalize ∑ q, x q * d q = a
    have hk : 0 < ρ * ρ * ρ * 1024⁻¹ := by positivity
    have e1 : x k * (a * (((-(1 / 2) : ℝ) : EReal) * ((ρ * ρ * ρ : ℝ) : EReal)) * ((1024⁻¹ : ℝ) : EReal))
        = x k * a * ((-(ρ * ρ * ρ * 1024⁻¹ / 2) : ℝ) : EReal) := by
      rw [← EReal.coe_mul, mul_assoc a, ← EReal.coe_mul, ← mul_assoc]
      congr 2
      ring
    rw [mul_comm _ (x k), e1, add_self_mul_neg _ hk, sub_eq_add_neg,
      EReal.left_distrib_of_nonneg_of_ne_top (by exact_mod_cast hp.le) (EReal.coe_ne_top _), mul_comm _ (d k), mul_neg]
    congr 2
    rw [EReal.coe_mul, EReal.coe_mul, EReal.coe_mul]
    ac_rfl

/-- The gradient of a row that is divided by its root mean square, step by step: `d` is the cotangent of the divided row. -/
def divGrad (x d : Fin 1024 → EReal) (k : Fin 1024) : EReal := d k * invRoot x + x k * through x d + through x d * x k

/-- The same in the form in which the kernels compute it. -/
theorem divGrad_eq (x d : Fin 1024 → EReal) (k : Fin 1024) : divGrad x d k
    = invRoot x * (d k - x k * invRoot x * Ideal.div (∑ q, d q * (x q * invRoot x)) (Ideal.ofBits .f32 0x44800000#32)) := by
  unfold divGrad
  rw [add_assoc, norm_grad]

/-- Row `a` of those rows of a block that have the place `b` among eight. -/
abbrev eighth (a : Fin 96) (b : Fin 8) : Fin 768 := ⟨a.val * 8 + b.val, by omega⟩

end Cert.Common

end
-- ==== Proof.UpBwd.lean ====
/-
  The call `up_bwd`: the gradient of the MLP block's first product and of the norm before it. All three arrays it leaves are the
  reference's.
-/
module

public import proofs.«01_k».proof.Proof.Gen.UpBwdIdeal.Value
public import proofs.«01_k».proof.Proof.Gen.UpBwdRefIdeal.Run
public import proofs.«01_k».proof.Proof.Gen.UpBwdRefIdeal.Read
public import proofs.«01_k».proof.Proof.Norm

@[expose] public section

set_option maxRecDepth 16384

noncomputable section

namespace Cert.UpBwdProof

open Cert.UpBwdIdeal Cert.UpBwdIdeal.Gen Cert.Common Idealize.ShloMosaic Idealize.ShloMosaic.TcCoe Idealize.SL.Sem
open Idealize.ShloMosaic.Pipeline (Dat)

/-- The weights as the kernel is given them: slab `n` holds columns `1024 n` to `1024 n + 1023`. -/
def slabs {F : FTy → Type} [FloatOps F] (x : Vec F S1024x4096 .f32) : Vec F S4x1024x1024 .bf16 :=
  truncf .bf16 (transpose S4x1024x1024 [1, 0, 2] (shapeCast S1024x4x1024 x shapeCasts_S1024x4096_S1024x4x1024)
    transposes_S1024x4x1024_S4x1024x1024_1_0_2) bitsLt_bf16_f32

variable (m : (ℓ : Loc nD τ sig) → Buf (Elt Ideal) ℓ)

/-- The cotangent of the product, rounded. -/
theorem V_ct (c : Dev nD) :
    V m c main_v0 = truncf (F := Ideal) .bf16 (m ((c : Thread nD τ).loc main_arg3) : Vec Ideal S8448x4096 .f32) bitsLt_bf16_f32 := by
  simp only [V, hostOps0]
  after_results

/-- The weights. -/
theorem V_slabs (c : Dev nD) : V m c main_v3 = slabs (m ((c : Thread nD τ).loc main_arg2)) := by
  simp only [V, hostOps0]
  after_results
  rfl

/-- The block of the cotangent at a grid point. -/
theorem idx0 : ∀ t : Fin cfg0.N, win0_0.index t = ![t.val, 0] := (by decide +kernel : ∀ t : Fin grid0.N, _)
/-- The block of the rows that were normed. -/
theorem idx1 : ∀ t : Fin cfg0.N, win0_1.index t = ![t.val, 0] := (by decide +kernel : ∀ t : Fin grid0.N, _)
/-- The block of the cotangent that goes by the norm. -/
theorem idx2 : ∀ t : Fin cfg0.N, win0_2.index t = ![t.val, 0] := (by decide +kernel : ∀ t : Fin grid0.N, _)
/-- The gain is one block. -/
theorem idx3 : ∀ t : Fin cfg0.N, win0_3.index t = ![0, 0] := (by decide +kernel : ∀ t : Fin grid0.N, _)
/-- The weights are one block. -/
theorem idx4 : ∀ t : Fin cfg0.N, win0_4.index t = ![0, 0, 0] := (by decide +kernel : ∀ t : Fin grid0.N, _)
/-- The block of the first result. -/
theorem idx5 : ∀ t : Fin cfg0.N, win0_5.index t = ![t.val, 0] := (by decide +kernel : ∀ t : Fin grid0.N, _)
/-- The block of the second result. -/
theorem idx6 : ∀ t : Fin cfg0.N, win0_6.index t = ![t.val, 0] := (by decide +kernel : ∀ t : Fin grid0.N, _)
/-- The third result is one block. -/
theorem idx7 : ∀ t : Fin cfg0.N, win0_7.index t = ![0, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- The first argument: the rows that were normed. -/
abbrev argH (c : Dev nD) : Vec Ideal S8448x1024 .f32 := m ((c : Thread nD τ).loc main_arg0)
/-- The second argument: the gain of the norm. -/
abbrev argG (c : Dev nD) : Vec Ideal S1x1024 .f32 := m ((c : Thread nD τ).loc main_arg1)
/-- The third argument: the weights. -/
abbrev argW (c : Dev nD) : Vec Ideal S1024x4096 .f32 := m ((c : Thread nD τ).loc main_arg2)
/-- The fourth argument: the cotangent of the product. -/
abbrev argD (c : Dev nD) : Vec Ideal S8448x4096 .f32 := m ((c : Thread nD τ).loc main_arg3)
/-- The fifth argument: the cotangent that goes by the norm. -/
abbrev argC (c : Dev nD) : Vec Ideal S8448x1024 .f32 := m ((c : Thread nD τ).loc main_arg4)

/-- What a grid point is given of the cotangent of the product. -/
theorem blk0 (c : Dev nD) (t : Fin cfg0.N) (r : Fin 768) (q : Fin 4096) :
    (iblk m c 0 t : Vec Ideal S768x4096 .bf16) (ix2 r q) = argD m c (ix2 (row t r) q) := by
  have e : ((win0_0.blk t).view.emb (ix2 r q) : S8448x4096.Idx) = ix2 (row t r) q := by blk_ext [idx0]
  blk_simp [iblk]
  rw [V_ct, e]
  pointwise

/-- What a grid point is given of the normed rows' argument. -/
theorem blk1 (c : Dev nD) (t : Fin cfg0.N) (r : Fin 768) (k : Fin 1024) :
    (iblk m c 1 t : Vec Ideal S768x1024 .f32) (ix2 r k) = argH m c (ix2 (row t r) k) := by
  have e : ((win0_1.blk t).view.emb (ix2 r k) : S8448x1024.Idx) = ix2 (row t r) k := by blk_ext [idx1]
  blk_simp [iblk]
  rw [V_main_arg0, e]

/-- What a grid point is given of the cotangent that goes by the norm. -/
theorem blk2 (c : Dev nD) (t : Fin cfg0.N) (r : Fin 768) (k : Fin 1024) :
    (iblk m c 2 t : Vec Ideal S768x1024 .f32) (ix2 r k) = argC m c (ix2 (row t r) k) := by
  have e : ((win0_2.blk t).view.emb (ix2 r k) : S8448x1024.Idx) = ix2 (row t r) k := by blk_ext [idx2]
  blk_simp [iblk]
  rw [V_main_arg4, e]

/-- A grid point is given the whole gain. -/
theorem blk3 (c : Dev nD) (t : Fin cfg0.N) (k : Fin 1024) :
    (iblk m c 3 t : Vec Ideal S1x1024 .f32) (ix2 0 k) = argG m c (ix2 0 k) := by
  have e : ((win0_3.blk t).view.emb (ix2 0 k) : S1x1024.Idx) = ix2 0 k := by blk_ext [idx3]
  blk_simp [iblk]
  rw [V_main_arg1, e]

/-- A grid point is given all the weights. -/
theorem blk4 (c : Dev nD) (t : Fin cfg0.N) (n : Fin 4) (k j : Fin 1024) :
    (iblk m c 4 t : Vec Ideal S4x1024x1024 .bf16) (ix3 n k j) = argW m c (ix2 k (col n j)) := by
  have e : ((win0_4.blk t).view.emb (ix3 n k j) : S4x1024x1024.Idx) = ix3 n k j := by blk_ext [idx4]
  blk_simp [iblk]
  rw [V_slabs, e]
  pointwise [slabs]

/-- Slab `n` of a block of the weights. -/
def slab (X : Vec Ideal S4x1024x1024 .bf16) (n : Fin 4) : Vec Ideal S1x1024x1024 .bf16 := fun x => X (ix3 n (x 1) (x 2))

/-- The cotangent of the normed rows' product with the gain, as the body computes it from its blocks. -/
def prod (X0 : Vec Ideal S768x4096 .bf16) (X4 : Vec Ideal S4x1024x1024 .bf16) : Vec Ideal S768x1024 .f32 :=
  k0_pay6 X0 (View.ld X4 (Rect.unit ![0, 0, 0] ![1, 1024, 1024] inb_S4x1024x1024_S1x1024x1024_0_0_0))
    (View.ld X4 (Rect.unit ![1, 0, 0] ![1, 1024, 1024] inb_S4x1024x1024_S1x1024x1024_1_0_0))
    (View.ld X4 (Rect.unit ![2, 0, 0] ![1, 1024, 1024] inb_S4x1024x1024_S1x1024x1024_2_0_0))
    (View.ld X4 (Rect.unit ![3, 0, 0] ![1, 1024, 1024] inb_S4x1024x1024_S1x1024x1024_3_0_0))

/-- That cotangent at an element, for any contents of the operands' blocks. -/
theorem prod_apply (X0 : Vec Ideal S768x4096 .bf16) (X4 : Vec Ideal S4x1024x1024 .bf16) (r : Fin 768) (j : Fin 1024) :
    (prod X0 X4 (ix2 r j) : EReal) = ∑ n : Fin 4, ∑ k : Fin 1024, (X0 (ix2 r (col n k)) * X4 (ix3 n j k) : EReal) := by
  have w0 : View.ld X4 (Rect.unit ![0, 0, 0] ![1, 1024, 1024] inb_S4x1024x1024_S1x1024x1024_0_0_0) = slab X4 0 := by
    funext x; pointwise [slab]
  have w1 : View.ld X4 (Rect.unit ![1, 0, 0] ![1, 1024, 1024] inb_S4x1024x1024_S1x1024x1024_1_0_0) = slab X4 1 := by
    funext x; pointwise [slab]
  have w2 : View.ld X4 (Rect.unit ![2, 0, 0] ![1, 1024, 1024] inb_S4x1024x1024_S1x1024x1024_2_0_0) = slab X4 2 := by
    funext x; pointwise [slab]
  have w3 : View.ld X4 (Rect.unit ![3, 0, 0] ![1, 1024, 1024] inb_S4x1024x1024_S1x1024x1024_3_0_0) = slab X4 3 := by
    funext x; pointwise [slab]
  have c0 (k : Fin 1024) : col 0 k = ⟨k.val, by omega⟩ := Fin.ext (by simp [col])
  have c1 (k : Fin 1024) : col 1 k = ⟨1024 + k.val, by omega⟩ := Fin.ext (by simp [col])
  have c2 (k : Fin 1024) : col 2 k = ⟨2048 + k.val, by omega⟩ := Fin.ext (by simp [col])
  have c3 (k : Fin 1024) : col 3 k = ⟨3072 + k.val, by omega⟩ := Fin.ext (by simp [col])
  unfold prod
  rw [w0, w1, w2, w3, Fin.sum_univ_four]
  simp only [c0, c1, c2, c3]
  pointwise [k0_pay6, slab]

/-- The reciprocal of a row's root mean square, as the body computes it. -/
theorem root_apply (X1 : Vec Ideal S768x1024 .f32) (r : Fin 768) :
    (k0_pay7 X1 (ix2 r 0) : EReal) = invRoot (fun q => X1 (ix2 r q)) := by
  pointwise [k0_pay7]
  rfl

/-- The gradient of a row that was normed, with the cotangent `c` that goes by the norm: `d` is the cotangent of the divided row. -/
def rowGrad (x c d : Fin 1024 → EReal) (k : Fin 1024) : EReal :=
  c k + d k * invRoot x + x k * through x d + through x d * x k

/-- The first result's block as the body computes it, for any contents of the operands' blocks and any cotangent `P`. -/
theorem grad_apply (X1 X2 : Vec Ideal S768x1024 .f32) (X3 : Vec Ideal S1x1024 .f32) (P : Vec Ideal S768x1024 .f32)
    (r : Fin 768) (k : Fin 1024) :
    (k0_pay2 X1 X2 X3 P (k0_pay7 X1) (ix2 r k) : EReal) = rowGrad (fun q => X1 (ix2 r q)) (fun q => X2 (ix2 r q))
      (fun q => P (ix2 r q) * X3 (ix2 0 q)) k := by
  unfold rowGrad
  rw [add_assoc, add_assoc, ← norm_grad (fun q => X1 (ix2 r q)) (fun q => P (ix2 r q) * X3 (ix2 0 q)) k]
  pointwise [k0_pay2, k0_pay1]
  simp only [root_apply]

/-- The cotangent of the divided rows, from the arguments. -/
def cotan (x1 : Vec Ideal S1x1024 .f32) (x2 : Vec Ideal S1024x4096 .f32) (x3 : Vec Ideal S8448x4096 .f32) (r : Fin 8448) (k : Fin 1024) : EReal :=
  (∑ p : Fin 4096, (x3 (ix2 r p) * x2 (ix2 k p) : EReal)) * x1 (ix2 0 k)

/-- The body's cotangent at a grid point is that of the arguments. -/
theorem prod_blk (c : Dev nD) (t : Fin cfg0.N) (r : Fin 768) (k : Fin 1024) :
    (prod (iblk m c 0 t) (iblk m c 4 t) (ix2 r k) : EReal) = ∑ p : Fin 4096, (argD m c (ix2 (row t r) p) * argW m c (ix2 k p) : EReal) := by
  rw [prod_apply, sum_col, ← Fin.sum_univ_four (fun n => ∑ j : Fin 1024, (argD m c (ix2 (row t r) (col n j)) * argW m c (ix2 k (col n j)) : EReal))]
  exact Finset.sum_congr rfl fun n _ => Finset.sum_congr rfl fun q _ =>
    congrArg₂ (fun a b : EReal => a * b) (blk0 m c t r (col n q)) (blk4 m c t n k q)

/-- The first result's block after any grid point. -/
theorem out5_apply (c : Dev nD) (t : Fin cfg0.N) (r : Fin 768) (k : Fin 1024) : ((outsAt0 m c t.val t.isLt).1 (ix2 r k) : EReal)
    = rowGrad (fun q => argH m c (ix2 (row t r) q)) (fun q => argC m c (ix2 (row t r) q)) (cotan (argG m c) (argW m c) (argD m c) (row t r)) k := by
  have e : (k0_pay2 (iblk m c 1 t) (iblk m c 2 t) (iblk m c 3 t) (prod (iblk m c 0 t) (iblk m c 4 t)) (k0_pay7 (iblk m c 1 t)) (ix2 r k) : EReal)
      = rowGrad (fun q => argH m c (ix2 (row t r) q)) (fun q => argC m c (ix2 (row t r) q)) (cotan (argG m c) (argW m c) (argD m c) (row t r)) k := by
    rw [grad_apply]
    simp only [blk1, blk2, blk3, prod_blk]
    rfl
  by_cases h : t.val % 11 = 0
  · rw [outsAt0_A m c t h]; frame_out; exact e
  · rw [outsAt0_B m c t h]; frame_out; exact e

/-- The second result's block is the first's, rounded. -/
theorem out6_apply (c : Dev nD) (t : Fin cfg0.N) (y : S768x1024.Idx) :
    ((outsAt0 m c t.val t.isLt).2.1 y : EReal) = (outsAt0 m c t.val t.isLt).1 y := by
  by_cases h : t.val % 11 = 0
  · rw [outsAt0_A m c t h]; frame_out; rfl
  · rw [outsAt0_B m c t h]; frame_out; rfl

/-- What a grid point adds to the third result. -/
def part (X1 P : Vec Ideal S768x1024 .f32) (y : S8x1024.Idx) : EReal :=
  ∑ a : Fin 96, (P (ix2 (eighth a (y 0)) (y 1)) * (X1 (ix2 (eighth a (y 0)) (y 1)) * invRoot (fun q => X1 (ix2 (eighth a (y 0)) q))) : EReal)

/-- A step adds its blocks' part to what it found. -/
theorem step_apply (X1 P : Vec Ideal S768x1024 .f32) (acc : Vec Ideal S8x1024 .f32) (y : S8x1024.Idx) :
    (k0_pay5 X1 P (k0_pay7 X1) acc y : EReal) = acc y + part X1 P y := by
  rw [← ix2_eta y]
  pointwise [k0_pay5, k0_pay1, part]
  simp only [root_apply]

/-- The first step finds zero. -/
theorem zero_apply (y : S8x1024.Idx) : (k0_pay4 (F := Ideal) y : EReal) = 0 := by
  pointwise [k0_pay4]

/-- What the third result's block holds after the last step: the eleven parts, added. -/
theorem out7_eq (c : Dev nD) (t : Fin cfg0.N) (ht : t.val % 11 = 10) (y : S8x1024.Idx) :
    ((outsAt0 m c t.val t.isLt).2.2 y : EReal) = ∑ s : Fin 11, part
      (iblk m c 1 ⟨11 * (t.val / 11) + s.val, Pipeline.run_point_lt_of_flush t ht s⟩)
      (prod (iblk m c 0 ⟨11 * (t.val / 11) + s.val, Pipeline.run_point_lt_of_flush t ht s⟩)
        (iblk m c 4 ⟨11 * (t.val / 11) + s.val, Pipeline.run_point_lt_of_flush t ht s⟩)) y := by
  rw [Pipeline.eq_sum_fin_of_reset_step_apply_of_flush (fun n h => ((outsAt0 m c n h).2.2 : S8x1024.Idx → EReal)) 11 (fun _ => 0)
    (fun t y => part (iblk m c 1 t) (prod (iblk m c 0 t) (iblk m c 4 t)) y)
    (fun t h y => by
      rw [outsAt0_A m c t h]; frame_out
      exact (step_apply _ (prod (iblk m c 0 t) (iblk m c 4 t)) _ _).trans (by rw [zero_apply]))
    (fun t h y => by
      rw [outsAt0_B m c t h]; frame_out
      exact step_apply _ (prod (iblk m c 0 t) (iblk m c 4 t)) _ _) t ht y, zero_add]

open Cert.UpBwdRefIdeal.Read in
/-- The reference's first result at an element. -/
theorem ref5_apply (x0 : Vec Ideal S8448x1024 .f32) (x1 : Vec Ideal S1x1024 .f32) (x2 : Vec Ideal S1024x4096 .f32)
    (x3 : Vec Ideal S8448x4096 .f32) (x4 : Vec Ideal S8448x1024 .f32) (r : Fin 8448) (k : Fin 1024) :
    (val_main_v36 (F := Ideal) x0 x1 x2 x3 x4 (ix2 r k) : EReal)
      = rowGrad (fun q => x0 (ix2 r q)) (fun q => x4 (ix2 r q)) (cotan x1 x2 x3 r) k := by
  pointwise [val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6, val_main_cst_7]
  simp only [Fin.sum_univ_one]
  rfl

open Cert.UpBwdRefIdeal.Read in
/-- The reference's third result at an element. -/
theorem ref7_apply (x0 : Vec Ideal S8448x1024 .f32) (x2 : Vec Ideal S1024x4096 .f32)
    (x3 : Vec Ideal S8448x4096 .f32) (b : Fin 8) (k : Fin 1024) :
    (val_main_v40 (F := Ideal) x0 x2 x3 (ix2 b k) : EReal)
      = ∑ a : Fin 1056, (x0 (ix2 ⟨a.val * 8 + b.val, by omega⟩ k) * invRoot (fun q => x0 (ix2 ⟨a.val * 8 + b.val, by omega⟩ q))
        * ∑ p : Fin 4096, x3 (ix2 ⟨a.val * 8 + b.val, by omega⟩ p) * x2 (ix2 k p) : EReal) := by
  rw [← val_main_v40_eq]
  pointwise
  rw [Fin.sum_univ_one]
  rfl

/-- What the run leaves in the first result is the reference's. -/
theorem final5 (c : Dev nD) : (dats m 0 c).arrAt 5 cfg0.N = Cert.UpBwdRefIdeal.Read.val_main_v36 (F := Ideal)
    (argH m c) (argG m c) (argW m c) (argD m c) (argC m c) := by
  refine (dats m 0 c).arrAt_eq_of_covers 5 _ (by decide +kernel) fun t hf (y : S768x1024.Idx) => ?_
  obtain ⟨r, k, rfl⟩ : ∃ (r : Fin 768) (k : Fin 1024), y = ix2 r k := ⟨y 0, y 1, (ix2_eta y).symm⟩
  have e : ((win0_5.blk t).view.emb (ix2 r k) : S8448x1024.Idx) = ix2 (row t r) k := by blk_ext [idx5]
  blk_simp
  rw [after0_5, e]
  exact (out5_apply m c t r k).trans (ref5_apply _ _ _ _ _ _ _).symm

/-- What the run leaves in the second result is the reference's. -/
theorem final6 (c : Dev nD) : (dats m 0 c).arrAt 6 cfg0.N = Cert.UpBwdRefIdeal.Read.val_main_v41 (F := Ideal)
    (argH m c) (argG m c) (argW m c) (argD m c) (argC m c) := by
  refine (dats m 0 c).arrAt_eq_of_covers 6 _ (by decide +kernel) fun t hf (y : S768x1024.Idx) => ?_
  obtain ⟨r, k, rfl⟩ : ∃ (r : Fin 768) (k : Fin 1024), y = ix2 r k := ⟨y 0, y 1, (ix2_eta y).symm⟩
  have e : ((win0_6.blk t).view.emb (ix2 r k) : S8448x1024.Idx) = ix2 (row t r) k := by blk_ext [idx6]
  blk_simp
  rw [after0_6, e]
  exact (out6_apply m c t _).trans ((out5_apply m c t r k).trans (ref5_apply _ _ _ _ _ _ _).symm)

/-- What the run leaves in the third result is the reference's. -/
theorem final7 (c : Dev nD) : (dats m 0 c).arrAt 7 cfg0.N = Cert.UpBwdRefIdeal.Read.val_main_v40 (F := Ideal)
    (argH m c) (argW m c) (argD m c) := by
  refine (dats m 0 c).arrAt_eq_of_covers 7 _ (by decide +kernel) fun t hf (y : S8x1024.Idx) => ?_
  have ht := (flush0_7 t).mp hf
  obtain ⟨b, k, rfl⟩ : ∃ (b : Fin 8) (k : Fin 1024), y = ix2 b k := ⟨y 0, y 1, (ix2_eta y).symm⟩
  have e : ((win0_7.blk t).view.emb (ix2 b k) : S8x1024.Idx) = ix2 b k := by blk_ext [idx7]
  blk_simp
  rw [after0_7, e]
  refine (out7_eq m c t ht _).trans ((Eq.trans ?_ (ref7_apply (argH m c) (argW m c) (argD m c) b k).symm))
  unfold part
  refine Fin.sum_mul_add_congr fun s a hl => ?_
  have er : row ⟨11 * (t.val / 11) + s.val, Pipeline.run_point_lt_of_flush t ht s⟩ (eighth a b)
      = ⟨(s.val * 96 + a.val) * 8 + b.val, by have := b.isLt; omega⟩ :=
    Fin.ext (show (11 * (t.val / 11) + s.val) * 768 + (a.val * 8 + b.val) = (s.val * 96 + a.val) * 8 + b.val by
      have := t.isLt; have h : cfg0.N = 11 := N_0; omega)
  refine Eq.trans ?_ (mul_comm _ _)
  refine congrArg₂ (fun x y : EReal => x * y) ((prod_blk m c _ (eighth a b) k).trans (by rw [er])) ?_
  refine congrArg₂ (fun x y : EReal => x * y) ((blk1 m c _ (eighth a b) k).trans (by rw [er])) ?_
  exact congrArg invRoot (funext fun q => (blk1 m c _ (eighth a b) q).trans (by rw [er]))

end Cert.UpBwdProof

end
-- ==== Proof.OutBwd.lean ====
/-
  The call `out_bwd`: the gradient of the output projection, of the norm of the S5 heads' rows and of the gate before it. All four
  arrays it leaves are the reference's.
-/
module

public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Norm

@[expose] public section

set_option maxRecDepth 16384

noncomputable section

namespace Cert.OutBwdProof

open Cert.OutBwdIdeal Cert.OutBwdIdeal.Gen Cert.Common Idealize.ShloMosaic Idealize.ShloMosaic.TcCoe Idealize.SL.Sem
open Idealize.ShloMosaic.Pipeline (Dat)

/-- The weights as the kernel is given them: in each of four shards 512 rows of the one matrix, transposed, and 512 of the other. -/
def slabs {F : FTy → Type} [FloatOps F] (g : Vec F S1024x2048 .f32) (o : Vec F S2048x1024 .f32) : Vec F S4x1024x1024 .bf16 :=
  truncf .bf16 (concatenate S4x1024x1024 1
    [⟨S4x512x1024, shapeCast S4x512x1024 (transpose S2048x1024 [1, 0] g transposes_S1024x2048_S2048x1024_1_0) shapeCasts_S2048x1024_S4x512x1024⟩,
     ⟨S4x512x1024, shapeCast S4x512x1024 o shapeCasts_S2048x1024_S4x512x1024⟩] concatenates_S4x512x1024_S4x512x1024_S4x1024x1024_d1) bitsLt_bf16_f32

variable (m : (ℓ : Loc nD τ sig) → Buf (Elt Ideal) ℓ)

/-- The cotangent of the projection, rounded. -/
theorem V_ct (c : Dev nD) :
    V m c main_v0 = truncf (F := Ideal) .bf16 (m ((c : Thread nD τ).loc main_arg0) : Vec Ideal S8448x1024 .f32) bitsLt_bf16_f32 := by
  simp only [V, hostOps0]
  after_results

/-- The rows before the gate, rounded. -/
theorem V_rows (c : Dev nD) :
    V m c main_v1 = truncf (F := Ideal) .bf16 (m ((c : Thread nD τ).loc main_arg1) : Vec Ideal S8448x2048 .f32) bitsLt_bf16_f32 := by
  simp only [V, hostOps0]
  after_results

/-- The weights. -/
theorem V_slabs (c : Dev nD) : V m c main_v6 = slabs (m ((c : Thread nD τ).loc main_arg3)) (m ((c : Thread nD τ).loc main_arg4)) := by
  simp only [V, hostOps0]
  after_results
  rfl

/-- The block of the cotangent at a grid point. -/
theorem idx0 : ∀ t : Fin cfg0.N, win0_0.index t = ![t.val, 0] := (by decide +kernel : ∀ t : Fin grid0.N, _)
/-- The block of the rows before the gate. -/
theorem idx1 : ∀ t : Fin cfg0.N, win0_1.index t = ![t.val, 0] := (by decide +kernel : ∀ t : Fin grid0.N, _)
/-- The gain is one block. -/
theorem idx2 : ∀ t : Fin cfg0.N, win0_2.index t = ![0, 0] := (by decide +kernel : ∀ t : Fin grid0.N, _)
/-- Of each shard of the weights the second half is taken. -/
theorem idx3 : ∀ t : Fin cfg0.N, win0_3.index t = ![0, 1, 0] := (by decide +kernel : ∀ t : Fin grid0.N, _)
/-- The block of the first result. -/
theorem idx4 : ∀ t : Fin cfg0.N, win0_4.index t = ![t.val, 0] := (by decide +kernel : ∀ t : Fin grid0.N, _)
/-- The block of the second result. -/
theorem idx5 : ∀ t : Fin cfg0.N, win0_5.index t = ![t.val, 0] := (by decide +kernel : ∀ t : Fin grid0.N, _)
/-- The third result is one block. -/
theorem idx6 : ∀ t : Fin cfg0.N, win0_6.index t = ![0, 0] := (by decide +kernel : ∀ t : Fin grid0.N, _)
/-- The fourth result is one block. -/
theorem idx7 : ∀ t : Fin cfg0.N, win0_7.index t = ![0, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- Column `k` of the first half. -/
abbrev lo (k : Fin 1024) : Fin 2048 := ⟨k.val, by omega⟩
/-- Column `k` of the second half. -/
abbrev hi (k : Fin 1024) : Fin 2048 := ⟨1024 + k.val, by omega⟩

/-- The first argument: the cotangent of the projection. -/
abbrev argD (c : Dev nD) : Vec Ideal S8448x1024 .f32 := m ((c : Thread nD τ).loc main_arg0)
/-- The second argument: the rows before the gate. -/
abbrev argV (c : Dev nD) : Vec Ideal S8448x2048 .f32 := m ((c : Thread nD τ).loc main_arg1)
/-- The third argument: the gain of the norm. -/
abbrev argG (c : Dev nD) : Vec Ideal S1x1024 .f32 := m ((c : Thread nD τ).loc main_arg2)
/-- The fifth argument: the weights of the projection. -/
abbrev argW (c : Dev nD) : Vec Ideal S2048x1024 .f32 := m ((c : Thread nD τ).loc main_arg4)

/-- What a grid point is given of the cotangent. -/
theorem blk0 (c : Dev nD) (t : Fin cfg0.N) (r : Fin 768) (k : Fin 1024) :
    (iblk m c 0 t : Vec Ideal S768x1024 .bf16) (ix2 r k) = argD m c (ix2 (row t r) k) := by
  have e : ((win0_0.blk t).view.emb (ix2 r k) : S8448x1024.Idx) = ix2 (row t r) k := by blk_ext [idx0]
  blk_simp [iblk]
  rw [V_ct, e]
  pointwise

/-- What a grid point is given of the rows before the gate. -/
theorem blk1 (c : Dev nD) (t : Fin cfg0.N) (r : Fin 768) (k : Fin 2048) :
    (iblk m c 1 t : Vec Ideal S768x2048 .bf16) (ix2 r k) = argV m c (ix2 (row t r) k) := by
  have e : ((win0_1.blk t).view.emb (ix2 r k) : S8448x2048.Idx) = ix2 (row t r) k := by blk_ext [idx1]
  blk_simp [iblk]
  rw [V_rows, e]
  pointwise

/-- A grid point is given the whole gain. -/
theorem blk2 (c : Dev nD) (t : Fin cfg0.N) (k : Fin 1024) :
    (iblk m c 2 t : Vec Ideal S1x1024 .f32) (ix2 0 k) = argG m c (ix2 0 k) := by
  have e : ((win0_2.blk t).view.emb (ix2 0 k) : S1x1024.Idx) = ix2 0 k := by blk_ext [idx2]
  blk_simp [iblk]
  rw [V_main_arg2, e]

/-- What a grid point is given of the weights. -/
theorem blk3 (c : Dev nD) (t : Fin cfg0.N) (n : Fin 4) (k : Fin 512) (j : Fin 1024) :
    (iblk m c 3 t : Vec Ideal S4x512x1024 .bf16) (ix3 n k j) = argW m c (ix2 ⟨n.val * 512 + k.val, by omega⟩ j) := by
  have e : ((win0_3.blk t).view.emb (ix3 n k j) : S4x1024x1024.Idx) = ix3 n ⟨512 + k.val, by omega⟩ j := by blk_ext [idx3]
  blk_simp [iblk]
  rw [V_slabs, e]
  pointwise [slabs]

/-- Part `n` of a block of the weights. -/
def slab (X : Vec Ideal S4x512x1024 .bf16) (n : Fin 4) : Vec Ideal S1x512x1024 .bf16 := fun x => X (ix3 n (x 1) (x 2))

/-- The shard that column `j` of half `h` belongs to. -/
abbrev shard (h : Fin 2) (j : Fin 1024) : Fin 4 := ⟨2 * h.val + j.val / 512, by omega⟩

/-- The product of a row of the cotangent with the weights' row `j` of half `h`. -/
def dotRow (X0 : Vec Ideal S768x1024 .bf16) (X3 : Vec Ideal S4x512x1024 .bf16) (h : Fin 2) (r : Fin 768) (j : Fin 1024) : EReal :=
  ∑ q : Fin 1024, (X0 (ix2 r q) * X3 (ix3 (shard h j) ⟨j.val % 512, by omega⟩ q) : EReal)

/-- The first half of the product. -/
theorem low_apply (X0 : Vec Ideal S768x1024 .bf16) (X3 : Vec Ideal S4x512x1024 .bf16) (r : Fin 768) (j : Fin 1024) :
    (k0_pay14 (k0_pay4 X0 (slab X3 0)) (k0_pay5 X0 (slab X3 1)) (ix2 r j) : EReal) = dotRow X0 X3 0 r j := by
  pointwise [k0_pay14, k0_pay4, k0_pay5, k0_pay2, slab, dotRow]
  by_cases h : j.val < 512
  · have e : shard 0 j = 0 := Fin.ext (show 2 * 0 + j.val / 512 = 0 by omega)
    have e' : (⟨j.val % 512, by omega⟩ : Fin 512) = ⟨j.val, h⟩ := Fin.ext (Nat.mod_eq_of_lt h)
    rw [dif_pos h, e, e']
  · have e : shard 0 j = 1 := Fin.ext (show 2 * 0 + j.val / 512 = 1 by omega)
    have e' : (⟨j.val % 512, by omega⟩ : Fin 512) = ⟨j.val - 512, by omega⟩ := Fin.ext (show j.val % 512 = j.val - 512 by omega)
    rw [dif_neg h, e, e']

/-- The second half of the product. -/
theorem high_apply (X0 : Vec Ideal S768x1024 .bf16) (X3 : Vec Ideal S4x512x1024 .bf16) (r : Fin 768) (j : Fin 1024) :
    (k0_pay8 X0 (slab X3 2) (slab X3 3) (ix2 r j) : EReal) = dotRow X0 X3 1 r j := by
  pointwise [k0_pay8, k0_pay2, slab, dotRow]
  by_cases h : j.val < 512
  · have e : shard 1 j = 2 := Fin.ext (show 2 * 1 + j.val / 512 = 2 by omega)
    have e' : (⟨j.val % 512, by omega⟩ : Fin 512) = ⟨j.val, h⟩ := Fin.ext (Nat.mod_eq_of_lt h)
    rw [dif_pos h, e, e']
  · have e : shard 1 j = 3 := Fin.ext (show 2 * 1 + j.val / 512 = 3 by omega)
    have e' : (⟨j.val % 512, by omega⟩ : Fin 512) = ⟨j.val - 512, by omega⟩ := Fin.ext (show j.val % 512 = j.val - 512 by omega)
    rw [dif_neg h, e, e']

/-- The product at a grid point, from the arguments. -/
theorem dotRow_blk (c : Dev nD) (t : Fin cfg0.N) (h : Fin 2) (r : Fin 768) (j : Fin 1024) (n : Fin 2048) (hn : n.val = h.val * 1024 + j.val) :
    dotRow (iblk m c 0 t) (iblk m c 3 t) h r j = ∑ q : Fin 1024, (argD m c (ix2 (row t r) q) * argW m c (ix2 n q) : EReal) := by
  have e : (⟨(shard h j).val * 512 + (⟨j.val % 512, by omega⟩ : Fin 512).val, by omega⟩ : Fin 2048) = n :=
    Fin.ext (show (2 * h.val + j.val / 512) * 512 + j.val % 512 = n.val by omega)
  exact Finset.sum_congr rfl fun q _ => congrArg₂ (fun a b : EReal => a * b) (blk0 m c t r q) ((blk3 m c t _ _ q).trans (by rw [e]))

/-- The sigmoid of the second half of a row. -/
def sigmoid (v : Fin 2048 → EReal) (k : Fin 1024) : EReal := Ideal.div 1 (1 + Ideal.exp (-(v (hi k))))

/-- The first half of a row multiplied by the sigmoid of the second. -/
def gated (v : Fin 2048 → EReal) (k : Fin 1024) : EReal := v (lo k) * sigmoid v k

/-- The gradient of a row before the gate: `d` is the cotangent of the gated row divided by its root mean square. -/
def gradV (v : Fin 2048 → EReal) (d : Fin 1024 → EReal) (q : Fin 2048) : EReal :=
  if h : q.val < 1024 then divGrad (gated v) d ⟨q.val, h⟩ * sigmoid v ⟨q.val, h⟩
  else divGrad (gated v) d ⟨q.val - 1024, by omega⟩ * v (lo ⟨q.val - 1024, by omega⟩) * sigmoid v ⟨q.val - 1024, by omega⟩
    * (1 - sigmoid v ⟨q.val - 1024, by omega⟩)

/-- The sigmoid as the body computes it. -/
theorem sig_apply (X1 : Vec Ideal S768x2048 .bf16) (r : Fin 768) (k : Fin 1024) :
    (k0_pay7 X1 (ix2 r k) : EReal) = sigmoid (fun q => X1 (ix2 r q)) k := by
  have z (a : EReal) : 0 - a = -a := by rw [sub_eq_add_neg, zero_add]
  pointwise [k0_pay7, k0_pay3, sigmoid]
  exact congrArg (fun x : EReal => Ideal.div 1 (1 + Ideal.exp x)) (z _)

/-- The first half of the rows as the body reads it. -/
theorem first_apply (X1 : Vec Ideal S768x2048 .bf16) (r : Fin 768) (k : Fin 1024) :
    (k0_pay6 X1 (ix2 r k) : EReal) = X1 (ix2 r (lo k)) := by
  pointwise [k0_pay6, k0_pay3]

/-- The gated rows as the body computes them. -/
theorem gated_apply (X1 : Vec Ideal S768x2048 .bf16) (r : Fin 768) (k : Fin 1024) :
    (k0_pay9 X1 (ix2 r k) : EReal) = gated (fun q => X1 (ix2 r q)) k := by
  pointwise [k0_pay9]
  rw [first_apply, sig_apply]
  rfl

/-- The reciprocal of a gated row's root mean square. -/
theorem root_apply (X1 : Vec Ideal S768x2048 .bf16) (r : Fin 768) :
    (k0_pay11 (k0_pay10 X1) (ix2 r 0) : EReal) = invRoot (gated (fun q => X1 (ix2 r q))) := by
  pointwise [k0_pay11, k0_pay10]
  simp only [gated_apply]
  rfl

/-- The gated rows, divided. -/
theorem div_apply (X1 : Vec Ideal S768x2048 .bf16) (r : Fin 768) (k : Fin 1024) :
    (k0_pay12 (k0_pay9 X1) (k0_pay10 X1) (ix2 r k) : EReal)
      = gated (fun q => X1 (ix2 r q)) k * invRoot (gated (fun q => X1 (ix2 r q))) := by
  pointwise [k0_pay12]
  rw [gated_apply, root_apply]

/-- The gradient of the rows before the gate as the body computes it, for any product `P`. -/
theorem grad_apply (X1 : Vec Ideal S768x2048 .bf16) (X2 : Vec Ideal S1x1024 .f32) (P : Vec Ideal S768x1024 .f32) (r : Fin 768) (q : Fin 2048) :
    (k0_pay13 X2 (k0_pay6 X1) (k0_pay7 X1) P (k0_pay9 X1) (k0_pay10 X1) (ix2 r q) : EReal)
      = gradV (fun q => X1 (ix2 r q)) (fun k => P (ix2 r k) * X2 (ix2 0 k)) q := by
  unfold gradV
  simp only [divGrad_eq]
  pointwise [k0_pay13]
  simp only [div_apply, root_apply, sig_apply, first_apply]

/-- The product's second half with weights and cotangent in slabs, as the body computes it. -/
def prod (X0 : Vec Ideal S768x1024 .bf16) (X3 : Vec Ideal S4x512x1024 .bf16) : Vec Ideal S768x1024 .f32 :=
  k0_pay8 X0 (View.ld X3 (Rect.unit ![2, 0, 0] ![1, 512, 1024] inb_S4x512x1024_S1x512x1024_2_0_0))
    (View.ld X3 (Rect.unit ![3, 0, 0] ![1, 512, 1024] inb_S4x512x1024_S1x512x1024_3_0_0))

/-- That half at a grid point, from the arguments. -/
theorem prod_blk (c : Dev nD) (t : Fin cfg0.N) (r : Fin 768) (k : Fin 1024) :
    (prod (iblk m c 0 t) (iblk m c 3 t) (ix2 r k) : EReal) = ∑ q : Fin 1024, (argD m c (ix2 (row t r) q) * argW m c (ix2 (hi k) q) : EReal) := by
  have w (X3 : Vec Ideal S4x512x1024 .bf16) :
      View.ld X3 (Rect.unit ![2, 0, 0] ![1, 512, 1024] inb_S4x512x1024_S1x512x1024_2_0_0) = slab X3 2 := by funext x; pointwise [slab]
  have w' (X3 : Vec Ideal S4x512x1024 .bf16) :
      View.ld X3 (Rect.unit ![3, 0, 0] ![1, 512, 1024] inb_S4x512x1024_S1x512x1024_3_0_0) = slab X3 3 := by funext x; pointwise [slab]
  unfold prod
  rw [w, w', high_apply]
  exact dotRow_blk m c t 1 r k (hi k) (show 1024 + k.val = 1 * 1024 + k.val by omega)

/-- The cotangent of the divided rows, from the arguments. -/
def cotan (x0 : Vec Ideal S8448x1024 .f32) (x2 : Vec Ideal S1x1024 .f32) (x4 : Vec Ideal S2048x1024 .f32) (r : Fin 8448) (k : Fin 1024) : EReal :=
  (∑ q : Fin 1024, (x0 (ix2 r q) * x4 (ix2 (hi k) q) : EReal)) * x2 (ix2 0 k)

/-- The gradient of the rows before the gate at a grid point, from the arguments. -/
theorem grad_blk (c : Dev nD) (t : Fin cfg0.N) (r : Fin 768) (q : Fin 2048) :
    (k0_pay13 (iblk m c 2 t) (k0_pay6 (iblk m c 1 t)) (k0_pay7 (iblk m c 1 t)) (prod (iblk m c 0 t) (iblk m c 3 t)) (k0_pay9 (iblk m c 1 t))
      (k0_pay10 (iblk m c 1 t)) (ix2 r q) : EReal)
      = gradV (fun q => argV m c (ix2 (row t r) q)) (cotan (argD m c) (argG m c) (argW m c) (row t r)) q := by
  rw [grad_apply]
  simp only [blk1, blk2, prod_blk]
  rfl

/-- The first result's block after any grid point. -/
theorem out4_apply (c : Dev nD) (t : Fin cfg0.N) (r : Fin 768) (k : Fin 1024) : ((outsAt0 m c t.val t.isLt).1 (ix2 r k) : EReal)
    = ∑ q : Fin 1024, (argD m c (ix2 (row t r) q) * argW m c (ix2 (lo k) q) : EReal) := by
  have w (X3 : Vec Ideal S4x512x1024 .bf16) :
      View.ld X3 (Rect.unit ![0, 0, 0] ![1, 512, 1024] inb_S4x512x1024_S1x512x1024_0_0_0) = slab X3 0 := by funext x; pointwise [slab]
  have w' (X3 : Vec Ideal S4x512x1024 .bf16) :
      View.ld X3 (Rect.unit ![1, 0, 0] ![1, 512, 1024] inb_S4x512x1024_S1x512x1024_1_0_0) = slab X3 1 := by funext x; pointwise [slab]
  have e := dotRow_blk m c t 0 r k (lo k) (show k.val = 0 * 1024 + k.val by omega)
  by_cases h : t.val % 11 = 0
  · rw [outsAt0_A m c t h]; frame_out; rw [w, w', low_apply, e]
  · rw [outsAt0_B m c t h]; frame_out; rw [w, w', low_apply, e]

/-- The second result's block after any grid point. -/
theorem out5_apply (c : Dev nD) (t : Fin cfg0.N) (r : Fin 768) (q : Fin 2048) : ((outsAt0 m c t.val t.isLt).2.1 (ix2 r q) : EReal)
    = gradV (fun q => argV m c (ix2 (row t r) q)) (cotan (argD m c) (argG m c) (argW m c) (row t r)) q := by
  by_cases h : t.val % 11 = 0
  · rw [outsAt0_A m c t h]; frame_out; exact grad_blk m c t r q
  · rw [outsAt0_B m c t h]; frame_out; exact grad_blk m c t r q

/-- What a grid point adds to the third result. -/
def part6 (X1 : Vec Ideal S768x2048 .bf16) (P : Vec Ideal S768x1024 .f32) (y : S8x1024.Idx) : EReal :=
  ∑ a : Fin 96, (P (ix2 (eighth a (y 0)) (y 1)) * (gated (fun q => X1 (ix2 (eighth a (y 0)) q)) (y 1)
    * invRoot (gated (fun q => X1 (ix2 (eighth a (y 0)) q)))) : EReal)

/-- A step adds its blocks' part to what it found. -/
theorem step6_apply (X1 : Vec Ideal S768x2048 .bf16) (P : Vec Ideal S768x1024 .f32) (acc : Vec Ideal S8x1024 .f32) (y : S8x1024.Idx) :
    (k0_pay19 P (k0_pay9 X1) (k0_pay10 X1) acc y : EReal) = acc y + part6 X1 P y := by
  obtain ⟨b, k, rfl⟩ : ∃ (b : Fin 8) (k : Fin 1024), y = ix2 b k := ⟨y 0, y 1, (ix2_eta y).symm⟩
  pointwise [k0_pay19, part6]
  simp only [div_apply]

/-- The first step finds zero. -/
theorem zero6_apply (y : S8x1024.Idx) : (k0_pay17 (F := Ideal) y : EReal) = 0 := by
  pointwise [k0_pay17]

/-- What the third result's block holds after the last step: the eleven parts, added. -/
theorem out6_eq (c : Dev nD) (t : Fin cfg0.N) (ht : t.val % 11 = 10) (y : S8x1024.Idx) :
    ((outsAt0 m c t.val t.isLt).2.2.1 y : EReal) = ∑ s : Fin 11, part6
      (iblk m c 1 ⟨11 * (t.val / 11) + s.val, Pipeline.run_point_lt_of_flush t ht s⟩)
      (prod (iblk m c 0 ⟨11 * (t.val / 11) + s.val, Pipeline.run_point_lt_of_flush t ht s⟩)
        (iblk m c 3 ⟨11 * (t.val / 11) + s.val, Pipeline.run_point_lt_of_flush t ht s⟩)) y := by
  rw [Pipeline.eq_sum_fin_of_reset_step_apply_of_flush (fun n h => ((outsAt0 m c n h).2.2.1 : S8x1024.Idx → EReal)) 11 (fun _ => 0)
    (fun t y => part6 (iblk m c 1 t) (prod (iblk m c 0 t) (iblk m c 3 t)) y)
    (fun t h y => by
      rw [outsAt0_A m c t h]; frame_out
      exact (step6_apply _ (prod (iblk m c 0 t) (iblk m c 3 t)) _ _).trans (by rw [zero6_apply]))
    (fun t h y => by
      rw [outsAt0_B m c t h]; frame_out
      exact step6_apply _ (prod (iblk m c 0 t) (iblk m c 3 t)) _ _) t ht y, zero_add]

/-- The gradient of the rows before the gate as the body computes it at a grid point. -/
def grad (c : Dev nD) (t : Fin cfg0.N) : Vec Ideal S768x2048 .f32 :=
  k0_pay13 (iblk m c 2 t) (k0_pay6 (iblk m c 1 t)) (k0_pay7 (iblk m c 1 t)) (prod (iblk m c 0 t) (iblk m c 3 t)) (k0_pay9 (iblk m c 1 t))
    (k0_pay10 (iblk m c 1 t))

/-- What a grid point adds to the fourth result. -/
def part7 (Q : Vec Ideal S768x2048 .f32) (y : S8x2048.Idx) : EReal :=
  ∑ a : Fin 96, (Q (ix2 (eighth a (y 0)) (y 1)) : EReal)

/-- A step adds its blocks' part to what it found. -/
theorem step7_apply (v4 : Vec Ideal S1x1024 .f32) (v18 v27 v28 v29 : Vec Ideal S768x1024 .f32) (v32 : Vec Ideal S768x1 .f32)
    (acc : Vec Ideal S8x2048 .f32) (y : S8x2048.Idx) :
    (k0_pay1 (k0_pay15 v4 v18 v27 v28 v29 v32) acc y : EReal) = acc y + part7 (k0_pay13 v4 v18 v27 v28 v29 v32) y := by
  rw [← ix2_eta y]
  pointwise [k0_pay1, k0_pay15, part7]

/-- The first step finds zero. -/
theorem zero7_apply (y : S8x2048.Idx) : (k0_pay18 (F := Ideal) y : EReal) = 0 := by
  pointwise [k0_pay18]

/-- What the fourth result's block holds after the last step: the eleven parts, added. -/
theorem out7_eq (c : Dev nD) (t : Fin cfg0.N) (ht : t.val % 11 = 10) (y : S8x2048.Idx) :
    ((outsAt0 m c t.val t.isLt).2.2.2 y : EReal) = ∑ s : Fin 11, part7
      (grad m c ⟨11 * (t.val / 11) + s.val, Pipeline.run_point_lt_of_flush t ht s⟩) y := by
  rw [Pipeline.eq_sum_fin_of_reset_step_apply_of_flush (fun n h => ((outsAt0 m c n h).2.2.2 : S8x2048.Idx → EReal)) 11 (fun _ => 0)
    (fun t y => part7 (grad m c t) y)
    (fun t h y => by
      rw [outsAt0_A m c t h]; frame_out
      exact (step7_apply _ _ _ _ _ _ _ _).trans (congrArg (fun a : EReal => a + part7 (grad m c t) y) (zero7_apply y)))
    (fun t h y => by
      rw [outsAt0_B m c t h]; frame_out
      exact step7_apply _ _ _ _ _ _ _ _) t ht y, zero_add]

open Cert.OutBwdRefIdeal.Read in
/-- The reference's first result at an element. -/
theorem ref4_apply (x0 : Vec Ideal S8448x1024 .f32) (x4 : Vec Ideal S2048x1024 .f32) (r : Fin 8448) (k : Fin 1024) :
    (val_main_v39 (F := Ideal) x0 x4 (ix2 r k) : EReal) = ∑ q : Fin 1024, (x0 (ix2 r q) * x4 (ix2 (lo k) q) : EReal) := by
  pointwise [val_main_v39, val_main_v38]

open Cert.OutBwdRefIdeal.Read in
/-- The reference's gradient of the gated rows at an element. -/
theorem refGated_apply (x0 : Vec Ideal S8448x1024 .f32) (x1 : Vec Ideal S8448x2048 .f32) (x2 : Vec Ideal S1x1024 .f32)
    (x4 : Vec Ideal S2048x1024 .f32) (r : Fin 8448) (k : Fin 1024) :
    (val_main_v56 (F := Ideal) x0 x1 x2 x4 (ix2 r k) : EReal) = divGrad (gated (fun q => x1 (ix2 r q))) (cotan x0 x2 x4 r) k := by
  pointwise [val_main_v56, val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7, val_main_cst_8, val_main_cst_9, val_main_cst_10, val_main_cst_11,
    val_main_cst_12]
  simp only [Fin.sum_univ_one]
  rfl

open Cert.OutBwdRefIdeal.Read in
/-- The reference's gradient of the rows before the gate at an element. -/
theorem refV_apply (x0 : Vec Ideal S8448x1024 .f32) (x1 : Vec Ideal S8448x2048 .f32) (x2 : Vec Ideal S1x1024 .f32)
    (x4 : Vec Ideal S2048x1024 .f32) (r : Fin 8448) (q : Fin 2048) :
    (val_main_v66 (F := Ideal) x0 x1 x2 x4 (ix2 r q) : EReal) = gradV (fun q => x1 (ix2 r q)) (cotan x0 x2 x4 r) q := by
  have e63 (k : Fin 1024) : (val_main_v63 (F := Ideal) x0 x1 x2 x4 (ix2 r k) : EReal)
      = divGrad (gated (fun q => x1 (ix2 r q))) (cotan x0 x2 x4 r) k * x1 (ix2 r (lo k)) * sigmoid (fun q => x1 (ix2 r q)) k
        * (1 - sigmoid (fun q => x1 (ix2 r q)) k) := by
    rw [← refGated_apply, mul_comm (val_main_v56 (F := Ideal) x0 x1 x2 x4 (ix2 r k) : EReal), mul_assoc (_ * _)]
    pointwise [val_main_v63, val_main_v61, val_main_v17, val_main_v16, val_main_v15, val_main_v14, val_main_v13, val_main_v12, val_main_v11, val_main_v10,
    val_main_v9, val_main_v8, val_main_v7, val_main_v6, val_main_v5, val_main_v4, val_main_v3, val_main_v2,
    val_main_cst_0, val_main_cst_1, val_main_cst_2, val_main_cst_3, sigmoid]
  have e62 (k : Fin 1024) : (val_main_v62 (F := Ideal) x0 x1 x2 x4 (ix2 r k) : EReal)
      = divGrad (gated (fun q => x1 (ix2 r q))) (cotan x0 x2 x4 r) k * sigmoid (fun q => x1 (ix2 r q)) k := by
    rw [← refGated_apply]
    pointwise [val_main_v62, val_main_v14, val_main_v13, val_main_v12, val_main_v11, val_main_v10, val_main_v9, val_main_v8, val_main_v6,
    val_main_v5, val_main_v4, val_main_v3, val_main_v2, val_main_cst_0, val_main_cst_1, val_main_cst_2, sigmoid]
  unfold gradV
  pointwise [val_main_v66, val_main_v65, val_main_v64, val_main_cst_13, val_main_cst_14]
  by_cases h : q.val < 1024
  · rw [dif_neg (by omega), dif_pos h, dif_pos h, zero_add, e62]
  · rw [dif_pos (by omega), dif_neg h, dif_neg h, add_zero, e63]

open Cert.OutBwdRefIdeal.Read in
/-- The reference's third result at an element. -/
theorem ref6_apply (x0 : Vec Ideal S8448x1024 .f32) (x1 : Vec Ideal S8448x2048 .f32) (x4 : Vec Ideal S2048x1024 .f32) (b : Fin 8) (k : Fin 1024) :
    (val_main_v60 (F := Ideal) x0 x1 x4 (ix2 b k) : EReal) = ∑ a : Fin 1056, (gated (fun q => x1 (ix2 ⟨a.val * 8 + b.val, by omega⟩ q)) k
      * invRoot (gated (fun q => x1 (ix2 ⟨a.val * 8 + b.val, by omega⟩ q)))
      * ∑ q : Fin 1024, x0 (ix2 ⟨a.val * 8 + b.val, by omega⟩ q) * x4 (ix2 (hi k) q) : EReal) := by
  pointwise [val_main_v60, val_main_v59, val_main_v58, val_main_v57, val_main_v41, val_main_v40, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7, val_main_cst_11, val_main_cst_12]
  rw [Fin.sum_univ_one]
  rfl

open Cert.OutBwdRefIdeal.Read in
/-- The reference's fourth result at an element. -/
theorem ref7_apply (x0 : Vec Ideal S8448x1024 .f32) (x1 : Vec Ideal S8448x2048 .f32) (x2 : Vec Ideal S1x1024 .f32)
    (x4 : Vec Ideal S2048x1024 .f32) (b : Fin 8) (q : Fin 2048) :
    (val_main_v70 (F := Ideal) x0 x1 x2 x4 (ix2 b q) : EReal)
      = ∑ a : Fin 1056, gradV (fun q => x1 (ix2 ⟨a.val * 8 + b.val, by omega⟩ q)) (cotan x0 x2 x4 ⟨a.val * 8 + b.val, by omega⟩) q := by
  simp only [← refV_apply]
  pointwise [val_main_v70, val_main_v69, val_main_v68, val_main_v67, val_main_cst_15, val_main_cst_16]
  rw [Fin.sum_univ_one]

/-- What the run leaves in the first result is the reference's. -/
theorem final4 (c : Dev nD) : (dats m 0 c).arrAt 4 cfg0.N = Cert.OutBwdRefIdeal.Read.val_main_v39 (F := Ideal) (argD m c) (argW m c) := by
  refine (dats m 0 c).arrAt_eq_of_covers 4 _ (by decide +kernel) fun t hf (y : S768x1024.Idx) => ?_
  obtain ⟨r, k, rfl⟩ : ∃ (r : Fin 768) (k : Fin 1024), y = ix2 r k := ⟨y 0, y 1, (ix2_eta y).symm⟩
  have e : ((win0_4.blk t).view.emb (ix2 r k) : S8448x1024.Idx) = ix2 (row t r) k := by blk_ext [idx4]
  blk_simp
  rw [after0_4, e]
  exact (out4_apply m c t r k).trans (ref4_apply _ _ _ _).symm

/-- What the run leaves in the second result is the reference's. -/
theorem final5 (c : Dev nD) : (dats m 0 c).arrAt 5 cfg0.N = Cert.OutBwdRefIdeal.Read.val_main_v71 (F := Ideal)
    (argD m c) (argV m c) (argG m c) (argW m c) := by
  refine (dats m 0 c).arrAt_eq_of_covers 5 _ (by decide +kernel) fun t hf (y : S768x2048.Idx) => ?_
  obtain ⟨r, q, rfl⟩ : ∃ (r : Fin 768) (q : Fin 2048), y = ix2 r q := ⟨y 0, y 1, (ix2_eta y).symm⟩
  have e : ((win0_5.blk t).view.emb (ix2 r q) : S8448x2048.Idx) = ix2 (row t r) q := by blk_ext [idx5]
  blk_simp
  rw [after0_5, e]
  exact (out5_apply m c t r q).trans (refV_apply _ _ _ _ _ _).symm

/-- A row of a grid point's blocks that has the place `b` among eight, in the array. -/
theorem row_eighth (t : Fin cfg0.N) (s : Fin 11) (h : 11 * (t.val / 11) + s.val < cfg0.N) (a : Fin 96) (b : Fin 8) :
    row ⟨11 * (t.val / 11) + s.val, h⟩ (eighth a b) = ⟨(s.val * 96 + a.val) * 8 + b.val, by omega⟩ :=
  Fin.ext (show (11 * (t.val / 11) + s.val) * 768 + (a.val * 8 + b.val) = (s.val * 96 + a.val) * 8 + b.val by
    have := t.isLt; have h : cfg0.N = 11 := N_0; omega)

/-- What the run leaves in the third result is the reference's. -/
theorem final6 (c : Dev nD) : (dats m 0 c).arrAt 6 cfg0.N = Cert.OutBwdRefIdeal.Read.val_main_v60 (F := Ideal)
    (argD m c) (argV m c) (argW m c) := by
  refine (dats m 0 c).arrAt_eq_of_covers 6 _ (by decide +kernel) fun t hf (y : S8x1024.Idx) => ?_
  have ht := (flush0_6 t).mp hf
  obtain ⟨b, k, rfl⟩ : ∃ (b : Fin 8) (k : Fin 1024), y = ix2 b k := ⟨y 0, y 1, (ix2_eta y).symm⟩
  have e : ((win0_6.blk t).view.emb (ix2 b k) : S8x1024.Idx) = ix2 b k := by blk_ext [idx6]
  blk_simp
  rw [after0_6, e]
  refine (out6_eq m c t ht _).trans ((Eq.trans ?_ (ref6_apply (argD m c) (argV m c) (argW m c) b k).symm))
  unfold part6
  refine Fin.sum_mul_add_congr fun s a hl => ?_
  have er := row_eighth t s (Pipeline.run_point_lt_of_flush t ht s) a b
  refine Eq.trans ?_ (mul_comm _ _)
  refine congrArg₂ (fun x y : EReal => x * y) ((prod_blk m c _ (eighth a b) k).trans (by rw [er])) ?_
  exact congrArg (fun v => gated v k * invRoot (gated v)) (funext fun q => (blk1 m c _ (eighth a b) q).trans (by rw [er]))

/-- What the run leaves in the fourth result is the reference's. -/
theorem final7 (c : Dev nD) : (dats m 0 c).arrAt 7 cfg0.N = Cert.OutBwdRefIdeal.Read.val_main_v70 (F := Ideal)
    (argD m c) (argV m c) (argG m c) (argW m c) := by
  refine (dats m 0 c).arrAt_eq_of_covers 7 _ (by decide +kernel) fun t hf (y : S8x2048.Idx) => ?_
  have ht := (flush0_7 t).mp hf
  obtain ⟨b, q, rfl⟩ : ∃ (b : Fin 8) (q : Fin 2048), y = ix2 b q := ⟨y 0, y 1, (ix2_eta y).symm⟩
  have e : ((win0_7.blk t).view.emb (ix2 b q) : S8x2048.Idx) = ix2 b q := by blk_ext [idx7]
  blk_simp
  rw [after0_7, e]
  refine (out7_eq m c t ht _).trans ((Eq.trans ?_ (ref7_apply (argD m c) (argV m c) (argG m c) (argW m c) b q).symm))
  unfold part7
  refine Fin.sum_mul_add_congr fun s a hl => ?_
  exact (grad_blk m c _ (eighth a b) q).trans (by rw [row_eighth])

end Cert.OutBwdProof

end
-- ==== Proof.Glu.lean ====
/-
  The call `glu`: the product of the S5 heads' rows with the gate's weights and the bias, one half of it multiplied by the
  sigmoid of the other, and the norm of that. Both arrays it leaves are the reference's.
-/
module

public import proofs.«01_k».proof.Proof.Gen.GluIdeal.Value
public import proofs.«01_k».proof.Proof.Gen.GluRefIdeal.Read
public import proofs.«01_k».proof.Proof.Common

@[expose] public section

set_option maxRecDepth 16384

noncomputable section

namespace Cert.GluProof

open Cert.GluIdeal Cert.GluIdeal.Gen Cert.Common Idealize.ShloMosaic Idealize.ShloMosaic.TcCoe Idealize.SL.Sem
open Idealize.ShloMosaic.Pipeline (Dat)

/-- The S5 heads' rows as the kernel is given them. -/
def rows {F : FTy → Type} [FloatOps F] (x : Vec F S8448x1024 .f32) : Vec F S8448x1024 .bf16 := truncf .bf16 x bitsLt_bf16_f32

/-- The weights as the kernel is given them: in each of four shards 512 rows of the one matrix, transposed, and 512 of the other. -/
def slabs {F : FTy → Type} [FloatOps F] (g : Vec F S1024x2048 .f32) (o : Vec F S2048x1024 .f32) : Vec F S4x1024x1024 .bf16 :=
  truncf .bf16 (concatenate S4x1024x1024 1
    [⟨S4x512x1024, shapeCast S4x512x1024 (transpose S2048x1024 [1, 0] g transposes_S1024x2048_S2048x1024_1_0) shapeCasts_S2048x1024_S4x512x1024⟩,
     ⟨S4x512x1024, shapeCast S4x512x1024 o shapeCasts_S2048x1024_S4x512x1024⟩] concatenates_S4x512x1024_S4x512x1024_S4x1024x1024_d1) bitsLt_bf16_f32

variable (m : (ℓ : Loc nD τ sig) → Buf (Elt Ideal) ℓ)

/-- The rows. -/
theorem V_rows (c : Dev nD) : V m c main_v0 = rows (m ((c : Thread nD τ).loc main_arg0)) := by
  simp only [V, hostOps0]
  after_results
  rfl

/-- The weights. -/
theorem V_slabs (c : Dev nD) : V m c main_v5 = slabs (m ((c : Thread nD τ).loc main_arg3)) (m ((c : Thread nD τ).loc main_arg4)) := by
  simp only [V, hostOps0]
  after_results
  rfl

/-- The block of the rows at a grid point. -/
theorem idx0 : ∀ t : Fin cfg0.N, win0_0.index t = ![t.val, 0] := (by decide +kernel : ∀ t : Fin grid0.N, _)
/-- The bias is taken whole. -/
theorem idx1 : ∀ t : Fin cfg0.N, win0_1.index t = ![0, 0] := (by decide +kernel : ∀ t : Fin grid0.N, _)
/-- The gain of the norm is taken whole. -/
theorem idx2 : ∀ t : Fin cfg0.N, win0_2.index t = ![0, 0] := (by decide +kernel : ∀ t : Fin grid0.N, _)
/-- Of each shard of the weights the first half is taken. -/
theorem idx3 : ∀ t : Fin cfg0.N, win0_3.index t = ![0, 0, 0] := (by decide +kernel : ∀ t : Fin grid0.N, _)
/-- The block of the first result at a grid point. -/
theorem idx4 : ∀ t : Fin cfg0.N, win0_4.index t = ![t.val, 0] := (by decide +kernel : ∀ t : Fin grid0.N, _)
/-- The block of the second result at a grid point. -/
theorem idx5 : ∀ t : Fin cfg0.N, win0_5.index t = ![t.val, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- The first argument: the S5 heads' rows. -/
abbrev argY (c : Dev nD) : Vec Ideal S8448x1024 .f32 := m ((c : Thread nD τ).loc main_arg0)
/-- The second argument: the bias. -/
abbrev argB (c : Dev nD) : Vec Ideal S1x2048 .f32 := m ((c : Thread nD τ).loc main_arg1)
/-- The third argument: the gain of the norm. -/
abbrev argG (c : Dev nD) : Vec Ideal S1x1024 .f32 := m ((c : Thread nD τ).loc main_arg2)
/-- The fourth argument: the weights. -/
abbrev argW (c : Dev nD) : Vec Ideal S1024x2048 .f32 := m ((c : Thread nD τ).loc main_arg3)

/-- What a grid point is given of the rows. -/
theorem blk0 (c : Dev nD) (t : Fin cfg0.N) (r : Fin 768) (k : Fin 1024) :
    (iblk m c 0 t : Vec Ideal S768x1024 .bf16) (ix2 r k) = argY m c (ix2 (row t r) k) := by
  have e : ((win0_0.blk t).view.emb (ix2 r k) : S8448x1024.Idx) = ix2 (row t r) k := by blk_ext [idx0]
  blk_simp [iblk]
  rw [V_rows, e]
  pointwise [rows]

/-- What a grid point is given of the bias. -/
theorem blk1 (c : Dev nD) (t : Fin cfg0.N) (q : Fin 2048) :
    (iblk m c 1 t : Vec Ideal S1x2048 .f32) (ix2 0 q) = argB m c (ix2 0 q) := by
  have e : ((win0_1.blk t).view.emb (ix2 0 q) : S1x2048.Idx) = ix2 0 q := by blk_ext [idx1]
  blk_simp [iblk]
  rw [V_main_arg1, e]

/-- What a grid point is given of the gain. -/
theorem blk2 (c : Dev nD) (t : Fin cfg0.N) (k : Fin 1024) :
    (iblk m c 2 t : Vec Ideal S1x1024 .f32) (ix2 0 k) = argG m c (ix2 0 k) := by
  have e : ((win0_2.blk t).view.emb (ix2 0 k) : S1x1024.Idx) = ix2 0 k := by blk_ext [idx2]
  blk_simp [iblk]
  rw [V_main_arg2, e]

/-- What a grid point is given of the weights. -/
theorem blk3 (c : Dev nD) (t : Fin cfg0.N) (n : Fin 4) (i : Fin 512) (k : Fin 1024) :
    (iblk m c 3 t : Vec Ideal S4x512x1024 .bf16) (ix3 n i k) = argW m c (ix2 k ⟨n.val * 512 + i.val, by omega⟩) := by
  have e : ((win0_3.blk t).view.emb (ix3 n i k) : S4x1024x1024.Idx) = ix3 n ⟨i.val, by omega⟩ k := by blk_ext [idx3]
  blk_simp [iblk]
  rw [V_slabs, e]
  pointwise [slabs]

/-- Part `n` of a block of the weights. -/
def slab (X : Vec Ideal S4x512x1024 .bf16) (n : Fin 4) : Vec Ideal S1x512x1024 .bf16 := fun x => X (ix3 n (x 1) (x 2))

/-- The product of the rows with one part of the weights, transposed. -/
def part (X0 : Vec Ideal S768x1024 .bf16) (W : Vec Ideal S1x512x1024 .bf16) : Vec Ideal S768x512 .f32 :=
  fun x => (∑ k : Fin 1024, (X0 (ix2 (x 0) k) * W (ix3 0 (x 1) k) : EReal) : EReal)

/-- That product as the body computes it. -/
def product (X0 : Vec Ideal S768x1024 .bf16) (W : Vec Ideal S1x512x1024 .bf16) : Vec Ideal S768x512 .f32 :=
  matmul (F := Ideal) (φ₁ := .bf16) (φ₂ := .bf16) dot_S768x1024_S512x1024_S768x512_1_1_0_0_n_n none
    (shapeCast S768x1024 X0 shapeCasts_S768x1024_S768x1024) (shapeCast S512x1024 W shapeCasts_S1x512x1024_S512x1024)
    (constant S768x512 .f32 0x00000000#32)

/-- One of the four products of the body, entry by entry a sum over the columns. -/
theorem product_eq (X0 : Vec Ideal S768x1024 .bf16) (W : Vec Ideal S1x512x1024 .bf16) : product X0 W = part X0 W := by
  funext x; pointwise [product]; rfl

/-- Element `q` of a row of the product, with the bias. -/
def lin (X0 : Vec Ideal S768x1024 .bf16) (X1 : Vec Ideal S1x2048 .f32) (X3 : Vec Ideal S4x512x1024 .bf16) (r : Fin 768) (q : Fin 2048) : EReal :=
  (∑ k : Fin 1024, (X0 (ix2 r k) * X3 (ix3 ⟨q.val / 512, by omega⟩ ⟨q.val % 512, by omega⟩ k) : EReal)) + X1 (ix2 0 q)

/-- The product with the bias as the body computes it, from the four parts. -/
theorem lin_apply (X0 : Vec Ideal S768x1024 .bf16) (X1 : Vec Ideal S1x2048 .f32) (X3 : Vec Ideal S4x512x1024 .bf16) (r : Fin 768) (q : Fin 2048) :
    (k0_pay3 X0 X1 (slab X3 0) (slab X3 1) (slab X3 2) (slab X3 3) (ix2 r q) : EReal) = lin X0 X1 X3 r q := by
  have b : (broadcastTo S768x2048 X1 broadcasts_S1x2048_S768x2048 (ix2 r q) : EReal) = X1 (ix2 0 q) := by pointwise
  show (concatenate S768x2048 1 [⟨S768x512, product X0 (slab X3 0)⟩, ⟨S768x512, product X0 (slab X3 1)⟩,
    ⟨S768x512, product X0 (slab X3 2)⟩, ⟨S768x512, product X0 (slab X3 3)⟩]
    concatenates_S768x512_S768x512_S768x512_S768x512_S768x2048_d1 (ix2 r q) : EReal)
    + broadcastTo S768x2048 X1 broadcasts_S1x2048_S768x2048 (ix2 r q) = _
  simp only [product_eq]
  exact congrArg₂ (· + ·) (concat_quarters (fun n => part X0 (slab X3 n)) _ r q) b

/-- One half of the row multiplied by the sigmoid of the other. -/
def gated (v : Fin 2048 → EReal) (k : Fin 1024) : EReal :=
  v ⟨k.val, by omega⟩ * Ideal.div 1 (1 + Ideal.exp (-(v ⟨1024 + k.val, by omega⟩)))

/-- The gated row as the body computes it. -/
theorem gate_apply (X0 : Vec Ideal S768x1024 .bf16) (X1 : Vec Ideal S1x2048 .f32) (X3 : Vec Ideal S4x512x1024 .bf16) (r : Fin 768) (k : Fin 1024) :
    (k0_pay4 X0 X1 (slab X3 0) (slab X3 1) (slab X3 2) (slab X3 3) (ix2 r k) : EReal) = gated (lin X0 X1 X3 r) k := by
  pointwise [k0_pay4]
  rw [lin_apply, lin_apply]
  have z (x : EReal) : 0 - x = -x := by rw [sub_eq_add_neg, zero_add]
  exact congrArg (fun x : EReal => lin X0 X1 X3 r ⟨k.val, by omega⟩ * Ideal.div 1 (1 + Ideal.exp x)) (z _)

/-- What the body leaves in the first result's block, for any contents of the operands' blocks. -/
theorem out4_apply (X0 : Vec Ideal S768x1024 .bf16) (X1 : Vec Ideal S1x2048 .f32) (X2 : Vec Ideal S1x1024 .f32) (X3 : Vec Ideal S4x512x1024 .bf16)
    (r : Fin 768) (q : Fin 2048) : (out0_4 X0 X1 X2 X3 (ix2 r q) : EReal) = lin X0 X1 X3 r q := by
  have l0 : View.ld X0 r0_0 = X0 := View.ld_unit_zero (S := S768x1024) (off := ![0, 0]) off2_zero _ X0
  have l1 : View.ld X1 r0_1 = X1 := View.ld_unit_zero (S := S1x2048) (off := ![0, 0]) off2_zero _ X1
  have w0 : View.ld X3 r0_3 = slab X3 0 := by funext x; pointwise [slab]
  have w1 : View.ld X3 r0_4 = slab X3 1 := by funext x; pointwise [slab]
  have w2 : View.ld X3 r0_5 = slab X3 2 := by funext x; pointwise [slab]
  have w3 : View.ld X3 r0_6 = slab X3 3 := by funext x; pointwise [slab]
  unfold out0_4
  rw [View.canon_unit_zero off2_zero, l0, l1, w0, w1, w2, w3]
  exact lin_apply X0 X1 X3 r q

/-- What the body leaves in the second result's block, for any contents of the operands' blocks. -/
theorem out5_apply (X0 : Vec Ideal S768x1024 .bf16) (X1 : Vec Ideal S1x2048 .f32) (X2 : Vec Ideal S1x1024 .f32) (X3 : Vec Ideal S4x512x1024 .bf16)
    (r : Fin 768) (k : Fin 1024) :
    (out0_5 X0 X1 X2 X3 (ix2 r k) : EReal) = normed (gated (lin X0 X1 X3 r)) (fun q => X2 (ix2 0 q)) k := by
  have l0 : View.ld X0 r0_0 = X0 := View.ld_unit_zero (S := S768x1024) (off := ![0, 0]) off2_zero _ X0
  have l1 : View.ld X1 r0_1 = X1 := View.ld_unit_zero (S := S1x2048) (off := ![0, 0]) off2_zero _ X1
  have l2 : View.ld X2 r0_2 = X2 := View.ld_unit_zero (S := S1x1024) (off := ![0, 0]) off2_zero _ X2
  have w0 : View.ld X3 r0_3 = slab X3 0 := by funext x; pointwise [slab]
  have w1 : View.ld X3 r0_4 = slab X3 1 := by funext x; pointwise [slab]
  have w2 : View.ld X3 r0_5 = slab X3 2 := by funext x; pointwise [slab]
  have w3 : View.ld X3 r0_6 = slab X3 3 := by funext x; pointwise [slab]
  unfold out0_5
  rw [View.canon_unit_zero off2_zero, l0, l1, l2, w0, w1, w2, w3]
  pointwise [k0_pay2, k0_pay5]
  simp only [gate_apply]
  rfl

/-- The product with the bias of a grid point's blocks is that of the arguments. -/
theorem lin_blk (c : Dev nD) (t : Fin cfg0.N) (r : Fin 768) (q : Fin 2048) :
    lin (iblk m c 0 t) (iblk m c 1 t) (iblk m c 3 t) r q
      = (∑ k : Fin 1024, (argY m c (ix2 (row t r) k) * argW m c (ix2 k q) : EReal)) + argB m c (ix2 0 q) := by
  have e : (⟨q.val / 512 * 512 + q.val % 512, by omega⟩ : Fin 2048) = q := Fin.ext (show q.val / 512 * 512 + q.val % 512 = q.val by omega)
  simp only [lin, blk0, blk1, blk3, e]

/-- What the run leaves in the first result array is the product with the bias, as the reference has it. -/
theorem final4 (c : Dev nD) : (dats m 0 c).arrAt 4 cfg0.N = Cert.GluRefIdeal.Read.val_main_v5 (F := Ideal)
    (argY m c) (argB m c) (argW m c) := by
  refine (dats m 0 c).arrAt_eq_of_covers 4 _ (by decide +kernel) fun t hf (y : S768x2048.Idx) => ?_
  obtain ⟨r, q, rfl⟩ : ∃ (r : Fin 768) (q : Fin 2048), y = ix2 r q :=
    ⟨y 0, y 1, funext fun a => by match a with | ⟨0, _⟩ => rfl | ⟨1, _⟩ => rfl⟩
  have e : ((win0_4.blk t).view.emb (ix2 r q) : S8448x2048.Idx) = ix2 (row t r) q := by blk_ext [idx4]
  blk_simp
  rw [after0_4, e]
  refine (out4_apply (iblk m c 0 t) (iblk m c 1 t) (iblk m c 2 t) (iblk m c 3 t) r q).trans ?_
  rw [← GluRefIdeal.Read.val_main_v5_eq, lin_blk]
  pointwise

/-- What the run leaves in the second result array is the normed gate, as the reference has it. -/
theorem final5 (c : Dev nD) : (dats m 0 c).arrAt 5 cfg0.N = Cert.GluRefIdeal.Read.val_main_v29 (F := Ideal)
    (argY m c) (argB m c) (argG m c) (argW m c) := by
  refine (dats m 0 c).arrAt_eq_of_covers 5 _ (by decide +kernel) fun t hf (y : S768x1024.Idx) => ?_
  obtain ⟨r, k, rfl⟩ : ∃ (r : Fin 768) (k : Fin 1024), y = ix2 r k :=
    ⟨y 0, y 1, funext fun a => by match a with | ⟨0, _⟩ => rfl | ⟨1, _⟩ => rfl⟩
  have e : ((win0_5.blk t).view.emb (ix2 r k) : S8448x1024.Idx) = ix2 (row t r) k := by blk_ext [idx5]
  blk_simp
  rw [after0_5, e]
  refine (out5_apply (iblk m c 0 t) (iblk m c 1 t) (iblk m c 2 t) (iblk m c 3 t) r k).trans ?_
  rw [← GluRefIdeal.Read.val_main_v29_eq]
  simp only [normed, gated, lin_blk, blk2]
  pointwise

end Cert.GluProof

end
-- ==== Proof.Gelu.lean ====
/-
  The derivative of the GELU with the error function, as the gate's backward pass computes it, is the chain rule's, wherever
  the cotangent it multiplies is a real number.
-/
module

public import proofs.«01_k».proof.Proof.Norm

@[expose] public section

noncomputable section

namespace Cert.Common

open Idealize.ShloMosaic

/-- The constant two, read from its bits. -/
theorem bits_two : Ideal.ofBits .f32 0x40000000#32 = ((2 : ℝ) : EReal) := by
  simp [Ideal.ofBits, Ideal.ieee]
  norm_cast
  norm_num

/-- The constant one half, read from its bits. -/
theorem bits_half : Ideal.ofBits .f32 0x3F000000#32 = ((1 / 2 : ℝ) : EReal) := by
  simp [Ideal.ofBits, Ideal.ieee]
  norm_cast
  norm_num

/-- The literal that stands for `2/√π` in the derivative of the error function, read from its bits. -/
theorem bits_erf_slope : Ideal.ofBits .f32 0x3F906EBB#32 = ((9465531 / 8388608 : ℝ) : EReal) := by
  simp [Ideal.ofBits, Ideal.ieee]
  norm_cast

/-- The error function at a real number is a real number. -/
theorem erf_real (r : ℝ) : ∃ e : ℝ, Ideal.erf (r : EReal) = (e : EReal) := ⟨_, rfl⟩

/-- The product of the cotangent with the derivative of the GELU at `y`, as the kernel writes it. -/
def geluGrad (a y : EReal) : EReal :=
  a * (Ideal.ofBits .f32 0x3F000000#32 * (1 + Ideal.erf (y * (((Real.sqrt 2)⁻¹ : ℝ) : EReal)))
    + y * (Ideal.exp (Ideal.ofBits .f32 0xBF000000#32 * y * y) * (((9465531 / 16777216) * (Real.sqrt 2)⁻¹ : ℝ) : EReal)))

/-- The same by the chain rule, factor by factor, the root of two divided by. -/
def geluChain (a y : EReal) : EReal :=
  Ideal.div (Ideal.ofBits .f32 0x3F906EBB#32 * (Ideal.ofBits .f32 0x3F000000#32 * y * a)
      * Ideal.exp (-(Ideal.div y (Ideal.sqrt (Ideal.ofBits .f32 0x40000000#32)) * Ideal.div y (Ideal.sqrt (Ideal.ofBits .f32 0x40000000#32)))))
      (Ideal.sqrt (Ideal.ofBits .f32 0x40000000#32))
    + Ideal.ofBits .f32 0x3F000000#32 * (a * (1 + Ideal.erf (Ideal.div y (Ideal.sqrt (Ideal.ofBits .f32 0x40000000#32)))))

/-- For a real cotangent the two agree, whatever `y` is. -/
theorem geluGrad_eq (a : ℝ) (y : EReal) : geluGrad a y = geluChain a y := by
  have hs : (0 : ℝ) < Real.sqrt 2 := Real.sqrt_pos.mpr (by norm_num)
  have hp : (0 : ℝ) < 1 / Real.sqrt 2 := by positivity
  have hh : (1 / Real.sqrt 2) * (1 / Real.sqrt 2) = 1 / 2 := by
    rw [div_mul_div_comm, one_mul, Real.mul_self_sqrt (by norm_num)]
  unfold geluGrad geluChain
  rw [bits_two, bits_half, bits_neg_half, bits_erf_slope, Ideal.sqrt_coe, if_neg (by norm_num), ← one_div (Real.sqrt 2)]
  simp only [Ideal.div_coe hs.ne']
  induction y using EReal.rec with
  | bot =>
    have h1 : ((-(1 / 2) : ℝ) : EReal) * ⊥ * ⊥ = ⊥ := by rw [EReal.coe_mul_bot_of_neg (by norm_num)]; rfl
    have h2 : (1 : EReal) + -1 = 0 := by
      rw [← EReal.coe_one, ← EReal.coe_neg, ← EReal.coe_add, add_neg_cancel, EReal.coe_zero]
    simp only [EReal.bot_mul_coe_of_pos hp, EReal.bot_mul_bot, EReal.neg_top, h1, Ideal.exp_bot, Ideal.erf_bot, h2, mul_zero, zero_mul, add_zero]
  | top =>
    have h1 : ((-(1 / 2) : ℝ) : EReal) * ⊤ * ⊤ = ⊥ := by rw [EReal.coe_mul_top_of_neg (by norm_num)]; rfl
    have h2 : (1 : EReal) + 1 = ((2 : ℝ) : EReal) := by norm_cast
    simp only [EReal.top_mul_coe_of_pos hp, EReal.top_mul_top, EReal.neg_top, h1, Ideal.exp_bot, Ideal.erf_top, h2, mul_zero, zero_mul, add_zero, zero_add]
    norm_cast
    ring
  | coe y =>
    obtain ⟨e, he⟩ := erf_real (y * (1 / Real.sqrt 2))
    have hx : -(1 / 2) * y * y = -(y * (1 / Real.sqrt 2) * (y * (1 / Real.sqrt 2))) := by
      rw [mul_mul_mul_comm, hh]; ring
    simp only [← EReal.coe_mul, ← EReal.coe_neg, he, Ideal.exp_coe, hx]
    norm_cast
    ring

/-- A sum of products of real numbers is a real number. -/
theorem sum_real {n : Nat} (f g : Fin n → EReal) (hf : ∀ q, ∃ r : ℝ, f q = r) (hg : ∀ q, ∃ r : ℝ, g q = r) :
    ∃ r : ℝ, ∑ q, f q * g q = (r : EReal) := by
  choose u hu using hf
  choose v hv using hg
  refine ⟨∑ q, u q * v q, ?_⟩
  simp only [hu, hv, ← EReal.coe_mul]
  exact (map_sum (⟨⟨Real.toEReal, EReal.coe_zero⟩, EReal.coe_add⟩ : ℝ →+ EReal) _ _).symm

/-- A number whose absolute value compares below a constant is a real number. -/
theorem real_of_bounded {x b : EReal} (h : Ideal.cmp .olt (max x (-x)) b = 1#1) : ∃ r : ℝ, x = (r : EReal) := by
  have hb : max x (-x) < b := by
    by_contra hn
    simp [Ideal.cmp, hn] at h
  have ht : max x (-x) ≠ ⊤ := (lt_of_lt_of_le hb le_top).ne
  induction x using EReal.rec with
  | bot => simp at ht
  | top => simp at ht
  | coe r => exact ⟨r, rfl⟩

end Cert.Common

end
-- ==== Proof.GluBwd.lean ====
/-
  The call `glu_bwd`: the cotangent of the gate's rows through the gate's weights, and through the GELU before them. Where the
  cotangent and the weights are real numbers, the array it leaves is the reference's.
-/
module

public import proofs.«01_k».proof.Proof.Gen.GluBwdIdeal.Value
public import proofs.«01_k».proof.Proof.Gen.GluBwdRefIdeal.Read
public import proofs.«01_k».proof.Proof.Glu
public import proofs.«01_k».proof.Proof.Gelu

@[expose] public section

set_option maxRecDepth 16384

noncomputable section

namespace Cert.GluBwdProof

open Cert.GluBwdIdeal Cert.GluBwdIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The cotangent, rounded. -/
theorem V_ct (c : Dev nD) :
    V m c main_v0 = truncf (F := Ideal) .bf16 (m ((c : Thread nD τ).loc main_arg0) : Vec Ideal S8448x2048 .f32) bitsLt_bf16_f32 := by
  simp only [V, hostOps0]
  after_results

/-- The weights, laid out as the forward call has them. -/
theorem V_slabs (c : Dev nD) :
    V m c main_v5 = GluProof.slabs (m ((c : Thread nD τ).loc main_arg2)) (m ((c : Thread nD τ).loc main_arg3)) := by
  simp only [V, hostOps0]
  after_results
  rfl

/-- The block of the cotangent at a grid point. -/
theorem idx0 : ∀ t : Fin cfg0.N, win0_0.index t = ![t.val, 0] := (by decide +kernel : ∀ t : Fin grid0.N, _)
/-- The block of the rows before the GELU. -/
theorem idx1 : ∀ t : Fin cfg0.N, win0_1.index t = ![t.val, 0] := (by decide +kernel : ∀ t : Fin grid0.N, _)
/-- Of each shard of the weights the first half is taken. -/
theorem idx2 : ∀ t : Fin cfg0.N, win0_2.index t = ![0, 0, 0] := (by decide +kernel : ∀ t : Fin grid0.N, _)
/-- The block of the result. -/
theorem idx3 : ∀ t : Fin cfg0.N, win0_3.index t = ![t.val, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- The first argument: the cotangent. -/
abbrev argD (c : Dev nD) : Vec Ideal S8448x2048 .f32 := m ((c : Thread nD τ).loc main_arg0)
/-- The second argument: the rows before the GELU. -/
abbrev argY (c : Dev nD) : Vec Ideal S8448x1024 .f32 := m ((c : Thread nD τ).loc main_arg1)
/-- The third argument: the weights. -/
abbrev argW (c : Dev nD) : Vec Ideal S1024x2048 .f32 := m ((c : Thread nD τ).loc main_arg2)

/-- What a grid point is given of the cotangent. -/
theorem blk0 (c : Dev nD) (t : Fin cfg0.N) (r : Fin 768) (q : Fin 2048) :
    (iblk m c 0 t : Vec Ideal S768x2048 .bf16) (ix2 r q) = argD m c (ix2 (row t r) q) := by
  have e : ((win0_0.blk t).view.emb (ix2 r q) : S8448x2048.Idx) = ix2 (row t r) q := by blk_ext [idx0]
  blk_simp [iblk]
  rw [V_ct, e]
  pointwise

/-- What a grid point is given of the rows before the GELU. -/
theorem blk1 (c : Dev nD) (t : Fin cfg0.N) (r : Fin 768) (k : Fin 1024) :
    (iblk m c 1 t : Vec Ideal S768x1024 .f32) (ix2 r k) = argY m c (ix2 (row t r) k) := by
  have e : ((win0_1.blk t).view.emb (ix2 r k) : S8448x1024.Idx) = ix2 (row t r) k := by blk_ext [idx1]
  blk_simp [iblk]
  rw [V_main_arg1, e]

/-- What a grid point is given of the weights. -/
theorem blk2 (c : Dev nD) (t : Fin cfg0.N) (n : Fin 4) (i : Fin 512) (k : Fin 1024) :
    (iblk m c 2 t : Vec Ideal S4x512x1024 .bf16) (ix3 n i k) = argW m c (ix2 k ⟨n.val * 512 + i.val, by omega⟩) := by
  have e : ((win0_2.blk t).view.emb (ix3 n i k) : S4x1024x1024.Idx) = ix3 n ⟨i.val, by omega⟩ k := by blk_ext [idx2]
  blk_simp [iblk]
  rw [V_slabs, e]
  pointwise [GluProof.slabs]

/-- The product of the cotangent's rows with the weights as the body computes it is a sum over the 2048 columns. -/
theorem acc_apply (X0 : Vec Ideal S768x2048 .bf16) (X2 : Vec Ideal S4x512x1024 .bf16) (r : Fin 768) (k : Fin 1024) :
    (k0_pay2 X0 (GluProof.slab X2 0) (GluProof.slab X2 1) (GluProof.slab X2 2) (GluProof.slab X2 3) (ix2 r k) : EReal)
      = ∑ q : Fin 2048, (X0 (ix2 r q) * X2 (ix3 ⟨q.val / 512, by omega⟩ ⟨q.val % 512, by omega⟩ k) : EReal) := by
  have p (n : Fin 4) (i : Fin 512) (q : Fin 2048) (h : q.val = n.val * 512 + i.val) :
      (X0 (ix2 r q) * X2 (ix3 n i k) : EReal) = X0 (ix2 r q) * X2 (ix3 ⟨q.val / 512, by omega⟩ ⟨q.val % 512, by omega⟩ k) := by
    have h1 : (⟨q.val / 512, by omega⟩ : Fin 4) = n := Fin.ext (show q.val / 512 = n.val by omega)
    have h2 : (⟨q.val % 512, by omega⟩ : Fin 512) = i := Fin.ext (show q.val % 512 = i.val by omega)
    rw [h1, h2]
  rw [sum_quarter]
  pointwise [k0_pay2, GluProof.slab]
  exact congrArg₂ (· + ·) (congrArg₂ (· + ·) (congrArg₂ (· + ·)
    (Finset.sum_congr rfl fun i _ => p 0 i _ (show i.val = 0 * 512 + i.val by omega))
    (Finset.sum_congr rfl fun i _ => p 1 i _ (show 512 + i.val = 1 * 512 + i.val by omega)))
    (Finset.sum_congr rfl fun i _ => p 2 i _ (show 1024 + i.val = 2 * 512 + i.val by omega)))
    (Finset.sum_congr rfl fun i _ => p 3 i _ (show 1536 + i.val = 3 * 512 + i.val by omega))

/-- The first named constant at the ideal instance. -/
theorem named_inv_sqrt : (Named.named (F := Ideal) (φ := .f32) κ "inv_sqrt_2" 0x3F3504F3#32 : EReal) = (((Real.sqrt 2)⁻¹ : ℝ) : EReal) :=
  IdealRules.named_const.ideal_named_scalar _ _ _ _ rfl

/-- The second named constant at the ideal instance. -/
theorem named_inv_sqrt_pi : (Named.named (F := Ideal) (φ := .f32) κ "inv_sqrt_2pi" 0x3ECC422A#32 : EReal)
    = (((9465531 / 16777216) * (Real.sqrt 2)⁻¹ : ℝ) : EReal) := IdealRules.named_const.ideal_named_scalar _ _ _ _ rfl

/-- What the body leaves in the result's block, for any contents of the operands' blocks. -/
theorem out3_apply (X0 : Vec Ideal S768x2048 .bf16) (X1 : Vec Ideal S768x1024 .f32) (X2 : Vec Ideal S4x512x1024 .bf16)
    (r : Fin 768) (k : Fin 1024) : (out0_3 X0 X1 X2 (ix2 r k) : EReal)
      = geluGrad (∑ q : Fin 2048, (X0 (ix2 r q) * X2 (ix3 ⟨q.val / 512, by omega⟩ ⟨q.val % 512, by omega⟩ k) : EReal)) (X1 (ix2 r k)) := by
  have l0 : View.ld X0 r0_0 = X0 := View.ld_unit_zero (S := S768x2048) (off := ![0, 0]) off2_zero _ X0
  have l1 : View.ld X1 r0_1 = X1 := View.ld_unit_zero (S := S768x1024) (off := ![0, 0]) off2_zero _ X1
  have w0 : View.ld X2 r0_2 = GluProof.slab X2 0 := by funext x; pointwise [GluProof.slab]
  have w1 : View.ld X2 r0_3 = GluProof.slab X2 1 := by funext x; pointwise [GluProof.slab]
  have w2 : View.ld X2 r0_4 = GluProof.slab X2 2 := by funext x; pointwise [GluProof.slab]
  have w3 : View.ld X2 r0_5 = GluProof.slab X2 3 := by funext x; pointwise [GluProof.slab]
  unfold out0_3
  rw [View.canon_unit_zero off2_zero, l0, l1, w0, w1, w2, w3, ← acc_apply]
  pointwise [k0_pay1, k0_pay3, k0_pay4, k0_pay5]
  rw [named_inv_sqrt, named_inv_sqrt_pi]
  rfl

/-- What the run leaves in the result array is the reference's, where the cotangent and the weights are real numbers. -/
theorem final (c : Dev nD) (hd : ∀ i, ∃ r : ℝ, argD m c i = (r : EReal)) (hw : ∀ i, ∃ r : ℝ, argW m c i = (r : EReal)) :
    (dats m 0 c).arrAt 3 cfg0.N = Cert.GluBwdRefIdeal.Read.val_main_v29 (F := Ideal) (argD m c) (argY m c) (argW m c) := by
  refine (dats m 0 c).arrAt_eq_of_covers 3 _ (by decide +kernel) fun t hf (y : S768x1024.Idx) => ?_
  obtain ⟨r, k, rfl⟩ : ∃ (r : Fin 768) (k : Fin 1024), y = ix2 r k :=
    ⟨y 0, y 1, funext fun a => by match a with | ⟨0, _⟩ => rfl | ⟨1, _⟩ => rfl⟩
  have e : ((win0_3.blk t).view.emb (ix2 r k) : S8448x1024.Idx) = ix2 (row t r) k := by blk_ext [idx3]
  have q' (q : Fin 2048) : (⟨q.val / 512 * 512 + q.val % 512, by omega⟩ : Fin 2048) = q :=
    Fin.ext (show q.val / 512 * 512 + q.val % 512 = q.val by omega)
  obtain ⟨a, ha⟩ := sum_real (fun q : Fin 2048 => argD m c (ix2 (row t r) q)) (fun q => argW m c (ix2 k q))
    (fun q => hd _) (fun q => hw _)
  blk_simp
  rw [after0_3, e]
  refine (out3_apply (iblk m c 0 t) (iblk m c 1 t) (iblk m c 2 t) r k).trans ?_
  simp only [blk0, blk1, blk2, q']
  rw [ha, geluGrad_eq, ← ha, ← GluBwdRefIdeal.Read.val_main_v29_eq]
  unfold geluChain
  pointwise
  rfl

end Cert.GluBwdProof

end
-- ==== Proof.Adam.lean ====
/-
  The optimiser's step of the weights that the call takes as they are, one theorem for each shape they have on a device.
  Each call leaves the change of the weights and the two new moments; entry by entry they are the reference's.
-/
module

public import proofs.«01_k».proof.Defs
public import proofs.«01_k».proof.Proof.Gen.AdamUpIdeal.Value
public import proofs.«01_k».proof.Proof.Gen.AdamUpRefIdeal.Run
public import proofs.«01_k».proof.Proof.Gen.AdamOutIdeal.Value
public import proofs.«01_k».proof.Proof.Gen.AdamOutRefIdeal.Run
public import proofs.«01_k».proof.Proof.Gen.AdamGluIdeal.Value
public import proofs.«01_k».proof.Proof.Gen.AdamGluRefIdeal.Run
public import proofs.«01_k».proof.Proof.Gen.AdamRowIdeal.Value
public import proofs.«01_k».proof.Proof.Gen.AdamRowRefIdeal.Run
public import proofs.«01_k».proof.Proof.Gen.AdamBiasIdeal.Value
public import proofs.«01_k».proof.Proof.Gen.AdamBiasRefIdeal.Run
public import proofs.«01_k».proof.Proof.Gen.AdamConvBIdeal.Value
public import proofs.«01_k».proof.Proof.Gen.AdamConvBRefIdeal.Run
public import proofs.«01_k».proof.Proof.Gen.AdamConvWIdeal.Value
public import proofs.«01_k».proof.Proof.Gen.AdamConvWRefIdeal.Run
public import proofs.«01_k».proof.Proof.Gen.AdamMetaIdeal.Value
public import proofs.«01_k».proof.Proof.Gen.AdamMetaRefIdeal.Run
public import proofs.«01_k».proof.Proof.Gen.AdamHeadsIdeal.Value
public import proofs.«01_k».proof.Proof.Gen.AdamHeadsRefIdeal.Run
public import proofs.«01_k».proof.Proof.Gen.AdamStepIdeal.Value
public import proofs.«01_k».proof.Proof.Gen.AdamStepRefIdeal.Run
public import proofs.«01_k».proof.Proof.Gen.AdamLamIdeal.Value
public import proofs.«01_k».proof.Proof.Gen.AdamLamRefIdeal.Run
public import proofs.«01_k».proof.Proof.Gen.AdamCIdeal.Value
public import proofs.«01_k».proof.Proof.Gen.AdamCRefIdeal.Run
public import proofs.«01_k».proof.Proof.Gen.AdamDIdeal.Value
public import proofs.«01_k».proof.Proof.Gen.AdamDRefIdeal.Run

@[expose] public section

noncomputable section

namespace Cert.Proof

open Idealize.ShloMosaic Idealize.SL.Sem

/-- The change of `w_up`, and of `w_down`, and the two new moments are the reference's. -/
theorem adam_up : Cert.algebraic_AdamUpIdeal_AdamUpRefIdeal := fun m ρ m' ρ' _ hagree =>
  ⟨_, _, _, AdamUpIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamUpRefIdeal.Value.run m' ρ')⟩

/-- The change of `w_out`, and the two new moments are the reference's. -/
theorem adam_out : Cert.algebraic_AdamOutIdeal_AdamOutRefIdeal := fun m ρ m' ρ' _ hagree =>
  ⟨_, _, _, AdamOutIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamOutRefIdeal.Value.run m' ρ')⟩

/-- The change of `w_glu`, and the two new moments are the reference's. -/
theorem adam_glu : Cert.algebraic_AdamGluIdeal_AdamGluRefIdeal := fun m ρ m' ρ' _ hagree =>
  ⟨_, _, _, AdamGluIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamGluRefIdeal.Value.run m' ρ')⟩

/-- The change of `g_mix`, and of the four gains of the same shape, and the two new moments are the reference's. -/
theorem adam_row : Cert.algebraic_AdamRowIdeal_AdamRowRefIdeal := fun m ρ m' ρ' _ hagree =>
  ⟨_, _, _, AdamRowIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamRowRefIdeal.Value.run m' ρ')⟩

/-- The change of `b_glu`, and the two new moments are the reference's. -/
theorem adam_bias : Cert.algebraic_AdamBiasIdeal_AdamBiasRefIdeal := fun m ρ m' ρ' _ hagree =>
  ⟨_, _, _, AdamBiasIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamBiasRefIdeal.Value.run m' ρ')⟩

/-- The change of `conv_b`, and the two new moments are the reference's. -/
theorem adam_conv_b : Cert.algebraic_AdamConvBIdeal_AdamConvBRefIdeal := fun m ρ m' ρ' _ hagree =>
  ⟨_, _, _, AdamConvBIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamConvBRefIdeal.Value.run m' ρ')⟩

/-- The change of `conv_w`, and the two new moments are the reference's. -/
theorem adam_conv_w : Cert.algebraic_AdamConvWIdeal_AdamConvWRefIdeal := fun m ρ m' ρ' _ hagree =>
  ⟨_, _, _, AdamConvWIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamConvWRefIdeal.Value.run m' ρ')⟩

/-- The change of `meta_tokens`, and the two new moments are the reference's. -/
theorem adam_meta : Cert.algebraic_AdamMetaIdeal_AdamMetaRefIdeal := fun m ρ m' ρ' _ hagree =>
  ⟨_, _, _, AdamMetaIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamMetaRefIdeal.Value.run m' ρ')⟩

/-- The change of `dt_bias`, and of `a_log` and `d_ssd`, and the two new moments are the reference's. -/
theorem adam_heads : Cert.algebraic_AdamHeadsIdeal_AdamHeadsRefIdeal := fun m ρ m' ρ' _ hagree =>
  ⟨_, _, _, AdamHeadsIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamHeadsRefIdeal.Value.run m' ρ')⟩

/-- The change of `log_step`, and the two new moments are the reference's. -/
theorem adam_step : Cert.algebraic_AdamStepIdeal_AdamStepRefIdeal := fun m ρ m' ρ' _ hagree =>
  ⟨_, _, _, AdamStepIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamStepRefIdeal.Value.run m' ρ')⟩

/-- The change of `lam_re`, and of `lam_im`, and the two new moments are the reference's. -/
theorem adam_lam : Cert.algebraic_AdamLamIdeal_AdamLamRefIdeal := fun m ρ m' ρ' _ hagree =>
  ⟨_, _, _, AdamLamIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamLamRefIdeal.Value.run m' ρ')⟩

/-- The change of `c_re`, and of `c_im`, and the two new moments are the reference's. -/
theorem adam_c : Cert.algebraic_AdamCIdeal_AdamCRefIdeal := fun m ρ m' ρ' _ hagree =>
  ⟨_, _, _, AdamCIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamCRefIdeal.Value.run m' ρ')⟩

/-- The change of `d_s5`, and the two new moments are the reference's. -/
theorem adam_d : Cert.algebraic_AdamDIdeal_AdamDRefIdeal := fun m ρ m' ρ' _ hagree =>
  ⟨_, _, _, AdamDIdeal.Value.run m ρ,
    (θ_run _ _ _).mono (fun _ h c => ⟨(h c).1.trans (by
        rw [(hagree c).1, (hagree c).2.1, (hagree c).2.2.1, (hagree c).2.2.2]; rfl),
      (h c).2.1.trans (by rw [(hagree c).2.1, (hagree c).2.2.1]; rfl),
      (h c).2.2.1.trans (by rw [(hagree c).2.1, (hagree c).2.2.2]; rfl), (h c).2.2.2⟩)
      (AdamDRefIdeal.Value.run m' ρ')⟩

end Cert.Proof

end
-- ==== Proof.AdamTurned.lean ====
/-
  The optimiser's step of `w_in`, `b_re` and `b_im`. The host turns these weights before the call, and the call leaves its
  results turned: each entry is the reference's at the entry it came from.
-/
module

public import proofs.«01_k».proof.Defs
public import proofs.«01_k».proof.Proof.Common
public import proofs.«01_k».proof.Proof.Gen.AdamInIdeal.Value
public import proofs.«01_k».proof.Proof.Gen.AdamInRefIdeal.Run
public import proofs.«01_k».proof.Proof.Gen.AdamBIdeal.Value
public import proofs.«01_k».proof.Proof.Gen.AdamBRefIdeal.Run

@[expose] public section

set_option maxRecDepth 16384

noncomputable section

namespace Cert.AdamInProof

open Cert.AdamInIdeal Cert.AdamInIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The weights and the moments are turned before the call; the gradient comes turned. -/
theorem turned (c : Dev nD) :
    V m c main_v0 = transpose S900x1024 [1, 0] (m ((c : Thread nD τ).loc main_arg0) : Vec Ideal S1024x900 .f32) transposes_S1024x900_S900x1024_1_0
    ∧ V m c main_v1 = transpose S900x1024 [1, 0] (m ((c : Thread nD τ).loc main_arg2) : Vec Ideal S1024x900 .f32) transposes_S1024x900_S900x1024_1_0
    ∧ V m c main_v2 = transpose S900x1024 [1, 0] (m ((c : Thread nD τ).loc main_arg3) : Vec Ideal S1024x900 .f32) transposes_S1024x900_S900x1024_1_0 := by
  simp only [V, hostOps0]
  refine ⟨?_, ?_, ?_⟩ <;> after_results

/-- The one block of every window starts at the array's first entry. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The call's single point is given its four operands whole. -/
theorem blocks (c : Dev nD) (t : Fin cfg0.N) : (iblk m c 0 t : Vec Ideal S900x1024 .f32) = V m c main_v0
    ∧ (iblk m c 1 t : Vec Ideal S900x1024 .f32) = V m c main_arg1 ∧ (iblk m c 2 t : Vec Ideal S900x1024 .f32) = V m c main_v1
    ∧ (iblk m c 3 t : Vec Ideal S900x1024 .f32) = V m c main_v2 := by
  have e0 (y : S900x1024.Idx) : ((win0_0.blk t).view.emb y : S900x1024.Idx) = y := by blk_ext [idx]
  have e1 (y : S900x1024.Idx) : ((win0_1.blk t).view.emb y : S900x1024.Idx) = y := by blk_ext [idx]
  have e2 (y : S900x1024.Idx) : ((win0_2.blk t).view.emb y : S900x1024.Idx) = y := by blk_ext [idx]
  have e3 (y : S900x1024.Idx) : ((win0_3.blk t).view.emb y : S900x1024.Idx) = y := by blk_ext [idx]
  refine ⟨?_, ?_, ?_, ?_⟩ <;> funext y <;> blk_simp [iblk]
  · exact congrArg _ (e0 y)
  · exact congrArg _ (e1 y)
  · exact congrArg _ (e2 y)
  · exact congrArg _ (e3 y)

/-- What the call leaves in its three arrays is what its body computes of the whole operands. -/
theorem left (c : Dev nD) : (dats m 0 c).arrAt 4 cfg0.N = out0_4 (V m c main_v0) (V m c main_arg1) (V m c main_v1) (V m c main_v2)
    ∧ (dats m 0 c).arrAt 5 cfg0.N = out0_5 (V m c main_v0) (V m c main_arg1) (V m c main_v1) (V m c main_v2)
    ∧ (dats m 0 c).arrAt 6 cfg0.N = out0_6 (V m c main_v0) (V m c main_arg1) (V m c main_v1) (V m c main_v2) := by
  refine ⟨(dats m 0 c).arrAt_eq_of_covers 4 _ (by decide +kernel) fun t hf (y : S900x1024.Idx) => ?_,
    (dats m 0 c).arrAt_eq_of_covers 5 _ (by decide +kernel) fun t hf (y : S900x1024.Idx) => ?_,
    (dats m 0 c).arrAt_eq_of_covers 6 _ (by decide +kernel) fun t hf (y : S900x1024.Idx) => ?_⟩
  all_goals obtain ⟨b0, b1, b2, b3⟩ := blocks m c t
  · have e : ((win0_4.blk t).view.emb y : S900x1024.Idx) = y := by blk_ext [idx]
    blk_simp
    rw [after0_4, e, b0, b1, b2, b3]
  · have e : ((win0_5.blk t).view.emb y : S900x1024.Idx) = y := by blk_ext [idx]
    blk_simp
    rw [after0_5, e, b0, b1, b2, b3]
  · have e : ((win0_6.blk t).view.emb y : S900x1024.Idx) = y := by blk_ext [idx]
    blk_simp
    rw [after0_6, e, b0, b1, b2, b3]

/-- The change of `w_in`, turned, and the two new moments are the reference's. -/
theorem adam_in : Cert.algebraic_AdamInIdeal_AdamInRefIdeal := fun m ρ m' ρ' _ hagree =>
  ⟨_, _, _, (θ_run _ _ _).mono (fun _ h c => ⟨(h c).1.trans (left m c).1, (h c).2.1.trans (left m c).2.1,
      (h c).2.2.1.trans (left m c).2.2, (h c).2.2.2⟩) (AdamInIdeal.Value.run_blocks m ρ),
    (θ_run _ _ _).mono (fun _ h c => by
      obtain ⟨h4, h5, h6, hr⟩ := h c
      obtain ⟨a0, a1, a2, a3⟩ := hagree c
      obtain ⟨h0, h1, h2⟩ := turned m c
      refine ⟨h4.trans ?_, h5.trans ?_, h6.trans ?_, hr⟩
      all_goals
        rw [h0, h1, h2, V_main_arg1]
        simp only [a0, a1, a2, a3, out0_4, out0_5, out0_6]
        rw [View.canon_unit_zero off2_zero]
        simp only [View.ld_unit_zero (S := S900x1024) off2_zero]
        funext (y : S900x1024.Idx)
        rw [eq_ix2 y]
        pointwise [k0_pay1, k0_pay2, k0_pay3]) (AdamInRefIdeal.Value.run m' ρ')⟩

end Cert.AdamInProof

namespace Cert.AdamBProof

open Cert.AdamBIdeal Cert.AdamBIdeal.Gen Cert.Common Idealize.ShloMosaic Idealize.ShloMosaic.TcCoe Idealize.SL.Sem
open Idealize.ShloMosaic.Pipeline (Dat)

variable (m : (ℓ : Loc nD τ sig) → Buf (Elt Ideal) ℓ)

/-- A block's offset of four zeros. -/
theorem off4_zero : (![0, 0, 0, 0] : Fin 4 → Nat) = fun _ => 0 := funext fun a => by fin_cases a <;> rfl

/-- The weights, the gradient and the moments are turned before the call. -/
theorem turned (c : Dev nD) :
    V m c main_v0 = transpose S1x64x16x64 [0, 1, 3, 2] (m ((c : Thread nD τ).loc main_arg0) : Vec Ideal S1x64x64x16 .f32) transposes_S1x64x64x16_S1x64x16x64_0_1_3_2
    ∧ V m c main_v1 = transpose S1x64x16x64 [0, 1, 3, 2] (m ((c : Thread nD τ).loc main_arg1) : Vec Ideal S1x64x64x16 .f32) transposes_S1x64x64x16_S1x64x16x64_0_1_3_2
    ∧ V m c main_v2 = transpose S1x64x16x64 [0, 1, 3, 2] (m ((c : Thread nD τ).loc main_arg2) : Vec Ideal S1x64x64x16 .f32) transposes_S1x64x64x16_S1x64x16x64_0_1_3_2
    ∧ V m c main_v3 = transpose S1x64x16x64 [0, 1, 3, 2] (m ((c : Thread nD τ).loc main_arg3) : Vec Ideal S1x64x64x16 .f32) transposes_S1x64x64x16_S1x64x16x64_0_1_3_2 := by
  simp only [V, hostOps0]
  refine ⟨?_, ?_, ?_, ?_⟩ <;> after_results

/-- The one block of every window starts at the array's first entry. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] ∧ win0_6.index t = ![0, 0, 0, 0] :=
  (by decide +kernel : ∀ t : Fin grid0.N, _)

/-- The call's single point is given its four operands whole. -/
theorem blocks (c : Dev nD) (t : Fin cfg0.N) : (iblk m c 0 t : Vec Ideal S1x64x16x64 .f32) = V m c main_v0
    ∧ (iblk m c 1 t : Vec Ideal S1x64x16x64 .f32) = V m c main_v1 ∧ (iblk m c 2 t : Vec Ideal S1x64x16x64 .f32) = V m c main_v2
    ∧ (iblk m c 3 t : Vec Ideal S1x64x16x64 .f32) = V m c main_v3 := by
  have e0 (y : S1x64x16x64.Idx) : ((win0_0.blk t).view.emb y : S1x64x16x64.Idx) = y := by blk_ext [idx]
  have e1 (y : S1x64x16x64.Idx) : ((win0_1.blk t).view.emb y : S1x64x16x64.Idx) = y := by blk_ext [idx]
  have e2 (y : S1x64x16x64.Idx) : ((win0_2.blk t).view.emb y : S1x64x16x64.Idx) = y := by blk_ext [idx]
  have e3 (y : S1x64x16x64.Idx) : ((win0_3.blk t).view.emb y : S1x64x16x64.Idx) = y := by blk_ext [idx]
  refine ⟨?_, ?_, ?_, ?_⟩ <;> funext y <;> blk_simp [iblk]
  · exact congrArg _ (e0 y)
  · exact congrArg _ (e1 y)
  · exact congrArg _ (e2 y)
  · exact congrArg _ (e3 y)

/-- What the call leaves in its three arrays is what its body computes of the whole operands. -/
theorem left (c : Dev nD) : (dats m 0 c).arrAt 4 cfg0.N = out0_4 (V m c main_v0) (V m c main_v1) (V m c main_v2) (V m c main_v3)
    ∧ (dats m 0 c).arrAt 5 cfg0.N = out0_5 (V m c main_v0) (V m c main_v1) (V m c main_v2) (V m c main_v3)
    ∧ (dats m 0 c).arrAt 6 cfg0.N = out0_6 (V m c main_v0) (V m c main_v1) (V m c main_v2) (V m c main_v3) := by
  refine ⟨(dats m 0 c).arrAt_eq_of_covers 4 _ (by decide +kernel) fun t hf (y : S1x64x16x64.Idx) => ?_,
    (dats m 0 c).arrAt_eq_of_covers 5 _ (by decide +kernel) fun t hf (y : S1x64x16x64.Idx) => ?_,
    (dats m 0 c).arrAt_eq_of_covers 6 _ (by decide +kernel) fun t hf (y : S1x64x16x64.Idx) => ?_⟩
  all_goals obtain ⟨b0, b1, b2, b3⟩ := blocks m c t
  · have e : ((win0_4.blk t).view.emb y : S1x64x16x64.Idx) = y := by blk_ext [idx]
    blk_simp
    rw [after0_4, e, b0, b1, b2, b3]
  · have e : ((win0_5.blk t).view.emb y : S1x64x16x64.Idx) = y := by blk_ext [idx]
    blk_simp
    rw [after0_5, e, b0, b1, b2, b3]
  · have e : ((win0_6.blk t).view.emb y : S1x64x16x64.Idx) = y := by blk_ext [idx]
    blk_simp
    rw [after0_6, e, b0, b1, b2, b3]

/-- The change of `b_re`, and of `b_im`, turned, and the two new moments are the reference's. -/
theorem adam_b : Cert.algebraic_AdamBIdeal_AdamBRefIdeal := fun m ρ m' ρ' _ hagree =>
  ⟨_, _, _, (θ_run _ _ _).mono (fun _ h c => ⟨(h c).1.trans (left m c).1, (h c).2.1.trans (left m c).2.1,
      (h c).2.2.1.trans (left m c).2.2, (h c).2.2.2⟩) (AdamBIdeal.Value.run_blocks m ρ),
    (θ_run _ _ _).mono (fun _ h c => by
      obtain ⟨h4, h5, h6, hr⟩ := h c
      obtain ⟨a0, a1, a2, a3⟩ := hagree c
      obtain ⟨h0, h1, h2, h3⟩ := turned m c
      refine ⟨h4.trans ?_, h5.trans ?_, h6.trans ?_, hr⟩
      all_goals
        rw [h0, h1, h2, h3]
        simp only [a0, a1, a2, a3, out0_4, out0_5, out0_6]
        rw [View.canon_unit_zero off4_zero]
        simp only [View.ld_unit_zero (S := S1x64x16x64) off4_zero]
        funext (y : S1x64x16x64.Idx)
        rw [eq_ix4 y]
        pointwise [k0_pay1, k0_pay2, k0_pay3, k0_pay4]) (AdamBRefIdeal.Value.run m' ρ')⟩

end Cert.AdamBProof

end
-- ==== Proof.Sums.lean ====
/-
  The sums of the gradients over the devices, of the parts the exchanges brought to one device: `sum8_early` and `sum8_late`
  add the eight packs of the small gradients, and `rs_sum_0`, `rs_sum_1` and `rs_sum_2` add to a device's own piece of the
  large gradients the seven pieces the other devices sent it.
-/
module

public import proofs.«01_k».proof.Defs
public import proofs.«01_k».proof.Proof.Common
public import proofs.«01_k».proof.Proof.Gen.SumEarlyIdeal.Value
public import proofs.«01_k».proof.Proof.Gen.SumEarlyRefIdeal.Run
public import proofs.«01_k».proof.Proof.Gen.SumEarlyRefIdeal.Read
public import proofs.«01_k».proof.Proof.Gen.SumLateIdeal.Value
public import proofs.«01_k».proof.Proof.Gen.SumLateRefIdeal.Run
public import proofs.«01_k».proof.Proof.Gen.SumLateRefIdeal.Read
public import proofs.«01_k».proof.Proof.Gen.RsSum0Ideal.Value
public import proofs.«01_k».proof.Proof.Gen.RsSum0RefIdeal.Run
public import proofs.«01_k».proof.Proof.Gen.RsSum0RefIdeal.Read
public import proofs.«01_k».proof.Proof.Gen.RsSum1Ideal.Value
public import proofs.«01_k».proof.Proof.Gen.RsSum1RefIdeal.Run
public import proofs.«01_k».proof.Proof.Gen.RsSum1RefIdeal.Read
public import proofs.«01_k».proof.Proof.Gen.RsSum2Ideal.Value
public import proofs.«01_k».proof.Proof.Gen.RsSum2RefIdeal.Run
public import proofs.«01_k».proof.Proof.Gen.RsSum2RefIdeal.Read

@[expose] public section

set_option maxRecDepth 16384

noncomputable section

namespace Cert.Sums

open Idealize.ShloMosaic

/-- Eight terms added one after the other are their sum. -/
theorem in_order8 (f : Fin 8 → EReal) : f 0 + f 1 + f 2 + f 3 + f 4 + f 5 + f 6 + f 7 = ∑ k, f k :=
  (Fin.sum_univ_eight f).symm

/-- Seven terms added one after the other to `a` are `a` and their sum. -/
theorem onto7 (a : EReal) (f : Fin 7 → EReal) : a + f 0 + f 1 + f 2 + f 3 + f 4 + f 5 + f 6 = a + ∑ k, f k := by
  rw [Fin.sum_univ_seven]
  simp only [add_assoc]

/-- A sum that starts from the constant zero. -/
theorem from_zero (s : EReal) : s = Ideal.ofBits .f32 0x00000000#32 + s := by
  simp [Ideal.ofBits, Ideal.ieee]

end Cert.Sums

namespace Cert.SumEarlyProof

open Cert.SumEarlyIdeal Cert.SumEarlyIdeal.Gen Cert.Common Cert.Sums Idealize.ShloMosaic Idealize.ShloMosaic.TcCoe Idealize.SL.Sem
open Idealize.ShloMosaic.Pipeline (Dat)

variable (m : (ℓ : Loc nD τ sig) → Buf (Elt Ideal) ℓ)

/-- The gathered packs, as the call is given them: pack `k` of the eight is device `k`'s. -/
def packs (x : Vec Ideal S2176x1024 .f32) : Vec Ideal S8x272x1024 .f32 := shapeCast S8x272x1024 x shapeCasts_S2176x1024_S8x272x1024

/-- The host divides the gathered array into its packs. -/
theorem divided (c : Dev nD) : V m c main_v0 = packs (m ((c : Thread nD τ).loc main_arg0)) := by
  simp only [V, hostOps0]
  after_results
  rfl

/-- The only block of each window is its array. -/
theorem idx : ∀ t : Fin cfg0.N, win0_0.index t = ![0, 0, 0] ∧ win0_1.index t = ![0, 0] := (by decide +kernel : ∀ t : Fin grid0.N, _)

/-- The body's sum of the packs at an element. -/
theorem out_apply (X : Vec Ideal S8x272x1024 .f32) (r : Fin 272) (j : Fin 1024) :
    (out0_1 X (ix2 r j) : EReal) = ∑ k : Fin 8, X (ix3 k r j) := by
  rw [out0_1, Value.canon1_eq]
  refine Eq.trans ?_ (in_order8 fun k => X (ix3 k r j))
  refine congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) ?_ ?_) ?_) ?_) ?_) ?_) ?_) ?_
  all_goals exact congrArg X (funext fun a => Fin.ext (by match a with | ⟨0, _⟩ => rfl | ⟨1, _⟩ => simp | ⟨2, _⟩ => simp))

/-- What the run leaves is the reference's sum. -/
theorem left (c : Dev nD) : (dats m 0 c).arrAt 1 cfg0.N
    = Cert.SumEarlyRefIdeal.Read.val_main_v1 (F := Ideal) (m ((c : Thread nD τ).loc main_arg0)) := by
  refine (dats m 0 c).arrAt_eq_of_covers 1 _ (by decide +kernel) fun t hf (y : S272x1024.Idx) => ?_
  obtain ⟨r, j, rfl⟩ : ∃ (r : Fin 272) (j : Fin 1024), y = ix2 r j := ⟨y 0, y 1, (ix2_eta y).symm⟩
  have e : ((win0_1.blk t).view.emb (ix2 r j) : S272x1024.Idx) = ix2 r j := by blk_ext [idx]
  blk_simp
  rw [after0_1, e, Cert.SumEarlyRefIdeal.Read.val_main_v1_apply]
  refine (out_apply _ r j).trans (Eq.trans (Finset.sum_congr rfl fun k _ => ?_) (from_zero _))
  have e0 : ((win0_0.blk t).view.emb (ix3 k r j) : S8x272x1024.Idx) = ix3 k r j := by blk_ext [idx]
  blk_simp [iblk]
  rw [divided, e0]
  exact congrArg (packs _) (funext fun a => Fin.ext (by match a with | ⟨0, _⟩ => rfl | ⟨1, _⟩ => rfl | ⟨2, _⟩ => rfl))

/-- The sum of the eight packs is the reference's. -/
theorem sum_early : Cert.algebraic_SumEarlyIdeal_SumEarlyRefIdeal := fun m ρ m' ρ' _ hagree =>
  ⟨_, (θ_run _ _ _).mono (fun _ h c => ⟨(h c).1.trans (left m c), (h c).2⟩) (SumEarlyIdeal.Value.run_blocks m ρ),
    (θ_run _ _ _).mono (fun _ h c => ⟨(h c).1.trans (by rw [← hagree c]; rfl), (h c).2⟩) (SumEarlyRefIdeal.Value.run m' ρ')⟩

end Cert.SumEarlyProof

namespace Cert.SumLateProof

open Cert.SumLateIdeal Cert.SumLateIdeal.Gen Cert.Common Cert.Sums Idealize.ShloMosaic Idealize.ShloMosaic.TcCoe Idealize.SL.Sem
open Idealize.ShloMosaic.Pipeline (Dat)

variable (m : (ℓ : Loc nD τ sig) → Buf (Elt Ideal) ℓ)

/-- The gathered packs, as the call is given them: pack `k` of the eight is device `k`'s. -/
def packs (x : Vec Ideal S256x1024 .f32) : Vec Ideal S8x32x1024 .f32 := shapeCast S8x32x1024 x shapeCasts_S256x1024_S8x32x1024

/-- The host divides the gathered array into its packs. -/
theorem divided (c : Dev nD) : V m c main_v0 = packs (m ((c : Thread nD τ).loc main_arg0)) := by
  simp only [V, hostOps0]
  after_results
  rfl

/-- The only block of each window is its array. -/
theorem idx : ∀ t : Fin cfg0.N, win0_0.index t = ![0, 0, 0] ∧ win0_1.index t = ![0, 0] := (by decide +kernel : ∀ t : Fin grid0.N, _)

/-- The body's sum of the packs at an element. -/
theorem out_apply (X : Vec Ideal S8x32x1024 .f32) (r : Fin 32) (j : Fin 1024) :
    (out0_1 X (ix2 r j) : EReal) = ∑ k : Fin 8, X (ix3 k r j) := by
  rw [out0_1, Value.canon1_eq]
  refine Eq.trans ?_ (in_order8 fun k => X (ix3 k r j))
  refine congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) ?_ ?_) ?_) ?_) ?_) ?_) ?_) ?_
  all_goals exact congrArg X (funext fun a => Fin.ext (by match a with | ⟨0, _⟩ => rfl | ⟨1, _⟩ => simp | ⟨2, _⟩ => simp))

/-- What the run leaves is the reference's sum. -/
theorem left (c : Dev nD) : (dats m 0 c).arrAt 1 cfg0.N
    = Cert.SumLateRefIdeal.Read.val_main_v1 (F := Ideal) (m ((c : Thread nD τ).loc main_arg0)) := by
  refine (dats m 0 c).arrAt_eq_of_covers 1 _ (by decide +kernel) fun t hf (y : S32x1024.Idx) => ?_
  obtain ⟨r, j, rfl⟩ : ∃ (r : Fin 32) (j : Fin 1024), y = ix2 r j := ⟨y 0, y 1, (ix2_eta y).symm⟩
  have e : ((win0_1.blk t).view.emb (ix2 r j) : S32x1024.Idx) = ix2 r j := by blk_ext [idx]
  blk_simp
  rw [after0_1, e, Cert.SumLateRefIdeal.Read.val_main_v1_apply]
  refine (out_apply _ r j).trans (Eq.trans (Finset.sum_congr rfl fun k _ => ?_) (from_zero _))
  have e0 : ((win0_0.blk t).view.emb (ix3 k r j) : S8x32x1024.Idx) = ix3 k r j := by blk_ext [idx]
  blk_simp [iblk]
  rw [divided, e0]
  exact congrArg (packs _) (funext fun a => Fin.ext (by match a with | ⟨0, _⟩ => rfl | ⟨1, _⟩ => rfl | ⟨2, _⟩ => rfl))

/-- The sum of the eight packs is the reference's. -/
theorem sum_late : Cert.algebraic_SumLateIdeal_SumLateRefIdeal := fun m ρ m' ρ' _ hagree =>
  ⟨_, (θ_run _ _ _).mono (fun _ h c => ⟨(h c).1.trans (left m c), (h c).2⟩) (SumLateIdeal.Value.run_blocks m ρ),
    (θ_run _ _ _).mono (fun _ h c => ⟨(h c).1.trans (by rw [← hagree c]; rfl), (h c).2⟩) (SumLateRefIdeal.Value.run m' ρ')⟩

end Cert.SumLateProof

namespace Cert.RsSum0Proof

open Cert.RsSum0Ideal Cert.RsSum0Ideal.Gen Cert.Common Cert.Sums Idealize.ShloMosaic Idealize.ShloMosaic.TcCoe Idealize.SL.Sem
open Idealize.ShloMosaic.Pipeline (Dat)

variable (m : (ℓ : Loc nD τ sig) → Buf (Elt Ideal) ℓ)

/-- The blocks at a grid point: the same rows of the own piece, of the seven sent pieces and of the result. -/
theorem idx : ∀ t : Fin cfg0.N, win0_0.index t = ![t.val, 0] ∧ win0_1.index t = ![0, t.val, 0] ∧ win0_2.index t = ![t.val, 0] :=
  (by decide +kernel : ∀ t : Fin grid0.N, _)

/-- Row `r` of block `t`. -/
abbrev row (t : Fin cfg0.N) (r : Fin 256) : Fin 1024 :=
  ⟨t.val * 256 + r.val, by have := t.isLt; have h : cfg0.N = 4 := N_0; omega⟩

/-- The body's sum at an element. -/
theorem out_apply (X : Vec Ideal S256x1024 .bf16) (Y : Vec Ideal S7x256x1024 .bf16) (r : Fin 256) (j : Fin 1024) :
    (out0_2 X Y (ix2 r j) : EReal) = X (ix2 r j) + ∑ k : Fin 7, Y (ix3 k r j) := by
  rw [out0_2, Value.canon2_eq]
  refine Eq.trans ?_ (onto7 (X (ix2 r j)) fun k => Y (ix3 k r j))
  refine congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) ?_ ?_) ?_) ?_) ?_) ?_) ?_) ?_
  · exact congrArg X (funext fun a => Fin.ext (by match a with | ⟨0, _⟩ => simp | ⟨1, _⟩ => simp))
  all_goals exact congrArg Y (funext fun a => Fin.ext (by match a with | ⟨0, _⟩ => rfl | ⟨1, _⟩ => simp | ⟨2, _⟩ => simp))

/-- What the run leaves is the reference's sum. -/
theorem left (c : Dev nD) : (dats m 0 c).arrAt 2 cfg0.N = Cert.RsSum0RefIdeal.Read.val_main_v3 (F := Ideal)
    (m ((c : Thread nD τ).loc main_arg0)) (m ((c : Thread nD τ).loc main_arg1)) := by
  refine (dats m 0 c).arrAt_eq_of_covers 2 _ (by decide +kernel) fun t hf (y : S256x1024.Idx) => ?_
  obtain ⟨r, j, rfl⟩ : ∃ (r : Fin 256) (j : Fin 1024), y = ix2 r j := ⟨y 0, y 1, (ix2_eta y).symm⟩
  have e : ((win0_2.blk t).view.emb (ix2 r j) : S1024x1024.Idx) = ix2 (row t r) j := by blk_ext [idx]
  have e0 : ((win0_0.blk t).view.emb (ix2 r j) : S1024x1024.Idx) = ix2 (row t r) j := by blk_ext [idx]
  blk_simp
  rw [after0_2, e, Cert.RsSum0RefIdeal.Read.val_main_v3_apply, Cert.RsSum0RefIdeal.Read.val_main_v2_apply]
  refine (out_apply _ _ r j).trans (congrArg₂ (fun x y : EReal => x + y) ?_
    (Eq.trans (Finset.sum_congr rfl fun k _ => ?_) (from_zero _)))
  · blk_simp [iblk]
    rw [V_main_arg0, e0]
    rfl
  · have e1 : ((win0_1.blk t).view.emb (ix3 k r j) : S7x1024x1024.Idx) = ix3 k (row t r) j := by blk_ext [idx]
    blk_simp [iblk]
    rw [V_main_arg1, e1]
    exact congrArg (m ((c : Thread nD τ).loc main_arg1) : Vec Ideal S7x1024x1024 .bf16)
      (funext fun a => Fin.ext (by match a with | ⟨0, _⟩ => rfl | ⟨1, _⟩ => rfl | ⟨2, _⟩ => rfl))

/-- The own piece and the seven sent ones add up to the reference's sum. -/
theorem rs_sum_0 : Cert.algebraic_RsSum0Ideal_RsSum0RefIdeal := fun m ρ m' ρ' _ hagree =>
  ⟨_, (θ_run _ _ _).mono (fun _ h c => ⟨(h c).1.trans (left m c), (h c).2⟩) (RsSum0Ideal.Value.run_blocks m ρ),
    (θ_run _ _ _).mono (fun _ h c => ⟨(h c).1.trans (by rw [← (hagree c).1, ← (hagree c).2]; rfl), (h c).2⟩) (RsSum0RefIdeal.Value.run m' ρ')⟩

end Cert.RsSum0Proof

namespace Cert.RsSum1Proof

open Cert.RsSum1Ideal Cert.RsSum1Ideal.Gen Cert.Common Cert.Sums Idealize.ShloMosaic Idealize.ShloMosaic.TcCoe Idealize.SL.Sem
open Idealize.ShloMosaic.Pipeline (Dat)

variable (m : (ℓ : Loc nD τ sig) → Buf (Elt Ideal) ℓ)

/-- The blocks at a grid point: the same rows of the own piece, of the seven sent pieces and of the result. -/
theorem idx : ∀ t : Fin cfg0.N, win0_0.index t = ![t.val, 0] ∧ win0_1.index t = ![0, t.val, 0] ∧ win0_2.index t = ![t.val, 0] :=
  (by decide +kernel : ∀ t : Fin grid0.N, _)

/-- Row `r` of block `t`. -/
abbrev row (t : Fin cfg0.N) (r : Fin 256) : Fin 512 :=
  ⟨t.val * 256 + r.val, by have := t.isLt; have h : cfg0.N = 2 := N_0; omega⟩

/-- The body's sum at an element. -/
theorem out_apply (X : Vec Ideal S256x1024 .bf16) (Y : Vec Ideal S7x256x1024 .bf16) (r : Fin 256) (j : Fin 1024) :
    (out0_2 X Y (ix2 r j) : EReal) = X (ix2 r j) + ∑ k : Fin 7, Y (ix3 k r j) := by
  rw [out0_2, Value.canon2_eq]
  refine Eq.trans ?_ (onto7 (X (ix2 r j)) fun k => Y (ix3 k r j))
  refine congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) ?_ ?_) ?_) ?_) ?_) ?_) ?_) ?_
  · exact congrArg X (funext fun a => Fin.ext (by match a with | ⟨0, _⟩ => simp | ⟨1, _⟩ => simp))
  all_goals exact congrArg Y (funext fun a => Fin.ext (by match a with | ⟨0, _⟩ => rfl | ⟨1, _⟩ => simp | ⟨2, _⟩ => simp))

/-- What the run leaves is the reference's sum. -/
theorem left (c : Dev nD) : (dats m 0 c).arrAt 2 cfg0.N = Cert.RsSum1RefIdeal.Read.val_main_v3 (F := Ideal)
    (m ((c : Thread nD τ).loc main_arg0)) (m ((c : Thread nD τ).loc main_arg1)) := by
  refine (dats m 0 c).arrAt_eq_of_covers 2 _ (by decide +kernel) fun t hf (y : S256x1024.Idx) => ?_
  obtain ⟨r, j, rfl⟩ : ∃ (r : Fin 256) (j : Fin 1024), y = ix2 r j := ⟨y 0, y 1, (ix2_eta y).symm⟩
  have e : ((win0_2.blk t).view.emb (ix2 r j) : S512x1024.Idx) = ix2 (row t r) j := by blk_ext [idx]
  have e0 : ((win0_0.blk t).view.emb (ix2 r j) : S512x1024.Idx) = ix2 (row t r) j := by blk_ext [idx]
  blk_simp
  rw [after0_2, e, Cert.RsSum1RefIdeal.Read.val_main_v3_apply, Cert.RsSum1RefIdeal.Read.val_main_v2_apply]
  refine (out_apply _ _ r j).trans (congrArg₂ (fun x y : EReal => x + y) ?_
    (Eq.trans (Finset.sum_congr rfl fun k _ => ?_) (from_zero _)))
  · blk_simp [iblk]
    rw [V_main_arg0, e0]
    rfl
  · have e1 : ((win0_1.blk t).view.emb (ix3 k r j) : S7x512x1024.Idx) = ix3 k (row t r) j := by blk_ext [idx]
    blk_simp [iblk]
    rw [V_main_arg1, e1]
    exact congrArg (m ((c : Thread nD τ).loc main_arg1) : Vec Ideal S7x512x1024 .bf16)
      (funext fun a => Fin.ext (by match a with | ⟨0, _⟩ => rfl | ⟨1, _⟩ => rfl | ⟨2, _⟩ => rfl))

/-- The own piece and the seven sent ones add up to the reference's sum. -/
theorem rs_sum_1 : Cert.algebraic_RsSum1Ideal_RsSum1RefIdeal := fun m ρ m' ρ' _ hagree =>
  ⟨_, (θ_run _ _ _).mono (fun _ h c => ⟨(h c).1.trans (left m c), (h c).2⟩) (RsSum1Ideal.Value.run_blocks m ρ),
    (θ_run _ _ _).mono (fun _ h c => ⟨(h c).1.trans (by rw [← (hagree c).1, ← (hagree c).2]; rfl), (h c).2⟩) (RsSum1RefIdeal.Value.run m' ρ')⟩

end Cert.RsSum1Proof

namespace Cert.RsSum2Proof

open Cert.RsSum2Ideal Cert.RsSum2Ideal.Gen Cert.Common Cert.Sums Idealize.ShloMosaic Idealize.ShloMosaic.TcCoe Idealize.SL.Sem
open Idealize.ShloMosaic.Pipeline (Dat)

variable (m : (ℓ : Loc nD τ sig) → Buf (Elt Ideal) ℓ)

/-- The blocks at a grid point: the same rows of the own piece, of the seven sent pieces and of the result. -/
theorem idx : ∀ t : Fin cfg0.N, win0_0.index t = ![t.val, 0] ∧ win0_1.index t = ![0, t.val, 0] ∧ win0_2.index t = ![t.val, 0] :=
  (by decide +kernel : ∀ t : Fin grid0.N, _)

/-- Row `r` of block `t`. -/
abbrev row (t : Fin cfg0.N) (r : Fin 464) : Fin 464 :=
  ⟨t.val * 464 + r.val, by have := t.isLt; have h : cfg0.N = 1 := N_0; omega⟩

/-- The body's sum at an element. -/
theorem out_apply (X : Vec Ideal S464x1024 .bf16) (Y : Vec Ideal S7x464x1024 .bf16) (r : Fin 464) (j : Fin 1024) :
    (out0_2 X Y (ix2 r j) : EReal) = X (ix2 r j) + ∑ k : Fin 7, Y (ix3 k r j) := by
  rw [out0_2, Value.canon2_eq]
  refine Eq.trans ?_ (onto7 (X (ix2 r j)) fun k => Y (ix3 k r j))
  refine congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) ?_ ?_) ?_) ?_) ?_) ?_) ?_) ?_
  · exact congrArg X (funext fun a => Fin.ext (by match a with | ⟨0, _⟩ => simp | ⟨1, _⟩ => simp))
  all_goals exact congrArg Y (funext fun a => Fin.ext (by match a with | ⟨0, _⟩ => rfl | ⟨1, _⟩ => simp | ⟨2, _⟩ => simp))

/-- What the run leaves is the reference's sum. -/
theorem left (c : Dev nD) : (dats m 0 c).arrAt 2 cfg0.N = Cert.RsSum2RefIdeal.Read.val_main_v3 (F := Ideal)
    (m ((c : Thread nD τ).loc main_arg0)) (m ((c : Thread nD τ).loc main_arg1)) := by
  refine (dats m 0 c).arrAt_eq_of_covers 2 _ (by decide +kernel) fun t hf (y : S464x1024.Idx) => ?_
  obtain ⟨r, j, rfl⟩ : ∃ (r : Fin 464) (j : Fin 1024), y = ix2 r j := ⟨y 0, y 1, (ix2_eta y).symm⟩
  have e : ((win0_2.blk t).view.emb (ix2 r j) : S464x1024.Idx) = ix2 (row t r) j := by blk_ext [idx]
  have e0 : ((win0_0.blk t).view.emb (ix2 r j) : S464x1024.Idx) = ix2 (row t r) j := by blk_ext [idx]
  blk_simp
  rw [after0_2, e, Cert.RsSum2RefIdeal.Read.val_main_v3_apply, Cert.RsSum2RefIdeal.Read.val_main_v2_apply]
  refine (out_apply _ _ r j).trans (congrArg₂ (fun x y : EReal => x + y) ?_
    (Eq.trans (Finset.sum_congr rfl fun k _ => ?_) (from_zero _)))
  · blk_simp [iblk]
    rw [V_main_arg0, e0]
    rfl
  · have e1 : ((win0_1.blk t).view.emb (ix3 k r j) : S7x464x1024.Idx) = ix3 k (row t r) j := by blk_ext [idx]
    blk_simp [iblk]
    rw [V_main_arg1, e1]
    exact congrArg (m ((c : Thread nD τ).loc main_arg1) : Vec Ideal S7x464x1024 .bf16)
      (funext fun a => Fin.ext (by match a with | ⟨0, _⟩ => rfl | ⟨1, _⟩ => rfl | ⟨2, _⟩ => rfl))

/-- The own piece and the seven sent ones add up to the reference's sum. -/
theorem rs_sum_2 : Cert.algebraic_RsSum2Ideal_RsSum2RefIdeal := fun m ρ m' ρ' _ hagree =>
  ⟨_, (θ_run _ _ _).mono (fun _ h c => ⟨(h c).1.trans (left m c), (h c).2⟩) (RsSum2Ideal.Value.run_blocks m ρ),
    (θ_run _ _ _).mono (fun _ h c => ⟨(h c).1.trans (by rw [← (hagree c).1, ← (hagree c).2]; rfl), (h c).2⟩) (RsSum2RefIdeal.Value.run m' ρ')⟩

end Cert.RsSum2Proof

end
-- ==== Proof.OutProj.lean ====
/-
  The call `out_proj`: the output projection of the mixed rows, added to the rows that enter the block, which are zero rows, the
  meta tokens and the sequence. The array it leaves is the reference's.
-/
module

public import proofs.«01_k».proof.Proof.Gen.OutProjIdeal.Value
public import proofs.«01_k».proof.Proof.Gen.OutProjRefIdeal.Read
public import proofs.«01_k».proof.Proof.Common

@[expose] public section

set_option maxRecDepth 16384

noncomputable section

namespace Cert.OutProjProof

open Cert.OutProjIdeal Cert.OutProjIdeal.Gen Cert.Common Idealize.ShloMosaic Idealize.ShloMosaic.TcCoe Idealize.SL.Sem
open Idealize.ShloMosaic.Pipeline (Dat)

/-- The half of the mixed rows that comes from the SSD heads. -/
def ssdRows {F : FTy → Type} [FloatOps F] (x : Vec F S8448x2048 .f32) : Vec F S8448x1024 .bf16 :=
  truncf .bf16 (extractStridedSlice S8448x1024 ![0, 0] x slices_S8448x2048_S8448x1024_0_0) bitsLt_bf16_f32

/-- The half of the mixed rows that comes from the S5 heads. -/
def s5Rows {F : FTy → Type} [FloatOps F] (x : Vec F S8448x2048 .f32) : Vec F S8448x1024 .bf16 :=
  truncf .bf16 (extractStridedSlice S8448x1024 ![0, 1024] x slices_S8448x2048_S8448x1024_0_1024) bitsLt_bf16_f32

/-- The weights as the kernel is given them: in each of four shards 512 rows of the one matrix, transposed, and 512 of the other. -/
def slabs {F : FTy → Type} [FloatOps F] (g : Vec F S1024x2048 .f32) (o : Vec F S2048x1024 .f32) : Vec F S4x1024x1024 .bf16 :=
  truncf .bf16 (concatenate S4x1024x1024 1
    [⟨S4x512x1024, shapeCast S4x512x1024 (transpose S2048x1024 [1, 0] g transposes_S1024x2048_S2048x1024_1_0) shapeCasts_S2048x1024_S4x512x1024⟩,
     ⟨S4x512x1024, shapeCast S4x512x1024 o shapeCasts_S2048x1024_S4x512x1024⟩] concatenates_S4x512x1024_S4x512x1024_S4x1024x1024_d1) bitsLt_bf16_f32

/-- The rows that the first block takes in place of the sequence's: zero rows and the meta tokens. -/
def metaRows {F : FTy → Type} [FloatOps F] (x : Vec F S16x1024 .f32) : Vec F S768x1024 .f32 :=
  concatenate S768x1024 0 [⟨S240x1024, broadcastInDim S240x1024 ![] bcast_S_S240x1024 (constant S_ .f32 0x00000000#32)⟩, ⟨S16x1024, x⟩,
    ⟨S512x1024, broadcastInDim S512x1024 ![] bcast_S_S512x1024 (constant S_ .f32 0x00000000#32)⟩] concatenates_S240x1024_S16x1024_S512x1024_S768x1024_d0

variable (m : (ℓ : Loc nD τ sig) → Buf (Elt Ideal) ℓ)

/-- The first operand: the SSD heads' rows. -/
theorem V_ssd (c : Dev nD) : V m c main_v1 = ssdRows (m ((c : Thread nD τ).loc main_arg0)) := by
  simp only [V, hostOps0]
  after_results
  rfl

/-- The second operand: the S5 heads' rows. -/
theorem V_s5 (c : Dev nD) : V m c main_v3 = s5Rows (m ((c : Thread nD τ).loc main_arg0)) := by
  simp only [V, hostOps0]
  after_results
  rfl

/-- The weights. -/
theorem V_slabs (c : Dev nD) : V m c main_v8 = slabs (m ((c : Thread nD τ).loc main_arg3)) (m ((c : Thread nD τ).loc main_arg4)) := by
  simp only [V, hostOps0]
  after_results
  rfl

/-- The rows that stand before the sequence. -/
theorem V_meta (c : Dev nD) : V m c main_v11 = metaRows (m ((c : Thread nD τ).loc main_arg2)) := by
  simp only [V, hostOps0]
  after_results
  rfl

/-- The block of the first operand at a grid point. -/
theorem idx0 : ∀ t : Fin cfg0.N, win0_0.index t = ![t.val, 0] := (by decide +kernel : ∀ t : Fin grid0.N, _)
/-- The block of the second operand at a grid point. -/
theorem idx1 : ∀ t : Fin cfg0.N, win0_1.index t = ![t.val, 0] := (by decide +kernel : ∀ t : Fin grid0.N, _)
/-- The first of the three parts of the sequence at a grid point: the one before the others, save at the first point. -/
theorem idx2 : ∀ t : Fin cfg0.N, win0_2.index t = ![3 * t.val - 1, 0] := (by decide +kernel : ∀ t : Fin grid0.N, _)
/-- The second of the three parts. -/
theorem idx3 : ∀ t : Fin cfg0.N, win0_3.index t = ![3 * t.val, 0] := (by decide +kernel : ∀ t : Fin grid0.N, _)
/-- The third of the three parts. -/
theorem idx4 : ∀ t : Fin cfg0.N, win0_4.index t = ![3 * t.val + 1, 0] := (by decide +kernel : ∀ t : Fin grid0.N, _)
/-- The rows before the sequence are taken whole. -/
theorem idx5 : ∀ t : Fin cfg0.N, win0_5.index t = ![0, 0] := (by decide +kernel : ∀ t : Fin grid0.N, _)
/-- Of each shard of the weights the second half is taken. -/
theorem idx6 : ∀ t : Fin cfg0.N, win0_6.index t = ![0, 1, 0] := (by decide +kernel : ∀ t : Fin grid0.N, _)
/-- The block of the result at a grid point. -/
theorem idx7 : ∀ t : Fin cfg0.N, win0_7.index t = ![t.val, 0] := (by decide +kernel : ∀ t : Fin grid0.N, _)

/-- The grid has eleven points. -/
theorem lt_eleven (t : Fin cfg0.N) : t.val < 11 := lt_of_lt_of_eq t.isLt N_0

/-- A grid point's coordinate is its number. -/
theorem coord0 : ∀ t : Fin cfg0.N, (grid0.coords t 0).val = t.val := (by decide +kernel : ∀ t : Fin grid0.N, _)

/-- Row `r` of block `t` is row `768 t + r` of the array. -/
abbrev row (t : Fin cfg0.N) (r : Fin 768) : Fin 8448 := ⟨t.val * 768 + r.val, by have := lt_eleven t; omega⟩

/-- The first argument: the mixed rows. -/
abbrev argX (c : Dev nD) : Vec Ideal S8448x2048 .f32 := m ((c : Thread nD τ).loc main_arg0)
/-- The second argument: the sequence. -/
abbrev argS (c : Dev nD) : Vec Ideal S8192x1024 .f32 := m ((c : Thread nD τ).loc main_arg1)
/-- The third argument: the meta tokens. -/
abbrev argT (c : Dev nD) : Vec Ideal S16x1024 .f32 := m ((c : Thread nD τ).loc main_arg2)
/-- The fifth argument: the weights. -/
abbrev argW (c : Dev nD) : Vec Ideal S2048x1024 .f32 := m ((c : Thread nD τ).loc main_arg4)

/-- What a grid point is given of the SSD heads' rows. -/
theorem blk0 (c : Dev nD) (t : Fin cfg0.N) (r : Fin 768) (k : Fin 1024) :
    (iblk m c 0 t : Vec Ideal S768x1024 .bf16) (ix2 r k) = argX m c (ix2 (row t r) ⟨k.val, by omega⟩) := by
  have e : ((win0_0.blk t).view.emb (ix2 r k) : S8448x1024.Idx) = ix2 (row t r) k := by blk_ext [idx0]
  blk_simp [iblk]
  rw [V_ssd, e]
  pointwise [ssdRows]

/-- What a grid point is given of the S5 heads' rows. -/
theorem blk1 (c : Dev nD) (t : Fin cfg0.N) (r : Fin 768) (k : Fin 1024) :
    (iblk m c 1 t : Vec Ideal S768x1024 .bf16) (ix2 r k) = argX m c (ix2 (row t r) ⟨1024 + k.val, by omega⟩) := by
  have e : ((win0_1.blk t).view.emb (ix2 r k) : S8448x1024.Idx) = ix2 (row t r) k := by blk_ext [idx1]
  blk_simp [iblk]
  rw [V_s5, e]
  pointwise [s5Rows]

/-- What a grid point is given of the sequence as the first part. -/
theorem blk2 (c : Dev nD) (t : Fin cfg0.N) (r : Fin 256) (k : Fin 1024) :
    (iblk m c 2 t : Vec Ideal S256x1024 .f32) (ix2 r k) = argS m c (ix2 ⟨(3 * t.val - 1) * 256 + r.val, by have := lt_eleven t; omega⟩ k) := by
  have e : ((win0_2.blk t).view.emb (ix2 r k) : S8192x1024.Idx) = ix2 ⟨(3 * t.val - 1) * 256 + r.val, by have := lt_eleven t; omega⟩ k := by
    blk_ext [idx2]
  blk_simp [iblk]
  rw [V_main_arg1, e]

/-- What a grid point is given of the sequence as the second part. -/
theorem blk3 (c : Dev nD) (t : Fin cfg0.N) (r : Fin 256) (k : Fin 1024) :
    (iblk m c 3 t : Vec Ideal S256x1024 .f32) (ix2 r k) = argS m c (ix2 ⟨3 * t.val * 256 + r.val, by have := lt_eleven t; omega⟩ k) := by
  have e : ((win0_3.blk t).view.emb (ix2 r k) : S8192x1024.Idx) = ix2 ⟨3 * t.val * 256 + r.val, by have := lt_eleven t; omega⟩ k := by
    blk_ext [idx3]
  blk_simp [iblk]
  rw [V_main_arg1, e]

/-- What a grid point is given of the sequence as the third part. -/
theorem blk4 (c : Dev nD) (t : Fin cfg0.N) (r : Fin 256) (k : Fin 1024) :
    (iblk m c 4 t : Vec Ideal S256x1024 .f32) (ix2 r k) = argS m c (ix2 ⟨(3 * t.val + 1) * 256 + r.val, by have := lt_eleven t; omega⟩ k) := by
  have e : ((win0_4.blk t).view.emb (ix2 r k) : S8192x1024.Idx) = ix2 ⟨(3 * t.val + 1) * 256 + r.val, by have := lt_eleven t; omega⟩ k := by
    blk_ext [idx4]
  blk_simp [iblk]
  rw [V_main_arg1, e]

/-- What a grid point is given of the rows before the sequence. -/
theorem blk5 (c : Dev nD) (t : Fin cfg0.N) (r : Fin 768) (k : Fin 1024) :
    (iblk m c 5 t : Vec Ideal S768x1024 .f32) (ix2 r k) = metaRows (argT m c) (ix2 r k) := by
  have e : ((win0_5.blk t).view.emb (ix2 r k) : S768x1024.Idx) = ix2 r k := by blk_ext [idx5]
  blk_simp [iblk]
  rw [V_meta, e]

/-- What a grid point is given of the weights. -/
theorem blk6 (c : Dev nD) (t : Fin cfg0.N) (n : Fin 4) (k : Fin 512) (j : Fin 1024) :
    (iblk m c 6 t : Vec Ideal S4x512x1024 .bf16) (ix3 n k j) = argW m c (ix2 ⟨n.val * 512 + k.val, by omega⟩ j) := by
  have e : ((win0_6.blk t).view.emb (ix3 n k j) : S4x1024x1024.Idx) = ix3 n ⟨512 + k.val, by omega⟩ j := by blk_ext [idx6]
  blk_simp [iblk]
  rw [V_slabs, e]
  pointwise [slabs]

/-- Part `n` of a block of the weights. -/
def slab (X : Vec Ideal S4x512x1024 .bf16) (n : Fin 4) : Vec Ideal S1x512x1024 .bf16 := fun x => X (ix3 n (x 1) (x 2))

/-- Three blocks of rows, one below the other. -/
def stack (X2 X3 X4 : Vec Ideal S256x1024 .f32) (r : Fin 768) (j : Fin 1024) : EReal :=
  if h : r.val < 256 then X2 (ix2 ⟨r.val, h⟩ j) else if h' : r.val - 256 < 256 then X3 (ix2 ⟨r.val - 256, h'⟩ j)
    else X4 (ix2 ⟨r.val - 256 - 256, by omega⟩ j)

/-- The kernel's test for the first block's first 256 rows. -/
theorem lead (n : Fin 11) (r : Fin 768) : IntOp.andi (Scalar.cmpi .eq (BitVec.ofNat 32 n.val) 0#32)
    (IntOp.cmpi .slt (BitVec.ofNat 32 r.val) 256#32) = if n.val = 0 ∧ r.val < 256 then 1#1 else 0#1 := by
  have hn : Scalar.cmpi .eq (BitVec.ofNat 32 n.val) 0#32 = if n.val = 0 then 1#1 else 0#1 := by
    revert n; decide
  have hr : IntOp.cmpi .slt (BitVec.ofNat 32 r.val) 256#32 = if r.val < 256 then 1#1 else 0#1 := by
    revert r; decide +kernel
  rw [hn, hr]
  by_cases h : n.val = 0 <;> by_cases h' : r.val < 256 <;> simp only [h, h', true_and, false_and, if_true, if_false] <;> rfl

/-- What the body leaves in the result's block, for any contents of the operands' blocks. -/
theorem out_apply (i : grid0.Coords) (X0 X1 : Vec Ideal S768x1024 .bf16) (X2 X3 X4 : Vec Ideal S256x1024 .f32) (X5 : Vec Ideal S768x1024 .f32)
    (X6 : Vec Ideal S4x512x1024 .bf16) (r : Fin 768) (j : Fin 1024) :
    (out0_7 i X0 X1 X2 X3 X4 X5 X6 (ix2 r j) : EReal) =
      (if (i 0).val = 0 ∧ r.val < 256 then X5 (ix2 r j) else stack X2 X3 X4 r j) + (
      (∑ k : Fin 512, (X0 (ix2 r ⟨k.val, by omega⟩) * X6 (ix3 0 k j) : EReal))
      + (∑ k : Fin 512, (X0 (ix2 r ⟨512 + k.val, by omega⟩) * X6 (ix3 1 k j) : EReal))
      + (∑ k : Fin 512, (X1 (ix2 r ⟨k.val, by omega⟩) * X6 (ix3 2 k j) : EReal))
      + ∑ k : Fin 512, (X1 (ix2 r ⟨512 + k.val, by omega⟩) * X6 (ix3 3 k j) : EReal)) := by
  have l0 : View.ld X0 r0_0 = X0 := View.ld_unit_zero (S := S768x1024) (off := ![0, 0]) off2_zero _ X0
  have l1 : View.ld X1 r0_0 = X1 := View.ld_unit_zero (S := S768x1024) (off := ![0, 0]) off2_zero _ X1
  have l2 : View.ld X2 r0_1 = X2 := View.ld_unit_zero (S := S256x1024) (off := ![0, 0]) off2_zero _ X2
  have l3 : View.ld X3 r0_1 = X3 := View.ld_unit_zero (S := S256x1024) (off := ![0, 0]) off2_zero _ X3
  have l4 : View.ld X4 r0_1 = X4 := View.ld_unit_zero (S := S256x1024) (off := ![0, 0]) off2_zero _ X4
  have l5 : View.ld X5 r0_0 = X5 := View.ld_unit_zero (S := S768x1024) (off := ![0, 0]) off2_zero _ X5
  have w0 : View.ld X6 r0_2 = slab X6 0 := by funext x; pointwise [slab]
  have w1 : View.ld X6 r0_3 = slab X6 1 := by funext x; pointwise [slab]
  have w2 : View.ld X6 r0_4 = slab X6 2 := by funext x; pointwise [slab]
  have w3 : View.ld X6 r0_5 = slab X6 3 := by funext x; pointwise [slab]
  unfold out0_7
  rw [View.canon_unit_zero off2_zero, l0, l1, l2, l3, l4, l5, w0, w1, w2, w3]
  pointwise [k0_pay1, k0_pay2, k0_pay3, k0_pay4, slab, stack]
  rw [lead (i 0) r]
  split_ifs <;> rfl

/-- What the run leaves in the result array is the reference's. -/
theorem final (c : Dev nD) : (dats m 0 c).arrAt 7 cfg0.N = Cert.OutProjRefIdeal.Read.val_main_v3 (F := Ideal)
    (argX m c) (argS m c) (argT m c) (argW m c) := by
  refine (dats m 0 c).arrAt_eq_of_covers 7 _ (by decide +kernel) fun t hf (y : S768x1024.Idx) => ?_
  obtain ⟨r, j, rfl⟩ : ∃ (r : Fin 768) (j : Fin 1024), y = ix2 r j :=
    ⟨y 0, y 1, funext fun a => by match a with | ⟨0, _⟩ => rfl | ⟨1, _⟩ => rfl⟩
  have e : ((win0_7.blk t).view.emb (ix2 r j) : S8448x1024.Idx) = ix2 (row t r) j := by blk_ext [idx7]
  blk_simp
  rw [after0_7, e]
  refine (out_apply (grid0.coords t) (iblk m c 0 t) (iblk m c 1 t) (iblk m c 2 t) (iblk m c 3 t) (iblk m c 4 t) (iblk m c 5 t)
    (iblk m c 6 t) r j).trans ?_
  rw [← OutProjRefIdeal.Read.val_main_v3_eq]
  simp only [stack, blk0, blk1, blk2, blk3, blk4, blk5, blk6]
  pointwise [metaRows]
  rw [sum_quarter]
  have e3 (x : Fin 512) : 1024 + (512 + x.val) = 1536 + x.val := by omega
  simp only [e3]
  have h11 := lt_eleven t
  rw [coord0]
  congr 1
  by_cases h : t.val = 0 ∧ r.val < 256
  · obtain ⟨h0, h1⟩ := h
    rw [if_pos ⟨h0, h1⟩]
    by_cases h2 : r.val < 240
    · have h3 : t.val * 768 + r.val < 240 := by omega
      rw [dif_pos h2, dif_pos h3]
    · have h3 : r.val - 240 < 16 := by omega
      have h4 : ¬ t.val * 768 + r.val < 240 := by omega
      have h5 : t.val * 768 + r.val - 240 < 16 := by omega
      rw [dif_neg h2, dif_pos h3, dif_neg h4, dif_pos h5]
      exact congrArg (argT m c) (congrArg (ix2 · j) (Fin.ext (show r.val - 240 = t.val * 768 + r.val - 240 by omega)))
  · have h4 : ¬ t.val * 768 + r.val < 240 := by omega
    have h5 : ¬ t.val * 768 + r.val - 240 < 16 := by omega
    rw [if_neg h, dif_neg h4, dif_neg h5]
    split_ifs <;> refine congrArg (argS m c) (congrArg (ix2 · j) (Fin.ext ?_)) <;> dsimp only <;> omega

end Cert.OutProjProof

end
-- ==== Proof.LossHead.lean ====
/-
  The call `final`: the norm before the loss, the squared errors and the gradient of the loss with respect to the normed rows and
  the gain. All four arrays it leaves are the reference's.
-/
module

public import proofs.«01_k».proof.Defs
public import proofs.«01_k».proof.Proof.Norm
public import proofs.«01_k».proof.Proof.OutProj
public import proofs.«01_k».proof.Proof.Gen.FinalIdeal.Value
public import proofs.«01_k».proof.Proof.Gen.FinalRefIdeal.Run
public import proofs.«01_k».proof.Proof.Gen.FinalRefIdeal.Read

@[expose] public section

set_option maxRecDepth 16384

noncomputable section

namespace Cert.FinalProof

open Cert.FinalIdeal Cert.FinalIdeal.Gen Cert.Common Idealize.ShloMosaic Idealize.ShloMosaic.TcCoe Idealize.SL.Sem
open Idealize.ShloMosaic.Pipeline (Dat)
open Cert.OutProjProof (stack lead)

variable (m : (ℓ : Loc nD τ sig) → Buf (Elt Ideal) ℓ)

/-- The blocks at a grid point: of the rows, of the three parts of the targets, of the gain and of the four results. -/
theorem idx : ∀ t : Fin cfg0.N, win0_0.index t = ![t.val, 0] ∧ win0_1.index t = ![3 * t.val - 1, 0] ∧ win0_2.index t = ![3 * t.val, 0]
    ∧ win0_3.index t = ![3 * t.val + 1, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The grid has eleven points. -/
theorem lt_eleven (t : Fin cfg0.N) : t.val < 11 := lt_of_lt_of_eq t.isLt N_0

/-- A grid point's coordinate is its number. -/
theorem coord0 : ∀ t : Fin cfg0.N, (grid0.coords t 0).val = t.val := (by decide +kernel : ∀ t : Fin grid0.N, _)

/-- Row `r` of block `t` is row `768 t + r` of the array. -/
abbrev row (t : Fin cfg0.N) (r : Fin 768) : Fin 8448 := ⟨t.val * 768 + r.val, by have := lt_eleven t; omega⟩

/-- The first argument: the rows before the norm. -/
abbrev argH (c : Dev nD) : Vec Ideal S8448x1024 .f32 := m ((c : Thread nD τ).loc main_arg0)
/-- The second argument: the targets. -/
abbrev argT (c : Dev nD) : Vec Ideal S8192x1024 .f32 := m ((c : Thread nD τ).loc main_arg1)
/-- The third argument: the gain of the norm. -/
abbrev argG (c : Dev nD) : Vec Ideal S1x1024 .f32 := m ((c : Thread nD τ).loc main_arg2)

/-- What a grid point is given of the rows. -/
theorem blk0 (c : Dev nD) (t : Fin cfg0.N) (r : Fin 768) (k : Fin 1024) :
    (iblk m c 0 t : Vec Ideal S768x1024 .f32) (ix2 r k) = argH m c (ix2 (row t r) k) := by
  have e : ((win0_0.blk t).view.emb (ix2 r k) : S8448x1024.Idx) = ix2 (row t r) k := by blk_ext [idx]
  blk_simp [iblk]
  rw [V_main_arg0, e]

/-- What a grid point is given of the targets as the first part. -/
theorem blk1 (c : Dev nD) (t : Fin cfg0.N) (r : Fin 256) (k : Fin 1024) :
    (iblk m c 1 t : Vec Ideal S256x1024 .f32) (ix2 r k) = argT m c (ix2 ⟨(3 * t.val - 1) * 256 + r.val, by have := lt_eleven t; omega⟩ k) := by
  have e : ((win0_1.blk t).view.emb (ix2 r k) : S8192x1024.Idx) = ix2 ⟨(3 * t.val - 1) * 256 + r.val, by have := lt_eleven t; omega⟩ k := by
    blk_ext [idx]
  blk_simp [iblk]
  rw [V_main_arg1, e]

/-- What a grid point is given of the targets as the second part. -/
theorem blk2 (c : Dev nD) (t : Fin cfg0.N) (r : Fin 256) (k : Fin 1024) :
    (iblk m c 2 t : Vec Ideal S256x1024 .f32) (ix2 r k) = argT m c (ix2 ⟨3 * t.val * 256 + r.val, by have := lt_eleven t; omega⟩ k) := by
  have e : ((win0_2.blk t).view.emb (ix2 r k) : S8192x1024.Idx) = ix2 ⟨3 * t.val * 256 + r.val, by have := lt_eleven t; omega⟩ k := by
    blk_ext [idx]
  blk_simp [iblk]
  rw [V_main_arg1, e]

/-- What a grid point is given of the targets as the third part. -/
theorem blk3 (c : Dev nD) (t : Fin cfg0.N) (r : Fin 256) (k : Fin 1024) :
    (iblk m c 3 t : Vec Ideal S256x1024 .f32) (ix2 r k) = argT m c (ix2 ⟨(3 * t.val + 1) * 256 + r.val, by have := lt_eleven t; omega⟩ k) := by
  have e : ((win0_3.blk t).view.emb (ix2 r k) : S8192x1024.Idx) = ix2 ⟨(3 * t.val + 1) * 256 + r.val, by have := lt_eleven t; omega⟩ k := by
    blk_ext [idx]
  blk_simp [iblk]
  rw [V_main_arg1, e]

/-- A grid point is given the whole gain. -/
theorem blk4 (c : Dev nD) (t : Fin cfg0.N) (k : Fin 1024) :
    (iblk m c 4 t : Vec Ideal S1x1024 .f32) (ix2 0 k) = argG m c (ix2 0 k) := by
  have e : ((win0_4.blk t).view.emb (ix2 0 k) : S1x1024.Idx) = ix2 0 k := by blk_ext [idx]
  blk_simp [iblk]
  rw [V_main_arg2, e]

/-- The error of an element: the normed row minus its target, and zero in the 256 rows that stand before the sequence. -/
def err (x0 : Vec Ideal S8448x1024 .f32) (x1 : Vec Ideal S8192x1024 .f32) (x2 : Vec Ideal S1x1024 .f32) (r : Fin 8448) (k : Fin 1024) : EReal :=
  if h : r.val < 256 then 0
    else x0 (ix2 r k) * invRoot (fun q => x0 (ix2 r q)) * x2 (ix2 0 k) - x1 (ix2 ⟨r.val - 256, by omega⟩ k)

/-- The reciprocal of a row's root mean square, as the body computes it. -/
theorem root_apply (X0 : Vec Ideal S768x1024 .f32) (r : Fin 768) :
    (k0_pay10 X0 (ix2 r 0) : EReal) = invRoot (fun q => X0 (ix2 r q)) := by
  pointwise [k0_pay10]
  rfl

/-- The error as the body computes it, for any contents of the operands' blocks. -/
theorem err_apply (i : grid0.Coords) (X0 : Vec Ideal S768x1024 .f32) (X1 X2 X3 : Vec Ideal S256x1024 .f32) (X4 : Vec Ideal S1x1024 .f32)
    (r : Fin 768) (k : Fin 1024) : (k0_pay8 i X0 X1 X2 X3 X4 (ix2 r k) : EReal) = if (i 0).val = 0 ∧ r.val < 256 then 0
      else X0 (ix2 r k) * invRoot (fun q => X0 (ix2 r q)) * X4 (ix2 0 k) - stack X1 X2 X3 r k := by
  pointwise [k0_pay8, stack]
  rw [lead (i 0) r]
  split_ifs <;> rfl

/-- The body's error at a grid point is that of the arguments. -/
theorem err_blk (c : Dev nD) (t : Fin cfg0.N) (r : Fin 768) (k : Fin 1024) :
    (k0_pay8 (grid0.coords t) (iblk m c 0 t) (iblk m c 1 t) (iblk m c 2 t) (iblk m c 3 t) (iblk m c 4 t) (ix2 r k) : EReal)
      = err (argH m c) (argT m c) (argG m c) (row t r) k := by
  have h11 := lt_eleven t
  rw [err_apply, coord0]
  unfold err
  by_cases h : t.val = 0 ∧ r.val < 256
  · rw [if_pos h, dif_pos (show t.val * 768 + r.val < 256 by omega)]
  · rw [if_neg h, dif_neg (show ¬ t.val * 768 + r.val < 256 by omega)]
    simp only [stack, blk0, blk1, blk2, blk3, blk4]
    congr 1
    split_ifs <;> refine congrArg (argT m c) (congrArg (ix2 · k) (Fin.ext ?_)) <;> dsimp only <;> omega

/-- The reciprocal of the number of channels, as the kernel holds it. -/
abbrev share : EReal := Ideal.ofBits .f32 0x3A800000#32

/-- The cotangent of the normed rows is the error's share. -/
theorem cot_apply (i : grid0.Coords) (X0 : Vec Ideal S768x1024 .f32) (X1 X2 X3 : Vec Ideal S256x1024 .f32) (X4 : Vec Ideal S1x1024 .f32)
    (y : S768x1024.Idx) : (k0_pay9 i X0 X1 X2 X3 X4 y : EReal) = k0_pay8 i X0 X1 X2 X3 X4 y * share := rfl

/-- The gradient of the rows as the body computes it, for any cotangent `P` of the normed rows. -/
theorem grad_apply (X0 : Vec Ideal S768x1024 .f32) (X4 : Vec Ideal S1x1024 .f32) (P : Vec Ideal S768x1024 .f32) (r : Fin 768) (k : Fin 1024) :
    (k0_pay2 X0 X4 P (k0_pay10 X0) (ix2 r k) : EReal) = divGrad (fun q => X0 (ix2 r q)) (fun q => P (ix2 r q) * X4 (ix2 0 q)) k := by
  rw [divGrad_eq]
  pointwise [k0_pay2, k0_pay1]
  simp only [root_apply]

/-- The gradient of the rows, from the arguments. -/
def grad (x0 : Vec Ideal S8448x1024 .f32) (x1 : Vec Ideal S8192x1024 .f32) (x2 : Vec Ideal S1x1024 .f32) (r : Fin 8448) (k : Fin 1024) : EReal :=
  divGrad (fun q => x0 (ix2 r q)) (fun q => err x0 x1 x2 r q * share * x2 (ix2 0 q)) k

/-- The first result's block after any grid point. -/
theorem out5_apply (c : Dev nD) (t : Fin cfg0.N) (r : Fin 768) (k : Fin 1024) :
    ((outsAt0 m c t.val t.isLt).1 (ix2 r k) : EReal) = grad (argH m c) (argT m c) (argG m c) (row t r) k := by
  have e : (k0_pay2 (iblk m c 0 t) (iblk m c 4 t)
      (k0_pay9 (grid0.coords t) (iblk m c 0 t) (iblk m c 1 t) (iblk m c 2 t) (iblk m c 3 t) (iblk m c 4 t)) (k0_pay10 (iblk m c 0 t)) (ix2 r k) : EReal)
      = grad (argH m c) (argT m c) (argG m c) (row t r) k := by
    rw [grad_apply]
    simp only [cot_apply, err_blk, blk0, blk4]
    rfl
  by_cases h : t.val % 11 = 0
  · rw [outsAt0_A m c t h]; frame_out; exact e
  · rw [outsAt0_B m c t h]; frame_out; exact e

/-- The second result's block is the first's, rounded. -/
theorem out6_apply (c : Dev nD) (t : Fin cfg0.N) (y : S768x1024.Idx) :
    ((outsAt0 m c t.val t.isLt).2.1 y : EReal) = (outsAt0 m c t.val t.isLt).1 y := by
  by_cases h : t.val % 11 = 0
  · rw [outsAt0_A m c t h]; frame_out; rfl
  · rw [outsAt0_B m c t h]; frame_out; rfl

/-- What a grid point adds to the third result, where `E` are its errors. -/
def squares (E : Vec Ideal S768x1024 .f32) (y : S8x1024.Idx) : EReal :=
  ∑ a : Fin 96, (E (ix2 (eighth a (y 0)) (y 1)) * E (ix2 (eighth a (y 0)) (y 1)) : EReal)

/-- What a grid point adds to the fourth result. -/
def part (X0 P : Vec Ideal S768x1024 .f32) (y : S8x1024.Idx) : EReal :=
  ∑ a : Fin 96, (P (ix2 (eighth a (y 0)) (y 1)) * (X0 (ix2 (eighth a (y 0)) (y 1)) * invRoot (fun q => X0 (ix2 (eighth a (y 0)) q))) : EReal)

/-- A step adds its squares to what it found. -/
theorem step7_apply (E : Vec Ideal S768x1024 .f32) (acc : Vec Ideal S8x1024 .f32) (y : S8x1024.Idx) :
    (k0_pay6 E acc y : EReal) = acc y + squares E y := by
  rw [← ix2_eta y]
  pointwise [k0_pay6, squares]

/-- A step adds its blocks' part to what it found. -/
theorem step8_apply (X0 P : Vec Ideal S768x1024 .f32) (acc : Vec Ideal S8x1024 .f32) (y : S8x1024.Idx) :
    (k0_pay7 X0 P (k0_pay10 X0) acc y : EReal) = acc y + part X0 P y := by
  rw [← ix2_eta y]
  pointwise [k0_pay7, k0_pay1, part]
  simp only [root_apply]

/-- The first step finds zero in both. -/
theorem zero_apply (y : S8x1024.Idx) : (k0_pay4 (F := Ideal) y : EReal) = 0 ∧ (k0_pay5 (F := Ideal) y : EReal) = 0 := by
  constructor
  · pointwise [k0_pay4]
  · pointwise [k0_pay5]

/-- The errors of a grid point. -/
abbrev errs (c : Dev nD) (t : Fin cfg0.N) : Vec Ideal S768x1024 .f32 :=
  k0_pay8 (grid0.coords t) (iblk m c 0 t) (iblk m c 1 t) (iblk m c 2 t) (iblk m c 3 t) (iblk m c 4 t)

/-- The cotangent of the normed rows of a grid point. -/
abbrev cots (c : Dev nD) (t : Fin cfg0.N) : Vec Ideal S768x1024 .f32 :=
  k0_pay9 (grid0.coords t) (iblk m c 0 t) (iblk m c 1 t) (iblk m c 2 t) (iblk m c 3 t) (iblk m c 4 t)

/-- What the third result's block holds after the last step. -/
theorem out7_eq (c : Dev nD) (t : Fin cfg0.N) (ht : t.val % 11 = 10) (y : S8x1024.Idx) :
    ((outsAt0 m c t.val t.isLt).2.2.1 y : EReal)
      = ∑ s : Fin 11, squares (errs m c ⟨11 * (t.val / 11) + s.val, Pipeline.run_point_lt_of_flush t ht s⟩) y := by
  rw [Pipeline.eq_sum_fin_of_reset_step_apply_of_flush (fun n h => ((outsAt0 m c n h).2.2.1 : S8x1024.Idx → EReal)) 11 (fun _ => 0)
    (fun t y => squares (errs m c t) y)
    (fun t h y => by
      rw [outsAt0_A m c t h]; frame_out
      exact (step7_apply (errs m c t) _ _).trans (by rw [(zero_apply y).1]))
    (fun t h y => by
      rw [outsAt0_B m c t h]; frame_out
      exact step7_apply (errs m c t) _ _) t ht y, zero_add]

/-- What the fourth result's block holds after the last step. -/
theorem out8_eq (c : Dev nD) (t : Fin cfg0.N) (ht : t.val % 11 = 10) (y : S8x1024.Idx) :
    ((outsAt0 m c t.val t.isLt).2.2.2 y : EReal)
      = ∑ s : Fin 11, part (iblk m c 0 ⟨11 * (t.val / 11) + s.val, Pipeline.run_point_lt_of_flush t ht s⟩)
          (cots m c ⟨11 * (t.val / 11) + s.val, Pipeline.run_point_lt_of_flush t ht s⟩) y := by
  rw [Pipeline.eq_sum_fin_of_reset_step_apply_of_flush (fun n h => ((outsAt0 m c n h).2.2.2 : S8x1024.Idx → EReal)) 11 (fun _ => 0)
    (fun t y => part (iblk m c 0 t) (cots m c t) y)
    (fun t h y => by
      rw [outsAt0_A m c t h]; frame_out
      exact (step8_apply _ (cots m c t) _ _).trans (by rw [(zero_apply y).2]))
    (fun t h y => by
      rw [outsAt0_B m c t h]; frame_out
      exact step8_apply _ (cots m c t) _ _) t ht y, zero_add]

/-- The derivative of half the mean of the squares: the steps' constants make the kernel's share. -/
theorem half_mean (e : EReal) : Ideal.div (Ideal.ofBits .f32 0x3F000000#32) (Ideal.ofBits .f32 0x44800000#32)
    * (Ideal.ofBits .f32 0x40000000#32 * e) = e * share := by
  have h1 : Ideal.ofBits .f32 0x3F000000#32 = ((1 / 2 : ℝ) : EReal) := by
    simp [Ideal.ofBits, Ideal.ieee]; norm_cast; norm_num
  have h3 : Ideal.ofBits .f32 0x40000000#32 = ((2 : ℝ) : EReal) := by
    simp [Ideal.ofBits, Ideal.ieee]; norm_cast; norm_num
  have h4 : share = ((1024⁻¹ : ℝ) : EReal) := by
    simp [share, Ideal.ofBits, Ideal.ieee]; norm_cast; norm_num
  rw [h1, h3, h4, bits_1024, Ideal.div, if_neg (by norm_num), ← EReal.coe_inv, ← mul_assoc, ← EReal.coe_mul, ← EReal.coe_mul, mul_comm]
  congr 2
  norm_num

open Cert.FinalRefIdeal.Read in
/-- The reference's error: row `r` of the sequence stands at row `256 + r`. -/
theorem refErr_apply (x0 : Vec Ideal S8448x1024 .f32) (x1 : Vec Ideal S8192x1024 .f32) (x2 : Vec Ideal S1x1024 .f32) (r : Fin 8192) (k : Fin 1024) :
    (val_main_v19 (F := Ideal) x0 x1 x2 (ix2 r k) : EReal) = err x0 x1 x2 ⟨256 + r.val, by omega⟩ k := by
  pointwise [val_main_v19, val_main_v18, val_main_v17, val_main_v16, val_main_v15, val_main_v11, val_main_v10, val_main_v9, val_main_v8,
    val_main_v7, val_main_v6, val_main_v5, val_main_v4, val_main_v3, val_main_v2, val_main_v1, val_main_v0, val_main_cst,
    val_main_cst_0, val_main_cst_1]
  unfold err
  rw [dif_neg (show ¬ (256 + r.val < 256) by omega)]
  refine congrArg₂ (fun a b : EReal => a - b) rfl (congrArg x1 (congrArg (ix2 · k) (Fin.ext ?_)))
  dsimp only; omega

open Cert.FinalRefIdeal.Read in
/-- The reference's cotangent of the normed rows. -/
theorem refCot_apply (x0 : Vec Ideal S8448x1024 .f32) (x1 : Vec Ideal S8192x1024 .f32) (x2 : Vec Ideal S1x1024 .f32) (r : Fin 8448) (k : Fin 1024) :
    (val_main_v34 (F := Ideal) x0 x1 x2 (ix2 r k) : EReal) = err x0 x1 x2 r k * share := by
  pointwise [val_main_v34, val_main_v33, val_main_v32, val_main_v31, val_main_v30, val_main_v29, val_main_v28, val_main_v22, val_main_v21,
    val_main_cst_3, val_main_cst_8, val_main_cst_9, val_main_cst_10, val_main_cst_11]
  by_cases h : r.val < 256
  · rw [dif_neg (by omega), err, dif_pos h, zero_mul]
  · rw [dif_pos (by omega), refErr_apply, half_mean]
    refine congrArg (fun r => err x0 x1 x2 r k * share) (Fin.ext ?_)
    dsimp only; omega

open Cert.FinalRefIdeal.Read in
/-- The reference's first result at an element. -/
theorem ref5_apply (x0 : Vec Ideal S8448x1024 .f32) (x1 : Vec Ideal S8192x1024 .f32) (x2 : Vec Ideal S1x1024 .f32) (r : Fin 8448) (k : Fin 1024) :
    (val_main_v50 (F := Ideal) x0 x1 x2 (ix2 r k) : EReal) = grad x0 x1 x2 r k := by
  pointwise [val_main_v50, val_main_v49, val_main_v48, val_main_v47, val_main_v46, val_main_v45, val_main_v44, val_main_v43, val_main_v42,
    val_main_v41, val_main_v40, val_main_v39, val_main_v38, val_main_v37, val_main_v36, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_12, val_main_cst_13,
    val_main_cst_14]
  simp only [Fin.sum_univ_one, refCot_apply]
  rfl

open Cert.FinalRefIdeal.Read in
/-- The reference's third result at an element: the squares of every eighth row of the sequence. -/
theorem ref7_apply (x0 : Vec Ideal S8448x1024 .f32) (x1 : Vec Ideal S8192x1024 .f32) (x2 : Vec Ideal S1x1024 .f32) (b : Fin 8) (k : Fin 1024) :
    (val_main_v75 (F := Ideal) x0 x1 x2 (ix2 b k) : EReal) = ∑ a : Fin 1024, (err x0 x1 x2 ⟨256 + (a.val * 8 + b.val), by omega⟩ k
      * err x0 x1 x2 ⟨256 + (a.val * 8 + b.val), by omega⟩ k : EReal) := by
  have e : val_main_v72 (F := Ideal) x0 x1 x2 = val_main_v19 (F := Ideal) x0 x1 x2 := rfl
  pointwise [val_main_v75, val_main_v74, val_main_v73, val_main_cst_20]
  simp only [e, refErr_apply]

open Cert.FinalRefIdeal.Read in
/-- The reference's fourth result at an element. -/
theorem ref8_apply (x0 : Vec Ideal S8448x1024 .f32) (x1 : Vec Ideal S8192x1024 .f32) (x2 : Vec Ideal S1x1024 .f32) (b : Fin 8) (k : Fin 1024) :
    (val_main_v54 (F := Ideal) x0 x1 x2 (ix2 b k) : EReal) = ∑ a : Fin 1056, (x0 (ix2 ⟨a.val * 8 + b.val, by omega⟩ k)
      * invRoot (fun q => x0 (ix2 ⟨a.val * 8 + b.val, by omega⟩ q)) * (err x0 x1 x2 ⟨a.val * 8 + b.val, by omega⟩ k * share) : EReal) := by
  pointwise [val_main_v54, val_main_v53, val_main_v52, val_main_v51, val_main_v35, val_main_v16, val_main_v15, val_main_v11, val_main_v10,
    val_main_v9, val_main_v8, val_main_v7, val_main_v6, val_main_v5, val_main_v4, val_main_cst, val_main_cst_0, val_main_cst_1,
    val_main_cst_15, val_main_cst_16]
  simp only [Fin.sum_univ_one, refCot_apply]
  rfl

/-- What the run leaves in the first result is the reference's. -/
theorem final5 (c : Dev nD) : (dats m 0 c).arrAt 5 cfg0.N
    = Cert.FinalRefIdeal.Read.val_main_v50 (F := Ideal) (argH m c) (argT m c) (argG m c) := by
  refine (dats m 0 c).arrAt_eq_of_covers 5 _ (by decide +kernel) fun t hf (y : S768x1024.Idx) => ?_
  obtain ⟨r, k, rfl⟩ : ∃ (r : Fin 768) (k : Fin 1024), y = ix2 r k := ⟨y 0, y 1, (ix2_eta y).symm⟩
  have e : ((win0_5.blk t).view.emb (ix2 r k) : S8448x1024.Idx) = ix2 (row t r) k := by blk_ext [idx]
  blk_simp
  rw [after0_5, e]
  exact (out5_apply m c t r k).trans (ref5_apply _ _ _ _ _).symm

/-- What the run leaves in the second result is the reference's. -/
theorem final6 (c : Dev nD) : (dats m 0 c).arrAt 6 cfg0.N
    = Cert.FinalRefIdeal.Read.val_main_v55 (F := Ideal) (argH m c) (argT m c) (argG m c) := by
  refine (dats m 0 c).arrAt_eq_of_covers 6 _ (by decide +kernel) fun t hf (y : S768x1024.Idx) => ?_
  obtain ⟨r, k, rfl⟩ : ∃ (r : Fin 768) (k : Fin 1024), y = ix2 r k := ⟨y 0, y 1, (ix2_eta y).symm⟩
  have e : ((win0_6.blk t).view.emb (ix2 r k) : S8448x1024.Idx) = ix2 (row t r) k := by blk_ext [idx]
  blk_simp
  rw [after0_6, e]
  exact (out6_apply m c t _).trans ((out5_apply m c t r k).trans (ref5_apply _ _ _ _ _).symm)

/-- Row `8 a + b` of block `s` is row `8 (96 s + a) + b` of the array. -/
theorem row_eighth (t : Fin cfg0.N) (s : Fin 11) (h : 11 * (t.val / 11) + s.val < cfg0.N) (a : Fin 96) (b : Fin 8) :
    row ⟨11 * (t.val / 11) + s.val, h⟩ (eighth a b) = ⟨(s.val * 96 + a.val) * 8 + b.val, by omega⟩ :=
  Fin.ext (show (11 * (t.val / 11) + s.val) * 768 + (a.val * 8 + b.val) = (s.val * 96 + a.val) * 8 + b.val by
    have := lt_eleven t; omega)

/-- A sum over all groups of eight rows whose first 32 groups are zero is the sum over the sequence's groups. -/
theorem sum_skip (f : Fin 1056 → EReal) (h : ∀ a : Fin 1056, a.val < 32 → f a = 0) :
    ∑ a : Fin 1056, f a = ∑ a : Fin 1024, f ⟨32 + a.val, by omega⟩ := by
  refine (Fin.sum_univ_add (a := 32) (b := 1024) f).trans ?_
  rw [Finset.sum_eq_zero fun a _ => h _ a.isLt, zero_add]
  rfl

/-- What the run leaves in the third result is the reference's. -/
theorem final7 (c : Dev nD) : (dats m 0 c).arrAt 7 cfg0.N
    = Cert.FinalRefIdeal.Read.val_main_v75 (F := Ideal) (argH m c) (argT m c) (argG m c) := by
  refine (dats m 0 c).arrAt_eq_of_covers 7 _ (by decide +kernel) fun t hf (y : S8x1024.Idx) => ?_
  have ht := (flush0_7 t).mp hf
  obtain ⟨b, k, rfl⟩ : ∃ (b : Fin 8) (k : Fin 1024), y = ix2 b k := ⟨y 0, y 1, (ix2_eta y).symm⟩
  have e : ((win0_7.blk t).view.emb (ix2 b k) : S8x1024.Idx) = ix2 b k := by blk_ext [idx]
  blk_simp
  rw [after0_7, e]
  have skip := sum_skip (fun a => (err (argH m c) (argT m c) (argG m c) ⟨a.val * 8 + b.val, by omega⟩ k
      * err (argH m c) (argT m c) (argG m c) ⟨a.val * 8 + b.val, by omega⟩ k : EReal)) fun a ha => by
    have h : err (argH m c) (argT m c) (argG m c) ⟨a.val * 8 + b.val, by omega⟩ k = 0 :=
      dif_pos (show a.val * 8 + b.val < 256 by omega)
    rw [h, zero_mul]
  refine (out7_eq m c t ht _).trans (Eq.trans ?_ (skip.trans (Eq.trans ?_ (ref7_apply (argH m c) (argT m c) (argG m c) b k).symm)))
  · unfold squares
    refine Fin.sum_mul_add_congr fun s a hl => ?_
    have er := (err_blk m c ⟨11 * (t.val / 11) + s.val, Pipeline.run_point_lt_of_flush t ht s⟩ (eighth a b) k).trans (by rw [row_eighth])
    exact congrArg₂ (fun x y : EReal => x * y) er er
  · refine Finset.sum_congr rfl fun a _ => ?_
    have er : (⟨(32 + a.val) * 8 + b.val, by omega⟩ : Fin 8448) = ⟨256 + (a.val * 8 + b.val), by omega⟩ := Fin.ext (by dsimp only; omega)
    dsimp only
    rw [er]

/-- What the run leaves in the fourth result is the reference's. -/
theorem final8 (c : Dev nD) : (dats m 0 c).arrAt 8 cfg0.N
    = Cert.FinalRefIdeal.Read.val_main_v54 (F := Ideal) (argH m c) (argT m c) (argG m c) := by
  refine (dats m 0 c).arrAt_eq_of_covers 8 _ (by decide +kernel) fun t hf (y : S8x1024.Idx) => ?_
  have ht := (flush0_8 t).mp hf
  obtain ⟨b, k, rfl⟩ : ∃ (b : Fin 8) (k : Fin 1024), y = ix2 b k := ⟨y 0, y 1, (ix2_eta y).symm⟩
  have e : ((win0_8.blk t).view.emb (ix2 b k) : S8x1024.Idx) = ix2 b k := by blk_ext [idx]
  blk_simp
  rw [after0_8, e]
  refine (out8_eq m c t ht _).trans (Eq.trans ?_ (ref8_apply (argH m c) (argT m c) (argG m c) b k).symm)
  unfold part
  refine Fin.sum_mul_add_congr fun s a hl => ?_
  have er := row_eighth t s (Pipeline.run_point_lt_of_flush t ht s) a b
  refine Eq.trans ?_ (mul_comm _ _)
  refine congrArg₂ (fun x y : EReal => x * y) ((cot_apply _ _ _ _ _ _ _).trans
    (congrArg (· * share) ((err_blk m c _ (eighth a b) k).trans (by rw [er])))) ?_
  refine congrArg₂ (fun x y : EReal => x * y) ((blk0 m c _ (eighth a b) k).trans (by rw [er])) ?_
  exact congrArg invRoot (funext fun q => (blk0 m c _ (eighth a b) q).trans (by rw [er]))

/-- The four results of the loss head are the reference's. -/
theorem loss_head : Cert.algebraic_FinalIdeal_FinalRefIdeal := fun m ρ m' ρ' _ hagree =>
  ⟨fun c => FinalRefIdeal.Read.val_main_v50 (F := Ideal) (argH m c) (argT m c) (argG m c),
    fun c => FinalRefIdeal.Read.val_main_v55 (F := Ideal) (argH m c) (argT m c) (argG m c),
    fun c => FinalRefIdeal.Read.val_main_v75 (F := Ideal) (argH m c) (argT m c) (argG m c),
    fun c => FinalRefIdeal.Read.val_main_v54 (F := Ideal) (argH m c) (argT m c) (argG m c),
    (θ_run _ _ _).mono (fun _ h c => ⟨(h c).1.trans (final5 m c), (h c).2.1.trans (final6 m c), (h c).2.2.1.trans (final7 m c),
      (h c).2.2.2.1.trans (final8 m c), (h c).2.2.2.2⟩) (FinalIdeal.Value.run_blocks m ρ),
    (θ_run _ _ _).mono (fun _ h c => ⟨(h c).1.trans ((FinalRefIdeal.Read.val_main_v50_eq m' c).trans (by
        rw [(hagree c).1, (hagree c).2.1, (hagree c).2.2])),
      (h c).2.1.trans ((FinalRefIdeal.Read.val_main_v55_eq m' c).trans (by rw [(hagree c).1, (hagree c).2.1, (hagree c).2.2])),
      (h c).2.2.1.trans (by
        rw [(hagree c).1, (hagree c).2.1, (hagree c).2.2]; exact FinalRefIdeal.Read.val_main_v75_eq _ _ _),
      (h c).2.2.2.1.trans (by
        rw [(hagree c).1, (hagree c).2.1, (hagree c).2.2]; exact FinalRefIdeal.Read.val_main_v54_eq _ _ _), (h c).2.2.2.2⟩)
      (FinalRefIdeal.Value.run m' ρ')⟩

end Cert.FinalProof

end
-- ==== Proof.DwIn.lean ====
/-
  The call `dw_in`: the gradient of the input projection's weights, transposed and with the columns in the order in which the
  kernels keep them, the rows taken in eleven parts whose products are added in a scratch array. The result is the reference's.
-/
module

public import proofs.«01_k».proof.Proof.Gen.DwInIdeal.Value
public import proofs.«01_k».proof.Proof.Gen.DwInRefIdeal.Run
public import proofs.«01_k».proof.Proof.Gen.DwInRefIdeal.Read
public import proofs.«01_k».proof.Proof.Common

@[expose] public section

set_option maxRecDepth 16384

noncomputable section

namespace Cert.DwInProof

open Cert.DwInIdeal Cert.DwInIdeal.Gen Cert.Common Idealize.ShloMosaic Idealize.ShloMosaic.TcCoe Idealize.SL.Sem
open Idealize.ShloMosaic.Pipeline (Dat)

/-- The normed rows that the host hands to the kernel. -/
def rows {F : FTy → Type} [FloatOps F] (x : Vec F S8448x1024 .f32) (g : Vec F S1x1024 .f32) : Vec F S8448x1024 .bf16 :=
  truncf .bf16 (mulf (mulf x (broadcastInDim S8448x1024 ![0, 1] bcast_S8448x1_S8448x1024_0_1 (Host.rsqrt (addf (Host.divf
    (broadcastInDim S8448x1 ![0] bcast_S8448_S8448x1_0 (Host.reduceAdd (mulf x x) (constant S_ .f32 0x00000000#32)
      reducesTo_S8448x1024_S8448_d1 h_S_)) (broadcastInDim S8448x1 ![] bcast_S_S8448x1 (constant S_ .f32 0x44800000#32)))
    (broadcastInDim S8448x1 ![] bcast_S_S8448x1 (constant S_ .f32 0x3727C5AC#32))))))
    (broadcastInDim S8448x1024 ![0, 1] bcast_S1x1024_S8448x1024_0_1 (broadcastInDim S1x1024 ![1] bcast_S1024_S1x1024_1
      (shapeCast S1024 g shapeCasts_S1x1024_S1024)))) bitsLt_bf16_f32

/-- The cotangent of the projection as the kernel is given it: its columns in another order, and zero columns after them. -/
def ct {F : FTy → Type} [FloatOps F] (x : Vec F S8448x3600 .f32) : Vec F S8448x3712 .bf16 :=
  truncf .bf16 (concatenate S8448x3712 1
    [⟨S8448x1024, extractStridedSlice S8448x1024 ![0, 0] x slices_S8448x3600_S8448x1024_0_0⟩,
     ⟨S8448x1024, extractStridedSlice S8448x1024 ![0, 2576] x slices_S8448x3600_S8448x1024_0_2576⟩,
     ⟨S8448x1536, extractStridedSlice S8448x1536 ![0, 1024] x slices_S8448x3600_S8448x1536_0_1024⟩,
     ⟨S8448x16, extractStridedSlice S8448x16 ![0, 2560] x slices_S8448x3600_S8448x16_0_2560⟩,
     ⟨S8448x112, broadcastInDim S8448x112 ![] bcast_S_S8448x112 (constant S_ .f32 0x00000000#32)⟩]
    concatenates_S8448x1024_S8448x1024_S8448x1536_S8448x16_S8448x112_S8448x3712_d1) bitsLt_bf16_f32

variable (m : (ℓ : Loc nD τ sig) → Buf (Elt Ideal) ℓ)

/-- The second operand: the normed rows. -/
theorem V_rows (c : Dev nD) : V m c main_v14 = rows (m ((c : Thread nD τ).loc main_arg0)) (m ((c : Thread nD τ).loc main_arg1)) := by
  simp only [V, hostOps0]
  after_results
  rfl

/-- The first operand: the cotangent. -/
theorem V_ct (c : Dev nD) : V m c main_v21 = ct (m ((c : Thread nD τ).loc main_arg2)) := by
  simp only [V, hostOps0]
  after_results
  rfl

/-- The block of the first operand at a grid point. -/
theorem idx0 : ∀ t : Fin cfg0.N, win0_0.index t = ![t.val % 11, 0] := (by decide +kernel : ∀ t : Fin grid0.N, _)
/-- The block of the second operand at a grid point. -/
theorem idx1 : ∀ t : Fin cfg0.N, win0_1.index t = ![t.val % 11, t.val / 11] := (by decide +kernel : ∀ t : Fin grid0.N, _)
/-- The block of the result at a grid point. -/
theorem idx2 : ∀ t : Fin cfg0.N, win0_2.index t = ![0, t.val / 11] := (by decide +kernel : ∀ t : Fin grid0.N, _)

/-- The half of the columns that a grid point works for. -/
abbrev halfOf (t : Fin cfg0.N) : Fin 2 := ⟨t.val / 11, by have := t.isLt; have h : cfg0.N = 22 := N_0; omega⟩

/-- Column `j` of half `n`. -/
abbrev at2 (n : Fin 2) (j : Fin 512) : Fin 1024 := ⟨n.val * 512 + j.val, by omega⟩

/-- Row `k` of a grid point's block of rows. -/
abbrev row (t : Fin cfg0.N) (k : Fin 768) : Fin 8448 := ⟨t.val % 11 * 768 + k.val, by omega⟩

/-- The first argument: the rows to be normed. -/
abbrev argH (c : Dev nD) : Vec Ideal S8448x1024 .f32 := m ((c : Thread nD τ).loc main_arg0)
/-- The second argument: the gain of the norm. -/
abbrev argG (c : Dev nD) : Vec Ideal S1x1024 .f32 := m ((c : Thread nD τ).loc main_arg1)
/-- The third argument: the cotangent of the projection. -/
abbrev argD (c : Dev nD) : Vec Ideal S8448x3600 .f32 := m ((c : Thread nD τ).loc main_arg2)

/-- The 3600 columns `x` in the order in which the kernels keep them, with zeros after them. -/
def placed (x : Fin 3600 → EReal) (q : Fin 3712) : EReal :=
  if h : q.val < 1024 then x ⟨q.val, by omega⟩
  else if h : q.val - 1024 < 1024 then x ⟨2576 + (q.val - 1024), by omega⟩
  else if h : q.val - 1024 - 1024 < 1536 then x ⟨1024 + (q.val - 1024 - 1024), by omega⟩
  else if h : q.val - 1024 - 1024 - 1536 < 16 then x ⟨2560 + (q.val - 1024 - 1024 - 1536), by omega⟩
  else 0

/-- A sum of products with placed columns is the placed columns of the sums. -/
theorem sum_placed {N : Nat} (x : Fin N → Fin 3600 → EReal) (y : Fin N → EReal) (q : Fin 3712) :
    ∑ i, placed (x i) q * y i = placed (fun p => ∑ i, x i p * y i) q := by
  unfold placed
  split_ifs
  · rfl
  · rfl
  · rfl
  · rfl
  · simp only [zero_mul, Finset.sum_const_zero]

/-- What a grid point is given of the cotangent. -/
theorem blk0 (c : Dev nD) (t : Fin cfg0.N) (k : Fin 768) (q : Fin 3712) :
    (iblk m c 0 t : Vec Ideal S768x3712 .bf16) (ix2 k q) = placed (fun p => argD m c (ix2 (row t k) p)) q := by
  have e : ((win0_0.blk t).view.emb (ix2 k q) : S8448x3712.Idx) = ix2 (row t k) q := by blk_ext [idx0]
  blk_simp [iblk]
  rw [V_ct, e]
  pointwise [ct, placed]

/-- What a grid point is given of the normed rows. -/
theorem blk1 (c : Dev nD) (t : Fin cfg0.N) (k : Fin 768) (j : Fin 512) :
    (iblk m c 1 t : Vec Ideal S768x512 .bf16) (ix2 k j)
      = normed (fun q => argH m c (ix2 (row t k) q)) (fun q => argG m c (ix2 0 q)) (at2 (halfOf t) j) := by
  have e : ((win0_1.blk t).view.emb (ix2 k j) : S8448x1024.Idx) = ix2 (row t k) (at2 (halfOf t) j) := by blk_ext [idx1]
  blk_simp [iblk]
  rw [V_rows, e]
  pointwise [rows]
  rfl

/-- The product of one block of rows. -/
def part (X0 : Vec Ideal S768x3712 .bf16) (X1 : Vec Ideal S768x512 .bf16) (y : S3712x512.Idx) : EReal :=
  ∑ k : Fin 768, (X0 (ix2 k (y 0)) * X1 (ix2 k (y 1)) : EReal)

/-- A step adds the product of its blocks to what it found. -/
theorem step_apply (X0 : Vec Ideal S768x3712 .bf16) (X1 : Vec Ideal S768x512 .bf16) (acc : Vec Ideal S3712x512 .f32) (y : S3712x512.Idx) :
    (k0_pay2 acc X0 X1 y : EReal) = acc y + part X0 X1 y := by
  rw [← ix2_eta y]
  pointwise [k0_pay2, part]

/-- The first step of a half finds zero. -/
theorem zero_apply (y : S3712x512.Idx) : (k0_pay1 (F := Ideal) y : EReal) = 0 := by
  pointwise [k0_pay1]

/-- What the scratch array holds after the last step of a half: the eleven products, added. -/
theorem scratch_eq (c : Dev nD) (t : Fin cfg0.N) (ht : t.val % 11 = 10) (y : S3712x512.Idx) :
    ((outsAt0 m c t.val t.isLt).2 y : EReal) = ∑ s : Fin 11, part
      (iblk m c 0 ⟨11 * (t.val / 11) + s.val, Pipeline.run_point_lt_of_flush t ht s⟩)
      (iblk m c 1 ⟨11 * (t.val / 11) + s.val, Pipeline.run_point_lt_of_flush t ht s⟩) y := by
  rw [Pipeline.eq_sum_fin_of_reset_step_apply_of_flush (fun n h => ((outsAt0 m c n h).2 : S3712x512.Idx → EReal)) 11 (fun _ => 0)
    (fun t y => part (iblk m c 0 t) (iblk m c 1 t) y)
    (fun t h y => by rw [outsAt0_A m c t h (by omega)]; frame_out; rw [step_apply, zero_apply])
    (fun t h y => by
      by_cases h2 : t.val % 11 = 10
      · rw [outsAt0_C m c t h h2]; frame_out; rw [step_apply, read_unread_whole]
      · rw [outsAt0_B m c t h h2]; frame_out; rw [step_apply, read_unread_whole]) t ht y, zero_add]

/-- What the last step of a half leaves in the result's block is what it leaves in the scratch array. -/
theorem out_apply (c : Dev nD) (t : Fin cfg0.N) (ht : t.val % 11 = 10) (q : Fin 3712) (j : Fin 512) :
    ((outsAt0 m c t.val t.isLt).1 (ix2 q j) : EReal) = (outsAt0 m c t.val t.isLt).2 (ix2 q j) := by
  rw [outsAt0_C m c t (by omega) ht]
  frame_out
  pointwise [k0_pay3]

open Cert.DwInRefIdeal.Read in
/-- The reference's result at an element. -/
theorem ref_apply (x0 : Vec Ideal S8448x1024 .f32) (x1 : Vec Ideal S1x1024 .f32) (x2 : Vec Ideal S8448x3600 .f32) (q : Fin 3712) (j : Fin 1024) :
    (Cert.DwInRefIdeal.Read.val_main_v25 (F := Ideal) x0 x1 x2 (ix2 q j) : EReal) = placed (fun p => ∑ k : Fin 8448,
      (x2 (ix2 k p) * normed (fun q => x0 (ix2 k q)) (fun q => x1 (ix2 0 q)) j : EReal)) q := by
  pointwise [val_main_v25, val_main_v24, val_main_v23, val_main_v22, val_main_cst_3, val_main_v21, val_main_v20, val_main_v19,
    val_main_v18, val_main_v17, val_main_v16, val_main_v14, val_main_v13, val_main_v12, val_main_v11, val_main_v10, val_main_v9,
    val_main_v8, val_main_v7, val_main_cst_2, val_main_v6, val_main_v5, val_main_cst_1, val_main_v4, val_main_v3, val_main_cst_0,
    val_main_v2, val_main_v1, placed]
  rfl

/-- What the run leaves in the result is the reference's. -/
theorem final (c : Dev nD) : (dats m 0 c).arrAt 2 cfg0.N = Cert.DwInRefIdeal.Read.val_main_v25 (F := Ideal)
    (argH m c) (argG m c) (argD m c) := by
  refine (dats m 0 c).arrAt_eq_of_covers 2 _ (by decide +kernel) fun t hf (y : S3712x512.Idx) => ?_
  have ht := (flush0_2 t).mp hf
  obtain ⟨q, j, rfl⟩ : ∃ (q : Fin 3712) (j : Fin 512), y = ix2 q j := ⟨y 0, y 1, (ix2_eta y).symm⟩
  have e : ((win0_2.blk t).view.emb (ix2 q j) : S3712x1024.Idx) = ix2 q (at2 (halfOf t) j) := by blk_ext [idx2]
  blk_simp
  rw [after0_2, e]
  refine (out_apply m c t ht q j).trans ((scratch_eq m c t ht _).trans ?_)
  refine Eq.trans ?_ (ref_apply (argH m c) (argG m c) (argD m c) q (at2 (halfOf t) j)).symm
  rw [← sum_placed]
  simp only [part]
  refine Fin.sum_mul_add_congr fun s k hl => ?_
  have er : row ⟨11 * (t.val / 11) + s.val, Pipeline.run_point_lt_of_flush t ht s⟩ k = ⟨s.val * 768 + k.val, hl⟩ :=
    Fin.ext (show (11 * (t.val / 11) + s.val) % 11 * 768 + k.val = s.val * 768 + k.val by omega)
  have es : halfOf ⟨11 * (t.val / 11) + s.val, Pipeline.run_point_lt_of_flush t ht s⟩ = halfOf t :=
    Fin.ext (show (11 * (t.val / 11) + s.val) / 11 = t.val / 11 by omega)
  exact congrArg₂ (fun a b : EReal => a * b) ((blk0 m c _ k q).trans (by rw [er])) ((blk1 m c _ k j).trans (by rw [er, es]))

end Cert.DwInProof

end
-- ==== Proof.DwOutA.lean ====
/-
  The call `dw_out_a`: the gradient of the half of w_out that belongs to the SSD heads, the rows taken in three parts whose
  products are added in a scratch array. The rows of the result that the call writes are the reference's.
-/
module

public import proofs.«01_k».proof.Proof.Gen.DwOutAIdeal.Value
public import proofs.«01_k».proof.Proof.Gen.DwOutARefIdeal.Read
public import proofs.«01_k».proof.Proof.Common

@[expose] public section

set_option maxRecDepth 16384

noncomputable section

namespace Cert.DwOutAProof

open Cert.DwOutAIdeal Cert.DwOutAIdeal.Gen Cert.Common Idealize.ShloMosaic Idealize.ShloMosaic.TcCoe Idealize.SL.Sem
open Idealize.ShloMosaic.Pipeline (Dat)

/-- The half of the mixed rows that the host hands to the kernel. -/
def rows {F : FTy → Type} [FloatOps F] (x : Vec F S8448x2048 .f32) : Vec F S8448x1024 .bf16 :=
  truncf .bf16 (extractStridedSlice S8448x1024 ![0, 0] x slices_S8448x2048_S8448x1024_0_0) bitsLt_bf16_f32

/-- The cotangent of the product as the kernel is given it. -/
def ct {F : FTy → Type} [FloatOps F] (x : Vec F S8448x1024 .f32) : Vec F S8448x1024 .bf16 := truncf .bf16 x bitsLt_bf16_f32

variable (m : (ℓ : Loc nD τ sig) → Buf (Elt Ideal) ℓ)

/-- The first operand: a half of the mixed rows. -/
theorem V_rows (c : Dev nD) : V m c main_v1 = rows (m ((c : Thread nD τ).loc main_arg0)) := by
  simp only [V, hostOps0]
  after_results
  rfl

/-- The second operand: the cotangent. -/
theorem V_ct (c : Dev nD) : V m c main_v2 = ct (m ((c : Thread nD τ).loc main_arg1)) := by
  simp only [V, hostOps0]
  after_results
  rfl

/-- The block of the first operand at a grid point. -/
theorem idx0 : ∀ t : Fin cfg0.N, win0_0.index t = ![t.val % 3, t.val / 3] := (by decide +kernel : ∀ t : Fin grid0.N, _)
/-- The block of the second operand at a grid point. -/
theorem idx1 : ∀ t : Fin cfg0.N, win0_1.index t = ![t.val % 3, 0] := (by decide +kernel : ∀ t : Fin grid0.N, _)
/-- The block of the result at a grid point. -/
theorem idx2 : ∀ t : Fin cfg0.N, win0_2.index t = ![t.val / 3, 1, 0] := (by decide +kernel : ∀ t : Fin grid0.N, _)

/-- The shard a grid point works for. -/
abbrev slabOf (t : Fin cfg0.N) : Fin 2 := ⟨t.val / 3, by have := t.isLt; have h : cfg0.N = 6 := N_0; omega⟩

/-- Row `k` of a grid point's block of rows. -/
abbrev row (t : Fin cfg0.N) (k : Fin 2816) : Fin 8448 := ⟨t.val % 3 * 2816 + k.val, by omega⟩

/-- The first argument: the mixed rows. -/
abbrev argX (c : Dev nD) : Vec Ideal S8448x2048 .f32 := m ((c : Thread nD τ).loc main_arg0)
/-- The second argument: the cotangent of the product. -/
abbrev argD (c : Dev nD) : Vec Ideal S8448x1024 .f32 := m ((c : Thread nD τ).loc main_arg1)

/-- What a grid point is given of the first operand. -/
theorem blk0 (c : Dev nD) (t : Fin cfg0.N) (k : Fin 2816) (i : Fin 512) :
    (iblk m c 0 t : Vec Ideal S2816x512 .bf16) (ix2 k i) = argX m c (ix2 (row t k) ⟨((slabOf t).val * 512 + i.val), by omega⟩) := by
  have e : ((win0_0.blk t).view.emb (ix2 k i) : S8448x1024.Idx) = ix2 (row t k) ⟨(slabOf t).val * 512 + i.val, by omega⟩ := by blk_ext [idx0]
  blk_simp [iblk]
  rw [V_rows, e]
  pointwise [rows]

/-- What a grid point is given of the second operand. -/
theorem blk1 (c : Dev nD) (t : Fin cfg0.N) (k : Fin 2816) (i : Fin 1024) :
    (iblk m c 1 t : Vec Ideal S2816x1024 .bf16) (ix2 k i) = argD m c (ix2 (row t k) i) := by
  have e : ((win0_1.blk t).view.emb (ix2 k i) : S8448x1024.Idx) = ix2 (row t k) i := by blk_ext [idx1]
  blk_simp [iblk]
  rw [V_ct, e]
  pointwise [ct]

/-- The product of one block of rows. -/
def part (X0 : Vec Ideal S2816x512 .bf16) (X1 : Vec Ideal S2816x1024 .bf16) (y : S512x1024.Idx) : EReal :=
  ∑ k : Fin 2816, (X0 (ix2 k (y 0)) * X1 (ix2 k (y 1)) : EReal)

/-- A step adds the product of its blocks to what it found. -/
theorem step_apply (X0 : Vec Ideal S2816x512 .bf16) (X1 : Vec Ideal S2816x1024 .bf16) (acc : Vec Ideal S512x1024 .f32) (y : S512x1024.Idx) :
    (k0_pay2 X0 acc X1 y : EReal) = acc y + part X0 X1 y := by
  rw [← ix2_eta y]
  pointwise [k0_pay2, part]

/-- The first step of a slab finds zero. -/
theorem zero_apply (y : S512x1024.Idx) : (k0_pay1 (F := Ideal) y : EReal) = 0 := by
  pointwise [k0_pay1]

/-- What the scratch array holds after the last step of a slab: the three products, added. -/
theorem scratch_eq (c : Dev nD) (t : Fin cfg0.N) (ht : t.val % 3 = 2) (y : S512x1024.Idx) :
    ((outsAt0 m c t.val t.isLt).2 y : EReal) = ∑ s : Fin 3, part
      (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => ((outsAt0 m c n h).2 : S512x1024.Idx → EReal)) 3 (fun _ => 0)
    (fun t y => part (iblk m c 0 t) (iblk m c 1 t) y)
    (fun t h y => by rw [outsAt0_A m c t h (by omega)]; frame_out; rw [step_apply, zero_apply])
    (fun t h y => by
      by_cases h2 : t.val % 3 = 2
      · rw [outsAt0_C m c t h h2]; frame_out; rw [step_apply, read_unread_whole]
      · rw [outsAt0_B m c t h h2]; frame_out; rw [step_apply, read_unread_whole]) t ht y, zero_add]

/-- What the last step of a slab leaves in the result's block is what it leaves in the scratch array. -/
theorem out_apply (c : Dev nD) (t : Fin cfg0.N) (ht : t.val % 3 = 2) (i : Fin 512) (j : Fin 1024) :
    ((outsAt0 m c t.val t.isLt).1 (ix3 0 i j) : EReal) = (outsAt0 m c t.val t.isLt).2 (ix2 i j) := by
  rw [outsAt0_C m c t (by omega) ht]
  frame_out
  pointwise [k0_pay3]

/-- What the run leaves in the rows of the result that the call writes is the reference's; the others stay. -/
theorem final (c : Dev nD) : (dats m 0 c).arrAt 2 cfg0.N = fun i => if (i 0 : ℕ) / 1 < 2 ∧ (i 1 : ℕ) / 512 = 1 then
    Cert.DwOutARefIdeal.Read.val_main_v7 (F := Ideal) (argX m c) (argD m c) i else V m c main_v3 i := by
  refine (dats m 0 c).arrAt_eq_of_coversWhere 2 _ (fun β => β (0 : Fin _) < 2 ∧ β (1 : Fin _) = 1) (by decide +kernel)
    (fun t hf (y : S1x512x1024.Idx) => ?_) (fun j => Iff.rfl)
  have ht := (flush0_2 t).mp hf
  obtain ⟨i, j, rfl⟩ : ∃ (i : Fin 512) (j : Fin 1024), y = ix3 0 i j := exists_ix3 y
  have hs : t.val / 3 < 2 := (slabOf t).isLt
  have e : ((win0_2.blk t).view.emb (ix3 0 i j) : S4x1024x1024.Idx) = ix3 ⟨t.val / 3, by omega⟩ ⟨512 + i.val, by omega⟩ j := by
    blk_ext [idx2]
  blk_simp
  rw [after0_2, e]
  refine (out_apply m c t ht i j).trans ((scratch_eq m c t ht _).trans ?_)
  rw [← DwOutARefIdeal.Read.val_main_v7_eq]
  simp only [part]
  pointwise
  refine Fin.sum_mul_add_congr fun s k hl => ?_
  have er : row ⟨3 * (t.val / 3) + s.val, Pipeline.run_point_lt_of_flush t ht s⟩ k = ⟨s.val * 2816 + k.val, hl⟩ :=
    Fin.ext (show (3 * (t.val / 3) + s.val) % 3 * 2816 + k.val = s.val * 2816 + k.val by omega)
  have es : (3 * (t.val / 3) + s.val) / 3 = t.val / 3 := by omega
  rw [blk0, blk1, er]
  simp only [es]
  exact mul_comm (_ : EReal) _

end Cert.DwOutAProof

end
-- ==== Proof.DwOutB.lean ====
/-
  The call `dw_out_b`: the gradient of the half of w_out that belongs to the S5 heads, the rows taken in three parts whose
  products are added in a scratch array. The whole result is the reference's.
-/
module

public import proofs.«01_k».proof.Proof.Gen.DwOutBIdeal.Value
public import proofs.«01_k».proof.Proof.Gen.DwOutBRefIdeal.Read
public import proofs.«01_k».proof.Proof.Common

@[expose] public section

set_option maxRecDepth 16384

noncomputable section

namespace Cert.DwOutBProof

open Cert.DwOutBIdeal Cert.DwOutBIdeal.Gen Cert.Common Idealize.ShloMosaic Idealize.ShloMosaic.TcCoe Idealize.SL.Sem
open Idealize.ShloMosaic.Pipeline (Dat)

/-- The half of the mixed rows that the host hands to the kernel. -/
def rows {F : FTy → Type} [FloatOps F] (x : Vec F S8448x2048 .f32) : Vec F S8448x1024 .bf16 :=
  truncf .bf16 (extractStridedSlice S8448x1024 ![0, 1024] x slices_S8448x2048_S8448x1024_0_1024) bitsLt_bf16_f32

/-- The cotangent of the product as the kernel is given it. -/
def ct {F : FTy → Type} [FloatOps F] (x : Vec F S8448x1024 .f32) : Vec F S8448x1024 .bf16 := truncf .bf16 x bitsLt_bf16_f32

variable (m : (ℓ : Loc nD τ sig) → Buf (Elt Ideal) ℓ)

/-- The first operand: a half of the mixed rows. -/
theorem V_rows (c : Dev nD) : V m c main_v1 = rows (m ((c : Thread nD τ).loc main_arg0)) := by
  simp only [V, hostOps0]
  after_results
  rfl

/-- The second operand: the cotangent. -/
theorem V_ct (c : Dev nD) : V m c main_v2 = ct (m ((c : Thread nD τ).loc main_arg1)) := by
  simp only [V, hostOps0]
  after_results
  rfl

/-- The result array before the call: the argument it is written into. -/
theorem V_kept (c : Dev nD) : V m c main_v3 = m ((c : Thread nD τ).loc main_arg2) := by
  simp only [V, hostOps0]
  after_results
  rfl

/-- The block of the first operand at a grid point. -/
theorem idx0 : ∀ t : Fin cfg0.N, win0_0.index t = ![t.val % 3, t.val / 3] := (by decide +kernel : ∀ t : Fin grid0.N, _)
/-- The block of the second operand at a grid point. -/
theorem idx1 : ∀ t : Fin cfg0.N, win0_1.index t = ![t.val % 3, 0] := (by decide +kernel : ∀ t : Fin grid0.N, _)
/-- The block of the result at a grid point. -/
theorem idx2 : ∀ t : Fin cfg0.N, win0_2.index t = ![2 + t.val / 3, 1, 0] := (by decide +kernel : ∀ t : Fin grid0.N, _)

/-- The shard a grid point works for. -/
abbrev slabOf (t : Fin cfg0.N) : Fin 2 := ⟨t.val / 3, by have := t.isLt; have h : cfg0.N = 6 := N_0; omega⟩

/-- Row `k` of a grid point's block of rows. -/
abbrev row (t : Fin cfg0.N) (k : Fin 2816) : Fin 8448 := ⟨t.val % 3 * 2816 + k.val, by omega⟩

/-- The first argument: the mixed rows. -/
abbrev argX (c : Dev nD) : Vec Ideal S8448x2048 .f32 := m ((c : Thread nD τ).loc main_arg0)
/-- The second argument: the cotangent of the product. -/
abbrev argD (c : Dev nD) : Vec Ideal S8448x1024 .f32 := m ((c : Thread nD τ).loc main_arg1)
/-- The third argument: the array the result is written into. -/
abbrev argA (c : Dev nD) : Vec Ideal S4x1024x1024 .bf16 := m ((c : Thread nD τ).loc main_arg2)

/-- What a grid point is given of the first operand. -/
theorem blk0 (c : Dev nD) (t : Fin cfg0.N) (k : Fin 2816) (i : Fin 512) :
    (iblk m c 0 t : Vec Ideal S2816x512 .bf16) (ix2 k i) = argX m c (ix2 (row t k) ⟨1024 + ((slabOf t).val * 512 + i.val), by omega⟩) := by
  have e : ((win0_0.blk t).view.emb (ix2 k i) : S8448x1024.Idx) = ix2 (row t k) ⟨(slabOf t).val * 512 + i.val, by omega⟩ := by blk_ext [idx0]
  blk_simp [iblk]
  rw [V_rows, e]
  pointwise [rows]

/-- What a grid point is given of the second operand. -/
theorem blk1 (c : Dev nD) (t : Fin cfg0.N) (k : Fin 2816) (i : Fin 1024) :
    (iblk m c 1 t : Vec Ideal S2816x1024 .bf16) (ix2 k i) = argD m c (ix2 (row t k) i) := by
  have e : ((win0_1.blk t).view.emb (ix2 k i) : S8448x1024.Idx) = ix2 (row t k) i := by blk_ext [idx1]
  blk_simp [iblk]
  rw [V_ct, e]
  pointwise [ct]

/-- The product of one block of rows. -/
def part (X0 : Vec Ideal S2816x512 .bf16) (X1 : Vec Ideal S2816x1024 .bf16) (y : S512x1024.Idx) : EReal :=
  ∑ k : Fin 2816, (X0 (ix2 k (y 0)) * X1 (ix2 k (y 1)) : EReal)

/-- A step adds the product of its blocks to what it found. -/
theorem step_apply (X0 : Vec Ideal S2816x512 .bf16) (X1 : Vec Ideal S2816x1024 .bf16) (acc : Vec Ideal S512x1024 .f32) (y : S512x1024.Idx) :
    (k0_pay2 X0 acc X1 y : EReal) = acc y + part X0 X1 y := by
  rw [← ix2_eta y]
  pointwise [k0_pay2, part]

/-- The first step of a slab finds zero. -/
theorem zero_apply (y : S512x1024.Idx) : (k0_pay1 (F := Ideal) y : EReal) = 0 := by
  pointwise [k0_pay1]

/-- What the scratch array holds after the last step of a slab: the three products, added. -/
theorem scratch_eq (c : Dev nD) (t : Fin cfg0.N) (ht : t.val % 3 = 2) (y : S512x1024.Idx) :
    ((outsAt0 m c t.val t.isLt).2 y : EReal) = ∑ s : Fin 3, part
      (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => ((outsAt0 m c n h).2 : S512x1024.Idx → EReal)) 3 (fun _ => 0)
    (fun t y => part (iblk m c 0 t) (iblk m c 1 t) y)
    (fun t h y => by rw [outsAt0_A m c t h (by omega)]; frame_out; rw [step_apply, zero_apply])
    (fun t h y => by
      by_cases h2 : t.val % 3 = 2
      · rw [outsAt0_C m c t h h2]; frame_out; rw [step_apply, read_unread_whole]
      · rw [outsAt0_B m c t h h2]; frame_out; rw [step_apply, read_unread_whole]) t ht y, zero_add]

/-- What the last step of a slab leaves in the result's block is what it leaves in the scratch array. -/
theorem out_apply (c : Dev nD) (t : Fin cfg0.N) (ht : t.val % 3 = 2) (i : Fin 512) (j : Fin 1024) :
    ((outsAt0 m c t.val t.isLt).1 (ix3 0 i j) : EReal) = (outsAt0 m c t.val t.isLt).2 (ix2 i j) := by
  rw [outsAt0_C m c t (by omega) ht]
  frame_out
  pointwise [k0_pay3]

/-- What the run leaves in the result is the reference's: the rows that the call writes, and the argument's in the others. -/
theorem final (c : Dev nD) : (dats m 0 c).arrAt 2 cfg0.N = Cert.DwOutBRefIdeal.Read.val_main_v10 (F := Ideal)
    (argX m c) (argD m c) (argA m c) := by
  refine (dats m 0 c).arrAt_eq_of_coversWhere_of_agree 2 _ (fun β => 2 ≤ β (0 : Fin _) ∧ β (1 : Fin _) = 1) (by decide +kernel)
    (fun t hf (y : S1x512x1024.Idx) => ?_) (fun (j : S4x1024x1024.Idx) hj => ?_)
  rotate_left
  · blk_simp [Pipeline.Window.cell_apply] at hj
    show V m c main_v3 j = _
    rw [V_kept]
    show argA m c j = DwOutBRefIdeal.Read.val_main_v10 (F := Ideal) (argX m c) (argD m c) (argA m c) j
    rw [← DwOutBRefIdeal.Read.val_main_v10_eq]
    by_cases h0 : (j 0).val < 2
    · obtain ⟨s, i, k, rfl⟩ : ∃ (s : Fin 2) (i k : Fin 1024), j = ix3 ⟨s.val, s.isLt.trans (by decide)⟩ i k :=
        ⟨⟨(j 0).val, h0⟩, j 1, j 2, (ix3_eta j).symm⟩
      pointwise
    · obtain ⟨s, i, k, rfl⟩ : ∃ (s : Fin 2) (i : Fin 512) (k : Fin 1024), j = ix3 ⟨2 + s.val, Nat.add_lt_add_left s.isLt 2⟩ ⟨i.val, i.isLt.trans (by decide)⟩ k := by
        have h2 : (j 0).val < 4 := (j 0).isLt
        have h3 : (j 1).val < 1024 := (j 1).isLt
        refine ⟨⟨(j 0).val - 2, by omega⟩, ⟨(j 1).val, by omega⟩, j 2, (ix3_eta j).symm.trans ?_⟩
        congr 1
        exact Fin.ext (show (j 0).val = 2 + ((j 0).val - 2) by omega)
      pointwise
  have ht := (flush0_2 t).mp hf
  obtain ⟨i, j, rfl⟩ : ∃ (i : Fin 512) (j : Fin 1024), y = ix3 0 i j := exists_ix3 y
  have hs : t.val / 3 < 2 := (slabOf t).isLt
  have e : ((win0_2.blk t).view.emb (ix3 0 i j) : S4x1024x1024.Idx) = ix3 ⟨2 + t.val / 3, by omega⟩ ⟨512 + i.val, by omega⟩ j := by
    blk_ext [idx2]
  blk_simp
  rw [after0_2, e]
  refine (out_apply m c t ht i j).trans ((scratch_eq m c t ht _).trans ?_)
  rw [← DwOutBRefIdeal.Read.val_main_v10_eq]
  simp only [part]
  pointwise
  refine Fin.sum_mul_add_congr fun s k hl => ?_
  have er : row ⟨3 * (t.val / 3) + s.val, Pipeline.run_point_lt_of_flush t ht s⟩ k = ⟨s.val * 2816 + k.val, hl⟩ :=
    Fin.ext (show (3 * (t.val / 3) + s.val) % 3 * 2816 + k.val = s.val * 2816 + k.val by omega)
  have es : (3 * (t.val / 3) + s.val) / 3 = t.val / 3 := by omega
  rw [blk0, blk1, er]
  simp only [es]
  exact mul_comm (_ : EReal) _

end Cert.DwOutBProof

end
-- ==== Proof.DwGlu.lean ====
/-
  The call `dw_glu`: the gradient of w_glu, transposed, written into the rows that the gradient of w_out leaves. The whole
  result is the reference's.
-/
module

public import proofs.«01_k».proof.Proof.Gen.DwGluIdeal.Value
public import proofs.«01_k».proof.Proof.Gen.DwGluRefIdeal.Read
public import proofs.«01_k».proof.Proof.Common

@[expose] public section

set_option maxRecDepth 16384

noncomputable section

namespace Cert.DwGluProof

open Cert.DwGluIdeal Cert.DwGluIdeal.Gen Cert.Common Idealize.ShloMosaic Idealize.ShloMosaic.TcCoe Idealize.SL.Sem
open Idealize.ShloMosaic.Pipeline (Dat)

/-- The cotangent of the product as the kernel is given it. -/
def wide {F : FTy → Type} [FloatOps F] (x : Vec F S8448x2048 .f32) : Vec F S8448x2048 .bf16 := truncf .bf16 x bitsLt_bf16_f32

/-- The rows that enter the product as the kernel is given them. -/
def rows {F : FTy → Type} [FloatOps F] (x : Vec F S8448x1024 .f32) : Vec F S8448x1024 .bf16 := truncf .bf16 x bitsLt_bf16_f32

variable (m : (ℓ : Loc nD τ sig) → Buf (Elt Ideal) ℓ)

/-- The first operand: the cotangent. -/
theorem V_wide (c : Dev nD) : V m c main_v0 = wide (m ((c : Thread nD τ).loc main_arg2)) := by
  simp only [V, hostOps0]
  after_results
  rfl

/-- The second operand: the rows that enter the product. -/
theorem V_rows (c : Dev nD) : V m c main_v1 = rows (m ((c : Thread nD τ).loc main_arg0)) := by
  simp only [V, hostOps0]
  after_results
  rfl

/-- The result array before the call: the argument it is written into. -/
theorem V_kept (c : Dev nD) : V m c main_v2 = m ((c : Thread nD τ).loc main_arg3) := by
  simp only [V, hostOps0]
  after_results
  rfl

/-- The block of the first operand at a grid point. -/
theorem idx0 : ∀ t : Fin cfg0.N, win0_0.index t = ![t.val % 3, t.val / 3] := (by decide +kernel : ∀ t : Fin grid0.N, _)
/-- The block of the second operand at a grid point. -/
theorem idx1 : ∀ t : Fin cfg0.N, win0_1.index t = ![t.val % 3, 0] := (by decide +kernel : ∀ t : Fin grid0.N, _)
/-- The block of the result at a grid point. -/
theorem idx2 : ∀ t : Fin cfg0.N, win0_2.index t = ![t.val / 3, 0, 0] := (by decide +kernel : ∀ t : Fin grid0.N, _)

/-- The shard a grid point works for. -/
abbrev slabOf (t : Fin cfg0.N) : Fin 4 := ⟨t.val / 3, by have := t.isLt; have h : cfg0.N = 12 := N_0; omega⟩

/-- Row `k` of a grid point's block of rows. -/
abbrev row (t : Fin cfg0.N) (k : Fin 2816) : Fin 8448 := ⟨t.val % 3 * 2816 + k.val, by omega⟩

/-- The first argument: the rows that enter the product. -/
abbrev argY (c : Dev nD) : Vec Ideal S8448x1024 .f32 := m ((c : Thread nD τ).loc main_arg0)
/-- The third argument: the cotangent of the product. -/
abbrev argD (c : Dev nD) : Vec Ideal S8448x2048 .f32 := m ((c : Thread nD τ).loc main_arg2)
/-- The fourth argument: the array the result is written into. -/
abbrev argA (c : Dev nD) : Vec Ideal S4x1024x1024 .bf16 := m ((c : Thread nD τ).loc main_arg3)

/-- What a grid point is given of the first operand. -/
theorem blk0 (c : Dev nD) (t : Fin cfg0.N) (k : Fin 2816) (i : Fin 512) :
    (iblk m c 0 t : Vec Ideal S2816x512 .bf16) (ix2 k i) = argD m c (ix2 (row t k) ⟨(slabOf t).val * 512 + i.val, by omega⟩) := by
  have e : ((win0_0.blk t).view.emb (ix2 k i) : S8448x2048.Idx) = ix2 (row t k) ⟨(slabOf t).val * 512 + i.val, by omega⟩ := by blk_ext [idx0]
  blk_simp [iblk]
  rw [V_wide, e]
  pointwise [wide]

/-- What a grid point is given of the second operand. -/
theorem blk1 (c : Dev nD) (t : Fin cfg0.N) (k : Fin 2816) (i : Fin 1024) :
    (iblk m c 1 t : Vec Ideal S2816x1024 .bf16) (ix2 k i) = argY m c (ix2 (row t k) i) := by
  have e : ((win0_1.blk t).view.emb (ix2 k i) : S8448x1024.Idx) = ix2 (row t k) i := by blk_ext [idx1]
  blk_simp [iblk]
  rw [V_rows, e]
  pointwise [rows]

/-- The product of one block of rows. -/
def part (X0 : Vec Ideal S2816x512 .bf16) (X1 : Vec Ideal S2816x1024 .bf16) (y : S512x1024.Idx) : EReal :=
  ∑ k : Fin 2816, (X0 (ix2 k (y 0)) * X1 (ix2 k (y 1)) : EReal)

/-- A step adds the product of its blocks to what it found. -/
theorem step_apply (X0 : Vec Ideal S2816x512 .bf16) (X1 : Vec Ideal S2816x1024 .bf16) (acc : Vec Ideal S512x1024 .f32) (y : S512x1024.Idx) :
    (k0_pay2 X0 acc X1 y : EReal) = acc y + part X0 X1 y := by
  rw [← ix2_eta y]
  pointwise [k0_pay2, part]

/-- The first step of a slab finds zero. -/
theorem zero_apply (y : S512x1024.Idx) : (k0_pay1 (F := Ideal) y : EReal) = 0 := by
  pointwise [k0_pay1]

/-- What the scratch array holds after the last step of a slab: the three products, added. -/
theorem scratch_eq (c : Dev nD) (t : Fin cfg0.N) (ht : t.val % 3 = 2) (y : S512x1024.Idx) :
    ((outsAt0 m c t.val t.isLt).2 y : EReal) = ∑ s : Fin 3, part
      (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => ((outsAt0 m c n h).2 : S512x1024.Idx → EReal)) 3 (fun _ => 0)
    (fun t y => part (iblk m c 0 t) (iblk m c 1 t) y)
    (fun t h y => by rw [outsAt0_A m c t h (by omega)]; frame_out; rw [step_apply, zero_apply])
    (fun t h y => by
      by_cases h2 : t.val % 3 = 2
      · rw [outsAt0_C m c t h h2]; frame_out; rw [step_apply, read_unread_whole]
      · rw [outsAt0_B m c t h h2]; frame_out; rw [step_apply, read_unread_whole]) t ht y, zero_add]

/-- What the last step of a slab leaves in the result's block is what it leaves in the scratch array. -/
theorem out_apply (c : Dev nD) (t : Fin cfg0.N) (ht : t.val % 3 = 2) (i : Fin 512) (j : Fin 1024) :
    ((outsAt0 m c t.val t.isLt).1 (ix3 0 i j) : EReal) = (outsAt0 m c t.val t.isLt).2 (ix2 i j) := by
  rw [outsAt0_C m c t (by omega) ht]
  frame_out
  pointwise [k0_pay3]

/-- What the run leaves in the result is the reference's: the rows that the call writes, and the argument's in the others. -/
theorem final (c : Dev nD) : (dats m 0 c).arrAt 2 cfg0.N = Cert.DwGluRefIdeal.Read.val_main_v12 (F := Ideal)
    (argY m c) (argD m c) (argA m c) := by
  refine (dats m 0 c).arrAt_eq_of_coversWhere_of_agree 2 _ (fun β => β (1 : Fin _) = 0) (by decide +kernel)
    (fun t hf (y : S1x512x1024.Idx) => ?_) (fun (j : S4x1024x1024.Idx) hj => ?_)
  rotate_left
  · blk_simp [Pipeline.Window.cell_apply] at hj
    obtain ⟨s, i, k, rfl⟩ : ∃ (s : Fin 4) (i : Fin 512) (k : Fin 1024), j = ix3 s ⟨512 + i.val, by omega⟩ k :=
      exists_below (n := 4) (r := 512) (b := 1024) j (by have h : (j 1).val < 1024 := (j 1).isLt; omega)
    show V m c main_v2 (ix3 s ⟨512 + i.val, _⟩ k) = _
    rw [V_kept]
    show argA m c _ = DwGluRefIdeal.Read.val_main_v12 (F := Ideal) (argY m c) (argD m c) (argA m c) (ix3 s ⟨512 + i.val, _⟩ k)
    rw [← DwGluRefIdeal.Read.val_main_v12_eq]
    pointwise
  have ht := (flush0_2 t).mp hf
  obtain ⟨i, j, rfl⟩ : ∃ (i : Fin 512) (j : Fin 1024), y = ix3 0 i j := exists_ix3 y
  have hs : t.val / 3 < 4 := (slabOf t).isLt
  have e : ((win0_2.blk t).view.emb (ix3 0 i j) : S4x1024x1024.Idx) = ix3 (slabOf t) ⟨i.val, by omega⟩ j := by
    blk_ext [idx2]
  blk_simp
  rw [after0_2, e]
  refine (out_apply m c t ht i j).trans ((scratch_eq m c t ht _).trans ?_)
  rw [← DwGluRefIdeal.Read.val_main_v12_eq]
  simp only [part]
  pointwise
  refine Fin.sum_mul_add_congr fun s k hl => ?_
  have er : row ⟨3 * (t.val / 3) + s.val, Pipeline.run_point_lt_of_flush t ht s⟩ k = ⟨s.val * 2816 + k.val, hl⟩ :=
    Fin.ext (show (3 * (t.val / 3) + s.val) % 3 * 2816 + k.val = s.val * 2816 + k.val by omega)
  have es : (3 * (t.val / 3) + s.val) / 3 = t.val / 3 := by omega
  rw [blk0, blk1, er]
  simp only [es]

end Cert.DwGluProof

end
-- ==== Proof.DownBwd.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.DownBwd

open Cert.KernelIdeal Cert.KernelIdeal.Gen Idealize.ShloMosaic Idealize.ShloMosaic.TcCoe Idealize.SL.Sem
open Idealize.ShloMosaic.Pipeline (Dat)

/-- The activations as the kernel is given them: the positive part of `m`. -/
def relu {F : FTy → Type} [FloatOps F] (x : Vec F S8448x4096 .f32) : Vec F S8448x4096 .bf16 :=
  truncf .bf16 (maximumf x (broadcastInDim S8448x4096 ![] bcast_S_S8448x4096 (constant S_ .f32 0x00000000#32))) bitsLt_bf16_f32

/-- The cotangent as the kernel is given it. -/
def ct {F : FTy → Type} [FloatOps F] (x : Vec F S8448x1024 .f32) : Vec F S8448x1024 .bf16 := truncf .bf16 x bitsLt_bf16_f32

/-- The weights as the kernel is given them: four slabs of 1024 rows. -/
def slabs {F : FTy → Type} [FloatOps F] (x : Vec F S4096x1024 .f32) : Vec F S4x1024x1024 .bf16 :=
  truncf .bf16 (shapeCast S4x1024x1024 x shapeCasts_S4096x1024_S4x1024x1024) bitsLt_bf16_f32

variable (m : (ℓ : Loc nD τ sig) → Buf (Elt Ideal) ℓ)

/-- The rows the call reads are the ReLU of the first argument. -/
theorem V_relu (c : Dev nD) : V m c main_v1 = relu (m ((c : Thread nD τ).loc main_arg0)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- The rows of the incoming gradient the call reads are the argument's. -/
theorem V_ct (c : Dev nD) : V m c main_v2 = ct (m ((c : Thread nD τ).loc main_arg2)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- The weights the call reads are the argument, cut into four shards. -/
theorem V_slabs (c : Dev nD) : V m c main_v4 = slabs (m ((c : Thread nD τ).loc main_arg1)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- Where the block of operand 0 lies at each step. -/
theorem idx0 : ∀ t : Fin cfg0.N, win0_0.index t = ![t.val, 0] := (by decide +kernel : ∀ t : Fin grid0.N, _)
/-- Where the block of operand 1 lies at each step. -/
theorem idx1 : ∀ t : Fin cfg0.N, win0_1.index t = ![t.val, 0] := (by decide +kernel : ∀ t : Fin grid0.N, _)
/-- Where the block of operand 2 lies at each step. -/
theorem idx2 : ∀ t : Fin cfg0.N, win0_2.index t = ![0, 0, 0] := (by decide +kernel : ∀ t : Fin grid0.N, _)
/-- Where the block of result 0 lies at each step. -/
theorem idx3 : ∀ t : Fin cfg0.N, win0_3.index t = ![t.val, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- Row `j` of slab `s` is row `1024 s + j` of the weights. -/
abbrev col (s : Fin 4) (j : Fin 1024) : Fin 4096 := ⟨s.val * 1024 + j.val, by omega⟩

/-- The first argument: the product of the up projection, before its positive part is taken. -/
abbrev argM (c : Dev nD) : Vec Ideal S8448x4096 .f32 := m ((c : Thread nD τ).loc main_arg0)
/-- The second argument: the weights of the down projection. -/
abbrev argW (c : Dev nD) : Vec Ideal S4096x1024 .f32 := m ((c : Thread nD τ).loc main_arg1)
/-- The third argument: the cotangent of the layer's output. -/
abbrev argD (c : Dev nD) : Vec Ideal S8448x1024 .f32 := m ((c : Thread nD τ).loc main_arg2)

/-- An entry of the block of the incoming gradient at one step, as an entry of the whole array. -/
theorem blk0 (c : Dev nD) (t : Fin cfg0.N) (r : Fin 768) (k : Fin 1024) :
    (iblk m c 0 t : Vec Ideal S768x1024 .bf16) (ix2 r k) = argD m c (ix2 (row t r) k) := by
  have e : ((win0_0.blk t).view.emb (ix2 r k) : S8448x1024.Idx) = ix2 (row t r) k := by blk_ext [idx0]
  blk_simp [iblk]
  rw [V_ct, e]
  pointwise [ct]

/-- An entry of the block of the ReLU at one step, as an entry of the whole array. -/
theorem blk1 (c : Dev nD) (t : Fin cfg0.N) (r : Fin 768) (k : Fin 4096) :
    (iblk m c 1 t : Vec Ideal S768x4096 .bf16) (ix2 r k) = (max (argM m c (ix2 (row t r) k)) 0 : EReal) := by
  have e : ((win0_1.blk t).view.emb (ix2 r k) : S8448x4096.Idx) = ix2 (row t r) k := by blk_ext [idx1]
  blk_simp [iblk]
  rw [V_relu, e]
  pointwise [relu]

/-- An entry of the block of the weights at one step, as an entry of the whole array. -/
theorem blk2 (c : Dev nD) (t : Fin cfg0.N) (s : Fin 4) (j k : Fin 1024) :
    (iblk m c 2 t : Vec Ideal S4x1024x1024 .bf16) (ix3 s j k) = argW m c (ix2 (col s j) k) := by
  have e : ((win0_2.blk t).view.emb (ix3 s j k) : S4x1024x1024.Idx) = ix3 s j k := by blk_ext [idx2]
  blk_simp [iblk]
  rw [V_slabs, e]
  pointwise [slabs]

/-- A factor that is the positive part of `x` makes the choice between the product and zero needless. -/
theorem relu_gate (s c x : EReal) : s * (c * max x 0) = if 0 < x then s * (c * max x 0) else 0 := by
  split_ifs with h
  · rfl
  · rw [max_eq_right (not_lt.mp h), mul_zero, mul_zero]

/-- The constant two of the kernel and of the reference. -/
abbrev two : EReal := Ideal.ofBits .f32 0x40000000#32

/-- Part `n` of the kernel's row, for any operands: a product with slab `n`, times twice the activations of that part. -/
theorem part_apply (P0 : Vec Ideal S768x1024 .bf16) (P1 : Vec Ideal S768x4096 .bf16) (W : Fin 4 → Vec Ideal S1x1024x1024 .bf16)
    (n : Fin 4) (r : Fin 768) (j : Fin 1024) :
    (Value.Cat3_0 P0 P1 (W 0) (W 1) (W 2) (W 3) n (ix2 r j) : EReal)
      = (∑ k : Fin 1024, (P0 (ix2 r k) * W n (ix3 0 j k) : EReal)) * (two * P1 (ix2 r (col n j))) := by
  match n with
  | ⟨0, _⟩ =>
    dsimp only [Value.Cat3_0]
    pointwise [k0_pay4, k0_pay2, k0_pay3]
    exact congrArg (fun q => (∑ k : Fin 1024, (P0 (ix2 r k) * W 0 (ix3 0 j k) : EReal)) * (two * P1 (ix2 r q)))
      (Fin.ext (show j.val = 0 * 1024 + j.val by omega))
  | ⟨1, _⟩ =>
    dsimp only [Value.Cat3_0]
    pointwise [k0_pay5, k0_pay2, k0_pay3]
    rfl
  | ⟨2, _⟩ =>
    dsimp only [Value.Cat3_0]
    pointwise [k0_pay6, k0_pay2, k0_pay3]
    rfl
  | ⟨3, _⟩ =>
    dsimp only [Value.Cat3_0]
    pointwise [k0_pay7, k0_pay2, k0_pay3]
    rfl

/-- Slab `n` of a block of the weights. -/
def slab (X : Vec Ideal S4x1024x1024 .bf16) (n : Fin 4) : Vec Ideal S1x1024x1024 .bf16 := fun x => X (ix3 n (x 1) (x 2))

/-- What the body leaves in the result's block, for any contents of the operands' blocks. -/
theorem out_apply (X0 : Vec Ideal S768x1024 .bf16) (X1 : Vec Ideal S768x4096 .bf16) (X2 : Vec Ideal S4x1024x1024 .bf16)
    (r : Fin 768) (n : Fin 4) (j : Fin 1024) :
    (out0_3 X0 X1 X2 (ix2 r (col n j)) : EReal)
      = (∑ k : Fin 1024, (X0 (ix2 r k) * X2 (ix3 n j k) : EReal)) * (two * X1 (ix2 r (col n j))) := by
  have hc : Value.csel3_0 (ix2 r (col n j)) = n := by
    apply Fin.ext; show (n.val * 1024 + j.val) / 1024 = n.val; omega
  have hi : Value.ix3_0 (ix2 r (col n j)) = ix2 r j := by
    funext a
    match a with
    | ⟨0, _⟩ => rfl
    | ⟨1, _⟩ => apply Fin.ext; show (n.val * 1024 + j.val) % 1024 = j.val; omega
  have l0 : View.ld X0 r0_0 = X0 := by funext x; pointwise
  have l1 : View.ld X1 r0_1 = X1 := by funext x; pointwise
  have w0 : View.ld X2 r0_2 = slab X2 0 := by funext x; pointwise [slab]
  have w1 : View.ld X2 r0_3 = slab X2 1 := by funext x; pointwise [slab]
  have w2 : View.ld X2 r0_4 = slab X2 2 := by funext x; pointwise [slab]
  have w3 : View.ld X2 r0_5 = slab X2 3 := by funext x; pointwise [slab]
  unfold out0_3
  rw [Value.canon3_eq, l0, l1, w0, w1, w2, w3]
  unfold Value.E3
  rw [hc, hi]
  exact part_apply X0 X1 (slab X2) n r j

/-- What the run leaves in the result array is the gradient the reference computes from the same arguments. -/
theorem final (c : Dev nD) : (dats m 0 c).arrAt 3 cfg0.N = Cert.ReferenceIdeal.Read.val_main_v14 (F := Ideal)
    (argM m c) (argW m c) (argD m c) := by
  refine (dats m 0 c).arrAt_eq_of_covers 3 _ (by decide +kernel) fun t hf (y : S768x4096.Idx) => ?_
  obtain ⟨r, j, n, rfl⟩ : ∃ (r : Fin 768) (j : Fin 1024) (n : Fin 4), y = ix2 r (col n j) := by
    have h1 : (y 1).val < 4096 := (y 1).isLt
    refine ⟨y 0, ⟨(y 1).val % 1024, Nat.mod_lt _ (by decide)⟩, ⟨(y 1).val / 1024, by omega⟩, funext fun a => ?_⟩
    match a with
    | ⟨0, _⟩ => rfl
    | ⟨1, _⟩ => apply Fin.ext; show (y 1).val = (y 1).val / 1024 * 1024 + (y 1).val % 1024; omega
  have e : ((win0_3.blk t).view.emb (ix2 r (col n j)) : S8448x4096.Idx) = ix2 (row t r) (col n j) := by blk_ext [idx3]
  blk_simp
  rw [after0_3, e]
  refine (out_apply (iblk m c 0 t) (iblk m c 1 t) (iblk m c 2 t) r n j).trans ?_
  rw [← ReferenceIdeal.Read.val_main_v14_eq]
  simp only [blk0, blk1, blk2]
  pointwise
  exact relu_gate _ _ _

end Cert.DownBwd
end
-- ==== Proof.DwDown.lean ====
/-
  The call `dw_down`: the gradient of the second weights of the MLP block, the rows taken in three parts whose products are
  added in a scratch array. The rows of the result that the call writes are the reference's.
-/
module

public import proofs.«01_k».proof.Proof.Gen.DwDownIdeal.Value
public import proofs.«01_k».proof.Proof.Gen.DwDownRefIdeal.Read
public import proofs.«01_k».proof.Proof.Common

@[expose] public section

set_option maxRecDepth 16384

noncomputable section

namespace Cert.DwDownProof

open Cert.DwDownIdeal Cert.DwDownIdeal.Gen Cert.Common Idealize.ShloMosaic Idealize.ShloMosaic.TcCoe Idealize.SL.Sem
open Idealize.ShloMosaic.Pipeline (Dat)

/-- The positive part that the host hands to the kernel. -/
def relu {F : FTy → Type} [FloatOps F] (x : Vec F S8448x4096 .f32) : Vec F S8448x4096 .bf16 :=
  truncf .bf16 (maximumf x (broadcastInDim S8448x4096 ![] bcast_S_S8448x4096 (constant S_ .f32 0x00000000#32))) bitsLt_bf16_f32

/-- The cotangent of the block's output as the kernel is given it. -/
def ct {F : FTy → Type} [FloatOps F] (x : Vec F S8448x1024 .f32) : Vec F S8448x1024 .bf16 := truncf .bf16 x bitsLt_bf16_f32

variable (m : (ℓ : Loc nD τ sig) → Buf (Elt Ideal) ℓ)

/-- The rows the call reads are the ReLU of the first argument. -/
theorem V_relu (c : Dev nD) : V m c main_v1 = relu (m ((c : Thread nD τ).loc main_arg0)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- The rows of the incoming gradient the call reads are the argument's. -/
theorem V_ct (c : Dev nD) : V m c main_v2 = ct (m ((c : Thread nD τ).loc main_arg1)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- Where the block of operand 0 lies at each step. -/
theorem idx0 : ∀ t : Fin cfg0.N, win0_0.index t = ![t.val % 3, t.val / 3] := (by decide +kernel : ∀ t : Fin grid0.N, _)
/-- Where the block of operand 1 lies at each step. -/
theorem idx1 : ∀ t : Fin cfg0.N, win0_1.index t = ![t.val % 3, 0] := (by decide +kernel : ∀ t : Fin grid0.N, _)
/-- Where the block of result 0 lies at each step. -/
theorem idx2 : ∀ t : Fin cfg0.N, win0_2.index t = ![t.val / 3, 1, 0] := (by decide +kernel : ∀ t : Fin grid0.N, _)

/-- The slab a grid point works for. -/
abbrev slabOf (t : Fin cfg0.N) : Fin 4 := ⟨t.val / 3, by have := t.isLt; have h : cfg0.N = 12 := N_0; omega⟩

/-- Row `k` of a grid point's block of rows. -/
abbrev row (t : Fin cfg0.N) (k : Fin 2816) : Fin 8448 := ⟨t.val % 3 * 2816 + k.val, by omega⟩

/-- The first argument: the rows whose positive part is squared. -/
abbrev argM (c : Dev nD) : Vec Ideal S8448x4096 .f32 := m ((c : Thread nD τ).loc main_arg0)
/-- The second argument: the cotangent of the block's output. -/
abbrev argD (c : Dev nD) : Vec Ideal S8448x1024 .f32 := m ((c : Thread nD τ).loc main_arg1)

/-- An entry of the block of the ReLU at one step, as an entry of the whole array. -/
theorem blk0 (c : Dev nD) (t : Fin cfg0.N) (k : Fin 2816) (i : Fin 1024) :
    (iblk m c 0 t : Vec Ideal S2816x1024 .bf16) (ix2 k i) = max (argM m c (ix2 (row t k) (col (slabOf t) i))) 0 := by
  have e : ((win0_0.blk t).view.emb (ix2 k i) : S8448x4096.Idx) = ix2 (row t k) (col (slabOf t) i) := by blk_ext [idx0]
  blk_simp [iblk]
  rw [V_relu, e]
  pointwise [relu]

/-- An entry of the block of the incoming gradient at one step, as an entry of the whole array. -/
theorem blk1 (c : Dev nD) (t : Fin cfg0.N) (k : Fin 2816) (j : Fin 1024) :
    (iblk m c 1 t : Vec Ideal S2816x1024 .bf16) (ix2 k j) = argD m c (ix2 (row t k) j) := by
  have e : ((win0_1.blk t).view.emb (ix2 k j) : S8448x1024.Idx) = ix2 (row t k) j := by blk_ext [idx1]
  blk_simp [iblk]
  rw [V_ct, e]
  pointwise [ct]

/-- The product of one block of rows. -/
def part (X0 X1 : Vec Ideal S2816x1024 .bf16) (y : S1024x1024.Idx) : EReal :=
  ∑ k : Fin 2816, (X0 (ix2 k (y 0)) * X0 (ix2 k (y 0)) * X1 (ix2 k (y 1)) : EReal)

/-- A step adds the product of its blocks to what it found. -/
theorem step_apply (X0 X1 : Vec Ideal S2816x1024 .bf16) (acc : Vec Ideal S1024x1024 .f32) (y : S1024x1024.Idx) :
    (k0_pay2 X0 acc X1 y : EReal) = acc y + part X0 X1 y := by
  rw [← ix2_eta y]
  pointwise [k0_pay2, part]

/-- The first step of a slab finds zero. -/
theorem zero_apply (y : S1024x1024.Idx) : (k0_pay1 (F := Ideal) y : EReal) = 0 := by
  pointwise [k0_pay1]

/-- What the scratch array holds after the last step of a slab: the three products, added. -/
theorem scratch_eq (c : Dev nD) (t : Fin cfg0.N) (ht : t.val % 3 = 2) (y : S1024x1024.Idx) :
    ((outsAt0 m c t.val t.isLt).2 y : EReal) = ∑ s : Fin 3, part
      (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => ((outsAt0 m c n h).2 : S1024x1024.Idx → EReal)) 3 (fun _ => 0)
    (fun t y => part (iblk m c 0 t) (iblk m c 1 t) y)
    (fun t h y => by rw [outsAt0_A m c t h (by omega)]; frame_out; rw [step_apply, zero_apply])
    (fun t h y => by
      by_cases h2 : t.val % 3 = 2
      · rw [outsAt0_C m c t h h2]; frame_out; rw [step_apply, read_unread_whole]
      · rw [outsAt0_B m c t h h2]; frame_out; rw [step_apply, read_unread_whole]) t ht y, zero_add]

/-- What the last step of a slab leaves in the result's block is what it leaves in the scratch array. -/
theorem out_apply (c : Dev nD) (t : Fin cfg0.N) (ht : t.val % 3 = 2) (i j : Fin 1024) :
    ((outsAt0 m c t.val t.isLt).1 (ix3 0 i j) : EReal) = (outsAt0 m c t.val t.isLt).2 (ix2 i j) := by
  rw [outsAt0_C m c t (by omega) ht]
  frame_out
  pointwise [k0_pay3]

/-- What the run leaves in the rows of the result that the call writes is the reference's; the others stay. -/
theorem final (c : Dev nD) : (dats m 0 c).arrAt 2 cfg0.N = fun i => if (i 1 : ℕ) / 1024 = 1 then
    Cert.DwDownRefIdeal.Read.val_main_v9 (F := Ideal) (argM m c) (argD m c) i else V m c main_v3 i := by
  refine (dats m 0 c).arrAt_eq_of_coversWhere 2 _ (fun β => β (1 : Fin _) = 1) (by decide +kernel)
    (fun t hf (y : S1x1024x1024.Idx) => ?_) (fun j => Iff.rfl)
  have ht := (flush0_2 t).mp hf
  obtain ⟨i, j, rfl⟩ : ∃ (i j : Fin 1024), y = ix3 0 i j :=
    ⟨y 1, y 2, funext fun a => by match a with | ⟨0, _⟩ => exact Fin.ext (by have := (y 0).isLt; show (y 0).val = 0; have h : (y 0).val < 1 := this; omega) | ⟨1, _⟩ => rfl | ⟨2, _⟩ => rfl⟩
  have e : ((win0_2.blk t).view.emb (ix3 0 i j) : S4x2048x1024.Idx) = ix3 (slabOf t) ⟨1024 + i.val, by omega⟩ j := by
    blk_ext [idx2]
  blk_simp
  rw [after0_2, e]
  refine (out_apply m c t ht i j).trans ((scratch_eq m c t ht _).trans ?_)
  rw [← DwDownRefIdeal.Read.val_main_v9_eq]
  simp only [part]
  pointwise
  refine Fin.sum_mul_add_congr fun s k hl => ?_
  have er : row ⟨3 * (t.val / 3) + s.val, Pipeline.run_point_lt_of_flush t ht s⟩ k = ⟨s.val * 2816 + k.val, hl⟩ :=
    Fin.ext (show (3 * (t.val / 3) + s.val) % 3 * 2816 + k.val = s.val * 2816 + k.val by omega)
  have es : slabOf ⟨3 * (t.val / 3) + s.val, Pipeline.run_point_lt_of_flush t ht s⟩ = slabOf t :=
    Fin.ext (show (3 * (t.val / 3) + s.val) / 3 = t.val / 3 by omega)
  rw [blk0, blk1, er, es, mul_comm]

end Cert.DwDownProof

end
-- ==== Proof.DwUp.lean ====
/-
  The call `dw_up`: the gradient of the first weights of the MLP block, written into the rows that `dw_down` leaves. The whole
  result is the reference's.
-/
module

public import proofs.«01_k».proof.Proof.Gen.DwUpIdeal.Value
public import proofs.«01_k».proof.Proof.Gen.DwUpRefIdeal.Read
public import proofs.«01_k».proof.Proof.Common

@[expose] public section

set_option maxRecDepth 16384

noncomputable section

namespace Cert.DwUpProof

open Cert.DwUpIdeal Cert.DwUpIdeal.Gen Cert.Common Idealize.ShloMosaic Idealize.ShloMosaic.TcCoe Idealize.SL.Sem
open Idealize.ShloMosaic.Pipeline (Dat)

/-- The normed rows that the host hands to the kernel. -/
def rows {F : FTy → Type} [FloatOps F] (x : Vec F S8448x1024 .f32) (g : Vec F S1x1024 .f32) : Vec F S8448x1024 .bf16 :=
  truncf .bf16 (mulf (mulf x (broadcastInDim S8448x1024 ![0, 1] bcast_S8448x1_S8448x1024_0_1 (Host.rsqrt (addf (Host.divf
    (broadcastInDim S8448x1 ![0] bcast_S8448_S8448x1_0 (Host.reduceAdd (mulf x x) (constant S_ .f32 0x00000000#32)
      reducesTo_S8448x1024_S8448_d1 h_S_)) (broadcastInDim S8448x1 ![] bcast_S_S8448x1 (constant S_ .f32 0x44800000#32)))
    (broadcastInDim S8448x1 ![] bcast_S_S8448x1 (constant S_ .f32 0x3727C5AC#32))))))
    (broadcastInDim S8448x1024 ![0, 1] bcast_S1x1024_S8448x1024_0_1 (broadcastInDim S1x1024 ![1] bcast_S1024_S1x1024_1
      (shapeCast S1024 g shapeCasts_S1x1024_S1024)))) bitsLt_bf16_f32

/-- The cotangent of the first product as the kernel is given it. -/
def ct {F : FTy → Type} [FloatOps F] (x : Vec F S8448x4096 .f32) : Vec F S8448x4096 .bf16 := truncf .bf16 x bitsLt_bf16_f32

variable (m : (ℓ : Loc nD τ sig) → Buf (Elt Ideal) ℓ)

/-- The rows the call reads are the normalised rows of the first argument. -/
theorem V_rows (c : Dev nD) : V m c main_v14 = rows (m ((c : Thread nD τ).loc main_arg0)) (m ((c : Thread nD τ).loc main_arg1)) := by
  simp only [V, hostOps0]
  after_results
  rfl

/-- The rows of the incoming gradient the call reads are the argument's. -/
theorem V_ct (c : Dev nD) : V m c main_v15 = ct (m ((c : Thread nD τ).loc main_arg2)) := by
  simp only [V, hostOps0]
  after_results
  rfl

/-- The slab the call writes into begins as the argument. -/
theorem V_kept (c : Dev nD) : V m c main_v16 = m ((c : Thread nD τ).loc main_arg3) := by
  simp only [V, hostOps0]
  after_results
  rfl

/-- Where the block of operand 0 lies at each step. -/
theorem idx0 : ∀ t : Fin cfg0.N, win0_0.index t = ![t.val % 3, 0] := (by decide +kernel : ∀ t : Fin grid0.N, _)
/-- Where the block of operand 1 lies at each step. -/
theorem idx1 : ∀ t : Fin cfg0.N, win0_1.index t = ![t.val % 3, t.val / 3] := (by decide +kernel : ∀ t : Fin grid0.N, _)
/-- Where the block of result 0 lies at each step. -/
theorem idx2 : ∀ t : Fin cfg0.N, win0_2.index t = ![t.val / 3, 0, 0] := (by decide +kernel : ∀ t : Fin grid0.N, _)

/-- The slab a grid point works for. -/
abbrev slabOf (t : Fin cfg0.N) : Fin 4 := ⟨t.val / 3, by have := t.isLt; have h : cfg0.N = 12 := N_0; omega⟩

/-- Row `k` of a grid point's block of rows. -/
abbrev row (t : Fin cfg0.N) (k : Fin 2816) : Fin 8448 := ⟨t.val % 3 * 2816 + k.val, by omega⟩

/-- The first argument: the rows to be normed. -/
abbrev argH (c : Dev nD) : Vec Ideal S8448x1024 .f32 := m ((c : Thread nD τ).loc main_arg0)
/-- The second argument: the gain of the norm. -/
abbrev argG (c : Dev nD) : Vec Ideal S1x1024 .f32 := m ((c : Thread nD τ).loc main_arg1)
/-- The third argument: the cotangent of the first product. -/
abbrev argD (c : Dev nD) : Vec Ideal S8448x4096 .f32 := m ((c : Thread nD τ).loc main_arg2)
/-- The fourth argument: the array the result is written into. -/
abbrev argA (c : Dev nD) : Vec Ideal S4x2048x1024 .bf16 := m ((c : Thread nD τ).loc main_arg3)

/-- An entry of the block of the normalised rows at one step, as an entry of the whole array. -/
theorem blk0 (c : Dev nD) (t : Fin cfg0.N) (k : Fin 2816) (i : Fin 1024) :
    (iblk m c 0 t : Vec Ideal S2816x1024 .bf16) (ix2 k i)
      = normed (fun q => argH m c (ix2 (row t k) q)) (fun q => argG m c (ix2 0 q)) i := by
  have e : ((win0_0.blk t).view.emb (ix2 k i) : S8448x1024.Idx) = ix2 (row t k) i := by blk_ext [idx0]
  blk_simp [iblk]
  rw [V_rows, e]
  pointwise [rows]
  rfl

/-- An entry of the block of the incoming gradient at one step, as an entry of the whole array. -/
theorem blk1 (c : Dev nD) (t : Fin cfg0.N) (k : Fin 2816) (j : Fin 1024) :
    (iblk m c 1 t : Vec Ideal S2816x1024 .bf16) (ix2 k j) = argD m c (ix2 (row t k) (col (slabOf t) j)) := by
  have e : ((win0_1.blk t).view.emb (ix2 k j) : S8448x4096.Idx) = ix2 (row t k) (col (slabOf t) j) := by blk_ext [idx1]
  blk_simp [iblk]
  rw [V_ct, e]
  pointwise [ct]

/-- The product of one block of rows. -/
def part (X0 X1 : Vec Ideal S2816x1024 .bf16) (y : S1024x1024.Idx) : EReal :=
  ∑ k : Fin 2816, (X0 (ix2 k (y 0)) * X1 (ix2 k (y 1)) : EReal)

/-- A step adds the product of its blocks to what it found. -/
theorem step_apply (X0 X1 : Vec Ideal S2816x1024 .bf16) (acc : Vec Ideal S1024x1024 .f32) (y : S1024x1024.Idx) :
    (k0_pay2 X0 acc X1 y : EReal) = acc y + part X0 X1 y := by
  rw [← ix2_eta y]
  pointwise [k0_pay2, part]

/-- The first step of a slab finds zero. -/
theorem zero_apply (y : S1024x1024.Idx) : (k0_pay1 (F := Ideal) y : EReal) = 0 := by
  pointwise [k0_pay1]

/-- What the scratch array holds after the last step of a slab: the three products, added. -/
theorem scratch_eq (c : Dev nD) (t : Fin cfg0.N) (ht : t.val % 3 = 2) (y : S1024x1024.Idx) :
    ((outsAt0 m c t.val t.isLt).2 y : EReal) = ∑ s : Fin 3, part
      (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => ((outsAt0 m c n h).2 : S1024x1024.Idx → EReal)) 3 (fun _ => 0)
    (fun t y => part (iblk m c 0 t) (iblk m c 1 t) y)
    (fun t h y => by rw [outsAt0_A m c t h (by omega)]; frame_out; rw [step_apply, zero_apply])
    (fun t h y => by
      by_cases h2 : t.val % 3 = 2
      · rw [outsAt0_C m c t h h2]; frame_out; rw [step_apply, read_unread_whole]
      · rw [outsAt0_B m c t h h2]; frame_out; rw [step_apply, read_unread_whole]) t ht y, zero_add]

/-- What the last step of a slab leaves in the result's block is what it leaves in the scratch array. -/
theorem out_apply (c : Dev nD) (t : Fin cfg0.N) (ht : t.val % 3 = 2) (i j : Fin 1024) :
    ((outsAt0 m c t.val t.isLt).1 (ix3 0 i j) : EReal) = (outsAt0 m c t.val t.isLt).2 (ix2 i j) := by
  rw [outsAt0_C m c t (by omega) ht]
  frame_out
  pointwise [k0_pay3]

/-- What the run leaves in the result is the reference's: the rows that the call writes, and the argument's in the others. -/
theorem final (c : Dev nD) : (dats m 0 c).arrAt 2 cfg0.N = Cert.DwUpRefIdeal.Read.val_main_v22 (F := Ideal)
    (argH m c) (argG m c) (argD m c) (argA m c) := by
  refine (dats m 0 c).arrAt_eq_of_coversWhere_of_agree 2 _ (fun β => β (1 : Fin _) = 0) (by decide +kernel)
    (fun t hf (y : S1x1024x1024.Idx) => ?_) (fun (j : S4x2048x1024.Idx) hj => ?_)
  rotate_left
  · blk_simp [Pipeline.Window.cell_apply] at hj
    obtain ⟨s, i, k, rfl⟩ : ∃ (s : Fin 4) (i k : Fin 1024), j = ix3 s ⟨1024 + i.val, by omega⟩ k := by
      have h := (j 1).isLt
      have h' : (j 1).val < 2048 := h
      exact ⟨j 0, ⟨(j 1).val - 1024, by omega⟩, j 2, funext fun a => by
        match a with
        | ⟨0, _⟩ => rfl
        | ⟨1, _⟩ => exact Fin.ext (show (j 1).val = 1024 + ((j 1).val - 1024) by omega)
        | ⟨2, _⟩ => rfl⟩
    show V m c main_v16 (ix3 s ⟨1024 + i.val, _⟩ k) = DwUpRefIdeal.Read.val_main_v22 (F := Ideal) (argH m c) (argG m c)
      (argD m c) (argA m c) (ix3 s ⟨1024 + i.val, _⟩ k)
    rw [V_kept, ← DwUpRefIdeal.Read.val_main_v22_eq]
    pointwise
  have ht := (flush0_2 t).mp hf
  obtain ⟨i, j, rfl⟩ : ∃ (i j : Fin 1024), y = ix3 0 i j :=
    ⟨y 1, y 2, funext fun a => by match a with | ⟨0, _⟩ => exact Fin.ext (by have := (y 0).isLt; show (y 0).val = 0; have h : (y 0).val < 1 := this; omega) | ⟨1, _⟩ => rfl | ⟨2, _⟩ => rfl⟩
  have e : ((win0_2.blk t).view.emb (ix3 0 i j) : S4x2048x1024.Idx) = ix3 (slabOf t) ⟨i.val, by omega⟩ j := by
    blk_ext [idx2]
  blk_simp
  rw [after0_2, e]
  refine (out_apply m c t ht i j).trans ((scratch_eq m c t ht _).trans ?_)
  rw [← DwUpRefIdeal.Read.val_main_v22_eq]
  simp only [part]
  pointwise
  refine Fin.sum_mul_add_congr fun s k hl => ?_
  have er : row ⟨3 * (t.val / 3) + s.val, Pipeline.run_point_lt_of_flush t ht s⟩ k = ⟨s.val * 2816 + k.val, hl⟩ :=
    Fin.ext (show (3 * (t.val / 3) + s.val) % 3 * 2816 + k.val = s.val * 2816 + k.val by omega)
  have es : slabOf ⟨3 * (t.val / 3) + s.val, Pipeline.run_point_lt_of_flush t ht s⟩ = slabOf t :=
    Fin.ext (show (3 * (t.val / 3) + s.val) / 3 = t.val / 3 by omega)
  rw [blk0, blk1, er, es, mul_comm]
  rfl

end Cert.DwUpProof

end
-- ==== Proof.UpProj.lean ====
/-
  The call `up_proj`: the norm of the rows and the first product of the MLP block with its positive part. Both arrays it
  leaves are the reference's.
-/
module

public import proofs.«01_k».proof.Proof.Gen.UpProjIdeal.Value
public import proofs.«01_k».proof.Proof.Gen.UpProjRefIdeal.Read
public import proofs.«01_k».proof.Proof.Common

@[expose] public section

set_option maxRecDepth 16384

noncomputable section

namespace Cert.UpProjProof

open Cert.UpProjIdeal Cert.UpProjIdeal.Gen Cert.Common Idealize.ShloMosaic Idealize.ShloMosaic.TcCoe Idealize.SL.Sem
open Idealize.ShloMosaic.Pipeline (Dat)

/-- The weights as the kernel is given them: slab `n` holds columns `1024 n` to `1024 n + 1023`. -/
def slabs {F : FTy → Type} [FloatOps F] (x : Vec F S1024x4096 .f32) : Vec F S4x1024x1024 .bf16 :=
  truncf .bf16 (transpose S4x1024x1024 [1, 0, 2] (shapeCast S1024x4x1024 x shapeCasts_S1024x4096_S1024x4x1024)
    transposes_S1024x4x1024_S4x1024x1024_1_0_2) bitsLt_bf16_f32

variable (m : (ℓ : Loc nD τ sig) → Buf (Elt Ideal) ℓ)

/-- The weights the call reads are the argument, cut into four shards. -/
theorem V_slabs (c : Dev nD) : V m c main_v2 = slabs (m ((c : Thread nD τ).loc main_arg2)) := by
  simp only [V, hostOps0]
  after_results
  rfl

/-- Where the block of operand 0 lies at each step. -/
theorem idx0 : ∀ t : Fin cfg0.N, win0_0.index t = ![t.val, 0] := (by decide +kernel : ∀ t : Fin grid0.N, _)
/-- Where the block of operand 1 lies at each step. -/
theorem idx1 : ∀ t : Fin cfg0.N, win0_1.index t = ![0, 0] := (by decide +kernel : ∀ t : Fin grid0.N, _)
/-- Where the block of operand 2 lies at each step. -/
theorem idx2 : ∀ t : Fin cfg0.N, win0_2.index t = ![0, 0, 0] := (by decide +kernel : ∀ t : Fin grid0.N, _)
/-- Where the block of result 0 lies at each step. -/
theorem idx3 : ∀ t : Fin cfg0.N, win0_3.index t = ![t.val, 0] := (by decide +kernel : ∀ t : Fin grid0.N, _)
/-- Where the block of result 1 lies at each step. -/
theorem idx4 : ∀ t : Fin cfg0.N, win0_4.index t = ![t.val, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- The first argument: the rows to be normed. -/
abbrev argH (c : Dev nD) : Vec Ideal S8448x1024 .f32 := m ((c : Thread nD τ).loc main_arg0)
/-- The second argument: the gain of the norm. -/
abbrev argG (c : Dev nD) : Vec Ideal S1x1024 .f32 := m ((c : Thread nD τ).loc main_arg1)
/-- The third argument: the weights. -/
abbrev argW (c : Dev nD) : Vec Ideal S1024x4096 .f32 := m ((c : Thread nD τ).loc main_arg2)

/-- An entry of the block of the rows before the norm at one step, as an entry of the whole array. -/
theorem blk0 (c : Dev nD) (t : Fin cfg0.N) (r : Fin 768) (k : Fin 1024) :
    (iblk m c 0 t : Vec Ideal S768x1024 .f32) (ix2 r k) = argH m c (ix2 (row t r) k) := by
  have e : ((win0_0.blk t).view.emb (ix2 r k) : S8448x1024.Idx) = ix2 (row t r) k := by blk_ext [idx0]
  blk_simp [iblk]
  rw [V_main_arg0, e]

/-- An entry of the block of the gain at one step, as an entry of the whole array. -/
theorem blk1 (c : Dev nD) (t : Fin cfg0.N) (k : Fin 1024) :
    (iblk m c 1 t : Vec Ideal S1x1024 .f32) (ix2 0 k) = argG m c (ix2 0 k) := by
  have e : ((win0_1.blk t).view.emb (ix2 0 k) : S1x1024.Idx) = ix2 0 k := by blk_ext [idx1]
  blk_simp [iblk]
  rw [V_main_arg1, e]

/-- An entry of the block of the weights at one step, as an entry of the whole array. -/
theorem blk2 (c : Dev nD) (t : Fin cfg0.N) (n : Fin 4) (k j : Fin 1024) :
    (iblk m c 2 t : Vec Ideal S4x1024x1024 .bf16) (ix3 n k j) = argW m c (ix2 k (col n j)) := by
  have e : ((win0_2.blk t).view.emb (ix3 n k j) : S4x1024x1024.Idx) = ix3 n k j := by blk_ext [idx2]
  blk_simp [iblk]
  rw [V_slabs, e]
  pointwise [slabs]

/-- The rows the body norms, at an element, for any contents of the operands' blocks. -/
theorem norm_apply (P0 : Vec Ideal S768x1024 .f32) (P1 : Vec Ideal S1x1024 .f32) (r : Fin 768) (k : Fin 1024) :
    (k0_pay2 P0 P1 (ix2 r k) : EReal) = normed (fun q => P0 (ix2 r q)) (fun q => P1 (ix2 0 q)) k := by
  pointwise [k0_pay2]
  rfl

/-- Slab `n` of a block of the weights. -/
def slab (X : Vec Ideal S4x1024x1024 .bf16) (n : Fin 4) : Vec Ideal S1x1024x1024 .bf16 := fun x => X (ix3 n (x 1) (x 2))

/-- The positive part of the product of the normed rows with one slab. -/
def part (P0 : Vec Ideal S768x1024 .f32) (P1 : Vec Ideal S1x1024 .f32) (W : Vec Ideal S1x1024x1024 .bf16) :
    Vec Ideal S768x1024 .bf16 :=
  fun x => (max (∑ k : Fin 1024, (k0_pay2 P0 P1 (ix2 (x 0) k) * W (ix3 0 k (x 1)) : EReal)) 0 : EReal)

/-- What the body leaves in the first result's block, for any contents of the operands' blocks. -/
theorem out3_apply (X0 : Vec Ideal S768x1024 .f32) (X1 : Vec Ideal S1x1024 .f32) (X2 : Vec Ideal S4x1024x1024 .bf16)
    (r : Fin 768) (n : Fin 4) (j : Fin 1024) :
    (out0_3 X0 X1 X2 (ix2 r (col n j)) : EReal)
      = max (∑ k : Fin 1024, (normed (fun q => X0 (ix2 r q)) (fun q => X1 (ix2 0 q)) k * X2 (ix3 n k j) : EReal)) 0 := by
  have l0 : View.ld X0 r0_0 = X0 := View.ld_unit_zero (S := S768x1024) (off := ![0, 0]) off2_zero _ X0
  have l1 : View.ld X1 r0_1 = X1 := View.ld_unit_zero (S := S1x1024) (off := ![0, 0]) off2_zero _ X1
  have w0 : View.ld X2 r0_2 = slab X2 0 := by funext x; pointwise [slab]
  have w1 : View.ld X2 r0_3 = slab X2 1 := by funext x; pointwise [slab]
  have w2 : View.ld X2 r0_4 = slab X2 2 := by funext x; pointwise [slab]
  have w3 : View.ld X2 r0_5 = slab X2 3 := by funext x; pointwise [slab]
  have p (W : Vec Ideal S1x1024x1024 .bf16) : k0_pay3 X0 X1 W = part X0 X1 W := by funext x; pointwise [k0_pay3]; rfl
  unfold_out out0_3
  rw [View.canon_unit_zero off2_zero, l0, l1, w0, w1, w2, w3]
  show concatenate S768x4096 1 [⟨S768x1024, k0_pay3 X0 X1 (slab X2 0)⟩, ⟨S768x1024, k0_pay3 X0 X1 (slab X2 1)⟩,
    ⟨S768x1024, k0_pay3 X0 X1 (slab X2 2)⟩, ⟨S768x1024, k0_pay3 X0 X1 (slab X2 3)⟩]
    concatenates_S768x1024_S768x1024_S768x1024_S768x1024_S768x4096_d1 _ = _
  simp only [p]
  refine (concat4 (fun n => part X0 X1 (slab X2 n)) _ r n j).trans ?_
  show max (∑ k : Fin 1024, (k0_pay2 X0 X1 (ix2 r k) * X2 (ix3 n k j) : EReal)) 0 = _
  simp only [norm_apply]

/-- What the body leaves in the second result's block, for any contents of the operands' blocks. -/
theorem out4_apply (X0 : Vec Ideal S768x1024 .f32) (X1 : Vec Ideal S1x1024 .f32) (X2 : Vec Ideal S4x1024x1024 .bf16)
    (r : Fin 768) (k : Fin 1024) :
    (out0_4 X0 X1 X2 (ix2 r k) : EReal) = normed (fun q => X0 (ix2 r q)) (fun q => X1 (ix2 0 q)) k := by
  have l0 : View.ld X0 r0_0 = X0 := View.ld_unit_zero (S := S768x1024) (off := ![0, 0]) off2_zero _ X0
  have l1 : View.ld X1 r0_1 = X1 := View.ld_unit_zero (S := S1x1024) (off := ![0, 0]) off2_zero _ X1
  unfold_out out0_4
  rw [View.canon_unit_zero off2_zero, l0, l1]
  exact norm_apply X0 X1 r k

/-- What the run leaves in the first result array is the positive part of the product, as the reference has it. -/
theorem final3 (c : Dev nD) : (dats m 0 c).arrAt 3 cfg0.N = Cert.UpProjRefIdeal.Read.val_main_v16 (F := Ideal)
    (argH m c) (argG m c) (argW m c) := by
  refine (dats m 0 c).arrAt_eq_of_covers 3 _ (by decide +kernel) fun t hf (y : S768x4096.Idx) => ?_
  obtain ⟨r, n, j, rfl⟩ : ∃ (r : Fin 768) (n : Fin 4) (j : Fin 1024), y = ix2 r (col n j) := by
    obtain ⟨n, j, h⟩ := exists_col (y 1)
    exact ⟨y 0, n, j, funext fun a => by match a with | ⟨0, _⟩ => rfl | ⟨1, _⟩ => exact h⟩
  have e : ((win0_3.blk t).view.emb (ix2 r (col n j)) : S8448x4096.Idx) = ix2 (row t r) (col n j) := by blk_ext [idx3]
  blk_simp
  rw [after0_3, e]
  refine (out3_apply (iblk m c 0 t) (iblk m c 1 t) (iblk m c 2 t) r n j).trans ?_
  rw [← UpProjRefIdeal.Read.val_main_v16_eq]
  simp only [blk0, blk1, blk2]
  pointwise
  rfl

/-- What the run leaves in the second result array is the normed rows, as the reference has them. -/
theorem final4 (c : Dev nD) : (dats m 0 c).arrAt 4 cfg0.N = Cert.UpProjRefIdeal.Read.val_main_v31 (F := Ideal)
    (argH m c) (argG m c) := by
  refine (dats m 0 c).arrAt_eq_of_covers 4 _ (by decide +kernel) fun t hf (y : S768x1024.Idx) => ?_
  obtain ⟨r, k, rfl⟩ : ∃ (r : Fin 768) (k : Fin 1024), y = ix2 r k :=
    ⟨y 0, y 1, funext fun a => by match a with | ⟨0, _⟩ => rfl | ⟨1, _⟩ => rfl⟩
  have e : ((win0_4.blk t).view.emb (ix2 r k) : S8448x1024.Idx) = ix2 (row t r) k := by blk_ext [idx4]
  blk_simp
  rw [after0_4, e]
  refine (out4_apply (iblk m c 0 t) (iblk m c 1 t) (iblk m c 2 t) r k).trans ?_
  rw [← UpProjRefIdeal.Read.val_main_v31_eq]
  simp only [blk0, blk1]
  pointwise
  rfl

end Cert.UpProjProof

end
-- ==== Proof.DownProj.lean ====
/-
  The call `down_proj`: the second product of the MLP block, of the squares of the positive part, added to the block's input.
  The array it leaves is the reference's.
-/
module

public import proofs.«01_k».proof.Proof.Gen.DownProjIdeal.Value
public import proofs.«01_k».proof.Proof.Gen.DownProjRefIdeal.Read
public import proofs.«01_k».proof.Proof.Common

@[expose] public section

set_option maxRecDepth 16384

noncomputable section

namespace Cert.DownProjProof

open Cert.DownProjIdeal Cert.DownProjIdeal.Gen Cert.Common Idealize.ShloMosaic Idealize.ShloMosaic.TcCoe Idealize.SL.Sem
open Idealize.ShloMosaic.Pipeline (Dat)

/-- The positive part that the host hands to the kernel. -/
def relu {F : FTy → Type} [FloatOps F] (x : Vec F S8448x4096 .f32) : Vec F S8448x4096 .bf16 :=
  truncf .bf16 (maximumf x (broadcastInDim S8448x4096 ![] bcast_S_S8448x4096 (constant S_ .f32 0x00000000#32))) bitsLt_bf16_f32

/-- The weights as the kernel is given them: slab `n` holds rows `1024 n` to `1024 n + 1023`. -/
def slabs {F : FTy → Type} [FloatOps F] (x : Vec F S4096x1024 .f32) : Vec F S4x1024x1024 .bf16 :=
  truncf .bf16 (shapeCast S4x1024x1024 x shapeCasts_S4096x1024_S4x1024x1024) bitsLt_bf16_f32

variable (m : (ℓ : Loc nD τ sig) → Buf (Elt Ideal) ℓ)

/-- The rows the call reads are the ReLU of the first argument. -/
theorem V_relu (c : Dev nD) : V m c main_v1 = relu (m ((c : Thread nD τ).loc main_arg0)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- The weights the call reads are the argument, cut into four shards. -/
theorem V_slabs (c : Dev nD) : V m c main_v3 = slabs (m ((c : Thread nD τ).loc main_arg2)) := by
  simp only [V, hostOps0, hostOps0_1, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  rfl

/-- Where the block of operand 0 lies at each step. -/
theorem idx0 : ∀ t : Fin cfg0.N, win0_0.index t = ![t.val, 0] := (by decide +kernel : ∀ t : Fin grid0.N, _)
/-- Where the block of operand 1 lies at each step. -/
theorem idx1 : ∀ t : Fin cfg0.N, win0_1.index t = ![t.val, 0] := (by decide +kernel : ∀ t : Fin grid0.N, _)
/-- Where the block of operand 2 lies at each step. -/
theorem idx2 : ∀ t : Fin cfg0.N, win0_2.index t = ![0, 0, 0] := (by decide +kernel : ∀ t : Fin grid0.N, _)
/-- Where the block of result 0 lies at each step. -/
theorem idx3 : ∀ t : Fin cfg0.N, win0_3.index t = ![t.val, 0] := (by decide +kernel : ∀ t : Fin grid0.N, _)

/-- Row `r` of block `t` is row `768 t + r` of the array. -/
abbrev row (t : Fin cfg0.N) (r : Fin 768) : Fin 8448 :=
  ⟨t.val * 768 + r.val, by have := t.isLt; have h : cfg0.N = 11 := N_0; omega⟩

/-- The first argument: the rows whose positive part is squared. -/
abbrev argM (c : Dev nD) : Vec Ideal S8448x4096 .f32 := m ((c : Thread nD τ).loc main_arg0)
/-- The second argument: the rows the product is added to. -/
abbrev argH (c : Dev nD) : Vec Ideal S8448x1024 .f32 := m ((c : Thread nD τ).loc main_arg1)
/-- The third argument: the weights. -/
abbrev argW (c : Dev nD) : Vec Ideal S4096x1024 .f32 := m ((c : Thread nD τ).loc main_arg2)

/-- An entry of the block of the ReLU at one step, as an entry of the whole array. -/
theorem blk0 (c : Dev nD) (t : Fin cfg0.N) (r : Fin 768) (k : Fin 4096) :
    (iblk m c 0 t : Vec Ideal S768x4096 .bf16) (ix2 r k) = max (argM m c (ix2 (row t r) k)) 0 := by
  have e : ((win0_0.blk t).view.emb (ix2 r k) : S8448x4096.Idx) = ix2 (row t r) k := by blk_ext [idx0]
  blk_simp [iblk]
  rw [V_relu, e]
  pointwise [relu]

/-- An entry of the block of the residual at one step, as an entry of the whole array. -/
theorem blk1 (c : Dev nD) (t : Fin cfg0.N) (r : Fin 768) (k : Fin 1024) :
    (iblk m c 1 t : Vec Ideal S768x1024 .f32) (ix2 r k) = argH m c (ix2 (row t r) k) := by
  have e : ((win0_1.blk t).view.emb (ix2 r k) : S8448x1024.Idx) = ix2 (row t r) k := by blk_ext [idx1]
  blk_simp [iblk]
  rw [V_main_arg1, e]

/-- An entry of the block of the weights at one step, as an entry of the whole array. -/
theorem blk2 (c : Dev nD) (t : Fin cfg0.N) (n : Fin 4) (k j : Fin 1024) :
    (iblk m c 2 t : Vec Ideal S4x1024x1024 .bf16) (ix3 n k j) = argW m c (ix2 (col n k) j) := by
  have e : ((win0_2.blk t).view.emb (ix3 n k j) : S4x1024x1024.Idx) = ix3 n k j := by blk_ext [idx2]
  blk_simp [iblk]
  rw [V_slabs, e]
  pointwise [slabs]

/-- Slab `n` of a block of the weights. -/
def slab (X : Vec Ideal S4x1024x1024 .bf16) (n : Fin 4) : Vec Ideal S1x1024x1024 .bf16 := fun x => X (ix3 n (x 1) (x 2))

/-- What the body leaves in the result's block, for any contents of the operands' blocks. -/
theorem out_apply (X0 : Vec Ideal S768x4096 .bf16) (X1 : Vec Ideal S768x1024 .f32) (X2 : Vec Ideal S4x1024x1024 .bf16)
    (r : Fin 768) (j : Fin 1024) :
    (out0_3 X0 X1 X2 (ix2 r j) : EReal) = X1 (ix2 r j) + (
      (∑ k : Fin 1024, (X0 (ix2 r (col 0 k)) * X0 (ix2 r (col 0 k)) * X2 (ix3 0 k j) : EReal))
      + (∑ k : Fin 1024, (X0 (ix2 r (col 1 k)) * X0 (ix2 r (col 1 k)) * X2 (ix3 1 k j) : EReal))
      + (∑ k : Fin 1024, (X0 (ix2 r (col 2 k)) * X0 (ix2 r (col 2 k)) * X2 (ix3 2 k j) : EReal))
      + ∑ k : Fin 1024, (X0 (ix2 r (col 3 k)) * X0 (ix2 r (col 3 k)) * X2 (ix3 3 k j) : EReal)) := by
  have l0 : View.ld X0 r0_0 = X0 := View.ld_unit_zero (S := S768x4096) (off := ![0, 0]) off2_zero _ X0
  have l1 : View.ld X1 r0_1 = X1 := View.ld_unit_zero (S := S768x1024) (off := ![0, 0]) off2_zero _ X1
  have w0 : View.ld X2 r0_2 = slab X2 0 := by funext x; pointwise [slab]
  have w1 : View.ld X2 r0_3 = slab X2 1 := by funext x; pointwise [slab]
  have w2 : View.ld X2 r0_4 = slab X2 2 := by funext x; pointwise [slab]
  have w3 : View.ld X2 r0_5 = slab X2 3 := by funext x; pointwise [slab]
  have c0 (k : Fin 1024) : (⟨k.val, by omega⟩ : Fin 4096) = col 0 k := Fin.ext (show k.val = 0 * 1024 + k.val by omega)
  unfold out0_3
  rw [View.canon_unit_zero off2_zero, l0, l1, w0, w1, w2, w3]
  pointwise [k0_pay1, slab]
  simp only [c0]
  rfl

/-- What the run leaves in the result array is the reference's. -/
theorem final (c : Dev nD) : (dats m 0 c).arrAt 3 cfg0.N = Cert.DownProjRefIdeal.Read.val_main_v3 (F := Ideal)
    (argM m c) (argH m c) (argW m c) := by
  refine (dats m 0 c).arrAt_eq_of_covers 3 _ (by decide +kernel) fun t hf (y : S768x1024.Idx) => ?_
  obtain ⟨r, j, rfl⟩ : ∃ (r : Fin 768) (j : Fin 1024), y = ix2 r j :=
    ⟨y 0, y 1, funext fun a => by match a with | ⟨0, _⟩ => rfl | ⟨1, _⟩ => rfl⟩
  have e : ((win0_3.blk t).view.emb (ix2 r j) : S8448x1024.Idx) = ix2 (row t r) j := by blk_ext [idx3]
  blk_simp
  rw [after0_3, e]
  refine (out_apply (iblk m c 0 t) (iblk m c 1 t) (iblk m c 2 t) r j).trans ?_
  rw [← DownProjRefIdeal.Read.val_main_v3_eq]
  simp only [blk0, blk1, blk2]
  pointwise
  rw [sum_col]

end Cert.DownProjProof

end
-- ==== Proof.Claims.lean ====
/- Hand-written: the value claims, each from the module that reads its kernel's final arrays. -/
module

public import proofs.«01_k».proof.Defs
public import proofs.«01_k».proof.Proof.Gen.Kernel
public import proofs.«01_k».proof.Proof.DownBwd
public import proofs.«01_k».proof.Proof.DwDown
public import proofs.«01_k».proof.Proof.DwUp
public import proofs.«01_k».proof.Proof.UpProj
public import proofs.«01_k».proof.Proof.DownProj
public import proofs.«01_k».proof.Proof.DwIn
public import proofs.«01_k».proof.Proof.OutProj
public import proofs.«01_k».proof.Proof.Glu
public import proofs.«01_k».proof.Proof.DwOutA
public import proofs.«01_k».proof.Proof.DwOutB
public import proofs.«01_k».proof.Proof.DwGlu
public import proofs.«01_k».proof.Proof.UpBwd
public import proofs.«01_k».proof.Proof.OutBwd
public import proofs.«01_k».proof.Proof.GluBwd
public import proofs.«01_k».proof.Proof.Gen.ReferenceIdeal.Run
public import proofs.«01_k».proof.Proof.Gen.DwDownRefIdeal.Run
public import proofs.«01_k».proof.Proof.Gen.DwUpRefIdeal.Run
public import proofs.«01_k».proof.Proof.Gen.UpProjRefIdeal.Run
public import proofs.«01_k».proof.Proof.Gen.DownProjRefIdeal.Run
public import proofs.«01_k».proof.Proof.Gen.DwInRefIdeal.Run
public import proofs.«01_k».proof.Proof.Gen.OutProjRefIdeal.Run
public import proofs.«01_k».proof.Proof.Gen.GluRefIdeal.Run
public import proofs.«01_k».proof.Proof.Gen.DwOutARefIdeal.Run
public import proofs.«01_k».proof.Proof.Gen.DwOutBRefIdeal.Run
public import proofs.«01_k».proof.Proof.Gen.DwGluRefIdeal.Run
public import proofs.«01_k».proof.Proof.Gen.UpBwdRefIdeal.Run
public import proofs.«01_k».proof.Proof.Gen.OutBwdRefIdeal.Run
public import proofs.«01_k».proof.Proof.Gen.GluBwdRefIdeal.Run
public import proofs.«01_k».proof.Proof.Gen.Pre_bounded
public import proofs.«01_k».proof.Proof.Gen.On_down_rows
public import proofs.«01_k».proof.Proof.Gen.On_out_rows

@[expose] public section

noncomputable section

namespace Cert.Proof

open Idealize.ShloMosaic Idealize.SL.Sem

/-- The gradient of the hidden layer, as the kernel leaves it, is the reference's. -/
theorem down_bwd : Cert.algebraic_KernelIdeal_ReferenceIdeal := fun m ρ m' ρ' _ hagree =>
  ⟨fun c => ReferenceIdeal.Read.val_main_v14 (F := Ideal) (DownBwd.argM m c) (DownBwd.argW m c) (DownBwd.argD m c),
    (θ_run _ _ _).mono (fun _ h c => ⟨(h c).1.trans (DownBwd.final m c), (h c).2⟩) (KernelIdeal.Value.run_blocks m ρ),
    (θ_run _ _ _).mono (fun _ h c => ⟨(h c).1.trans (by
      rw [(hagree c).1, (hagree c).2.1, (hagree c).2.2]; exact ReferenceIdeal.Read.val_main_v14_eq _ _ _), (h c).2⟩)
      (ReferenceIdeal.Value.run m' ρ')⟩

/-- The comparison `n ≥ k` of two small numbers as words is the comparison of the numbers. -/
theorem le_of_sge {n k : ℕ} (hn : n < 4096) (hk : k < 4096)
    (h : IntOp.cmpi .sge (BitVec.ofNat 32 n) (BitVec.ofNat 32 k) = 1#1) : k ≤ n := by
  have h4 : (BitVec.ofNat 32 k).sle (BitVec.ofNat 32 n) = true := by
    cases hb : (BitVec.ofNat 32 k).sle (BitVec.ofNat 32 n) with
    | true => rfl
    | false =>
      simp only [IntOp.cmpi, hb] at h
      exact absurd h (by decide)
  rw [BitVec.sle_iff_toInt_le, BitVec.toInt_eq_toNat_of_lt (by simp; omega), BitVec.toInt_eq_toNat_of_lt (by simp; omega)] at h4
  simp only [BitVec.toNat_ofNat] at h4
  omega

/-- The comparison `n < k` of two small numbers as words is the comparison of the numbers. -/
theorem lt_of_slt {n k : ℕ} (hn : n < 4096) (hk : k < 4096)
    (h : IntOp.cmpi .slt (BitVec.ofNat 32 n) (BitVec.ofNat 32 k) = 1#1) : n < k := by
  have h4 : (BitVec.ofNat 32 n).slt (BitVec.ofNat 32 k) = true := by
    cases hb : (BitVec.ofNat 32 n).slt (BitVec.ofNat 32 k) with
    | true => rfl
    | false =>
      simp only [IntOp.cmpi, hb] at h
      exact absurd h (by decide)
  rw [BitVec.slt_iff_toInt_lt, BitVec.toInt_eq_toNat_of_lt (by simp; omega), BitVec.toInt_eq_toNat_of_lt (by simp; omega)] at h4
  simp only [BitVec.toNat_ofNat] at h4
  omega

/-- The mask of the claim is set only in the lower half of a slab's rows. -/
theorem row_of_mask (x : FVec Ideal On_down_rows.S8448x4096 .f32) (y : FVec Ideal On_down_rows.S8448x1024 .f32)
    (i : On_down_rows.S4x2048x1024.Idx) (h : On_down_rows.fn (F := Ideal) x y i = 1#1) : (i 1 : ℕ) / 1024 = 1 := by
  have h1 : (i 1 : ℕ) < 2048 := (i 1).isLt
  have h2 : 1024 ≤ (i 1 : ℕ) := le_of_sge (by omega) (by decide) h
  omega

/-- The mask of the claim is set only in the lower half of the rows of the first two slabs. -/
theorem row_of_mask2 (x : FVec Ideal On_out_rows.S8448x2048 .f32) (y : FVec Ideal On_out_rows.S8448x1024 .f32)
    (i : On_out_rows.S4x1024x1024.Idx) (h : On_out_rows.fn (F := Ideal) x y i = 1#1) :
    (i 0 : ℕ) / 1 < 2 ∧ (i 1 : ℕ) / 512 = 1 := by
  have h0 : (i 0 : ℕ) < 4 := (i 0).isLt
  have h1 : (i 1 : ℕ) < 1024 := (i 1).isLt
  have both : ∀ a b : BitVec 1, a &&& b = 1#1 → a = 1#1 ∧ b = 1#1 := by decide
  obtain ⟨ha, hb⟩ := both _ _ h
  have h2 : 512 ≤ (i 1 : ℕ) := le_of_sge (by omega) (by decide) ha
  have h3 : (i 0 : ℕ) < 2 := lt_of_slt (by omega) (by decide) hb
  omega

/-- On the rows the kernel writes, the gradient of the down projection's weights is the reference's. -/
theorem dw_down : Cert.algebraic_DwDownIdeal_DwDownRefIdeal_on_down_rows := fun m ρ m' ρ' _ hagree =>
  ⟨fun c => DwDownRefIdeal.Read.val_main_v9 (F := Ideal) (DwDownProof.argM m c) (DwDownProof.argD m c),
    (θ_run _ _ _).mono (fun _ h c => ⟨fun i hi => (congrFun ((h c).1.trans (DwDownProof.final m c)) i).trans
      (if_pos (row_of_mask _ _ i hi)), (h c).2⟩) (DwDownIdeal.Value.run_blocks m ρ),
    (θ_run _ _ _).mono (fun _ h c => ⟨fun i _ => congrFun ((h c).1.trans (by
      rw [(hagree c).1, (hagree c).2]; exact DwDownRefIdeal.Read.val_main_v9_eq _ _)) i, (h c).2⟩)
      (DwDownRefIdeal.Value.run m' ρ')⟩

/-- The gradient of the up projection's weights, beside the rows the kernel keeps, is the reference's. -/
theorem dw_up : Cert.algebraic_DwUpIdeal_DwUpRefIdeal := fun m ρ m' ρ' _ hagree =>
  ⟨fun c => DwUpRefIdeal.Read.val_main_v22 (F := Ideal) (DwUpProof.argH m c) (DwUpProof.argG m c) (DwUpProof.argD m c)
      (DwUpProof.argA m c),
    (θ_run _ _ _).mono (fun _ h c => ⟨(h c).1.trans (DwUpProof.final m c), (h c).2⟩) (DwUpIdeal.Value.run_blocks m ρ),
    (θ_run _ _ _).mono (fun _ h c => ⟨(h c).1.trans (by
      rw [(hagree c).1, (hagree c).2.1, (hagree c).2.2.1, (hagree c).2.2.2]
      exact DwUpRefIdeal.Read.val_main_v22_eq _ _ _ _), (h c).2⟩)
      (DwUpRefIdeal.Value.run m' ρ')⟩

/-- The up projection's two results are the reference's. -/
theorem up_proj : Cert.algebraic_UpProjIdeal_UpProjRefIdeal := fun m ρ m' ρ' _ hagree =>
  ⟨fun c => UpProjRefIdeal.Read.val_main_v16 (F := Ideal) (UpProjProof.argH m c) (UpProjProof.argG m c) (UpProjProof.argW m c),
    fun c => UpProjRefIdeal.Read.val_main_v31 (F := Ideal) (UpProjProof.argH m c) (UpProjProof.argG m c),
    (θ_run _ _ _).mono (fun _ h c => ⟨(h c).1.trans (UpProjProof.final3 m c), (h c).2.1.trans (UpProjProof.final4 m c),
      (h c).2.2⟩) (UpProjIdeal.Value.run_blocks m ρ),
    (θ_run _ _ _).mono (fun _ h c => ⟨(h c).1.trans (by
      rw [(hagree c).1, (hagree c).2.1, (hagree c).2.2]; exact UpProjRefIdeal.Read.val_main_v16_eq _ _ _),
      (h c).2.1.trans (by rw [(hagree c).1, (hagree c).2.1]; exact UpProjRefIdeal.Read.val_main_v31_eq _ _), (h c).2.2⟩)
      (UpProjRefIdeal.Value.run m' ρ')⟩

/-- The down projection's result is the reference's. -/
theorem down_proj : Cert.algebraic_DownProjIdeal_DownProjRefIdeal := fun m ρ m' ρ' _ hagree =>
  ⟨fun c => DownProjRefIdeal.Read.val_main_v3 (F := Ideal) (DownProjProof.argM m c) (DownProjProof.argH m c)
      (DownProjProof.argW m c),
    (θ_run _ _ _).mono (fun _ h c => ⟨(h c).1.trans (DownProjProof.final m c), (h c).2⟩) (DownProjIdeal.Value.run_blocks m ρ),
    (θ_run _ _ _).mono (fun _ h c => ⟨(h c).1.trans (by
      rw [(hagree c).1, (hagree c).2.1, (hagree c).2.2]; exact DownProjRefIdeal.Read.val_main_v3_eq _ _ _), (h c).2⟩)
      (DownProjRefIdeal.Value.run m' ρ')⟩

/-- The gradient of the input projection's weights, laid out as the kernels keep them, is the reference's. -/
theorem dw_in : Cert.algebraic_DwInIdeal_DwInRefIdeal := fun m ρ m' ρ' _ hagree =>
  ⟨fun c => DwInRefIdeal.Read.val_main_v25 (F := Ideal) (DwInProof.argH m c) (DwInProof.argG m c) (DwInProof.argD m c),
    (θ_run _ _ _).mono (fun _ h c => ⟨(h c).1.trans (DwInProof.final m c), (h c).2⟩) (DwInIdeal.Value.run_blocks m ρ),
    (θ_run _ _ _).mono (fun _ h c => ⟨(h c).1.trans ((DwInRefIdeal.Read.val_main_v25_eq m' c).trans (by
      rw [(hagree c).1, (hagree c).2.1, (hagree c).2.2])), (h c).2⟩)
      (DwInRefIdeal.Value.run m' ρ')⟩

/-- The output projection's result, the rows the head puts in among them, is the reference's. -/
theorem out_proj : Cert.algebraic_OutProjIdeal_OutProjRefIdeal := fun m ρ m' ρ' _ hagree =>
  ⟨fun c => OutProjRefIdeal.Read.val_main_v3 (F := Ideal) (OutProjProof.argX m c) (OutProjProof.argS m c) (OutProjProof.argT m c)
      (OutProjProof.argW m c),
    (θ_run _ _ _).mono (fun _ h c => ⟨(h c).1.trans (OutProjProof.final m c), (h c).2⟩) (OutProjIdeal.Value.run_blocks m ρ),
    (θ_run _ _ _).mono (fun _ h c => ⟨(h c).1.trans (by
      rw [(hagree c).1, (hagree c).2.1, (hagree c).2.2.1, (hagree c).2.2.2.2]
      exact OutProjRefIdeal.Read.val_main_v3_eq _ _ _ _), (h c).2⟩)
      (OutProjRefIdeal.Value.run m' ρ')⟩

/-- The gate's two results are the reference's. -/
theorem glu : Cert.algebraic_GluIdeal_GluRefIdeal := fun m ρ m' ρ' _ hagree =>
  ⟨fun c => GluRefIdeal.Read.val_main_v5 (F := Ideal) (GluProof.argY m c) (GluProof.argB m c) (GluProof.argW m c),
    fun c => GluRefIdeal.Read.val_main_v29 (F := Ideal) (GluProof.argY m c) (GluProof.argB m c) (GluProof.argG m c)
      (GluProof.argW m c),
    (θ_run _ _ _).mono (fun _ h c => ⟨(h c).1.trans (GluProof.final4 m c), (h c).2.1.trans (GluProof.final5 m c),
      (h c).2.2⟩) (GluIdeal.Value.run_blocks m ρ),
    (θ_run _ _ _).mono (fun _ h c => ⟨(h c).1.trans (by
      rw [(hagree c).1, (hagree c).2.1, (hagree c).2.2.2.1]; exact GluRefIdeal.Read.val_main_v5_eq _ _ _),
      (h c).2.1.trans (by
        rw [(hagree c).1, (hagree c).2.1, (hagree c).2.2.1, (hagree c).2.2.2.1]
        exact GluRefIdeal.Read.val_main_v29_eq _ _ _ _), (h c).2.2⟩)
      (GluRefIdeal.Value.run m' ρ')⟩

/-- On the rows its first call writes, the gradient of the output projection's weights is the reference's. -/
theorem dw_out_a : Cert.algebraic_DwOutAIdeal_DwOutARefIdeal_on_out_rows := fun m ρ m' ρ' _ hagree =>
  ⟨fun c => DwOutARefIdeal.Read.val_main_v7 (F := Ideal) (DwOutAProof.argX m c) (DwOutAProof.argD m c),
    (θ_run _ _ _).mono (fun _ h c => ⟨fun i hi => (congrFun ((h c).1.trans (DwOutAProof.final m c)) i).trans
      (if_pos (row_of_mask2 _ _ i hi)), (h c).2⟩) (DwOutAIdeal.Value.run_blocks m ρ),
    (θ_run _ _ _).mono (fun _ h c => ⟨fun i _ => congrFun ((h c).1.trans (by
      rw [(hagree c).1, (hagree c).2]; exact DwOutARefIdeal.Read.val_main_v7_eq _ _)) i, (h c).2⟩)
      (DwOutARefIdeal.Value.run m' ρ')⟩

/-- The gradient of the output projection's weights, put beside what its second call keeps, is the reference's. -/
theorem dw_out_b : Cert.algebraic_DwOutBIdeal_DwOutBRefIdeal := fun m ρ m' ρ' _ hagree =>
  ⟨fun c => DwOutBRefIdeal.Read.val_main_v10 (F := Ideal) (DwOutBProof.argX m c) (DwOutBProof.argD m c) (DwOutBProof.argA m c),
    (θ_run _ _ _).mono (fun _ h c => ⟨(h c).1.trans (DwOutBProof.final m c), (h c).2⟩) (DwOutBIdeal.Value.run_blocks m ρ),
    (θ_run _ _ _).mono (fun _ h c => ⟨(h c).1.trans (by
      rw [(hagree c).1, (hagree c).2.1, (hagree c).2.2]; exact DwOutBRefIdeal.Read.val_main_v10_eq _ _ _), (h c).2⟩)
      (DwOutBRefIdeal.Value.run m' ρ')⟩

/-- The gradient of the gate's weights, put beside the rows the kernel keeps, is the reference's. -/
theorem dw_glu : Cert.algebraic_DwGluIdeal_DwGluRefIdeal := fun m ρ m' ρ' _ hagree =>
  ⟨fun c => DwGluRefIdeal.Read.val_main_v12 (F := Ideal) (DwGluProof.argY m c) (DwGluProof.argD m c) (DwGluProof.argA m c),
    (θ_run _ _ _).mono (fun _ h c => ⟨(h c).1.trans (DwGluProof.final m c), (h c).2⟩) (DwGluIdeal.Value.run_blocks m ρ),
    (θ_run _ _ _).mono (fun _ h c => ⟨(h c).1.trans (by
      rw [(hagree c).1, (hagree c).2.2.1, (hagree c).2.2.2]; exact DwGluRefIdeal.Read.val_main_v12_eq _ _ _), (h c).2⟩)
      (DwGluRefIdeal.Value.run m' ρ')⟩

/-- The three results of the MLP norm's gradient are the reference's. -/
theorem up_bwd : Cert.algebraic_UpBwdIdeal_UpBwdRefIdeal := fun m ρ m' ρ' _ hagree =>
  ⟨fun c => UpBwdRefIdeal.Read.val_main_v36 (F := Ideal) (UpBwdProof.argH m c) (UpBwdProof.argG m c) (UpBwdProof.argW m c)
      (UpBwdProof.argD m c) (UpBwdProof.argC m c),
    fun c => UpBwdRefIdeal.Read.val_main_v41 (F := Ideal) (UpBwdProof.argH m c) (UpBwdProof.argG m c) (UpBwdProof.argW m c)
      (UpBwdProof.argD m c) (UpBwdProof.argC m c),
    fun c => UpBwdRefIdeal.Read.val_main_v40 (F := Ideal) (UpBwdProof.argH m c) (UpBwdProof.argW m c) (UpBwdProof.argD m c),
    (θ_run _ _ _).mono (fun _ h c => ⟨(h c).1.trans (UpBwdProof.final5 m c), (h c).2.1.trans (UpBwdProof.final6 m c),
      (h c).2.2.1.trans (UpBwdProof.final7 m c), (h c).2.2.2⟩) (UpBwdIdeal.Value.run_blocks m ρ),
    (θ_run _ _ _).mono (fun _ h c => ⟨(h c).1.trans ((UpBwdRefIdeal.Read.val_main_v36_eq m' c).trans (by
        rw [(hagree c).1, (hagree c).2.1, (hagree c).2.2.1, (hagree c).2.2.2.1, (hagree c).2.2.2.2])),
      (h c).2.1.trans ((UpBwdRefIdeal.Read.val_main_v41_eq m' c).trans (by
        rw [(hagree c).1, (hagree c).2.1, (hagree c).2.2.1, (hagree c).2.2.2.1, (hagree c).2.2.2.2])),
      (h c).2.2.1.trans (by
        rw [(hagree c).1, (hagree c).2.2.1, (hagree c).2.2.2.1]; exact UpBwdRefIdeal.Read.val_main_v40_eq _ _ _), (h c).2.2.2⟩)
      (UpBwdRefIdeal.Value.run m' ρ')⟩

/-- The four results of the output projection's gradient are the reference's. -/
theorem out_bwd : Cert.algebraic_OutBwdIdeal_OutBwdRefIdeal := fun m ρ m' ρ' _ hagree =>
  ⟨fun c => OutBwdRefIdeal.Read.val_main_v39 (F := Ideal) (OutBwdProof.argD m c) (OutBwdProof.argW m c),
    fun c => OutBwdRefIdeal.Read.val_main_v71 (F := Ideal) (OutBwdProof.argD m c) (OutBwdProof.argV m c) (OutBwdProof.argG m c)
      (OutBwdProof.argW m c),
    fun c => OutBwdRefIdeal.Read.val_main_v60 (F := Ideal) (OutBwdProof.argD m c) (OutBwdProof.argV m c) (OutBwdProof.argW m c),
    fun c => OutBwdRefIdeal.Read.val_main_v70 (F := Ideal) (OutBwdProof.argD m c) (OutBwdProof.argV m c) (OutBwdProof.argG m c)
      (OutBwdProof.argW m c),
    (θ_run _ _ _).mono (fun _ h c => ⟨(h c).1.trans (OutBwdProof.final4 m c), (h c).2.1.trans (OutBwdProof.final5 m c),
      (h c).2.2.1.trans (OutBwdProof.final6 m c), (h c).2.2.2.1.trans (OutBwdProof.final7 m c), (h c).2.2.2.2⟩)
      (OutBwdIdeal.Value.run_blocks m ρ),
    (θ_run _ _ _).mono (fun _ h c => ⟨(h c).1.trans (by
        rw [(hagree c).1, (hagree c).2.2.2.2]; exact OutBwdRefIdeal.Read.val_main_v39_eq _ _),
      (h c).2.1.trans ((OutBwdRefIdeal.Read.val_main_v71_eq m' c).trans (by
        rw [(hagree c).1, (hagree c).2.1, (hagree c).2.2.1, (hagree c).2.2.2.2])),
      (h c).2.2.1.trans (by
        rw [(hagree c).1, (hagree c).2.1, (hagree c).2.2.2.2]; exact OutBwdRefIdeal.Read.val_main_v60_eq _ _ _),
      (h c).2.2.2.1.trans ((OutBwdRefIdeal.Read.val_main_v70_eq m' c).trans (by
        rw [(hagree c).1, (hagree c).2.1, (hagree c).2.2.1, (hagree c).2.2.2.2])), (h c).2.2.2.2⟩)
      (OutBwdRefIdeal.Value.run m' ρ')⟩

/-- The gradient through the gate's product and the GELU before it is the reference's, where the precondition bounds the
cotangent and the weights. -/
theorem glu_bwd : Cert.algebraic_GluBwdIdeal_GluBwdRefIdeal_pre_bounded := fun m ρ m' ρ' hpre hagree =>
  ⟨fun c => GluBwdRefIdeal.Read.val_main_v29 (F := Ideal) (GluBwdProof.argD m c) (GluBwdProof.argY m c) (GluBwdProof.argW m c),
    (θ_run _ _ _).mono (fun _ h c => ⟨(h c).1.trans (GluBwdProof.final m c
      (fun i => Common.real_of_bounded (congrFun (hpre c).1 i)) (fun i => Common.real_of_bounded (congrFun (hpre c).2 i))),
      (h c).2⟩) (GluBwdIdeal.Value.run_blocks m ρ),
    (θ_run _ _ _).mono (fun _ h c => ⟨(h c).1.trans (by
      rw [(hagree c).1, (hagree c).2.1, (hagree c).2.2.1]; exact GluBwdRefIdeal.Read.val_main_v29_eq _ _ _), (h c).2⟩)
      (GluBwdRefIdeal.Value.run m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjRefIdeal
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.DwOutA
public import proofs.«01_k».proof.Proof.Gen.DwOutA.Skeleton
public import proofs.«01_k».proof.Proof.Gen.DwOutA.Launch
public import proofs.«01_k».proof.Proof.Gen.DwOutA.Points
public import proofs.«01_k».proof.Proof.Gen.DwOutA.Frame
public import proofs.«01_k».proof.Proof.Gen.DwOutAIdeal
public import proofs.«01_k».proof.Proof.Gen.DwOutAIdeal.Skeleton
public import proofs.«01_k».proof.Proof.Gen.DwOutAIdeal.Launch
public import proofs.«01_k».proof.Proof.Gen.DwOutAIdeal.Points
public import proofs.«01_k».proof.Proof.Gen.DwOutAIdeal.Frame
public import proofs.«01_k».proof.Proof.Gen.DwOutARefIdeal
public import proofs.«01_k».proof.Proof.Gen.DwOutB
public import proofs.«01_k».proof.Proof.Gen.DwOutB.Skeleton
public import proofs.«01_k».proof.Proof.Gen.DwOutB.Launch
public import proofs.«01_k».proof.Proof.Gen.DwOutB.Points
public import proofs.«01_k».proof.Proof.Gen.DwOutB.Frame
public import proofs.«01_k».proof.Proof.Gen.DwOutBIdeal
public import proofs.«01_k».proof.Proof.Gen.DwOutBIdeal.Skeleton
public import proofs.«01_k».proof.Proof.Gen.DwOutBIdeal.Launch
public import proofs.«01_k».proof.Proof.Gen.DwOutBIdeal.Points
public import proofs.«01_k».proof.Proof.Gen.DwOutBIdeal.Frame
public import proofs.«01_k».proof.Proof.Gen.DwOutBRefIdeal
public import proofs.«01_k».proof.Proof.Gen.DwGlu
public import proofs.«01_k».proof.Proof.Gen.DwGlu.Skeleton
public import proofs.«01_k».proof.Proof.Gen.DwGlu.Launch
public import proofs.«01_k».proof.Proof.Gen.DwGlu.Points
public import proofs.«01_k».proof.Proof.Gen.DwGlu.Frame
public import proofs.«01_k».proof.Proof.Gen.DwGluIdeal
public import proofs.«01_k».proof.Proof.Gen.DwGluIdeal.Skeleton
public import proofs.«01_k».proof.Proof.Gen.DwGluIdeal.Launch
public import proofs.«01_k».proof.Proof.Gen.DwGluIdeal.Points
public import proofs.«01_k».proof.Proof.Gen.DwGluIdeal.Frame
public import proofs.«01_k».proof.Proof.Gen.DwGluRefIdeal
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.UpBwd
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.OutBwd
public import proofs.«01_k».proof.Proof.Gen.GluBwd.Frame
public import proofs.«01_k».proof.Proof.Gen.GluBwdIdeal.Frame
public import proofs.«01_k».proof.Proof.Gen.GluBwdRefIdeal
public import proofs.«01_k».proof.Proof.Gen.AdamIn.Frame
public import proofs.«01_k».proof.Proof.Gen.AdamInIdeal.Frame
public import proofs.«01_k».proof.Proof.Gen.AdamInRefIdeal
public import proofs.«01_k».proof.Proof.Gen.AdamB.Frame
public import proofs.«01_k».proof.Proof.Gen.AdamBIdeal.Frame
public import proofs.«01_k».proof.Proof.Gen.AdamBRefIdeal
public import proofs.«01_k».proof.Proof.Gen.AdamUp.Frame
public import proofs.«01_k».proof.Proof.Gen.AdamUpIdeal.Frame
public import proofs.«01_k».proof.Proof.Gen.AdamUpRefIdeal
public import proofs.«01_k».proof.Proof.Gen.AdamOut.Frame
public import proofs.«01_k».proof.Proof.Gen.AdamOutIdeal.Frame
public import proofs.«01_k».proof.Proof.Gen.AdamOutRefIdeal
public import proofs.«01_k».proof.Proof.Gen.AdamGlu.Frame
public import proofs.«01_k».proof.Proof.Gen.AdamGluIdeal.Frame
public import proofs.«01_k».proof.Proof.Gen.AdamGluRefIdeal
public import proofs.«01_k».proof.Proof.Gen.AdamRow.Frame
public import proofs.«01_k».proof.Proof.Gen.AdamRowIdeal.Frame
public import proofs.«01_k».proof.Proof.Gen.AdamRowRefIdeal
public import proofs.«01_k».proof.Proof.Gen.AdamBias.Frame
public import proofs.«01_k».proof.Proof.Gen.AdamBiasIdeal.Frame
public import proofs.«01_k».proof.Proof.Gen.AdamBiasRefIdeal
public import proofs.«01_k».proof.Proof.Gen.AdamConvB.Frame
public import proofs.«01_k».proof.Proof.Gen.AdamConvBIdeal.Frame
public import proofs.«01_k».proof.Proof.Gen.AdamConvBRefIdeal
public import proofs.«01_k».proof.Proof.Gen.AdamConvW.Frame
public import proofs.«01_k».proof.Proof.Gen.AdamConvWIdeal.Frame
public import proofs.«01_k».proof.Proof.Gen.AdamConvWRefIdeal
public import proofs.«01_k».proof.Proof.Gen.AdamMeta.Frame
public import proofs.«01_k».proof.Proof.Gen.AdamMetaIdeal.Frame
public import proofs.«01_k».proof.Proof.Gen.AdamMetaRefIdeal
public import proofs.«01_k».proof.Proof.Gen.AdamHeads.Frame
public import proofs.«01_k».proof.Proof.Gen.AdamHeadsIdeal.Frame
public import proofs.«01_k».proof.Proof.Gen.AdamHeadsRefIdeal
public import proofs.«01_k».proof.Proof.Gen.AdamStep.Frame
public import proofs.«01_k».proof.Proof.Gen.AdamStepIdeal.Frame
public import proofs.«01_k».proof.Proof.Gen.AdamStepRefIdeal
public import proofs.«01_k».proof.Proof.Gen.AdamLam.Frame
public import proofs.«01_k».proof.Proof.Gen.AdamLamIdeal.Frame
public import proofs.«01_k».proof.Proof.Gen.AdamLamRefIdeal
public import proofs.«01_k».proof.Proof.Gen.AdamC.Frame
public import proofs.«01_k».proof.Proof.Gen.AdamCIdeal.Frame
public import proofs.«01_k».proof.Proof.Gen.AdamCRefIdeal
public import proofs.«01_k».proof.Proof.Gen.AdamD.Frame
public import proofs.«01_k».proof.Proof.Gen.AdamDIdeal.Frame
public import proofs.«01_k».proof.Proof.Gen.AdamDRefIdeal
public import proofs.«01_k».proof.Proof.Gen.SumEarly.Frame
public import proofs.«01_k».proof.Proof.Gen.SumEarlyIdeal.Frame
public import proofs.«01_k».proof.Proof.Gen.SumEarlyRefIdeal
public import proofs.«01_k».proof.Proof.Gen.SumLate.Frame
public import proofs.«01_k».proof.Proof.Gen.SumLateIdeal.Frame
public import proofs.«01_k».proof.Proof.Gen.SumLateRefIdeal
public import proofs.«01_k».proof.Proof.Gen.RsSum0.Frame
public import proofs.«01_k».proof.Proof.Gen.RsSum0Ideal.Frame
public import proofs.«01_k».proof.Proof.Gen.RsSum0RefIdeal
public import proofs.«01_k».proof.Proof.Gen.RsSum1.Frame
public import proofs.«01_k».proof.Proof.Gen.RsSum1Ideal.Frame
public import proofs.«01_k».proof.Proof.Gen.RsSum1RefIdeal
public import proofs.«01_k».proof.Proof.Gen.RsSum2.Frame
public import proofs.«01_k».proof.Proof.Gen.RsSum2Ideal.Frame
public import proofs.«01_k».proof.Proof.Gen.RsSum2RefIdeal
public import proofs.«01_k».proof.Proof.Gen.Final.Frame
public import proofs.«01_k».proof.Proof.Gen.FinalIdeal.Frame
public import proofs.«01_k».proof.Proof.Gen.FinalRefIdeal
public import proofs.«01_k».proof.Proof.Gen.Pre_bounded
public import proofs.«01_k».proof.Proof.GluBwd
public import proofs.«01_k».proof.Proof.Adam
public import proofs.«01_k».proof.Proof.AdamTurned
public import proofs.«01_k».proof.Proof.Sums
public import proofs.«01_k».proof.Proof.LossHead
public import proofs.«01_k».proof.Proof.Gen.On_down_rows
public import proofs.«01_k».proof.Proof.Gen.On_out_rows
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.Gen.DownProjIdeal.Value
public import proofs.«01_k».proof.Proof.Gen.DownProjRefIdeal.Run
public import proofs.«01_k».proof.Proof.Gen.DownProjRefIdeal.Read
public import proofs.«01_k».proof.Proof.DwIn
public import proofs.«01_k».proof.Proof.OutProj
public import proofs.«01_k».proof.Proof.Glu
public import proofs.«01_k».proof.Proof.DwOutA
public import proofs.«01_k».proof.Proof.DwOutB
public import proofs.«01_k».proof.Proof.DwGlu
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the test, together. -/
theorem claim : Cert.Claim := ⟨Cert.Kernel.Gen.facts, Cert.KernelIdeal.Gen.facts, Cert.ReferenceIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.UpProj.Gen.facts, Cert.UpProjIdeal.Gen.facts, Cert.UpProjRefIdeal.Gen.facts, Cert.DownProj.Gen.facts, Cert.DownProjIdeal.Gen.facts, Cert.DownProjRefIdeal.Gen.facts, Cert.DwIn.Gen.facts, Cert.DwInIdeal.Gen.facts, Cert.DwInRefIdeal.Gen.facts, Cert.OutProj.Gen.facts, Cert.OutProjIdeal.Gen.facts, Cert.OutProjRefIdeal.Gen.facts, Cert.Glu.Gen.facts, Cert.GluIdeal.Gen.facts, Cert.GluRefIdeal.Gen.facts, Cert.DwOutA.Gen.facts, Cert.DwOutAIdeal.Gen.facts, Cert.DwOutARefIdeal.Gen.facts, Cert.DwOutB.Gen.facts, Cert.DwOutBIdeal.Gen.facts, Cert.DwOutBRefIdeal.Gen.facts, Cert.DwGlu.Gen.facts, Cert.DwGluIdeal.Gen.facts, Cert.DwGluRefIdeal.Gen.facts, Cert.UpBwd.Gen.facts, Cert.UpBwdIdeal.Gen.facts, Cert.UpBwdRefIdeal.Gen.facts, Cert.OutBwd.Gen.facts, Cert.OutBwdIdeal.Gen.facts, Cert.OutBwdRefIdeal.Gen.facts, Cert.GluBwd.Gen.facts, Cert.GluBwdIdeal.Gen.facts, Cert.GluBwdRefIdeal.Gen.facts, Cert.AdamIn.Gen.facts, Cert.AdamInIdeal.Gen.facts, Cert.AdamInRefIdeal.Gen.facts, Cert.AdamB.Gen.facts, Cert.AdamBIdeal.Gen.facts, Cert.AdamBRefIdeal.Gen.facts, Cert.AdamUp.Gen.facts, Cert.AdamUpIdeal.Gen.facts, Cert.AdamUpRefIdeal.Gen.facts, Cert.AdamOut.Gen.facts, Cert.AdamOutIdeal.Gen.facts, Cert.AdamOutRefIdeal.Gen.facts, Cert.AdamGlu.Gen.facts, Cert.AdamGluIdeal.Gen.facts, Cert.AdamGluRefIdeal.Gen.facts, Cert.AdamRow.Gen.facts, Cert.AdamRowIdeal.Gen.facts, Cert.AdamRowRefIdeal.Gen.facts, Cert.AdamBias.Gen.facts, Cert.AdamBiasIdeal.Gen.facts, Cert.AdamBiasRefIdeal.Gen.facts, Cert.AdamConvB.Gen.facts, Cert.AdamConvBIdeal.Gen.facts, Cert.AdamConvBRefIdeal.Gen.facts, Cert.AdamConvW.Gen.facts, Cert.AdamConvWIdeal.Gen.facts, Cert.AdamConvWRefIdeal.Gen.facts, Cert.AdamMeta.Gen.facts, Cert.AdamMetaIdeal.Gen.facts, Cert.AdamMetaRefIdeal.Gen.facts, Cert.AdamHeads.Gen.facts, Cert.AdamHeadsIdeal.Gen.facts, Cert.AdamHeadsRefIdeal.Gen.facts, Cert.AdamStep.Gen.facts, Cert.AdamStepIdeal.Gen.facts, Cert.AdamStepRefIdeal.Gen.facts, Cert.AdamLam.Gen.facts, Cert.AdamLamIdeal.Gen.facts, Cert.AdamLamRefIdeal.Gen.facts, Cert.AdamC.Gen.facts, Cert.AdamCIdeal.Gen.facts, Cert.AdamCRefIdeal.Gen.facts, Cert.AdamD.Gen.facts, Cert.AdamDIdeal.Gen.facts, Cert.AdamDRefIdeal.Gen.facts, Cert.SumEarly.Gen.facts, Cert.SumEarlyIdeal.Gen.facts, Cert.SumEarlyRefIdeal.Gen.facts, Cert.SumLate.Gen.facts, Cert.SumLateIdeal.Gen.facts, Cert.SumLateRefIdeal.Gen.facts, Cert.RsSum0.Gen.facts, Cert.RsSum0Ideal.Gen.facts, Cert.RsSum0RefIdeal.Gen.facts, Cert.RsSum1.Gen.facts, Cert.RsSum1Ideal.Gen.facts, Cert.RsSum1RefIdeal.Gen.facts, Cert.RsSum2.Gen.facts, Cert.RsSum2Ideal.Gen.facts, Cert.RsSum2RefIdeal.Gen.facts, Cert.Final.Gen.facts, Cert.FinalIdeal.Gen.facts, Cert.FinalRefIdeal.Gen.facts, Cert.Pre_bounded.Gen.facts, Cert.On_down_rows.Gen.facts, Cert.On_out_rows.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩) (ReferenceIdeal.Value.run m ρ),
  fun m ρ _ => Cert.DwDown.Gen.frame m ρ,
  fun m ρ _ => Cert.DwDownIdeal.Gen.frame m ρ,
  fun m ρ _ => (θ_run _ _ _).mono (fun r h => ⟨fun c => (h c).2, sem_eq_zero_of_no_sems (by decide) r.2⟩) (DwDownRefIdeal.Value.run m ρ),
  fun m ρ _ => Cert.DwUp.Gen.frame m ρ,
  fun m ρ _ => Cert.DwUpIdeal.Gen.frame m ρ,
  fun m ρ _ => (θ_run _ _ _).mono (fun r h => ⟨fun c => (h c).2, sem_eq_zero_of_no_sems (by decide) r.2⟩) (DwUpRefIdeal.Value.run m ρ),
  fun m ρ _ => Cert.UpProj.Gen.frame m ρ,
  fun m ρ _ => Cert.UpProjIdeal.Gen.frame m ρ,
  fun m ρ _ => (θ_run _ _ _).mono (fun r h => ⟨fun c => (h c).2.2, sem_eq_zero_of_no_sems (by decide) r.2⟩) (UpProjRefIdeal.Value.run m ρ),
  fun m ρ _ => Cert.DownProj.Gen.frame m ρ,
  fun m ρ _ => Cert.DownProjIdeal.Gen.frame m ρ,
  fun m ρ _ => (θ_run _ _ _).mono (fun r h => ⟨fun c => (h c).2, sem_eq_zero_of_no_sems (by decide) r.2⟩) (DownProjRefIdeal.Value.run m ρ),
  fun m ρ _ => Cert.DwIn.Gen.frame m ρ,
  fun m ρ _ => Cert.DwInIdeal.Gen.frame m ρ,
  fun m ρ _ => (θ_run _ _ _).mono (fun r h => ⟨fun c => (h c).2, sem_eq_zero_of_no_sems (by decide) r.2⟩) (DwInRefIdeal.Value.run m ρ),
  fun m ρ _ => Cert.OutProj.Gen.frame m ρ,
  fun m ρ _ => Cert.OutProjIdeal.Gen.frame m ρ,
  fun m ρ _ => (θ_run _ _ _).mono (fun r h => ⟨fun c => (h c).2, sem_eq_zero_of_no_sems (by decide) r.2⟩) (OutProjRefIdeal.Value.run m ρ),
  fun m ρ _ => Cert.Glu.Gen.frame m ρ,
  fun m ρ _ => Cert.GluIdeal.Gen.frame m ρ,
  fun m ρ _ => (θ_run _ _ _).mono (fun r h => ⟨fun c => (h c).2.2, sem_eq_zero_of_no_sems (by decide) r.2⟩) (GluRefIdeal.Value.run m ρ),
  fun m ρ _ => Cert.DwOutA.Gen.frame m ρ,
  fun m ρ _ => Cert.DwOutAIdeal.Gen.frame m ρ,
  fun m ρ _ => (θ_run _ _ _).mono (fun r h => ⟨fun c => (h c).2, sem_eq_zero_of_no_sems (by decide) r.2⟩) (DwOutARefIdeal.Value.run m ρ),
  fun m ρ _ => Cert.DwOutB.Gen.frame m ρ,
  fun m ρ _ => Cert.DwOutBIdeal.Gen.frame m ρ,
  fun m ρ _ => (θ_run _ _ _).mono (fun r h => ⟨fun c => (h c).2, sem_eq_zero_of_no_sems (by decide) r.2⟩) (DwOutBRefIdeal.Value.run m ρ),
  fun m ρ _ => Cert.DwGlu.Gen.frame m ρ,
  fun m ρ _ => Cert.DwGluIdeal.Gen.frame m ρ,
  fun m ρ _ => (θ_run _ _ _).mono (fun r h => ⟨fun c => (h c).2, sem_eq_zero_of_no_sems (by decide) r.2⟩) (DwGluRefIdeal.Value.run m ρ),
  fun m ρ _ => Cert.UpBwd.Gen.frame m ρ,
  fun m ρ _ => Cert.UpBwdIdeal.Gen.frame m ρ,
  fun m ρ _ => (θ_run _ _ _).mono (fun r h => ⟨fun c => (h c).2.2.2, sem_eq_zero_of_no_sems (by decide) r.2⟩) (UpBwdRefIdeal.Value.run m ρ),
  fun m ρ _ => Cert.OutBwd.Gen.frame m ρ,
  fun m ρ _ => Cert.OutBwdIdeal.Gen.frame m ρ,
  fun m ρ _ => (θ_run _ _ _).mono (fun r h => ⟨fun c => (h c).2.2.2.2, sem_eq_zero_of_no_sems (by decide) r.2⟩) (OutBwdRefIdeal.Value.run m ρ),
  fun m ρ _ => Cert.GluBwd.Gen.frame m ρ,
  fun m ρ _ => Cert.GluBwdIdeal.Gen.frame m ρ,
  fun m ρ _ => Cert.GluBwdIdeal.Gen.frame m ρ,
  fun m ρ _ => (θ_run _ _ _).mono (fun r h => ⟨fun c => (h c).2, sem_eq_zero_of_no_sems (by decide) r.2⟩) (GluBwdRefIdeal.Value.run m ρ),
  fun m ρ _ => (θ_run _ _ _).mono (fun r h => ⟨fun c => (h c).2, sem_eq_zero_of_no_sems (by decide) r.2⟩) (GluBwdRefIdeal.Value.run m ρ),
  fun m ρ _ => Cert.AdamIn.Gen.frame m ρ,
  fun m ρ _ => Cert.AdamInIdeal.Gen.frame m ρ,
  fun m ρ _ => (θ_run _ _ _).mono (fun r h => ⟨fun c => (h c).2.2.2, sem_eq_zero_of_no_sems (by decide) r.2⟩) (AdamInRefIdeal.Value.run m ρ),
  fun m ρ _ => Cert.AdamB.Gen.frame m ρ,
  fun m ρ _ => Cert.AdamBIdeal.Gen.frame m ρ,
  fun m ρ _ => (θ_run _ _ _).mono (fun r h => ⟨fun c => (h c).2.2.2, sem_eq_zero_of_no_sems (by decide) r.2⟩) (AdamBRefIdeal.Value.run m ρ),
  fun m ρ _ => Cert.AdamUp.Gen.frame m ρ,
  fun m ρ _ => Cert.AdamUpIdeal.Gen.frame m ρ,
  fun m ρ _ => (θ_run _ _ _).mono (fun r h => ⟨fun c => (h c).2.2.2, sem_eq_zero_of_no_sems (by decide) r.2⟩) (AdamUpRefIdeal.Value.run m ρ),
  fun m ρ _ => Cert.AdamOut.Gen.frame m ρ,
  fun m ρ _ => Cert.AdamOutIdeal.Gen.frame m ρ,
  fun m ρ _ => (θ_run _ _ _).mono (fun r h => ⟨fun c => (h c).2.2.2, sem_eq_zero_of_no_sems (by decide) r.2⟩) (AdamOutRefIdeal.Value.run m ρ),
  fun m ρ _ => Cert.AdamGlu.Gen.frame m ρ,
  fun m ρ _ => Cert.AdamGluIdeal.Gen.frame m ρ,
  fun m ρ _ => (θ_run _ _ _).mono (fun r h => ⟨fun c => (h c).2.2.2, sem_eq_zero_of_no_sems (by decide) r.2⟩) (AdamGluRefIdeal.Value.run m ρ),
  fun m ρ _ => Cert.AdamRow.Gen.frame m ρ,
  fun m ρ _ => Cert.AdamRowIdeal.Gen.frame m ρ,
  fun m ρ _ => (θ_run _ _ _).mono (fun r h => ⟨fun c => (h c).2.2.2, sem_eq_zero_of_no_sems (by decide) r.2⟩) (AdamRowRefIdeal.Value.run m ρ),
  fun m ρ _ => Cert.AdamBias.Gen.frame m ρ,
  fun m ρ _ => Cert.AdamBiasIdeal.Gen.frame m ρ,
  fun m ρ _ => (θ_run _ _ _).mono (fun r h => ⟨fun c => (h c).2.2.2, sem_eq_zero_of_no_sems (by decide) r.2⟩) (AdamBiasRefIdeal.Value.run m ρ),
  fun m ρ _ => Cert.AdamConvB.Gen.frame m ρ,
  fun m ρ _ => Cert.AdamConvBIdeal.Gen.frame m ρ,
  fun m ρ _ => (θ_run _ _ _).mono (fun r h => ⟨fun c => (h c).2.2.2, sem_eq_zero_of_no_sems (by decide) r.2⟩) (AdamConvBRefIdeal.Value.run m ρ),
  fun m ρ _ => Cert.AdamConvW.Gen.frame m ρ,
  fun m ρ _ => Cert.AdamConvWIdeal.Gen.frame m ρ,
  fun m ρ _ => (θ_run _ _ _).mono (fun r h => ⟨fun c => (h c).2.2.2, sem_eq_zero_of_no_sems (by decide) r.2⟩) (AdamConvWRefIdeal.Value.run m ρ),
  fun m ρ _ => Cert.AdamMeta.Gen.frame m ρ,
  fun m ρ _ => Cert.AdamMetaIdeal.Gen.frame m ρ,
  fun m ρ _ => (θ_run _ _ _).mono (fun r h => ⟨fun c => (h c).2.2.2, sem_eq_zero_of_no_sems (by decide) r.2⟩) (AdamMetaRefIdeal.Value.run m ρ),
  fun m ρ _ => Cert.AdamHeads.Gen.frame m ρ,
  fun m ρ _ => Cert.AdamHeadsIdeal.Gen.frame m ρ,
  fun m ρ _ => (θ_run _ _ _).mono (fun r h => ⟨fun c => (h c).2.2.2, sem_eq_zero_of_no_sems (by decide) r.2⟩) (AdamHeadsRefIdeal.Value.run m ρ),
  fun m ρ _ => Cert.AdamStep.Gen.frame m ρ,
  fun m ρ _ => Cert.AdamStepIdeal.Gen.frame m ρ,
  fun m ρ _ => (θ_run _ _ _).mono (fun r h => ⟨fun c => (h c).2.2.2, sem_eq_zero_of_no_sems (by decide) r.2⟩) (AdamStepRefIdeal.Value.run m ρ),
  fun m ρ _ => Cert.AdamLam.Gen.frame m ρ,
  fun m ρ _ => Cert.AdamLamIdeal.Gen.frame m ρ,
  fun m ρ _ => (θ_run _ _ _).mono (fun r h => ⟨fun c => (h c).2.2.2, sem_eq_zero_of_no_sems (by decide) r.2⟩) (AdamLamRefIdeal.Value.run m ρ),
  fun m ρ _ => Cert.AdamC.Gen.frame m ρ,
  fun m ρ _ => Cert.AdamCIdeal.Gen.frame m ρ,
  fun m ρ _ => (θ_run _ _ _).mono (fun r h => ⟨fun c => (h c).2.2.2, sem_eq_zero_of_no_sems (by decide) r.2⟩) (AdamCRefIdeal.Value.run m ρ),
  fun m ρ _ => Cert.AdamD.Gen.frame m ρ,
  fun m ρ _ => Cert.AdamDIdeal.Gen.frame m ρ,
  fun m ρ _ => (θ_run _ _ _).mono (fun r h => ⟨fun c => (h c).2.2.2, sem_eq_zero_of_no_sems (by decide) r.2⟩) (AdamDRefIdeal.Value.run m ρ),
  fun m ρ _ => Cert.SumEarly.Gen.frame m ρ,
  fun m ρ _ => Cert.SumEarlyIdeal.Gen.frame m ρ,
  fun m ρ _ => (θ_run _ _ _).mono (fun r h => ⟨fun c => (h c).2, sem_eq_zero_of_no_sems (by decide) r.2⟩) (SumEarlyRefIdeal.Value.run m ρ),
  fun m ρ _ => Cert.SumLate.Gen.frame m ρ,
  fun m ρ _ => Cert.SumLateIdeal.Gen.frame m ρ,
  fun m ρ _ => (θ_run _ _ _).mono (fun r h => ⟨fun c => (h c).2, sem_eq_zero_of_no_sems (by decide) r.2⟩) (SumLateRefIdeal.Value.run m ρ),
  fun m ρ _ => Cert.RsSum0.Gen.frame m ρ,
  fun m ρ _ => Cert.RsSum0Ideal.Gen.frame m ρ,
  fun m ρ _ => (θ_run _ _ _).mono (fun r h => ⟨fun c => (h c).2, sem_eq_zero_of_no_sems (by decide) r.2⟩) (RsSum0RefIdeal.Value.run m ρ),
  fun m ρ _ => Cert.RsSum1.Gen.frame m ρ,
  fun m ρ _ => Cert.RsSum1Ideal.Gen.frame m ρ,
  fun m ρ _ => (θ_run _ _ _).mono (fun r h => ⟨fun c => (h c).2, sem_eq_zero_of_no_sems (by decide) r.2⟩) (RsSum1RefIdeal.Value.run m ρ),
  fun m ρ _ => Cert.RsSum2.Gen.frame m ρ,
  fun m ρ _ => Cert.RsSum2Ideal.Gen.frame m ρ,
  fun m ρ _ => (θ_run _ _ _).mono (fun r h => ⟨fun c => (h c).2, sem_eq_zero_of_no_sems (by decide) r.2⟩) (RsSum2RefIdeal.Value.run m ρ),
  fun m ρ _ => Cert.Final.Gen.frame m ρ,
  fun m ρ _ => Cert.FinalIdeal.Gen.frame m ρ,
  fun m ρ _ => (θ_run _ _ _).mono (fun r h => ⟨fun c => (h c).2.2.2.2, sem_eq_zero_of_no_sems (by decide) r.2⟩) (FinalRefIdeal.Value.run m ρ),
  trivial, down_bwd,
  trivial, dw_down,
  trivial, dw_up,
  trivial, up_proj,
  trivial, down_proj,
  trivial, dw_in,
  trivial, out_proj,
  trivial, glu,
  trivial, dw_out_a,
  trivial, dw_out_b,
  trivial, dw_glu,
  trivial, up_bwd,
  trivial, out_bwd,
  ⟨IdealRules.named_const.statement Cert.GluBwdIdeal.κ "inv_sqrt_2" .f32 0x3F3504F3#32 _ rfl,
    IdealRules.named_const.statement Cert.GluBwdIdeal.κ "inv_sqrt_2pi" .f32 0x3ECC422A#32 _ rfl⟩, glu_bwd,
  trivial, AdamInProof.adam_in,
  trivial, AdamBProof.adam_b,
  trivial, adam_up,
  trivial, adam_out,
  trivial, adam_glu,
  trivial, adam_row,
  trivial, adam_bias,
  trivial, adam_conv_b,
  trivial, adam_conv_w,
  trivial, adam_meta,
  trivial, adam_heads,
  trivial, adam_step,
  trivial, adam_lam,
  trivial, adam_c,
  trivial, adam_d,
  trivial, SumEarlyProof.sum_early,
  trivial, SumLateProof.sum_late,
  trivial, RsSum0Proof.rs_sum_0,
  trivial, RsSum1Proof.rs_sum_1,
  trivial, RsSum2Proof.rs_sum_2,
  trivial, FinalProof.loss_head⟩

end Cert.Proof

end
